-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13)
      ∧ r.2.mem ((c.tc : Thread Cert.Merge.nD Cert.Merge.τ).loc Cert.Merge.main_arg14) = m ((c.tc : Thread Cert.Merge.nD Cert.Merge.τ).loc Cert.Merge.main_arg14)
      ∧ r.2.mem ((c.tc : Thread Cert.Merge.nD Cert.Merge.τ).loc Cert.Merge.main_arg15) = m ((c.tc : Thread Cert.Merge.nD Cert.Merge.τ).loc Cert.Merge.main_arg15)
      ∧ r.2.mem ((c.tc : Thread Cert.Merge.nD Cert.Merge.τ).loc Cert.Merge.main_arg16) = m ((c.tc : Thread Cert.Merge.nD Cert.Merge.τ).loc Cert.Merge.main_arg16)
      ∧ r.2.mem ((c.tc : Thread Cert.Merge.nD Cert.Merge.τ).loc Cert.Merge.main_arg17) = m ((c.tc : Thread Cert.Merge.nD Cert.Merge.τ).loc Cert.Merge.main_arg17)
      ∧ r.2.mem ((c.tc : Thread Cert.Merge.nD Cert.Merge.τ).loc Cert.Merge.main_arg18) = m ((c.tc : Thread Cert.Merge.nD Cert.Merge.τ).loc Cert.Merge.main_arg18))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
      ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15)
      ∧ r.2.mem ((c.tc : Thread Cert.MergeIdeal.nD Cert.MergeIdeal.τ).loc Cert.MergeIdeal.main_arg16) = m ((c.tc : Thread Cert.MergeIdeal.nD Cert.MergeIdeal.τ).loc Cert.MergeIdeal.main_arg16)
      ∧ r.2.mem ((c.tc : Thread Cert.MergeIdeal.nD Cert.MergeIdeal.τ).loc Cert.MergeIdeal.main_arg17) = m ((c.tc : Thread Cert.MergeIdeal.nD Cert.MergeIdeal.τ).loc Cert.MergeIdeal.main_arg17)
      ∧ r.2.mem ((c.tc : Thread Cert.MergeIdeal.nD Cert.MergeIdeal.τ).loc Cert.MergeIdeal.main_arg18) = m ((c.tc : Thread Cert.MergeIdeal.nD Cert.MergeIdeal.τ).loc Cert.MergeIdeal.main_arg18))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11)
      ∧ r.2.mem ((c.tc : Thread Cert.MergeReferenceIdeal.nD Cert.MergeReferenceIdeal.τ).loc Cert.MergeReferenceIdeal.main_arg12) = m ((c.tc : Thread Cert.MergeReferenceIdeal.nD Cert.MergeReferenceIdeal.τ).loc Cert.MergeReferenceIdeal.main_arg12)
      ∧ r.2.mem ((c.tc : Thread Cert.MergeReferenceIdeal.nD Cert.MergeReferenceIdeal.τ).loc Cert.MergeReferenceIdeal.main_arg13) = m ((c.tc : Thread Cert.MergeReferenceIdeal.nD Cert.MergeReferenceIdeal.τ).loc Cert.MergeReferenceIdeal.main_arg13)
      ∧ r.2.mem ((c.tc : Thread Cert.MergeReferenceIdeal.nD Cert.MergeReferenceIdeal.τ).loc Cert.MergeReferenceIdeal.main_arg14) = m ((c.tc : Thread Cert.MergeReferenceIdeal.nD Cert.MergeReferenceIdeal.τ).loc Cert.MergeReferenceIdeal.main_arg14)
      ∧ r.2.mem ((c.tc : Thread Cert.MergeReferenceIdeal.nD Cert.MergeReferenceIdeal.τ).loc Cert.MergeReferenceIdeal.main_arg15) = m ((c.tc : Thread Cert.MergeReferenceIdeal.nD Cert.MergeReferenceIdeal.τ).loc Cert.MergeReferenceIdeal.main_arg15)
      ∧ r.2.mem ((c.tc : Thread Cert.MergeReferenceIdeal.nD Cert.MergeReferenceIdeal.τ).loc Cert.MergeReferenceIdeal.main_arg16) = m ((c.tc : Thread Cert.MergeReferenceIdeal.nD Cert.MergeReferenceIdeal.τ).loc Cert.MergeReferenceIdeal.main_arg16)
      ∧ r.2.mem ((c.tc : Thread Cert.MergeReferenceIdeal.nD Cert.MergeReferenceIdeal.τ).loc Cert.MergeReferenceIdeal.main_arg17) = m ((c.tc : Thread Cert.MergeReferenceIdeal.nD Cert.MergeReferenceIdeal.τ).loc Cert.MergeReferenceIdeal.main_arg17)
      ∧ r.2.mem ((c.tc : Thread Cert.MergeReferenceIdeal.nD Cert.MergeReferenceIdeal.τ).loc Cert.MergeReferenceIdeal.main_arg18) = m ((c.tc : Thread Cert.MergeReferenceIdeal.nD Cert.MergeReferenceIdeal.τ).loc Cert.MergeReferenceIdeal.main_arg18))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6)
      ∧ r.2.mem ((c.tc : Thread Cert.ProjReferenceIdeal.nD Cert.ProjReferenceIdeal.τ).loc Cert.ProjReferenceIdeal.main_arg7) = m ((c.tc : Thread Cert.ProjReferenceIdeal.nD Cert.ProjReferenceIdeal.τ).loc Cert.ProjReferenceIdeal.main_arg7))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Merge_MergeIdeal : Prop :=
  IdealRules.named_const.Statement Cert.MergeIdeal.κ "neglog2e" .f32 0xBFB8AA3B#32 ((-((Real.log 2)⁻¹) : ℝ) : EReal)

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)
      ∧ m' ((c.tc : Thread Cert.MergeReferenceIdeal.nD Cert.MergeReferenceIdeal.τ).loc Cert.MergeReferenceIdeal.main_arg11) = m ((c.tc : Thread Cert.MergeIdeal.nD Cert.MergeIdeal.τ).loc Cert.MergeIdeal.main_arg11)
      ∧ m' ((c.tc : Thread Cert.MergeReferenceIdeal.nD Cert.MergeReferenceIdeal.τ).loc Cert.MergeReferenceIdeal.main_arg12) = m ((c.tc : Thread Cert.MergeIdeal.nD Cert.MergeIdeal.τ).loc Cert.MergeIdeal.main_arg12)
      ∧ m' ((c.tc : Thread Cert.MergeReferenceIdeal.nD Cert.MergeReferenceIdeal.τ).loc Cert.MergeReferenceIdeal.main_arg13) = m ((c.tc : Thread Cert.MergeIdeal.nD Cert.MergeIdeal.τ).loc Cert.MergeIdeal.main_arg13)
      ∧ m' ((c.tc : Thread Cert.MergeReferenceIdeal.nD Cert.MergeReferenceIdeal.τ).loc Cert.MergeReferenceIdeal.main_arg14) = m ((c.tc : Thread Cert.MergeIdeal.nD Cert.MergeIdeal.τ).loc Cert.MergeIdeal.main_arg14)
      ∧ m' ((c.tc : Thread Cert.MergeReferenceIdeal.nD Cert.MergeReferenceIdeal.τ).loc Cert.MergeReferenceIdeal.main_arg15) = m ((c.tc : Thread Cert.MergeIdeal.nD Cert.MergeIdeal.τ).loc Cert.MergeIdeal.main_arg15)
      ∧ m' ((c.tc : Thread Cert.MergeReferenceIdeal.nD Cert.MergeReferenceIdeal.τ).loc Cert.MergeReferenceIdeal.main_arg16) = m ((c.tc : Thread Cert.MergeIdeal.nD Cert.MergeIdeal.τ).loc Cert.MergeIdeal.main_arg16)
      ∧ m' ((c.tc : Thread Cert.MergeReferenceIdeal.nD Cert.MergeReferenceIdeal.τ).loc Cert.MergeReferenceIdeal.main_arg17) = m ((c.tc : Thread Cert.MergeIdeal.nD Cert.MergeIdeal.τ).loc Cert.MergeIdeal.main_arg17)
      ∧ m' ((c.tc : Thread Cert.MergeReferenceIdeal.nD Cert.MergeReferenceIdeal.τ).loc Cert.MergeReferenceIdeal.main_arg18) = m ((c.tc : Thread Cert.MergeIdeal.nD Cert.MergeIdeal.τ).loc Cert.MergeIdeal.main_arg18)) →
    ∃ (v0 : (c : Dev Cert.MergeIdeal.nD) → Buf (Elt Ideal) ((c.tc : Thread Cert.MergeIdeal.nD Cert.MergeIdeal.τ).loc Cert.MergeIdeal.main_v17)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v17) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
          ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
          ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15)
          ∧ r.2.mem ((c.tc : Thread Cert.MergeIdeal.nD Cert.MergeIdeal.τ).loc Cert.MergeIdeal.main_arg16) = m ((c.tc : Thread Cert.MergeIdeal.nD Cert.MergeIdeal.τ).loc Cert.MergeIdeal.main_arg16)
          ∧ r.2.mem ((c.tc : Thread Cert.MergeIdeal.nD Cert.MergeIdeal.τ).loc Cert.MergeIdeal.main_arg17) = m ((c.tc : Thread Cert.MergeIdeal.nD Cert.MergeIdeal.τ).loc Cert.MergeIdeal.main_arg17)
          ∧ r.2.mem ((c.tc : Thread Cert.MergeIdeal.nD Cert.MergeIdeal.τ).loc Cert.MergeIdeal.main_arg18) = m ((c.tc : Thread Cert.MergeIdeal.nD Cert.MergeIdeal.τ).loc Cert.MergeIdeal.main_arg18))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v128) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10)
          ∧ r.2.mem ((c.tc : Thread Cert.MergeReferenceIdeal.nD Cert.MergeReferenceIdeal.τ).loc Cert.MergeReferenceIdeal.main_arg11) = m' ((c.tc : Thread Cert.MergeReferenceIdeal.nD Cert.MergeReferenceIdeal.τ).loc Cert.MergeReferenceIdeal.main_arg11)
          ∧ r.2.mem ((c.tc : Thread Cert.MergeReferenceIdeal.nD Cert.MergeReferenceIdeal.τ).loc Cert.MergeReferenceIdeal.main_arg12) = m' ((c.tc : Thread Cert.MergeReferenceIdeal.nD Cert.MergeReferenceIdeal.τ).loc Cert.MergeReferenceIdeal.main_arg12)
          ∧ r.2.mem ((c.tc : Thread Cert.MergeReferenceIdeal.nD Cert.MergeReferenceIdeal.τ).loc Cert.MergeReferenceIdeal.main_arg13) = m' ((c.tc : Thread Cert.MergeReferenceIdeal.nD Cert.MergeReferenceIdeal.τ).loc Cert.MergeReferenceIdeal.main_arg13)
          ∧ r.2.mem ((c.tc : Thread Cert.MergeReferenceIdeal.nD Cert.MergeReferenceIdeal.τ).loc Cert.MergeReferenceIdeal.main_arg14) = m' ((c.tc : Thread Cert.MergeReferenceIdeal.nD Cert.MergeReferenceIdeal.τ).loc Cert.MergeReferenceIdeal.main_arg14)
          ∧ r.2.mem ((c.tc : Thread Cert.MergeReferenceIdeal.nD Cert.MergeReferenceIdeal.τ).loc Cert.MergeReferenceIdeal.main_arg15) = m' ((c.tc : Thread Cert.MergeReferenceIdeal.nD Cert.MergeReferenceIdeal.τ).loc Cert.MergeReferenceIdeal.main_arg15)
          ∧ r.2.mem ((c.tc : Thread Cert.MergeReferenceIdeal.nD Cert.MergeReferenceIdeal.τ).loc Cert.MergeReferenceIdeal.main_arg16) = m' ((c.tc : Thread Cert.MergeReferenceIdeal.nD Cert.MergeReferenceIdeal.τ).loc Cert.MergeReferenceIdeal.main_arg16)
          ∧ r.2.mem ((c.tc : Thread Cert.MergeReferenceIdeal.nD Cert.MergeReferenceIdeal.τ).loc Cert.MergeReferenceIdeal.main_arg17) = m' ((c.tc : Thread Cert.MergeReferenceIdeal.nD Cert.MergeReferenceIdeal.τ).loc Cert.MergeReferenceIdeal.main_arg17)
          ∧ r.2.mem ((c.tc : Thread Cert.MergeReferenceIdeal.nD Cert.MergeReferenceIdeal.τ).loc Cert.MergeReferenceIdeal.main_arg18) = m' ((c.tc : Thread Cert.MergeReferenceIdeal.nD Cert.MergeReferenceIdeal.τ).loc Cert.MergeReferenceIdeal.main_arg18))

def preserves_Proj_ProjIdeal : Prop :=
  IdealRules.named_const.Statement Cert.ProjIdeal.κ "neglog2e" .f32 0xBFB8AA3B#32 ((-((Real.log 2)⁻¹) : ℝ) : EReal)
  ∧ IdealRules.named_const.Statement Cert.ProjIdeal.κ "qscale" .f32 0x3E38AA3B#32 (((8 * (Real.log 2))⁻¹ : ℝ) : EReal)

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)
      ∧ m' ((c.tc : Thread Cert.ProjReferenceIdeal.nD Cert.ProjReferenceIdeal.τ).loc Cert.ProjReferenceIdeal.main_arg5) = m ((c.tc : Thread Cert.ProjIdeal.nD Cert.ProjIdeal.τ).loc Cert.ProjIdeal.main_arg5)
      ∧ m' ((c.tc : Thread Cert.ProjReferenceIdeal.nD Cert.ProjReferenceIdeal.τ).loc Cert.ProjReferenceIdeal.main_arg6) = m ((c.tc : Thread Cert.ProjIdeal.nD Cert.ProjIdeal.τ).loc Cert.ProjIdeal.main_arg6)
      ∧ m' ((c.tc : Thread Cert.ProjReferenceIdeal.nD Cert.ProjReferenceIdeal.τ).loc Cert.ProjReferenceIdeal.main_arg7) = m ((c.tc : Thread Cert.ProjIdeal.nD Cert.ProjIdeal.τ).loc Cert.ProjIdeal.main_arg7)) →
    ∃ (v0 : (c : Dev Cert.ProjIdeal.nD) → Buf (Elt Ideal) ((c.tc : Thread Cert.ProjIdeal.nD Cert.ProjIdeal.τ).loc Cert.ProjIdeal.main_v55_0)) (v1 : (c : Dev Cert.ProjIdeal.nD) → Buf (Elt Ideal) ((c.tc : Thread Cert.ProjIdeal.nD Cert.ProjIdeal.τ).loc Cert.ProjIdeal.main_v55_1)) (v2 : (c : Dev Cert.ProjIdeal.nD) → Buf (Elt Ideal) ((c.tc : Thread Cert.ProjIdeal.nD Cert.ProjIdeal.τ).loc Cert.ProjIdeal.main_v55_2)) (v3 : (c : Dev Cert.ProjIdeal.nD) → Buf (Elt Ideal) ((c.tc : Thread Cert.ProjIdeal.nD Cert.ProjIdeal.τ).loc Cert.ProjIdeal.main_v55_3)) (v4 : (c : Dev Cert.ProjIdeal.nD) → Buf (Elt Ideal) ((c.tc : Thread Cert.ProjIdeal.nD Cert.ProjIdeal.τ).loc Cert.ProjIdeal.main_v55_4)) (v5 : (c : Dev Cert.ProjIdeal.nD) → Buf (Elt Ideal) ((c.tc : Thread Cert.ProjIdeal.nD Cert.ProjIdeal.τ).loc Cert.ProjIdeal.main_v55_5)) (v6 : (c : Dev Cert.ProjIdeal.nD) → Buf (Elt Ideal) ((c.tc : Thread Cert.ProjIdeal.nD Cert.ProjIdeal.τ).loc Cert.ProjIdeal.main_v55_6)) (v7 : (c : Dev Cert.ProjIdeal.nD) → Buf (Elt Ideal) ((c.tc : Thread Cert.ProjIdeal.nD Cert.ProjIdeal.τ).loc Cert.ProjIdeal.main_v55_7)) (v8 : (c : Dev Cert.ProjIdeal.nD) → Buf (Elt Ideal) ((c.tc : Thread Cert.ProjIdeal.nD Cert.ProjIdeal.τ).loc Cert.ProjIdeal.main_v55_8)) (v9 : (c : Dev Cert.ProjIdeal.nD) → Buf (Elt Ideal) ((c.tc : Thread Cert.ProjIdeal.nD Cert.ProjIdeal.τ).loc Cert.ProjIdeal.main_v55_9)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v55_0) = v0 c
          ∧ r.2.mem ((c.tc : Thread Cert.ProjIdeal.nD Cert.ProjIdeal.τ).loc Cert.ProjIdeal.main_v55_1) = v1 c
          ∧ r.2.mem ((c.tc : Thread Cert.ProjIdeal.nD Cert.ProjIdeal.τ).loc Cert.ProjIdeal.main_v55_2) = v2 c
          ∧ r.2.mem ((c.tc : Thread Cert.ProjIdeal.nD Cert.ProjIdeal.τ).loc Cert.ProjIdeal.main_v55_3) = v3 c
          ∧ r.2.mem ((c.tc : Thread Cert.ProjIdeal.nD Cert.ProjIdeal.τ).loc Cert.ProjIdeal.main_v55_4) = v4 c
          ∧ r.2.mem ((c.tc : Thread Cert.ProjIdeal.nD Cert.ProjIdeal.τ).loc Cert.ProjIdeal.main_v55_5) = v5 c
          ∧ r.2.mem ((c.tc : Thread Cert.ProjIdeal.nD Cert.ProjIdeal.τ).loc Cert.ProjIdeal.main_v55_6) = v6 c
          ∧ r.2.mem ((c.tc : Thread Cert.ProjIdeal.nD Cert.ProjIdeal.τ).loc Cert.ProjIdeal.main_v55_7) = v7 c
          ∧ r.2.mem ((c.tc : Thread Cert.ProjIdeal.nD Cert.ProjIdeal.τ).loc Cert.ProjIdeal.main_v55_8) = v8 c
          ∧ r.2.mem ((c.tc : Thread Cert.ProjIdeal.nD Cert.ProjIdeal.τ).loc Cert.ProjIdeal.main_v55_9) = v9 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v34) = v0 c
          ∧ r.2.mem ((c.tc : Thread Cert.ProjReferenceIdeal.nD Cert.ProjReferenceIdeal.τ).loc Cert.ProjReferenceIdeal.main_v140) = v1 c
          ∧ r.2.mem ((c.tc : Thread Cert.ProjReferenceIdeal.nD Cert.ProjReferenceIdeal.τ).loc Cert.ProjReferenceIdeal.main_v147) = v2 c
          ∧ r.2.mem ((c.tc : Thread Cert.ProjReferenceIdeal.nD Cert.ProjReferenceIdeal.τ).loc Cert.ProjReferenceIdeal.main_v153) = v3 c
          ∧ r.2.mem ((c.tc : Thread Cert.ProjReferenceIdeal.nD Cert.ProjReferenceIdeal.τ).loc Cert.ProjReferenceIdeal.main_v161) = v4 c
          ∧ r.2.mem ((c.tc : Thread Cert.ProjReferenceIdeal.nD Cert.ProjReferenceIdeal.τ).loc Cert.ProjReferenceIdeal.main_v162) = v5 c
          ∧ r.2.mem ((c.tc : Thread Cert.ProjReferenceIdeal.nD Cert.ProjReferenceIdeal.τ).loc Cert.ProjReferenceIdeal.main_v163) = v6 c
          ∧ r.2.mem ((c.tc : Thread Cert.ProjReferenceIdeal.nD Cert.ProjReferenceIdeal.τ).loc Cert.ProjReferenceIdeal.main_v164) = v7 c
          ∧ r.2.mem ((c.tc : Thread Cert.ProjReferenceIdeal.nD Cert.ProjReferenceIdeal.τ).loc Cert.ProjReferenceIdeal.main_v160) = v8 c
          ∧ r.2.mem ((c.tc : Thread Cert.ProjReferenceIdeal.nD Cert.ProjReferenceIdeal.τ).loc Cert.ProjReferenceIdeal.main_v165) = v9 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5)
          ∧ r.2.mem ((c.tc : Thread Cert.ProjReferenceIdeal.nD Cert.ProjReferenceIdeal.τ).loc Cert.ProjReferenceIdeal.main_arg6) = m' ((c.tc : Thread Cert.ProjReferenceIdeal.nD Cert.ProjReferenceIdeal.τ).loc Cert.ProjReferenceIdeal.main_arg6)
          ∧ r.2.mem ((c.tc : Thread Cert.ProjReferenceIdeal.nD Cert.ProjReferenceIdeal.τ).loc Cert.ProjReferenceIdeal.main_arg7) = m' ((c.tc : Thread Cert.ProjReferenceIdeal.nD Cert.ProjReferenceIdeal.τ).loc Cert.ProjReferenceIdeal.main_arg7))

def Claim : Prop :=
  ∃ (hKernel : Cert.Kernel.Facts) (hKernelIdeal : Cert.KernelIdeal.Facts) (hReferenceIdeal : Cert.ReferenceIdeal.Facts) (hMerge : Cert.Merge.Facts) (hMergeIdeal : Cert.MergeIdeal.Facts) (hMergeReferenceIdeal : Cert.MergeReferenceIdeal.Facts) (hProj : Cert.Proj.Facts) (hProjIdeal : Cert.ProjIdeal.Facts) (hProjReferenceIdeal : Cert.ProjReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Merge (hMerge := hMerge)
    ∧ quiescent_MergeIdeal (hMergeIdeal := hMergeIdeal)
    ∧ quiescent_MergeReferenceIdeal (hMergeReferenceIdeal := hMergeReferenceIdeal)
    ∧ quiescent_Proj (hProj := hProj)
    ∧ quiescent_ProjIdeal (hProjIdeal := hProjIdeal)
    ∧ quiescent_ProjReferenceIdeal (hProjReferenceIdeal := hProjReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Merge_MergeIdeal
    ∧ algebraic_MergeIdeal_MergeReferenceIdeal (hMergeIdeal := hMergeIdeal) (hMergeReferenceIdeal := hMergeReferenceIdeal)
    ∧ preserves_Proj_ProjIdeal
    ∧ algebraic_ProjIdeal_ProjReferenceIdeal (hProjIdeal := hProjIdeal) (hProjReferenceIdeal := hProjReferenceIdeal)
-- ==== Pre_finite.lean ====
abbrev S32768x512 : Shape := ⟨2, ![32768, 512]⟩
abbrev S32768x128 : Shape := ⟨2, ![32768, 128]⟩
abbrev S8 : Shape := ⟨1, ![8]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S32768x128 : S_.BroadcastsInDim S32768x128 (![] : Fin 0 → Fin S32768x128.rank)
  reducesTo_S32768x128_S_d0_1 : S32768x128.ReducesTo [0, 1] S_
  bcast_S_S8 : S_.BroadcastsInDim S8 (![] : Fin 0 → Fin S8.rank)
  reducesTo_S8_S_d0 : S8.ReducesTo [0] S_

variable [Facts]

def fn {F : FTy → Type} [FloatOps F] (main_arg0 : FVec F S32768x512 .f32) (main_arg1 : FVec F S32768x128 .f32) (main_arg2 : FVec F S32768x128 .f32) (main_arg3 : FVec F S8 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S32768x128 .f32 := Host.absf main_arg1
  let main_cst_0 : FVec F S_ .f32 := constant S_ .f32 0x7F800000#32
  let main_v5 : FVec F S32768x128 .f32 := broadcastInDim S32768x128 ![] bcast_S_S32768x128 main_cst_0
  let main_v6 : IVec S32768x128 1 := cmpf .olt main_v4 main_v5
  let main_c_1 : IVec S_ 1 := constantI S_ 1 1#1
  let main_v7 : IVec S_ 1 := (fun x v => Host.reduce IntOp.andi x v reducesTo_S32768x128_S_d0_1 h_S_) main_v6 main_c_1
  let main_v8 : IVec S_ 1 := andi main_v3 main_v7
  let main_v9 : FVec F S8 .f32 := Host.absf main_arg3
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  main_v13
-- ==== Kernel.lean ====
abbrev S32768x512 : Shape := ⟨2, ![32768, 512]⟩
abbrev S32768x128 : Shape := ⟨2, ![32768, 128]⟩
abbrev S8 : Shape := ⟨1, ![8]⟩
abbrev S_ : Shape := ⟨0, ![]⟩
abbrev S32768x64 : Shape := ⟨2, ![32768, 64]⟩
abbrev S32768x256 : Shape := ⟨2, ![32768, 256]⟩
abbrev S128x32768 : Shape := ⟨2, ![128, 32768]⟩
abbrev S16x32768 : Shape := ⟨2, ![16, 32768]⟩
abbrev S64x32768 : Shape := ⟨2, ![64, 32768]⟩
abbrev S160x32768 : Shape := ⟨2, ![160, 32768]⟩
abbrev S1024x512 : Shape := ⟨2, ![1024, 512]⟩
abbrev S128x256 : Shape := ⟨2, ![128, 256]⟩
abbrev S1024x256 : Shape := ⟨2, ![1024, 256]⟩
abbrev S160x128 : Shape := ⟨2, ![160, 128]⟩
abbrev S160x1024 : Shape := ⟨2, ![160, 1024]⟩
abbrev S1280x256 : Shape := ⟨2, ![1280, 256]⟩
abbrev S160x1280 : Shape := ⟨2, ![160, 1280]⟩
abbrev S1x256 : Shape := ⟨2, ![1, 256]⟩
abbrev S128x128 : Shape := ⟨2, ![128, 128]⟩
abbrev S256x128 : Shape := ⟨2, ![256, 128]⟩
abbrev S384x128 : Shape := ⟨2, ![384, 128]⟩
abbrev S384x256 : Shape := ⟨2, ![384, 256]⟩
abbrev S1 : Shape := ⟨1, ![1]⟩
abbrev S256 : Shape := ⟨1, ![256]⟩
abbrev S80x384 : Shape := ⟨2, ![80, 384]⟩
abbrev S80x256 : Shape := ⟨2, ![80, 256]⟩
abbrev S64x256 : Shape := ⟨2, ![64, 256]⟩
abbrev S64x128 : Shape := ⟨2, ![64, 128]⟩

abbrev nBuf : Space → Nat
  | .hbm => 25
  | .vmem => 16
  | .smem => 1
  | _ => 0

abbrev bufTy : (tb : Table) → Fin (tcTables nBuf tb) → BufTy
  | .hbm, ⟨0, _⟩ => ⟨S32768x512, .f32⟩
  | .hbm, ⟨1, _⟩ => ⟨S32768x128, .f32⟩
  | .hbm, ⟨2, _⟩ => ⟨S32768x128, .f32⟩
  | .hbm, ⟨3, _⟩ => ⟨S8, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S32768x512, .f32⟩
  | .hbm, ⟨9, _⟩ => ⟨S32768x512, .f32⟩
  | .hbm, ⟨10, _⟩ => ⟨S32768x512, .bf16⟩
  | .hbm, ⟨11, _⟩ => ⟨S32768x64, .f32⟩
  | .hbm, ⟨12, _⟩ => ⟨S32768x64, .f32⟩
  | .hbm, ⟨13, _⟩ => ⟨S32768x64, .f32⟩
  | .hbm, ⟨14, _⟩ => ⟨S32768x64, .f32⟩
  | .hbm, ⟨15, _⟩ => ⟨S32768x256, .f32⟩
  | .hbm, ⟨16, _⟩ => ⟨S32768x256, .bf16⟩
  | .hbm, ⟨17, _⟩ => ⟨S128x32768, .f32⟩
  | .hbm, ⟨18, _⟩ => ⟨S_, .f32⟩
  | .hbm, ⟨19, _⟩ => ⟨S16x32768, .f32⟩
  | .hbm, ⟨20, _⟩ => ⟨S64x32768, .f32⟩
  | .hbm, ⟨21, _⟩ => ⟨S64x32768, .f32⟩
  | .hbm, ⟨22, _⟩ => ⟨S160x32768, .f32⟩
  | .hbm, ⟨23, _⟩ => ⟨S160x32768, .bf16⟩
  | .hbm, ⟨24, _⟩ => ⟨S32768x512, .bf16⟩
  | .local _ .vmem, ⟨0, _⟩ => ⟨S1024x512, .bf16⟩
  | .local _ .vmem, ⟨1, _⟩ => ⟨S1024x512, .bf16⟩
  | .local _ .vmem, ⟨2, _⟩ => ⟨S128x256, .bf16⟩
  | .local _ .vmem, ⟨3, _⟩ => ⟨S128x256, .bf16⟩
  | .local _ .vmem, ⟨4, _⟩ => ⟨S1024x256, .bf16⟩
  | .local _ .vmem, ⟨5, _⟩ => ⟨S1024x256, .bf16⟩
  | .local _ .vmem, ⟨6, _⟩ => ⟨S128x256, .bf16⟩
  | .local _ .vmem, ⟨7, _⟩ => ⟨S128x256, .bf16⟩
  | .local _ .vmem, ⟨8, _⟩ => ⟨S160x128, .bf16⟩
  | .local _ .vmem, ⟨9, _⟩ => ⟨S160x128, .bf16⟩
  | .local _ .vmem, ⟨10, _⟩ => ⟨S160x1024, .bf16⟩
  | .local _ .vmem, ⟨11, _⟩ => ⟨S160x1024, .bf16⟩
  | .local _ .vmem, ⟨12, _⟩ => ⟨S160x128, .bf16⟩
  | .local _ .vmem, ⟨13, _⟩ => ⟨S160x128, .bf16⟩
  | .local _ .vmem, ⟨14, _⟩ => ⟨S1024x512, .bf16⟩
  | .local _ .vmem, ⟨15, _⟩ => ⟨S1024x512, .bf16⟩
  | .local _ .smem, ⟨0, _⟩ => ⟨S8, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 4], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c8_i32 : BitVec 32 := 8#32
  let v1 : BitVec 32 := Scalar.muli arg1 c8_i32
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c0_i32_0 : BitVec 32 := 0#32
  let c0_i32_1 : BitVec 32 := 0#32
  ![v4.toNat, c0_i32_0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c8_i32 : BitVec 32 := 8#32
  let v1 : BitVec 32 := Scalar.muli arg1 c8_i32
  let c8_i32_0 : BitVec 32 := 8#32
  let v2 : BitVec 32 := Scalar.addi v1 c8_i32_0
  let c31_i32 : BitVec 32 := 31#32
  let v3 : BitVec 32 := Scalar.minsi v2 c31_i32
  let v4 : BitVec 32 := Scalar.addi v0 v3
  let c0_i32 : BitVec 32 := 0#32
  let c0_i32_1 : BitVec 32 := 0#32
  ![v4.toNat, c0_i32.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c8_i32 : BitVec 32 := 8#32
  let v1 : BitVec 32 := Scalar.muli arg1 c8_i32
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c0_i32_0 : BitVec 32 := 0#32
  let c0_i32_1 : BitVec 32 := 0#32
  ![c0_i32_0.toNat, v4.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c8_i32 : BitVec 32 := 8#32
  let v1 : BitVec 32 := Scalar.muli arg1 c8_i32
  let c8_i32_0 : BitVec 32 := 8#32
  let v2 : BitVec 32 := Scalar.addi v1 c8_i32_0
  let c31_i32 : BitVec 32 := 31#32
  let v3 : BitVec 32 := Scalar.minsi v2 c31_i32
  let v4 : BitVec 32 := Scalar.addi v0 v3
  let c0_i32 : BitVec 32 := 0#32
  let c0_i32_1 : BitVec 32 := 0#32
  ![c0_i32.toNat, v4.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S160x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S160x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S160x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S32768x512 : Shape := ⟨2, ![32768, 512]⟩
abbrev S32768x128 : Shape := ⟨2, ![32768, 128]⟩
abbrev S8 : Shape := ⟨1, ![8]⟩
abbrev S8x4096x8x64 : Shape := ⟨4, ![8, 4096, 8, 64]⟩
abbrev S8x4096x2x64 : Shape := ⟨4, ![8, 4096, 2, 64]⟩
abbrev S_ : Shape := ⟨0, ![]⟩
abbrev S8x4352x2x64 : Shape := ⟨4, ![8, 4352, 2, 64]⟩
abbrev S8x34x128x2x64 : Shape := ⟨5, ![8, 34, 128, 2, 64]⟩
abbrev S8x32x128x2x64 : Shape := ⟨5, ![8, 32, 128, 2, 64]⟩
abbrev S8x32x384x2x64 : Shape := ⟨5, ![8, 32, 384, 2, 64]⟩
abbrev S8x32x128x2x4x64 : Shape := ⟨6, ![8, 32, 128, 2, 4, 64]⟩
abbrev S8x32x2x384x128x4 : Shape := ⟨6, ![8, 32, 2, 384, 128, 4]⟩
abbrev S8x32x2x4x128x384 : Shape := ⟨6, ![8, 32, 2, 4, 128, 384]⟩
abbrev S128 : Shape := ⟨1, ![128]⟩
abbrev S128x1 : Shape := ⟨2, ![128, 1]⟩
abbrev S384 : Shape := ⟨1, ![384]⟩
abbrev S1x384 : Shape := ⟨2, ![1, 384]⟩
abbrev S128x384 : Shape := ⟨2, ![128, 384]⟩
abbrev S32 : Shape := ⟨1, ![32]⟩
abbrev S32x1x1 : Shape := ⟨3, ![32, 1, 1]⟩
abbrev S1x1x384 : Shape := ⟨3, ![1, 1, 384]⟩
abbrev S32x1x384 : Shape := ⟨3, ![32, 1, 384]⟩
abbrev S1x128x384 : Shape := ⟨3, ![1, 128, 384]⟩
abbrev S32x128x384 : Shape := ⟨3, ![32, 128, 384]⟩
abbrev S1x32x1x1x128x384 : Shape := ⟨6, ![1, 32, 1, 1, 128, 384]⟩
abbrev S1x1x2x4x1x1 : Shape := ⟨6, ![1, 1, 2, 4, 1, 1]⟩
abbrev S8x32x2x4x128 : Shape := ⟨5, ![8, 32, 2, 4, 128]⟩
abbrev S8x32x2x4x128x1 : Shape := ⟨6, ![8, 32, 2, 4, 128, 1]⟩
abbrev S8x32x2x64x4x128 : Shape := ⟨6, ![8, 32, 2, 64, 4, 128]⟩

abbrev nBuf : Space → Nat
  | .hbm => 95
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x128, .f32⟩
  | .hbm, ⟨2, _⟩ => ⟨S32768x128, .f32⟩
  | .hbm, ⟨3, _⟩ => ⟨S8, .f32⟩
  | .hbm, ⟨4, _⟩ => ⟨S8x4096x8x64, .f32⟩
  | .hbm, ⟨5, _⟩ => ⟨S8x4096x2x64, .f32⟩
  | .hbm, ⟨6, _⟩ => ⟨S8x4096x2x64, .f32⟩
  | .hbm, ⟨7, _⟩ => ⟨S_, .i32⟩
  | .hbm, ⟨8, _⟩ => ⟨S_, .f32⟩
  | .hbm, ⟨9, _⟩ => ⟨S8x4352x2x64, .f32⟩
  | .hbm, ⟨10, _⟩ => ⟨S8x34x128x2x64, .f32⟩
  | .hbm, ⟨11, _⟩ => ⟨S_, .i32⟩
  | .hbm, ⟨12, _⟩ => ⟨S_, .f32⟩
  | .hbm, ⟨13, _⟩ => ⟨S8x4352x2x64, .f32⟩
  | .hbm, ⟨14, _⟩ => ⟨S8x34x128x2x64, .f32⟩
  | .hbm, ⟨15, _⟩ => ⟨S8x32x128x2x64, .f32⟩
  | .hbm, ⟨16, _⟩ => ⟨S8x32x128x2x64, .f32⟩
  | .hbm, ⟨17, _⟩ => ⟨S8x32x128x2x64, .f32⟩
  | .hbm, ⟨18, _⟩ => ⟨S8x32x384x2x64, .f32⟩
  | .hbm, ⟨19, _⟩ => ⟨S8x32x128x2x64, .f32⟩
  | .hbm, ⟨20, _⟩ => ⟨S8x32x128x2x64, .f32⟩
  | .hbm, ⟨21, _⟩ => ⟨S8x32x128x2x64, .f32⟩
  | .hbm, ⟨22, _⟩ => ⟨S8x32x384x2x64, .f32⟩
  | .hbm, ⟨23, _⟩ => ⟨S8x32x128x2x4x64, .f32⟩
  | .hbm, ⟨24, _⟩ => ⟨S8x32x2x384x128x4, .f32⟩
  | .hbm, ⟨25, _⟩ => ⟨S8x32x2x4x128x384, .f32⟩
  | .hbm, ⟨26, _⟩ => ⟨S_, .f32⟩
  | .hbm, ⟨27, _⟩ => ⟨S8x32x2x4x128x384, .f32⟩
  | .hbm, ⟨28, _⟩ => ⟨S8x32x2x4x128x384, .f32⟩
  | .hbm, ⟨29, _⟩ => ⟨S128, .i32⟩
  | .hbm, ⟨30, _⟩ => ⟨S128x1, .i32⟩
  | .hbm, ⟨31, _⟩ => ⟨S384, .i32⟩
  | .hbm, ⟨32, _⟩ => ⟨S1x384, .i32⟩
  | .hbm, ⟨33, _⟩ => ⟨S_, .i32⟩
  | .hbm, ⟨34, _⟩ => ⟨S1x384, .i32⟩
  | .hbm, ⟨35, _⟩ => ⟨S1x384, .i32⟩
  | .hbm, ⟨36, _⟩ => ⟨S128x384, .i32⟩
  | .hbm, ⟨37, _⟩ => ⟨S128x384, .i32⟩
  | .hbm, ⟨38, _⟩ => ⟨S128x384, .i32⟩
  | .hbm, ⟨39, _⟩ => ⟨S32, .i32⟩
  | .hbm, ⟨40, _⟩ => ⟨S32x1x1, .i32⟩
  | .hbm, ⟨41, _⟩ => ⟨S_, .i32⟩
  | .hbm, ⟨42, _⟩ => ⟨S32x1x1, .i32⟩
  | .hbm, ⟨43, _⟩ => ⟨S32x1x1, .i32⟩
  | .hbm, ⟨44, _⟩ => ⟨S_, .i32⟩
  | .hbm, ⟨45, _⟩ => ⟨S32x1x1, .i32⟩
  | .hbm, ⟨46, _⟩ => ⟨S32x1x1, .i32⟩
  | .hbm, ⟨47, _⟩ => ⟨S1x1x384, .i32⟩
  | .hbm, ⟨48, _⟩ => ⟨S32x1x384, .i32⟩
  | .hbm, ⟨49, _⟩ => ⟨S32x1x384, .i32⟩
  | .hbm, ⟨50, _⟩ => ⟨S32x1x384, .i32⟩
  | .hbm, ⟨51, _⟩ => ⟨S128x384, .i32⟩
  | .hbm, ⟨52, _⟩ => ⟨S_, .i32⟩
  | .hbm, ⟨53, _⟩ => ⟨S128x384, .i32⟩
  | .hbm, ⟨54, _⟩ => ⟨S128x384, .i1⟩
  | .hbm, ⟨55, _⟩ => ⟨S1x128x384, .i1⟩
  | .hbm, ⟨56, _⟩ => ⟨S_, .i32⟩
  | .hbm, ⟨57, _⟩ => ⟨S32x1x384, .i32⟩
  | .hbm, ⟨58, _⟩ => ⟨S32x1x384, .i1⟩
  | .hbm, ⟨59, _⟩ => ⟨S32x128x384, .i1⟩
  | .hbm, ⟨60, _⟩ => ⟨S32x128x384, .i1⟩
  | .hbm, ⟨61, _⟩ => ⟨S32x128x384, .i1⟩
  | .hbm, ⟨62, _⟩ => ⟨S_, .i32⟩
  | .hbm, ⟨63, _⟩ => ⟨S32x1x384, .i32⟩
  | .hbm, ⟨64, _⟩ => ⟨S32x1x384, .i1⟩
  | .hbm, ⟨65, _⟩ => ⟨S32x128x384, .i1⟩
  | .hbm, ⟨66, _⟩ => ⟨S32x128x384, .i1⟩
  | .hbm, ⟨67, _⟩ => ⟨S1x32x1x1x128x384, .i1⟩
  | .hbm, ⟨68, _⟩ => ⟨S_, .f32⟩
  | .hbm, ⟨69, _⟩ => ⟨S_, .f32⟩
  | .hbm, ⟨70, _⟩ => ⟨S8x32x2x4x128x384, .i1⟩
  | .hbm, ⟨71, _⟩ => ⟨S8x32x2x4x128x384, .f32⟩
  | .hbm, ⟨72, _⟩ => ⟨S8x32x2x4x128x384, .f32⟩
  | .hbm, ⟨73, _⟩ => ⟨S1x1x2x4x1x1, .f32⟩
  | .hbm, ⟨74, _⟩ => ⟨S_, .f32⟩
  | .hbm, ⟨75, _⟩ => ⟨S8x32x2x4x128, .f32⟩
  | .hbm, ⟨76, _⟩ => ⟨S8x32x2x4x128x1, .f32⟩
  | .hbm, ⟨77, _⟩ => ⟨S8x32x2x4x128x1, .f32⟩
  | .hbm, ⟨78, _⟩ => ⟨S8x32x2x4x128x1, .f32⟩
  | .hbm, ⟨79, _⟩ => ⟨S8x32x2x4x128x384, .f32⟩
  | .hbm, ⟨80, _⟩ => ⟨S8x32x2x4x128x384, .f32⟩
  | .hbm, ⟨81, _⟩ => ⟨S8x32x2x4x128x384, .f32⟩
  | .hbm, ⟨82, _⟩ => ⟨S_, .f32⟩
  | .hbm, ⟨83, _⟩ => ⟨S8x32x2x4x128, .f32⟩
  | .hbm, ⟨84, _⟩ => ⟨S8x32x2x4x128x1, .f32⟩
  | .hbm, ⟨85, _⟩ => ⟨S8x32x2x4x128x1, .f32⟩
  | .hbm, ⟨86, _⟩ => ⟨S8x32x2x4x128x1, .f32⟩
  | .hbm, ⟨87, _⟩ => ⟨S8x32x2x4x128x1, .f32⟩
  | .hbm, ⟨88, _⟩ => ⟨S8x32x2x4x128x1, .f32⟩
  | .hbm, ⟨89, _⟩ => ⟨S8x32x2x4x128x384, .f32⟩
  | .hbm, ⟨90, _⟩ => ⟨S8x32x2x4x128x384, .f32⟩
  | .hbm, ⟨91, _⟩ => ⟨S8x32x2x64x4x128, .f32⟩
  | .hbm, ⟨92, _⟩ => ⟨S8x32x128x2x4x64, .f32⟩
  | .hbm, ⟨93, _⟩ => ⟨S32768x512, .f32⟩
  | .hbm, ⟨94, _⟩ => ⟨S32768x512, .bf16⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_1 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_2 : Ref sig .tc := ⟨.hbm, 41, rfl⟩
abbrev main_v31 : Ref sig .tc := ⟨.hbm, 42, rfl⟩
abbrev main_v32 : Ref sig .tc := ⟨.hbm, 43, rfl⟩
abbrev main_c_3 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_c_4 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_c_5 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_c_6 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_7 : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_v53 : Ref sig .tc := ⟨.hbm, 72, rfl⟩
abbrev main_v54 : Ref sig .tc := ⟨.hbm, 73, rfl⟩
abbrev main_cst_8 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_9 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩

abbrev nD : Nat := 1
abbrev τ : Topo := Topo.v7x

variable {F : FTy → Type} [FloatOps F]
-- ==== Merge.lean ====
abbrev S32768x1024 : Shape := ⟨2, ![32768, 1024]⟩
abbrev S32768x512 : Shape := ⟨2, ![32768, 512]⟩
abbrev S32768x2048 : Shape := ⟨2, ![32768, 2048]⟩
abbrev S8x4096x256 : Shape := ⟨3, ![8, 4096, 256]⟩
abbrev S1024 : Shape := ⟨1, ![1024]⟩
abbrev S512x1024 : Shape := ⟨2, ![512, 1024]⟩
abbrev S1024x1024 : Shape := ⟨2, ![1024, 1024]⟩
abbrev S1024x5632 : Shape := ⟨2, ![1024, 5632]⟩
abbrev S2816x1024 : Shape := ⟨2, ![2816, 1024]⟩
abbrev S256x1024 : Shape := ⟨2, ![256, 1024]⟩
abbrev S32768x256 : Shape := ⟨2, ![32768, 256]⟩
abbrev S1x1024 : Shape := ⟨2, ![1, 1024]⟩
abbrev S512x512 : Shape := ⟨2, ![512, 512]⟩
abbrev S512x2048 : Shape := ⟨2, ![512, 2048]⟩
abbrev S512x256 : Shape := ⟨2, ![512, 256]⟩
abbrev S256x512 : Shape := ⟨2, ![256, 512]⟩
abbrev S256x256 : Shape := ⟨2, ![256, 256]⟩
abbrev S1x256 : Shape := ⟨2, ![1, 256]⟩
abbrev S256 : Shape := ⟨1, ![256]⟩
abbrev S256x1 : Shape := ⟨2, ![256, 1]⟩
abbrev S256x5632 : Shape := ⟨2, ![256, 5632]⟩
abbrev S256x2816 : Shape := ⟨2, ![256, 2816]⟩

abbrev nBuf : Space → Nat
  | .hbm => 37
  | .vmem => 27
  | .smem => 0
  | _ => 0

abbrev bufTy : (tb : Table) → Fin (tcTables nBuf tb) → BufTy
  | .hbm, ⟨0, _⟩ => ⟨S32768x1024, .f32⟩
  | .hbm, ⟨1, _⟩ => ⟨S32768x512, .f32⟩
  | .hbm, ⟨2, _⟩ => ⟨S32768x1024, .f32⟩
  | .hbm, ⟨3, _⟩ => ⟨S32768x1024, .f32⟩
  | .hbm, ⟨4, _⟩ => ⟨S32768x2048, .f32⟩
  | .hbm, ⟨5, _⟩ => ⟨S8x4096x256, .f32⟩
  | .hbm, ⟨6, _⟩ => ⟨S1024, .f32⟩
  | .hbm, ⟨7, _⟩ => ⟨S512x1024, .f32⟩
  | .hbm, ⟨8, _⟩ => ⟨S1024x1024, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S1024x5632, .f32⟩
  | .hbm, ⟨13, _⟩ => ⟨S2816x1024, .f32⟩
  | .hbm, ⟨14, _⟩ => ⟨S1024, .f32⟩
  | .hbm, ⟨15, _⟩ => ⟨S1024, .f32⟩
  | .hbm, ⟨16, _⟩ => ⟨S1024x1024, .f32⟩
  | .hbm, ⟨17, _⟩ => ⟨S256x1024, .f32⟩
  | .hbm, ⟨18, _⟩ => ⟨S1024, .f32⟩
  | .hbm, ⟨19, _⟩ => ⟨S32768x512, .bf16⟩
  | .hbm, ⟨20, _⟩ => ⟨S32768x1024, .bf16⟩
  | .hbm, ⟨21, _⟩ => ⟨S32768x2048, .bf16⟩
  | .hbm, ⟨22, _⟩ => ⟨S512x1024, .bf16⟩
  | .hbm, ⟨23, _⟩ => ⟨S1024x1024, .bf16⟩
  | .hbm, ⟨24, _⟩ => ⟨S1024x1024, .bf16⟩
  | .hbm, ⟨25, _⟩ => ⟨S1024x5632, .bf16⟩
  | .hbm, ⟨26, _⟩ => ⟨S2816x1024, .bf16⟩
  | .hbm, ⟨27, _⟩ => ⟨S1024x1024, .bf16⟩
  | .hbm, ⟨28, _⟩ => ⟨S256x1024, .bf16⟩
  | .hbm, ⟨29, _⟩ => ⟨S32768x256, .f32⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S512x2048, .bf16⟩
  | .local _ .vmem, ⟨9, _⟩ => ⟨S512x2048, .bf16⟩
  | .local _ .vmem, ⟨10, _⟩ => ⟨S512x256, .f32⟩
  | .local _ .vmem, ⟨11, _⟩ => ⟨S512x256, .f32⟩
  | .local _ .vmem, ⟨12, _⟩ => ⟨S1x1024, .f32⟩
  | .local _ .vmem, ⟨13, _⟩ => ⟨S512x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1x1024, .f32⟩
  | .local _ .vmem, ⟨17, _⟩ => ⟨S1x1024, .f32⟩
  | .local _ .vmem, ⟨18, _⟩ => ⟨S1024x5632, .bf16⟩
  | .local _ .vmem, ⟨19, _⟩ => ⟨S2816x1024, .bf16⟩
  | .local _ .vmem, ⟨20, _⟩ => ⟨S1x1024, .f32⟩
  | .local _ .vmem, ⟨21, _⟩ => ⟨S1x1024, .f32⟩
  | .local _ .vmem, ⟨22, _⟩ => ⟨S1024x1024, .bf16⟩
  | .local _ .vmem, ⟨23, _⟩ => ⟨S256x1024, .bf16⟩
  | .local _ .vmem, ⟨24, _⟩ => ⟨S1x1024, .f32⟩
  | .local _ .vmem, ⟨25, _⟩ => ⟨S512x1024, .f32⟩
  | .local _ .vmem, ⟨26, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg19_0 : Ref sig .tc := ⟨.vmem, 25, rfl⟩
abbrev cc0_stg19_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24
abbrev cc0_sem19_0 : DmaSem sig := 25
abbrev cc0_sem19_1 : DmaSem sig := 26

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x5632 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2816x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== MergeIdeal.lean ====
variable {F : FTy → Type} [FloatOps F] [Named F]
def κ : String → Option EReal := fun
  | "neglog2e" => some ((-((Real.log 2)⁻¹) : ℝ) : EReal)
  | _ => none
-- ==== MergeReferenceIdeal.lean ====
abbrev S32768x1024 : Shape := ⟨2, ![32768, 1024]⟩
abbrev S32768x512 : Shape := ⟨2, ![32768, 512]⟩
abbrev S32768x2048 : Shape := ⟨2, ![32768, 2048]⟩
abbrev S8x4096x256 : Shape := ⟨3, ![8, 4096, 256]⟩
abbrev S1024 : Shape := ⟨1, ![1024]⟩
abbrev S512x1024 : Shape := ⟨2, ![512, 1024]⟩
abbrev S1024x1024 : Shape := ⟨2, ![1024, 1024]⟩
abbrev S1024x5632 : Shape := ⟨2, ![1024, 5632]⟩
abbrev S2816x1024 : Shape := ⟨2, ![2816, 1024]⟩
abbrev S256x1024 : Shape := ⟨2, ![256, 1024]⟩
abbrev S32768x4x256 : Shape := ⟨3, ![32768, 4, 256]⟩
abbrev S_ : Shape := ⟨0, ![]⟩
abbrev S32768x4 : Shape := ⟨2, ![32768, 4]⟩
abbrev S32768x4x1 : Shape := ⟨3, ![32768, 4, 1]⟩
abbrev S4x256 : Shape := ⟨2, ![4, 256]⟩
abbrev S1x4x256 : Shape := ⟨3, ![1, 4, 256]⟩
abbrev S32768 : Shape := ⟨1, ![32768]⟩
abbrev S32768x1 : Shape := ⟨2, ![32768, 1]⟩
abbrev S1x1024 : Shape := ⟨2, ![1, 1024]⟩
abbrev S32768x5632 : Shape := ⟨2, ![32768, 5632]⟩
abbrev S32768x2816 : Shape := ⟨2, ![32768, 2816]⟩
abbrev S32768x256 : Shape := ⟨2, ![32768, 256]⟩

abbrev nBuf : Space → Nat
  | .hbm => 183
  | .vmem => 0
  | .smem => 0
  | _ => 0

abbrev hbmTy0_0 (i : Nat) : BufTy := match i % 128 with
  | 0 => ⟨S32768x1024, .f32⟩
  | 1 => ⟨S32768x512, .f32⟩
  | 2 => ⟨S32768x1024, .f32⟩
  | 3 => ⟨S32768x1024, .f32⟩
  | 4 => ⟨S32768x2048, .f32⟩
  | 5 => ⟨S8x4096x256, .f32⟩
  | 6 => ⟨S1024, .f32⟩
  | 7 => ⟨S512x1024, .f32⟩
  | 8 => ⟨S1024x1024, .f32⟩
  | 9 => ⟨S1024x1024, .f32⟩
  | 10 => ⟨S1024, .f32⟩
  | 11 => ⟨S1024, .f32⟩
  | 12 => ⟨S1024x5632, .f32⟩
  | 13 => ⟨S2816x1024, .f32⟩
  | 14 => ⟨S1024, .f32⟩
  | 15 => ⟨S1024, .f32⟩
  | 16 => ⟨S1024x1024, .f32⟩
  | 17 => ⟨S256x1024, .f32⟩
  | 18 => ⟨S1024, .f32⟩
  | 19 => ⟨S32768x1024, .f32⟩
  | 20 => ⟨S32768x4x256, .f32⟩
  | 21 => ⟨S32768x4x256, .f32⟩
  | 22 => ⟨S_, .f32⟩
  | 23 => ⟨S32768x4, .f32⟩
  | 24 => ⟨S32768x4x1, .f32⟩
  | 25 => ⟨S_, .f32⟩
  | 26 => ⟨S32768x4x1, .f32⟩
  | 27 => ⟨S32768x4x1, .f32⟩
  | 28 => ⟨S_, .f32⟩
  | 29 => ⟨S32768x4x1, .f32⟩
  | 30 => ⟨S32768x4x1, .f32⟩
  | 31 => ⟨S32768x4x1, .f32⟩
  | 32 => ⟨S32768x4x256, .f32⟩
  | 33 => ⟨S32768x4x256, .f32⟩
  | 34 => ⟨S4x256, .f32⟩
  | 35 => ⟨S1x4x256, .f32⟩
  | 36 => ⟨S32768x4x256, .f32⟩
  | 37 => ⟨S32768x4x256, .f32⟩
  | 38 => ⟨S32768x1024, .f32⟩
  | 39 => ⟨S32768x1024, .f32⟩
  | 40 => ⟨S32768x1024, .f32⟩
  | 41 => ⟨S_, .f32⟩
  | 42 => ⟨S32768x1024, .f32⟩
  | 43 => ⟨S32768x1024, .f32⟩
  | 44 => ⟨S_, .f32⟩
  | 45 => ⟨S32768x1024, .f32⟩
  | 46 => ⟨S32768x1024, .f32⟩
  | 47 => ⟨S32768x1024, .f32⟩
  | 48 => ⟨S32768x1024, .f32⟩
  | 49 => ⟨S32768x1024, .f32⟩
  | 50 => ⟨S32768x1024, .f32⟩
  | 51 => ⟨S32768x1024, .f32⟩
  | 52 => ⟨S_, .f32⟩
  | 53 => ⟨S32768x1024, .f32⟩
  | 54 => ⟨S32768x1024, .f32⟩
  | 55 => ⟨S_, .f32⟩
  | 56 => ⟨S32768x1024, .f32⟩
  | 57 => ⟨S32768x1024, .f32⟩
  | 58 => ⟨S32768x1024, .f32⟩
  | 59 => ⟨S32768x1024, .f32⟩
  | 60 => ⟨S32768x1024, .f32⟩
  | 61 => ⟨S32768x1024, .f32⟩
  | 62 => ⟨S_, .f32⟩
  | 63 => ⟨S32768x1024, .f32⟩
  | 64 => ⟨S32768x1024, .f32⟩
  | 65 => ⟨S_, .f32⟩
  | 66 => ⟨S32768x1024, .f32⟩
  | 67 => ⟨S32768x1024, .f32⟩
  | 68 => ⟨S32768x1024, .f32⟩
  | 69 => ⟨S32768x1024, .f32⟩
  | 70 => ⟨S32768x1024, .f32⟩
  | 71 => ⟨S32768x1024, .f32⟩
  | 72 => ⟨S_, .f32⟩
  | 73 => ⟨S32768, .f32⟩
  | 74 => ⟨S32768x1, .f32⟩
  | 75 => ⟨S_, .f32⟩
  | 76 => ⟨S32768x1, .f32⟩
  | 77 => ⟨S32768x1, .f32⟩
  | 78 => ⟨S_, .f32⟩
  | 79 => ⟨S32768x1, .f32⟩
  | 80 => ⟨S32768x1, .f32⟩
  | 81 => ⟨S32768x1, .f32⟩
  | 82 => ⟨S32768x1024, .f32⟩
  | 83 => ⟨S32768x1024, .f32⟩
  | 84 => ⟨S1x1024, .f32⟩
  | 85 => ⟨S32768x1024, .f32⟩
  | 86 => ⟨S32768x1024, .f32⟩
  | 87 => ⟨S32768x1024, .f32⟩
  | 88 => ⟨S32768x1024, .f32⟩
  | 89 => ⟨S_, .f32⟩
  | 90 => ⟨S32768, .f32⟩
  | 91 => ⟨S32768x1, .f32⟩
  | 92 => ⟨S_, .f32⟩
  | 93 => ⟨S32768x1, .f32⟩
  | 94 => ⟨S32768x1, .f32⟩
  | 95 => ⟨S_, .f32⟩
  | 96 => ⟨S32768x1, .f32⟩
  | 97 => ⟨S32768x1, .f32⟩
  | 98 => ⟨S32768x1, .f32⟩
  | 99 => ⟨S32768x1024, .f32⟩
  | 100 => ⟨S32768x1024, .f32⟩
  | 101 => ⟨S1x1024, .f32⟩
  | 102 => ⟨S32768x1024, .f32⟩
  | 103 => ⟨S32768x1024, .f32⟩
  | 104 => ⟨S32768x5632, .f32⟩
  | 105 => ⟨S32768x2816, .f32⟩
  | 106 => ⟨S32768x2816, .f32⟩
  | 107 => ⟨S32768x2816, .f32⟩
  | 108 => ⟨S_, .f32⟩
  | 109 => ⟨S32768x2816, .f32⟩
  | 110 => ⟨S32768x2816, .f32⟩
  | 111 => ⟨S_, .f32⟩
  | 112 => ⟨S32768x2816, .f32⟩
  | 113 => ⟨S32768x2816, .f32⟩
  | 114 => ⟨S32768x2816, .f32⟩
  | 115 => ⟨S32768x2816, .f32⟩
  | 116 => ⟨S32768x2816, .f32⟩
  | 117 => ⟨S32768x1024, .f32⟩
  | 118 => ⟨S32768x1024, .f32⟩
  | 119 => ⟨S_, .f32⟩
  | 120 => ⟨S32768, .f32⟩
  | 121 => ⟨S32768x1, .f32⟩
  | 122 => ⟨S_, .f32⟩
  | 123 => ⟨S32768x1, .f32⟩
  | 124 => ⟨S32768x1, .f32⟩
  | 125 => ⟨S_, .f32⟩
  | 126 => ⟨S32768x1, .f32⟩
  | 127 => ⟨S32768x1, .f32⟩
  | _ => ⟨S32768x1024, .f32⟩

abbrev hbmTy0_1 (i : Nat) : BufTy := match i % 128 with
  | 0 => ⟨S32768x1, .f32⟩
  | 1 => ⟨S32768x1024, .f32⟩
  | 2 => ⟨S32768x1024, .f32⟩
  | 3 => ⟨S1x1024, .f32⟩
  | 4 => ⟨S32768x1024, .f32⟩
  | 5 => ⟨S32768x1024, .f32⟩
  | 6 => ⟨S_, .f32⟩
  | 7 => ⟨S32768x1024, .f32⟩
  | 8 => ⟨S32768x1024, .f32⟩
  | 9 => ⟨S32768x1024, .f32⟩
  | 10 => ⟨S32768x1024, .f32⟩
  | 11 => ⟨S_, .f32⟩
  | 12 => ⟨S32768, .f32⟩
  | 13 => ⟨S32768x1, .f32⟩
  | 14 => ⟨S_, .f32⟩
  | 15 => ⟨S32768x1, .f32⟩
  | 16 => ⟨S32768x1, .f32⟩
  | 17 => ⟨S_, .f32⟩
  | 18 => ⟨S32768x1, .f32⟩
  | 19 => ⟨S32768x1, .f32⟩
  | 20 => ⟨S32768x1, .f32⟩
  | 21 => ⟨S32768x1024, .f32⟩
  | 22 => ⟨S32768x1024, .f32⟩
  | 23 => ⟨S1x1024, .f32⟩
  | 24 => ⟨S32768x1024, .f32⟩
  | 25 => ⟨S32768x1024, .f32⟩
  | 26 => ⟨S32768x1024, .f32⟩
  | 27 => ⟨S32768x1024, .f32⟩
  | 28 => ⟨S32768x1024, .f32⟩
  | 29 => ⟨S_, .f32⟩
  | 30 => ⟨S32768x1024, .f32⟩
  | 31 => ⟨S32768x1024, .f32⟩
  | 32 => ⟨S_, .f32⟩
  | 33 => ⟨S32768x1024, .f32⟩
  | 34 => ⟨S32768x1024, .f32⟩
  | 35 => ⟨S32768x256, .f32⟩
  | 36 => ⟨S32768x1024, .f32⟩
  | 37 => ⟨S32768x1024, .f32⟩
  | 38 => ⟨S32768x1024, .f32⟩
  | 39 => ⟨S_, .f32⟩
  | 40 => ⟨S32768, .f32⟩
  | 41 => ⟨S32768x1, .f32⟩
  | 42 => ⟨S_, .f32⟩
  | 43 => ⟨S32768x1, .f32⟩
  | 44 => ⟨S32768x1, .f32⟩
  | 45 => ⟨S_, .f32⟩
  | 46 => ⟨S32768x1, .f32⟩
  | 47 => ⟨S32768x1, .f32⟩
  | 48 => ⟨S32768x1, .f32⟩
  | 49 => ⟨S32768x1024, .f32⟩
  | 50 => ⟨S32768x1024, .f32⟩
  | 51 => ⟨S1x1024, .f32⟩
  | 52 => ⟨S32768x1024, .f32⟩
  | 53 => ⟨S32768x1024, .f32⟩
  | 54 => ⟨S32768x1024, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_cst : Ref sig .tc := ⟨.hbm, 22, rfl⟩
abbrev main_v3 : Ref sig .tc := ⟨.hbm, 23, rfl⟩
abbrev main_v4 : Ref sig .tc := ⟨.hbm, 24, rfl⟩
abbrev main_cst_0 : Ref sig .tc := ⟨.hbm, 25, rfl⟩
abbrev main_v5 : Ref sig .tc := ⟨.hbm, 26, rfl⟩
abbrev main_v6 : Ref sig .tc := ⟨.hbm, 27, rfl⟩
abbrev main_cst_1 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_2 : Ref sig .tc := ⟨.hbm, 41, rfl⟩
abbrev main_v19 : Ref sig .tc := ⟨.hbm, 42, rfl⟩
abbrev main_v20 : Ref sig .tc := ⟨.hbm, 43, rfl⟩
abbrev main_cst_3 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_4 : Ref sig .tc := ⟨.hbm, 52, rfl⟩
abbrev main_v28 : Ref sig .tc := ⟨.hbm, 53, rfl⟩
abbrev main_v29 : Ref sig .tc := ⟨.hbm, 54, rfl⟩
abbrev main_cst_5 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_6 : Ref sig .tc := ⟨.hbm, 62, rfl⟩
abbrev main_v36 : Ref sig .tc := ⟨.hbm, 63, rfl⟩
abbrev main_v37 : Ref sig .tc := ⟨.hbm, 64, rfl⟩
abbrev main_cst_7 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_8 : Ref sig .tc := ⟨.hbm, 72, rfl⟩
abbrev main_v44 : Ref sig .tc := ⟨.hbm, 73, rfl⟩
abbrev main_v45 : Ref sig .tc := ⟨.hbm, 74, rfl⟩
abbrev main_cst_9 : Ref sig .tc := ⟨.hbm, 75, rfl⟩
abbrev main_v46 : Ref sig .tc := ⟨.hbm, 76, rfl⟩
abbrev main_v47 : Ref sig .tc := ⟨.hbm, 77, rfl⟩
abbrev main_cst_10 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_11 : Ref sig .tc := ⟨.hbm, 89, rfl⟩
abbrev main_v58 : Ref sig .tc := ⟨.hbm, 90, rfl⟩
abbrev main_v59 : Ref sig .tc := ⟨.hbm, 91, rfl⟩
abbrev main_cst_12 : Ref sig .tc := ⟨.hbm, 92, rfl⟩
abbrev main_v60 : Ref sig .tc := ⟨.hbm, 93, rfl⟩
abbrev main_v61 : Ref sig .tc := ⟨.hbm, 94, rfl⟩
abbrev main_cst_13 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_call0_v0 : Ref sig .tc := ⟨.hbm, 106, rfl⟩
abbrev main_call0_v1 : Ref sig .tc := ⟨.hbm, 107, rfl⟩
abbrev main_call0_cst : Ref sig .tc := ⟨.hbm, 108, rfl⟩
abbrev main_call0_v2 : Ref sig .tc := ⟨.hbm, 109, rfl⟩
abbrev main_call0_v3 : Ref sig .tc := ⟨.hbm, 110, rfl⟩
abbrev main_call0_cst_0 : Ref sig .tc := ⟨.hbm, 111, rfl⟩
abbrev main_call0_v4 : Ref sig .tc := ⟨.hbm, 112, rfl⟩
abbrev main_call0_v5 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_cst_14 : Ref sig .tc := ⟨.hbm, 119, rfl⟩
abbrev main_v77 : Ref sig .tc := ⟨.hbm, 120, rfl⟩
abbrev main_v78 : Ref sig .tc := ⟨.hbm, 121, rfl⟩
abbrev main_cst_15 : Ref sig .tc := ⟨.hbm, 122, rfl⟩
abbrev main_v79 : Ref sig .tc := ⟨.hbm, 123, rfl⟩
abbrev main_v80 : Ref sig .tc := ⟨.hbm, 124, rfl⟩
abbrev main_cst_16 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_cst_17 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_cst_18 : Ref sig .tc := ⟨.hbm, 139, rfl⟩
abbrev main_v93 : Ref sig .tc := ⟨.hbm, 140, rfl⟩
abbrev main_v94 : Ref sig .tc := ⟨.hbm, 141, rfl⟩
abbrev main_cst_19 : Ref sig .tc := ⟨.hbm, 142, rfl⟩
abbrev main_v95 : Ref sig .tc := ⟨.hbm, 143, rfl⟩
abbrev main_v96 : Ref sig .tc := ⟨.hbm, 144, rfl⟩
abbrev main_cst_20 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_cst_21 : Ref sig .tc := ⟨.hbm, 157, rfl⟩
abbrev main_v108 : Ref sig .tc := ⟨.hbm, 158, rfl⟩
abbrev main_v109 : Ref sig .tc := ⟨.hbm, 159, rfl⟩
abbrev main_cst_22 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_cst_23 : Ref sig .tc := ⟨.hbm, 167, rfl⟩
abbrev main_v116 : Ref sig .tc := ⟨.hbm, 168, rfl⟩
abbrev main_v117 : Ref sig .tc := ⟨.hbm, 169, rfl⟩
abbrev main_cst_24 : Ref sig .tc := ⟨.hbm, 170, rfl⟩
abbrev main_v118 : Ref sig .tc := ⟨.hbm, 171, rfl⟩
abbrev main_v119 : Ref sig .tc := ⟨.hbm, 172, rfl⟩
abbrev main_cst_25 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩

abbrev nD : Nat := 1
abbrev τ : Topo := Topo.v7x

variable {F : FTy → Type} [FloatOps F]
-- ==== Proj.lean ====
abbrev S32768x1024 : Shape := ⟨2, ![32768, 1024]⟩
abbrev S1024 : Shape := ⟨1, ![1024]⟩
abbrev S1024x5632 : Shape := ⟨2, ![1024, 5632]⟩
abbrev S2816x1024 : Shape := ⟨2, ![2816, 1024]⟩
abbrev S1024x5904 : Shape := ⟨2, ![1024, 5904]⟩
abbrev S16 : Shape := ⟨1, ![16]⟩
abbrev S5904x1024 : Shape := ⟨2, ![5904, 1024]⟩
abbrev S16x1024 : Shape := ⟨2, ![16, 1024]⟩
abbrev S4x4x1024 : Shape := ⟨3, ![4, 4, 1024]⟩
abbrev S_ : Shape := ⟨0, ![]⟩
abbrev S128x1024 : Shape := ⟨2, ![128, 1024]⟩
abbrev S3840x1024 : Shape := ⟨2, ![3840, 1024]⟩
abbrev S2048x1024 : Shape := ⟨2, ![2048, 1024]⟩
abbrev S4x4 : Shape := ⟨2, ![4, 4]⟩
abbrev S1x16 : Shape := ⟨2, ![1, 16]⟩
abbrev S1x128 : Shape := ⟨2, ![1, 128]⟩
abbrev S4096 : Shape := ⟨1, ![4096]⟩
abbrev S8 : Shape := ⟨1, ![8]⟩
abbrev S4096x1 : Shape := ⟨2, ![4096, 1]⟩
abbrev S1x8 : Shape := ⟨2, ![1, 8]⟩
abbrev S4096x8 : Shape := ⟨2, ![4096, 8]⟩
abbrev S4096x48 : Shape := ⟨2, ![4096, 48]⟩
abbrev S4096x64 : Shape := ⟨2, ![4096, 64]⟩
abbrev S4096x56 : Shape := ⟨2, ![4096, 56]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S1x1024 : Shape := ⟨2, ![1, 1024]⟩
abbrev S32768x512 : Shape := ⟨2, ![32768, 512]⟩
abbrev S32768x256 : Shape := ⟨2, ![32768, 256]⟩
abbrev S160x32768 : Shape := ⟨2, ![160, 32768]⟩
abbrev S16x32768 : Shape := ⟨2, ![16, 32768]⟩
abbrev S32768x2048 : Shape := ⟨2, ![32768, 2048]⟩
abbrev S512x1024 : Shape := ⟨2, ![512, 1024]⟩
abbrev S512x128 : Shape := ⟨2, ![512, 128]⟩
abbrev S512x512 : Shape := ⟨2, ![512, 512]⟩
abbrev S512x256 : Shape := ⟨2, ![512, 256]⟩
abbrev S160x512 : Shape := ⟨2, ![160, 512]⟩
abbrev S16x512 : Shape := ⟨2, ![16, 512]⟩
abbrev S512x2048 : Shape := ⟨2, ![512, 2048]⟩
abbrev S256x1024 : Shape := ⟨2, ![256, 1024]⟩
abbrev S256 : Shape := ⟨1, ![256]⟩
abbrev S256x1 : Shape := ⟨2, ![256, 1]⟩
abbrev S256x5632 : Shape := ⟨2, ![256, 5632]⟩
abbrev S256x2816 : Shape := ⟨2, ![256, 2816]⟩
abbrev S256x128 : Shape := ⟨2, ![256, 128]⟩
abbrev S768x1024 : Shape := ⟨2, ![768, 1024]⟩
abbrev S256x768 : Shape := ⟨2, ![256, 768]⟩
abbrev S128x256 : Shape := ⟨2, ![128, 256]⟩
abbrev S16x256 : Shape := ⟨2, ![16, 256]⟩
abbrev S64x256 : Shape := ⟨2, ![64, 256]⟩
abbrev S160x256 : Shape := ⟨2, ![160, 256]⟩
abbrev S1024x1024 : Shape := ⟨2, ![1024, 1024]⟩
abbrev S256x512 : Shape := ⟨2, ![256, 512]⟩
abbrev S256x2048 : Shape := ⟨2, ![256, 2048]⟩

abbrev nBuf : Space → Nat
  | .hbm => 85
  | .vmem => 37
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S1024x5904, .f32⟩
  | .hbm, ⟨7, _⟩ => ⟨S16, .f32⟩
  | .hbm, ⟨8, _⟩ => ⟨S5904x1024, .f32⟩
  | .hbm, ⟨9, _⟩ => ⟨S16x1024, .f32⟩
  | .hbm, ⟨10, _⟩ => ⟨S4x4x1024, .f32⟩
  | .hbm, ⟨11, _⟩ => ⟨S4x4x1024, .f32⟩
  | .hbm, ⟨12, _⟩ => ⟨S16x1024, .f32⟩
  | .hbm, ⟨13, _⟩ => ⟨S_, .i32⟩
  | .hbm, ⟨14, _⟩ => ⟨S_, .f32⟩
  | .hbm, ⟨15, _⟩ => ⟨S128x1024, .f32⟩
  | .hbm, ⟨16, _⟩ => ⟨S3840x1024, .f32⟩
  | .hbm, ⟨17, _⟩ => ⟨S3840x1024, .bf16⟩
  | .hbm, ⟨18, _⟩ => ⟨S128x1024, .bf16⟩
  | .hbm, ⟨19, _⟩ => ⟨S2048x1024, .f32⟩
  | .hbm, ⟨20, _⟩ => ⟨S2048x1024, .bf16⟩
  | .hbm, ⟨21, _⟩ => ⟨S4x4, .f32⟩
  | .hbm, ⟨22, _⟩ => ⟨S4x4, .f32⟩
  | .hbm, ⟨23, _⟩ => ⟨S1x16, .f32⟩
  | .hbm, ⟨24, _⟩ => ⟨S_, .i32⟩
  | .hbm, ⟨25, _⟩ => ⟨S_, .f32⟩
  | .hbm, ⟨26, _⟩ => ⟨S1x128, .f32⟩
  | .hbm, ⟨27, _⟩ => ⟨S4096, .f32⟩
  | .hbm, ⟨28, _⟩ => ⟨S8, .f32⟩
  | .hbm, ⟨29, _⟩ => ⟨S_, .f32⟩
  | .hbm, ⟨30, _⟩ => ⟨S8, .f32⟩
  | .hbm, ⟨31, _⟩ => ⟨S8, .f32⟩
  | .hbm, ⟨32, _⟩ => ⟨S_, .f32⟩
  | .hbm, ⟨33, _⟩ => ⟨S8, .f32⟩
  | .hbm, ⟨34, _⟩ => ⟨S8, .f32⟩
  | .hbm, ⟨35, _⟩ => ⟨S8, .f32⟩
  | .hbm, ⟨36, _⟩ => ⟨S_, .f32⟩
  | .hbm, ⟨37, _⟩ => ⟨S8, .f32⟩
  | .hbm, ⟨38, _⟩ => ⟨S8, .f32⟩
  | .hbm, ⟨39, _⟩ => ⟨S_, .f32⟩
  | .hbm, ⟨40, _⟩ => ⟨S8, .f32⟩
  | .hbm, ⟨41, _⟩ => ⟨S8, .f32⟩
  | .hbm, ⟨42, _⟩ => ⟨S4096x1, .f32⟩
  | .hbm, ⟨43, _⟩ => ⟨S1x8, .f32⟩
  | .hbm, ⟨44, _⟩ => ⟨S4096x8, .f32⟩
  | .hbm, ⟨45, _⟩ => ⟨S4096x8, .f32⟩
  | .hbm, ⟨46, _⟩ => ⟨S4096x8, .f32⟩
  | .hbm, ⟨47, _⟩ => ⟨S4096x8, .f32⟩
  | .hbm, ⟨48, _⟩ => ⟨S4096x8, .f32⟩
  | .hbm, ⟨49, _⟩ => ⟨S_, .f32⟩
  | .hbm, ⟨50, _⟩ => ⟨S4096x48, .f32⟩
  | .hbm, ⟨51, _⟩ => ⟨S4096x64, .f32⟩
  | .hbm, ⟨52, _⟩ => ⟨S4096x8, .f32⟩
  | .hbm, ⟨53, _⟩ => ⟨S_, .f32⟩
  | .hbm, ⟨54, _⟩ => ⟨S4096x56, .f32⟩
  | .hbm, ⟨55, _⟩ => ⟨S4096x64, .f32⟩
  | .hbm, ⟨56, _⟩ => ⟨S_, .f32⟩
  | .hbm, ⟨57, _⟩ => ⟨S4096x8, .f32⟩
  | .hbm, ⟨58, _⟩ => ⟨S_, .f32⟩
  | .hbm, ⟨59, _⟩ => ⟨S4096x48, .f32⟩
  | .hbm, ⟨60, _⟩ => ⟨S4096x64, .f32⟩
  | .hbm, ⟨61, _⟩ => ⟨S1x4096x1x64, .f32⟩
  | .hbm, ⟨62, _⟩ => ⟨S1x4096x2x64, .f32⟩
  | .hbm, ⟨63, _⟩ => ⟨S4096x128, .f32⟩
  | .hbm, ⟨64, _⟩ => ⟨S1x4096x1x64, .f32⟩
  | .hbm, ⟨65, _⟩ => ⟨S1x4096x2x64, .f32⟩
  | .hbm, ⟨66, _⟩ => ⟨S4096x128, .f32⟩
  | .hbm, ⟨67, _⟩ => ⟨S1x4096x1x64, .f32⟩
  | .hbm, ⟨68, _⟩ => ⟨S1x4096x2x64, .f32⟩
  | .hbm, ⟨69, _⟩ => ⟨S4096x128, .f32⟩
  | .hbm, ⟨70, _⟩ => ⟨S1024x5632, .bf16⟩
  | .hbm, ⟨71, _⟩ => ⟨S2816x1024, .bf16⟩
  | .hbm, ⟨72, _⟩ => ⟨S1x1024, .f32⟩
  | .hbm, ⟨73, _⟩ => ⟨S1x1024, .f32⟩
  | .hbm, ⟨74, _⟩ => ⟨S1x1024, .f32⟩
  | .hbm, ⟨75, _⟩ => ⟨S32768x1024, .f32⟩
  | .hbm, ⟨76, _⟩ => ⟨S32768x512, .bf16⟩
  | .hbm, ⟨77, _⟩ => ⟨S32768x256, .bf16⟩
  | .hbm, ⟨78, _⟩ => ⟨S160x32768, .bf16⟩
  | .hbm, ⟨79, _⟩ => ⟨S32768x512, .bf16⟩
  | .hbm, ⟨80, _⟩ => ⟨S32768x512, .bf16⟩
  | .hbm, ⟨81, _⟩ => ⟨S32768x1024, .bf16⟩
  | .hbm, ⟨82, _⟩ => ⟨S32768x1024, .bf16⟩
  | .hbm, ⟨83, _⟩ => ⟨S16x32768, .f32⟩
  | .hbm, ⟨84, _⟩ => ⟨S32768x2048, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1024, .f32⟩
  | .local _ .vmem, ⟨6, _⟩ => ⟨S1x1024, .f32⟩
  | .local _ .vmem, ⟨7, _⟩ => ⟨S3840x1024, .bf16⟩
  | .local _ .vmem, ⟨8, _⟩ => ⟨S128x1024, .bf16⟩
  | .local _ .vmem, ⟨9, _⟩ => ⟨S2048x1024, .bf16⟩
  | .local _ .vmem, ⟨10, _⟩ => ⟨S1x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x1024, .f32⟩
  | .local _ .vmem, ⟨18, _⟩ => ⟨S512x1024, .f32⟩
  | .local _ .vmem, ⟨19, _⟩ => ⟨S512x512, .bf16⟩
  | .local _ .vmem, ⟨20, _⟩ => ⟨S512x512, .bf16⟩
  | .local _ .vmem, ⟨21, _⟩ => ⟨S512x256, .bf16⟩
  | .local _ .vmem, ⟨22, _⟩ => ⟨S512x256, .bf16⟩
  | .local _ .vmem, ⟨23, _⟩ => ⟨S160x512, .bf16⟩
  | .local _ .vmem, ⟨24, _⟩ => ⟨S160x512, .bf16⟩
  | .local _ .vmem, ⟨25, _⟩ => ⟨S512x512, .bf16⟩
  | .local _ .vmem, ⟨26, _⟩ => ⟨S512x512, .bf16⟩
  | .local _ .vmem, ⟨27, _⟩ => ⟨S512x512, .bf16⟩
  | .local _ .vmem, ⟨28, _⟩ => ⟨S512x512, .bf16⟩
  | .local _ .vmem, ⟨29, _⟩ => ⟨S512x1024, .bf16⟩
  | .local _ .vmem, ⟨30, _⟩ => ⟨S512x1024, .bf16⟩
  | .local _ .vmem, ⟨31, _⟩ => ⟨S512x1024, .bf16⟩
  | .local _ .vmem, ⟨32, _⟩ => ⟨S512x1024, .bf16⟩
  | .local _ .vmem, ⟨33, _⟩ => ⟨S16x512, .f32⟩
  | .local _ .vmem, ⟨34, _⟩ => ⟨S16x512, .f32⟩
  | .local _ .vmem, ⟨35, _⟩ => ⟨S512x2048, .bf16⟩
  | .local _ .vmem, ⟨36, _⟩ => ⟨S512x2048, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_0 : Ref sig .tc := ⟨.hbm, 24, rfl⟩
abbrev main_call1_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_4 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_5 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55_0 : Ref sig .tc := ⟨.hbm, 75, rfl⟩
abbrev main_v55_1 : Ref sig .tc := ⟨.hbm, 76, rfl⟩
abbrev main_v55_2 : Ref sig .tc := ⟨.hbm, 77, rfl⟩
abbrev main_v55_3 : Ref sig .tc := ⟨.hbm, 78, rfl⟩
abbrev main_v55_4 : Ref sig .tc := ⟨.hbm, 79, rfl⟩
abbrev main_v55_5 : Ref sig .tc := ⟨.hbm, 80, rfl⟩
abbrev main_v55_6 : Ref sig .tc := ⟨.hbm, 81, rfl⟩
abbrev main_v55_7 : Ref sig .tc := ⟨.hbm, 82, rfl⟩
abbrev main_v55_8 : Ref sig .tc := ⟨.hbm, 83, rfl⟩
abbrev main_v55_9 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_stg21_0 : Ref sig .tc := ⟨.vmem, 33, rfl⟩
abbrev cc0_stg21_1 : Ref sig .tc := ⟨.vmem, 34, rfl⟩
abbrev cc0_stg22_0 : Ref sig .tc := ⟨.vmem, 35, rfl⟩
abbrev cc0_stg22_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32
abbrev cc0_sem21_0 : DmaSem sig := 33
abbrev cc0_sem21_1 : DmaSem sig := 34
abbrev cc0_sem22_0 : DmaSem sig := 35
abbrev cc0_sem22_1 : DmaSem sig := 36

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_12 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3840x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S160x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S16x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x2048 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== ProjIdeal.lean ====
variable {F : FTy → Type} [FloatOps F] [Named F]
def κ : String → Option EReal := fun
  | "neglog2e" => some ((-((Real.log 2)⁻¹) : ℝ) : EReal)
  | "qscale" => some (((8 * (Real.log 2))⁻¹ : ℝ) : EReal)
  | _ => none
-- ==== ProjReferenceIdeal.lean ====
abbrev S32768x1024 : Shape := ⟨2, ![32768, 1024]⟩
abbrev S1024 : Shape := ⟨1, ![1024]⟩
abbrev S1024x5632 : Shape := ⟨2, ![1024, 5632]⟩
abbrev S2816x1024 : Shape := ⟨2, ![2816, 1024]⟩
abbrev S1024x5904 : Shape := ⟨2, ![1024, 5904]⟩
abbrev S16 : Shape := ⟨1, ![16]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x5632 : Shape := ⟨2, ![32768, 5632]⟩
abbrev S32768x2816 : Shape := ⟨2, ![32768, 2816]⟩
abbrev S32768x5904 : Shape := ⟨2, ![32768, 5904]⟩
abbrev S32768x512 : Shape := ⟨2, ![32768, 512]⟩
abbrev S32768x128 : Shape := ⟨2, ![32768, 128]⟩
abbrev S32768x16 : Shape := ⟨2, ![32768, 16]⟩
abbrev S32768x2048 : Shape := ⟨2, ![32768, 2048]⟩
abbrev S4096 : Shape := ⟨1, ![4096]⟩
abbrev S8 : Shape := ⟨1, ![8]⟩
abbrev S4096x1 : Shape := ⟨2, ![4096, 1]⟩
abbrev S1x8 : Shape := ⟨2, ![1, 8]⟩
abbrev S4096x8 : Shape := ⟨2, ![4096, 8]⟩
abbrev S4096x1x8 : Shape := ⟨3, ![4096, 1, 8]⟩
abbrev S8x4096x8x64 : Shape := ⟨4, ![8, 4096, 8, 64]⟩
abbrev S8x4096x8x16 : Shape := ⟨4, ![8, 4096, 8, 16]⟩
abbrev S8x4096x8x8 : Shape := ⟨4, ![8, 4096, 8, 8]⟩
abbrev S1x4096x1x8 : Shape := ⟨4, ![1, 4096, 1, 8]⟩
abbrev S8x4096x8x48 : Shape := ⟨4, ![8, 4096, 8, 48]⟩
abbrev S8x4096x2x64 : Shape := ⟨4, ![8, 4096, 2, 64]⟩
abbrev S8x4096x2x16 : Shape := ⟨4, ![8, 4096, 2, 16]⟩
abbrev S8x4096x2x8 : Shape := ⟨4, ![8, 4096, 2, 8]⟩
abbrev S8x4096x2x48 : Shape := ⟨4, ![8, 4096, 2, 48]⟩
abbrev S1x16 : Shape := ⟨2, ![1, 16]⟩
abbrev S32768x4x4 : Shape := ⟨3, ![32768, 4, 4]⟩
abbrev S32768x1x4 : Shape := ⟨3, ![32768, 1, 4]⟩
abbrev S32768x4 : Shape := ⟨2, ![32768, 4]⟩
abbrev S32768x64 : Shape := ⟨2, ![32768, 64]⟩
abbrev S32768x256 : Shape := ⟨2, ![32768, 256]⟩
abbrev S32768x160 : Shape := ⟨2, ![32768, 160]⟩
abbrev S160x32768 : Shape := ⟨2, ![160, 32768]⟩
abbrev S32768x4x1 : Shape := ⟨3, ![32768, 4, 1]⟩
abbrev S16x32768 : Shape := ⟨2, ![16, 32768]⟩

abbrev nBuf : Space → Nat
  | .hbm => 229
  | .vmem => 0
  | .smem => 0
  | _ => 0

abbrev hbmTy0_0 (i : Nat) : BufTy := match i % 128 with
  | 0 => ⟨S32768x1024, .f32⟩
  | 1 => ⟨S1024, .f32⟩
  | 2 => ⟨S1024x5632, .f32⟩
  | 3 => ⟨S2816x1024, .f32⟩
  | 4 => ⟨S1024, .f32⟩
  | 5 => ⟨S1024, .f32⟩
  | 6 => ⟨S1024x5904, .f32⟩
  | 7 => ⟨S16, .f32⟩
  | 8 => ⟨S32768x1024, .f32⟩
  | 9 => ⟨S_, .f32⟩
  | 10 => ⟨S32768, .f32⟩
  | 11 => ⟨S32768x1, .f32⟩
  | 12 => ⟨S_, .f32⟩
  | 13 => ⟨S32768x1, .f32⟩
  | 14 => ⟨S32768x1, .f32⟩
  | 15 => ⟨S_, .f32⟩
  | 16 => ⟨S32768x1, .f32⟩
  | 17 => ⟨S32768x1, .f32⟩
  | 18 => ⟨S32768x1, .f32⟩
  | 19 => ⟨S32768x1024, .f32⟩
  | 20 => ⟨S32768x1024, .f32⟩
  | 21 => ⟨S1x1024, .f32⟩
  | 22 => ⟨S32768x1024, .f32⟩
  | 23 => ⟨S32768x1024, .f32⟩
  | 24 => ⟨S32768x5632, .f32⟩
  | 25 => ⟨S32768x2816, .f32⟩
  | 26 => ⟨S32768x2816, .f32⟩
  | 27 => ⟨S32768x2816, .f32⟩
  | 28 => ⟨S_, .f32⟩
  | 29 => ⟨S32768x2816, .f32⟩
  | 30 => ⟨S32768x2816, .f32⟩
  | 31 => ⟨S_, .f32⟩
  | 32 => ⟨S32768x2816, .f32⟩
  | 33 => ⟨S32768x2816, .f32⟩
  | 34 => ⟨S32768x2816, .f32⟩
  | 35 => ⟨S32768x2816, .f32⟩
  | 36 => ⟨S32768x2816, .f32⟩
  | 37 => ⟨S32768x1024, .f32⟩
  | 38 => ⟨S32768x1024, .f32⟩
  | 39 => ⟨S_, .f32⟩
  | 40 => ⟨S32768, .f32⟩
  | 41 => ⟨S32768x1, .f32⟩
  | 42 => ⟨S_, .f32⟩
  | 43 => ⟨S32768x1, .f32⟩
  | 44 => ⟨S32768x1, .f32⟩
  | 45 => ⟨S_, .f32⟩
  | 46 => ⟨S32768x1, .f32⟩
  | 47 => ⟨S32768x1, .f32⟩
  | 48 => ⟨S32768x1, .f32⟩
  | 49 => ⟨S32768x1024, .f32⟩
  | 50 => ⟨S32768x1024, .f32⟩
  | 51 => ⟨S1x1024, .f32⟩
  | 52 => ⟨S32768x1024, .f32⟩
  | 53 => ⟨S32768x1024, .f32⟩
  | 54 => ⟨S_, .f32⟩
  | 55 => ⟨S32768x1024, .f32⟩
  | 56 => ⟨S32768x1024, .f32⟩
  | 57 => ⟨S32768x1024, .f32⟩
  | 58 => ⟨S32768x1024, .f32⟩
  | 59 => ⟨S_, .f32⟩
  | 60 => ⟨S32768, .f32⟩
  | 61 => ⟨S32768x1, .f32⟩
  | 62 => ⟨S_, .f32⟩
  | 63 => ⟨S32768x1, .f32⟩
  | 64 => ⟨S32768x1, .f32⟩
  | 65 => ⟨S_, .f32⟩
  | 66 => ⟨S32768x1, .f32⟩
  | 67 => ⟨S32768x1, .f32⟩
  | 68 => ⟨S32768x1, .f32⟩
  | 69 => ⟨S32768x1024, .f32⟩
  | 70 => ⟨S32768x1024, .f32⟩
  | 71 => ⟨S1x1024, .f32⟩
  | 72 => ⟨S32768x1024, .f32⟩
  | 73 => ⟨S32768x1024, .f32⟩
  | 74 => ⟨S32768x5904, .f32⟩
  | 75 => ⟨S32768x512, .f32⟩
  | 76 => ⟨S32768x128, .f32⟩
  | 77 => ⟨S32768x128, .f32⟩
  | 78 => ⟨S32768x512, .f32⟩
  | 79 => ⟨S32768x512, .f32⟩
  | 80 => ⟨S32768x1024, .f32⟩
  | 81 => ⟨S32768x1024, .f32⟩
  | 82 => ⟨S32768x16, .f32⟩
  | 83 => ⟨S32768x2048, .f32⟩
  | 84 => ⟨S4096, .f32⟩
  | 85 => ⟨S8, .f32⟩
  | 86 => ⟨S_, .f32⟩
  | 87 => ⟨S8, .f32⟩
  | 88 => ⟨S8, .f32⟩
  | 89 => ⟨S_, .f32⟩
  | 90 => ⟨S8, .f32⟩
  | 91 => ⟨S8, .f32⟩
  | 92 => ⟨S8, .f32⟩
  | 93 => ⟨S_, .f32⟩
  | 94 => ⟨S8, .f32⟩
  | 95 => ⟨S8, .f32⟩
  | 96 => ⟨S_, .f32⟩
  | 97 => ⟨S8, .f32⟩
  | 98 => ⟨S8, .f32⟩
  | 99 => ⟨S4096x1, .f32⟩
  | 100 => ⟨S1x8, .f32⟩
  | 101 => ⟨S4096x8, .f32⟩
  | 102 => ⟨S4096x8, .f32⟩
  | 103 => ⟨S4096x8, .f32⟩
  | 104 => ⟨S4096x8, .f32⟩
  | 105 => ⟨S4096x1x8, .f32⟩
  | 106 => ⟨S4096x8, .f32⟩
  | 107 => ⟨S4096x1x8, .f32⟩
  | 108 => ⟨S8x4096x8x64, .f32⟩
  | 109 => ⟨S8x4096x8x16, .f32⟩
  | 110 => ⟨S8x4096x8x8, .f32⟩
  | 111 => ⟨S8x4096x8x8, .f32⟩
  | 112 => ⟨S1x4096x1x8, .f32⟩
  | 113 => ⟨S8x4096x8x8, .f32⟩
  | 114 => ⟨S8x4096x8x8, .f32⟩
  | 115 => ⟨S1x4096x1x8, .f32⟩
  | 116 => ⟨S8x4096x8x8, .f32⟩
  | 117 => ⟨S8x4096x8x8, .f32⟩
  | 118 => ⟨S8x4096x8x8, .f32⟩
  | 119 => ⟨S1x4096x1x8, .f32⟩
  | 120 => ⟨S8x4096x8x8, .f32⟩
  | 121 => ⟨S8x4096x8x8, .f32⟩
  | 122 => ⟨S1x4096x1x8, .f32⟩
  | 123 => ⟨S8x4096x8x8, .f32⟩
  | 124 => ⟨S8x4096x8x8, .f32⟩
  | 125 => ⟨S8x4096x8x8, .f32⟩
  | 126 => ⟨S8x4096x8x16, .f32⟩
  | 127 => ⟨S8x4096x8x48, .f32⟩
  | _ => ⟨S32768x1024, .f32⟩

abbrev hbmTy0_1 (i : Nat) : BufTy := match i % 128 with
  | 0 => ⟨S8x4096x8x64, .f32⟩
  | 1 => ⟨S8x4096x2x64, .f32⟩
  | 2 => ⟨S8x4096x2x16, .f32⟩
  | 3 => ⟨S8x4096x2x8, .f32⟩
  | 4 => ⟨S8x4096x2x8, .f32⟩
  | 5 => ⟨S1x4096x1x8, .f32⟩
  | 6 => ⟨S8x4096x2x8, .f32⟩
  | 7 => ⟨S8x4096x2x8, .f32⟩
  | 8 => ⟨S1x4096x1x8, .f32⟩
  | 9 => ⟨S8x4096x2x8, .f32⟩
  | 10 => ⟨S8x4096x2x8, .f32⟩
  | 11 => ⟨S8x4096x2x8, .f32⟩
  | 12 => ⟨S1x4096x1x8, .f32⟩
  | 13 => ⟨S8x4096x2x8, .f32⟩
  | 14 => ⟨S8x4096x2x8, .f32⟩
  | 15 => ⟨S1x4096x1x8, .f32⟩
  | 16 => ⟨S8x4096x2x8, .f32⟩
  | 17 => ⟨S8x4096x2x8, .f32⟩
  | 18 => ⟨S8x4096x2x8, .f32⟩
  | 19 => ⟨S8x4096x2x16, .f32⟩
  | 20 => ⟨S8x4096x2x48, .f32⟩
  | 21 => ⟨S8x4096x2x64, .f32⟩
  | 22 => ⟨S1x16, .f32⟩
  | 23 => ⟨S32768x16, .f32⟩
  | 24 => ⟨S32768x16, .f32⟩
  | 25 => ⟨S32768x4x4, .f32⟩
  | 26 => ⟨S32768x1x4, .f32⟩
  | 27 => ⟨S32768x4, .f32⟩
  | 28 => ⟨S32768x1x4, .f32⟩
  | 29 => ⟨S32768x4, .f32⟩
  | 30 => ⟨S32768x4, .f32⟩
  | 31 => ⟨S_, .f32⟩
  | 32 => ⟨S32768x4, .f32⟩
  | 33 => ⟨S32768x4, .f32⟩
  | 34 => ⟨S32768x4, .f32⟩
  | 35 => ⟨S32768x4, .f32⟩
  | 36 => ⟨S32768x4, .i1⟩
  | 37 => ⟨S32768x4, .f32⟩
  | 38 => ⟨S32768x4, .f32⟩
  | 39 => ⟨S32768x4, .f32⟩
  | 40 => ⟨S32768x4, .f32⟩
  | 41 => ⟨S32768x4, .f32⟩
  | 42 => ⟨S32768x4, .f32⟩
  | 43 => ⟨S32768x4, .f32⟩
  | 44 => ⟨S32768x4, .f32⟩
  | 45 => ⟨S32768x4, .f32⟩
  | 46 => ⟨S32768x1x4, .f32⟩
  | 47 => ⟨S32768x4, .f32⟩
  | 48 => ⟨S32768x1x4, .f32⟩
  | 49 => ⟨S32768x4, .f32⟩
  | 50 => ⟨S32768x4, .f32⟩
  | 51 => ⟨S_, .f32⟩
  | 52 => ⟨S32768x4, .f32⟩
  | 53 => ⟨S32768x4, .f32⟩
  | 54 => ⟨S32768x4, .f32⟩
  | 55 => ⟨S32768x4, .f32⟩
  | 56 => ⟨S32768x4, .i1⟩
  | 57 => ⟨S32768x4, .f32⟩
  | 58 => ⟨S32768x4, .f32⟩
  | 59 => ⟨S32768x4, .f32⟩
  | 60 => ⟨S32768x4, .f32⟩
  | 61 => ⟨S32768x4, .f32⟩
  | 62 => ⟨S32768x4, .f32⟩
  | 63 => ⟨S32768x4, .f32⟩
  | 64 => ⟨S32768x4, .f32⟩
  | 65 => ⟨S32768x4, .f32⟩
  | 66 => ⟨S_, .f32⟩
  | 67 => ⟨S8x4096x8x64, .f32⟩
  | 68 => ⟨S8x4096x8x64, .f32⟩
  | 69 => ⟨S_, .f32⟩
  | 70 => ⟨S_, .f32⟩
  | 71 => ⟨S8x4096x8x64, .f32⟩
  | 72 => ⟨S8x4096x8x64, .f32⟩
  | 73 => ⟨S32768x512, .f32⟩
  | 74 => ⟨S32768x512, .bf16⟩
  | 75 => ⟨S32768x128, .f32⟩
  | 76 => ⟨S32768x64, .f32⟩
  | 77 => ⟨S32768x64, .f32⟩
  | 78 => ⟨S32768x64, .f32⟩
  | 79 => ⟨S32768x64, .f32⟩
  | 80 => ⟨S32768x256, .f32⟩
  | 81 => ⟨S32768x256, .bf16⟩
  | 82 => ⟨S_, .f32⟩
  | 83 => ⟨S32768x16, .f32⟩
  | 84 => ⟨S32768x64, .f32⟩
  | 85 => ⟨S32768x64, .f32⟩
  | 86 => ⟨S32768x160, .f32⟩
  | 87 => ⟨S160x32768, .f32⟩
  | 88 => ⟨S160x32768, .bf16⟩
  | 89 => ⟨S32768x4x1, .f32⟩
  | 90 => ⟨S32768x4x1, .f32⟩
  | 91 => ⟨S32768x4x1, .f32⟩
  | 92 => ⟨S32768x4x1, .f32⟩
  | 93 => ⟨S32768x4x4, .f32⟩
  | 94 => ⟨S32768x16, .f32⟩
  | 95 => ⟨S16x32768, .f32⟩
  | 96 => ⟨S32768x512, .bf16⟩
  | 97 => ⟨S32768x512, .bf16⟩
  | 98 => ⟨S32768x1024, .bf16⟩
  | 99 => ⟨S32768x1024, .bf16⟩
  | 100 => ⟨S32768x2048, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_2 : Ref sig .tc := ⟨.hbm, 39, rfl⟩
abbrev main_v20 : Ref sig .tc := ⟨.hbm, 40, rfl⟩
abbrev main_v21 : Ref sig .tc := ⟨.hbm, 41, rfl⟩
abbrev main_cst_3 : Ref sig .tc := ⟨.hbm, 42, rfl⟩
abbrev main_v22 : Ref sig .tc := ⟨.hbm, 43, rfl⟩
abbrev main_v23 : Ref sig .tc := ⟨.hbm, 44, rfl⟩
abbrev main_cst_4 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_5 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_6 : Ref sig .tc := ⟨.hbm, 59, rfl⟩
abbrev main_v36 : Ref sig .tc := ⟨.hbm, 60, rfl⟩
abbrev main_v37 : Ref sig .tc := ⟨.hbm, 61, rfl⟩
abbrev main_cst_7 : Ref sig .tc := ⟨.hbm, 62, rfl⟩
abbrev main_v38 : Ref sig .tc := ⟨.hbm, 63, rfl⟩
abbrev main_v39 : Ref sig .tc := ⟨.hbm, 64, rfl⟩
abbrev main_cst_8 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_9 : Ref sig .tc := ⟨.hbm, 86, rfl⟩
abbrev main_v60 : Ref sig .tc := ⟨.hbm, 87, rfl⟩
abbrev main_v61 : Ref sig .tc := ⟨.hbm, 88, rfl⟩
abbrev main_cst_10 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_11 : Ref sig .tc := ⟨.hbm, 93, rfl⟩
abbrev main_v65 : Ref sig .tc := ⟨.hbm, 94, rfl⟩
abbrev main_v66 : Ref sig .tc := ⟨.hbm, 95, rfl⟩
abbrev main_cst_12 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_call1_v0 : Ref sig .tc := ⟨.hbm, 158, rfl⟩
abbrev main_call1_call0_cst : Ref sig .tc := ⟨.hbm, 159, rfl⟩
abbrev main_call1_call0_v0 : Ref sig .tc := ⟨.hbm, 160, rfl⟩
abbrev main_call1_call0_v1 : Ref sig .tc := ⟨.hbm, 161, rfl⟩
abbrev main_call1_call0_v2 : Ref sig .tc := ⟨.hbm, 162, rfl⟩
abbrev main_call1_call0_v3 : Ref sig .tc := ⟨.hbm, 163, rfl⟩
abbrev main_call1_call0_v4 : Ref sig .tc := ⟨.hbm, 164, rfl⟩
abbrev main_call1_call0_v5 : Ref sig .tc := ⟨.hbm, 165, rfl⟩
abbrev main_call1_call0_v6 : Ref sig .tc := ⟨.hbm, 166, rfl⟩
abbrev main_call1_call0_v7 : Ref sig .tc := ⟨.hbm, 167, rfl⟩
abbrev main_call1_call0_v8 : Ref sig .tc := ⟨.hbm, 168, rfl⟩
abbrev main_call1_call0_v9 : Ref sig .tc := ⟨.hbm, 169, rfl⟩
abbrev main_call1_call0_v10 : Ref sig .tc := ⟨.hbm, 170, rfl⟩
abbrev main_call1_call0_v11 : Ref sig .tc := ⟨.hbm, 171, rfl⟩
abbrev main_call1_v1 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_call2_v0 : Ref sig .tc := ⟨.hbm, 178, rfl⟩
abbrev main_call2_call0_cst : Ref sig .tc := ⟨.hbm, 179, rfl⟩
abbrev main_call2_call0_v0 : Ref sig .tc := ⟨.hbm, 180, rfl⟩
abbrev main_call2_call0_v1 : Ref sig .tc := ⟨.hbm, 181, rfl⟩
abbrev main_call2_call0_v2 : Ref sig .tc := ⟨.hbm, 182, rfl⟩
abbrev main_call2_call0_v3 : Ref sig .tc := ⟨.hbm, 183, rfl⟩
abbrev main_call2_call0_v4 : Ref sig .tc := ⟨.hbm, 184, rfl⟩
abbrev main_call2_call0_v5 : Ref sig .tc := ⟨.hbm, 185, rfl⟩
abbrev main_call2_call0_v6 : Ref sig .tc := ⟨.hbm, 186, rfl⟩
abbrev main_call2_call0_v7 : Ref sig .tc := ⟨.hbm, 187, rfl⟩
abbrev main_call2_call0_v8 : Ref sig .tc := ⟨.hbm, 188, rfl⟩
abbrev main_call2_call0_v9 : Ref sig .tc := ⟨.hbm, 189, rfl⟩
abbrev main_call2_call0_v10 : Ref sig .tc := ⟨.hbm, 190, rfl⟩
abbrev main_call2_call0_v11 : Ref sig .tc := ⟨.hbm, 191, rfl⟩
abbrev main_call2_v1 : Ref sig .tc := ⟨.hbm, 192, rfl⟩
abbrev main_v133 : Ref sig .tc := ⟨.hbm, 193, rfl⟩
abbrev main_cst_13 : Ref sig .tc := ⟨.hbm, 194, rfl⟩
abbrev main_v134 : Ref sig .tc := ⟨.hbm, 195, rfl⟩
abbrev main_v135 : Ref sig .tc := ⟨.hbm, 196, rfl⟩
abbrev main_cst_14 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_cst_15 : Ref sig .tc := ⟨.hbm, 210, rfl⟩
abbrev main_v148 : Ref sig .tc := ⟨.hbm, 211, rfl⟩
abbrev main_v149 : Ref sig .tc := ⟨.hbm, 212, rfl⟩
abbrev main_v150 : Ref sig .tc := ⟨.hbm, 213, rfl⟩
abbrev main_v151 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩

abbrev nD : Nat := 1
abbrev τ : Topo := Topo.v7x

variable {F : FTy → Type} [FloatOps F]
-- ==== Proof.Finite.lean ====
module

public import proofs.«01_k».proof.Proof.Gen.Pre_finite
public import Idealize.ShloMosaic.Lib.Pointwise
public import Idealize.ShloMosaic.Lib.ReduceAll

@[expose] public section

noncomputable section

namespace Cert.Pre_finite.Att

open Idealize.ShloMosaic Cert.Pre_finite

theorem andi_one : ∀ a b : BitVec 1, IntOp.andi a b = 1#1 → a = 1#1 ∧ b = 1#1 := by decide

/-- An extended real whose absolute value is below infinity is a real. -/
theorem real_of_bit (x : EReal) (h : (FloatOps.cmpf .olt (FloatOps.hostAbsf (F := Ideal) (φ := .f32) x) (FloatOps.ofBits (F := Ideal) .f32 0x7F800000#32) : BitVec 1) = 1#1) :
    x = ((x.toReal : ℝ) : EReal) := by
  have e : Ideal.ofBits .f32 0x7F800000#32 = (⊤ : EReal) := by simp [Ideal.ofBits, Ideal.ieee]
  change Ideal.cmp .olt (max x (-x)) (Ideal.ofBits .f32 0x7F800000#32) = 1#1 at h
  rw [e] at h
  induction x using EReal.rec with
  | bot => simp [Ideal.cmp] at h
  | coe r => rfl
  | top => simp [Ideal.cmp] at h

instance : Subsingleton S_.Idx := ⟨fun a b => funext fun i => i.elim0⟩

/-- What the precondition says, entry by entry. -/
theorem finite_of_pre (x0 : FVec Ideal S32768x512 .f32) (x1 x2 : FVec Ideal S32768x128 .f32) (x3 : FVec Ideal S8 .f32)
    (h : Cert.Pre_finite.fn (F := Ideal) x0 x1 x2 x3 = fun _ => 1#1) :
    (∀ i, (x0 i : EReal) = (((x0 i : EReal).toReal : ℝ) : EReal)) ∧ (∀ i, (x1 i : EReal) = (((x1 i : EReal).toReal : ℝ) : EReal))
      ∧ ∀ i, (x3 i : EReal) = (((x3 i : EReal).toReal : ℝ) : EReal) := by
  have h' := congrFun h (fun a => a.elim0)
  unfold Cert.Pre_finite.fn at h'
  dsimp only at h'
  obtain ⟨hab, hc⟩ := andi_one _ _ h'
  obtain ⟨ha, hb⟩ := andi_one _ _ hab
  refine ⟨fun i => real_of_bit _ ?_, fun i => real_of_bit _ ?_, fun i => real_of_bit _ ?_⟩
  · exact Host.reduce_andi_all _ _ _ _ _ ha i
  · exact Host.reduce_andi_all _ _ _ _ _ hb i
  · exact Host.reduce_andi_all _ _ _ _ _ hc i

end Cert.Pre_finite.Att
end
-- ==== Proof.Item.lean ====
module

public import proofs.«01_k».proof.Proof.Gen.KernelIdeal.Value

@[expose] public section

set_option maxRecDepth 16384

noncomputable section

namespace Cert.KernelIdeal.Att

open Cert.KernelIdeal Cert.KernelIdeal.Gen Idealize.ShloMosaic Idealize.ShloMosaic.TcCoe Idealize.SL.Sem
open Idealize.ShloMosaic.Pipeline (Dat)

section Vocabulary
variable {F : FTy → Type} [FloatOps F] [Named F]

/-- The two heads of a pair as 256 columns, each head's features in its half of the lanes and zero in the other. -/
def qsel (q : FVec F S128x128 .bf16) : FVec F S256x128 .bf16 :=
  concatenate S256x128 0
    [⟨S128x128, select k0_pay5 (shapeCast S128x128 q shapeCasts_S128x128_S128x128) (broadcast S128x128 (Scalar.ofBits .bf16 0x0000#16))⟩,
     ⟨S128x128, select k0_pay5 (broadcast S128x128 (Scalar.ofBits .bf16 0x0000#16)) (shapeCast S128x128 q shapeCasts_S128x128_S128x128)⟩]
    concatenates_S128x128_S128x128_S256x128_d0

/-- The scores of one item: 384 keys against the 256 columns of a pair of heads. -/
def scores (kc : FVec F S1280x256 .bf16) (q : FVec F S128x128 .bf16) (j c : ℕ) (h : S1280x256.Slices ![128 * j, 128 * c] S384x128) :
    FVec F S384x256 .f32 :=
  matmul dot_S384x128_S256x128_S384x256_1_1_0_0_n_n none (extractStridedSlice S384x128 ![128 * j, 128 * c] kc h) (qsel q)
    (constant S384x256 .f32 0x00000000#32)

/-- Which keys of the block before are in the window. -/
def maskLo (g : BitVec 32) : IVec S128x256 1 :=
  cmpi .sge (iota .tc S128x256 32 [0] iota_S128x256_d0_w32)
    (addi k0_pay3 (broadcast S128x256 (Scalar.select (Scalar.cmpi .sgt g 0#32) 0#32 128#32)))

/-- Which keys of the block after are in the window. -/
def maskHi (g : BitVec 32) : IVec S128x256 1 :=
  cmpi .sle (iota .tc S128x256 32 [0] iota_S128x256_d0_w32)
    (subi k0_pay3 (broadcast S128x256 (Scalar.select (Scalar.cmpi .slt g 31#32) 0#32 128#32)))

/-- The scores against the block before, masked. -/
def pLo (g : BitVec 32) (s : FVec F S384x256 .f32) : FVec F S128x256 .f32 :=
  select (maskLo g) (extractStridedSlice S128x256 ![0, 0] s slices_S384x256_o0_0_S128x256) (broadcast S128x256 (Scalar.ofBits .f32 0xFF800000#32))
/-- The scores against the query's own block. -/
def pMid (s : FVec F S384x256 .f32) : FVec F S128x256 .f32 :=
  extractStridedSlice S128x256 ![128, 0] s slices_S384x256_o128_0_S128x256
/-- The scores against the block after, masked. -/
def pHi (g : BitVec 32) (s : FVec F S384x256 .f32) : FVec F S128x256 .f32 :=
  select (maskHi g) (extractStridedSlice S128x256 ![256, 0] s slices_S384x256_o256_0_S128x256) (broadcast S128x256 (Scalar.ofBits .f32 0xFF800000#32))

/-- The weighted values over their sum, laid out as 128 queries by the 128 features of the two heads. -/
def weigh (vc : FVec F S160x1280 .bf16) (p : FVec F S384x256 .bf16) (st : FVec F S1x256 .f32) (j c : ℕ)
    (h : S160x1280.Slices ![80 * c, 128 * j] S80x384) : FVec F S128x128 .bf16 :=
  let ot : FVec F S80x256 .f32 := matmul dot_S80x384_S384x256_S80x256_1_0_0_1_n_n none (extractStridedSlice S80x384 ![80 * c, 128 * j] vc h) p
    (constant S80x256 .f32 0x00000000#32)
  let den : FVec F S1x256 .f32 := addf (extractStridedSlice S1x256 ![64, 0] ot slices_S80x256_o64_0_S1x256) st
  let o : FVec F S64x256 .f32 := mulf (extractStridedSlice S64x256 ![0, 0] ot slices_S80x256_o0_0_S64x256)
    (broadcastTo S64x256 (divf (broadcast S1x256 (Scalar.ofBits .f32 0x3F800000#32)) den) broadcasts_S1x256_S64x256)
  truncf .bf16 (transpose S128x128 [1, 0] (concatenate S128x128 0
    [⟨S64x128, extractStridedSlice S64x128 ![0, 0] o slices_S64x256_o0_0_S64x128⟩,
     ⟨S64x128, extractStridedSlice S64x128 ![0, 128] o slices_S64x256_o0_128_S64x128⟩] concatenates_S64x128_S64x128_S128x128_d0)
    transposes_S128x128_p1_0_S128x128) bitsLt_bf16_f32

/-- ONE ITEM: block `j` of the tile, one pair of heads, kv head `c`. -/
def item (g : BitVec 32) (kc : FVec F S1280x256 .bf16) (vc : FVec F S160x1280 .bf16) (q : FVec F S128x128 .bf16) (a b : Elt F .f32)
    (j c : ℕ) (hk : S1280x256.Slices ![128 * j, 128 * c] S384x128) (hv : S160x1280.Slices ![80 * c, 128 * j] S80x384) : FVec F S128x128 .bf16 :=
  let s := scores kc q j c hk
  let sk := k0_pay26 k0_pay4 a b
  weigh vc (k0_pay40 (pLo g s) (pMid s) (pHi g s) sk) (k0_pay41 (pLo g s) (pMid s) (pHi g s) sk) j c hv

end Vocabulary

end Cert.KernelIdeal.Att
end
-- ==== Proof.Block.lean ====
module

public import proofs.«01_k».proof.Proof.Item
public import Idealize.ShloMosaic.Lib.Pointwise
public import Idealize.ShloMosaic.Lib.Pipeline.ValueKit.Tiles

@[expose] public section

set_option maxRecDepth 1024

noncomputable section

namespace Cert.KernelIdeal.Att

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ)

/-- The tile's keys with the block before and the block after. -/
def kcat (c : Dev nD) (t : Fin cfg0.N) : FVec F S1280x256 .bf16 :=
  k0_pay1 (View.ld (iblk m c 2 t) (Rect.unit ![0, 0] ![128, 256] inb_S128x256_S128x256_0_0))
    (View.ld (iblk m c 3 t) (Rect.unit ![0, 0] ![1024, 256] inb_S1024x256_S1024x256_0_0))
    (View.ld (iblk m c 4 t) (Rect.unit ![0, 0] ![128, 256] inb_S128x256_S128x256_0_0))

/-- The tile's values with the block before and the block after. -/
def vcat (c : Dev nD) (t : Fin cfg0.N) : FVec F S160x1280 .bf16 :=
  k0_pay2 (View.ld (iblk m c 5 t) (Rect.unit ![0, 0] ![160, 128] inb_S160x128_S160x128_0_0))
    (View.ld (iblk m c 6 t) (Rect.unit ![0, 0] ![160, 1024] inb_S160x1024_S160x1024_0_0))
    (View.ld (iblk m c 7 t) (Rect.unit ![0, 0] ![160, 128] inb_S160x128_S160x128_0_0))

theorem inb_tile : ∀ (j : Fin 8) (pr : Fin 4) a, (![128 * j.val, 128 * pr.val] : Fin 2 → Nat) a + S128x128.size a ≤ S1024x512.size a := by decide
theorem inb_sink : ∀ (n : Fin 8) a, (![n.val] : Fin 1 → Nat) a + S1.size a ≤ S8.size a := by decide
theorem slices_k : ∀ (j : Fin 8) (pr : Fin 4), S1280x256.Slices ![128 * j.val, 128 * (pr.val / 2)] S384x128 := by decide
theorem slices_v : ∀ (j : Fin 8) (pr : Fin 4), S160x1280.Slices ![80 * (pr.val / 2), 128 * j.val] S80x384 := by decide

/-- The queries of block `j` and pair of heads `pr`. -/
def qtile (c : Dev nD) (t : Fin cfg0.N) (j : Fin 8) (pr : Fin 4) : FVec F S128x128 .bf16 :=
  View.ld (iblk m c 1 t) (Rect.unit ![128 * j.val, 128 * pr.val] ![128, 128] (inb_tile j pr))

/-- The sink of a head. -/
def snk (c : Dev nD) (t : Fin cfg0.N) (n : Fin 8) : Elt F .f32 :=
  View.ld (iblk m c 0 t) (Rect.unit ![n.val] ![1] (inb_sink n)) (Shape.Idx.first (s := S1) (by decide))

/-- The number of block `j` of the tile in its sequence, as the kernel counts it. -/
def word (t : Fin cfg0.N) (j : Fin 8) : BitVec 32 :=
  Scalar.addi (Scalar.muli (BitVec.ofNat 32 (grid0.coords t 1)) 8#32) (BitVec.ofNat 32 j.val)

/-- The item of block `j` and pair `pr` of a tile. -/
def it (c : Dev nD) (t : Fin cfg0.N) (j : Fin 8) (pr : Fin 4) : FVec F S128x128 .bf16 :=
  item (word t j) (kcat m c t) (vcat m c t) (qtile m c t j pr) (snk m c t ⟨2 * pr.val, by omega⟩) (snk m c t ⟨2 * pr.val + 1, by omega⟩)
    j.val (pr.val / 2) (slices_k j pr) (slices_v j pr)

/-- What a tile's block holds at a row and a column. -/
def blockAt (c : Dev nD) (t : Fin cfg0.N) : Vec F S1024x512 .bf16 := fun y =>
  it m c t ⟨(y 0).val / 128, by have : (y 0).val < 1024 := (y 0).isLt; omega⟩
    ⟨(y 1).val / 128, by have : (y 1).val < 512 := (y 1).isLt; omega⟩
    (ix2 ⟨(y 0).val % 128, Nat.mod_lt _ (by decide)⟩ ⟨(y 1).val % 128, Nat.mod_lt _ (by decide)⟩)

/-- The block at an index given by its item's place. -/
theorem blockAt_of (c : Dev nD) (t : Fin cfg0.N) (j : Fin 8) (pr : Fin 4) (x : S128x128.Idx) (y : S1024x512.Idx)
    (h0 : (y 0).val = 128 * j.val + (x 0).val) (h1 : (y 1).val = 128 * pr.val + (x 1).val) : it m c t j pr x = blockAt m c t y := by
  have hx0 : (x 0).val < 128 := (x 0).isLt
  have hx1 : (x 1).val < 128 := (x 1).isLt
  have e0 : ∀ h, (⟨(y 0).val / 128, h⟩ : Fin 8) = j := fun h => Fin.ext (by dsimp only; omega)
  have e1 : ∀ h, (⟨(y 1).val / 128, h⟩ : Fin 4) = pr := fun h => Fin.ext (by dsimp only; omega)
  have i0 : ∀ h, (⟨(y 0).val % 128, h⟩ : Fin 128) = x 0 := fun h => Fin.ext (by dsimp only; omega)
  have i1 : ∀ h, (⟨(y 1).val % 128, h⟩ : Fin 128) = x 1 := fun h => Fin.ext (by dsimp only; omega)
  unfold blockAt
  rw [e0, e1, i0, i1]
  exact congrArg _ (eq_ix2 x)

/-- An item is the block at its place. -/
theorem it_eq (c : Dev nD) (t : Fin cfg0.N) (j : Fin 8) (pr : Fin 4) (x : S128x128.Idx) :
    it m c t j pr x = blockAt m c t ((Rect.unit (s := S1024x512) ![128 * j.val, 128 * pr.val] S128x128.size (inb_tile j pr)).emb x) :=
  blockAt_of m c t j pr x _ (Rect.idx_unit_val (s := S1024x512) ![128 * j.val, 128 * pr.val] S128x128.size (inb_tile j pr) x 0)
    (Rect.idx_unit_val (s := S1024x512) ![128 * j.val, 128 * pr.val] S128x128.size (inb_tile j pr) x 1)

set_option maxHeartbeats 4000000 in
/-- THE BLOCK: what a grid point writes is its 32 items, each at its place. -/
theorem outsAt_eq (c : Dev nD) (t : Fin cfg0.N) : outsAt0 m c t = blockAt m c t := by
  unfold outsAt0 out0_A_8
  rw [View.read_writes_eq_canon _ _ _ (fun y => cover0_A_8 c _ _ _ _ _ _ _ _ _ _ _ _ _ _ _ _ _ _ _ _ _ _ _ _ _ _ _ y)]
  funext y
  refine View.canon_apply_of_pieces _ _ ?_ y (cover0_A_8 c _ _ _ _ _ _ _ _ _ _ _ _ _ _ _ _ _ _ _ _ _ _ _ _ _ _ _ y)
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
  refine List.forall_mem_cons.mpr ⟨fun x => Eq.trans (congrFun ?_ x) (it_eq m c t ⟨7, by decide⟩ ⟨3, by decide⟩ x), ?_⟩
  · unfold it item weigh pLo pMid pHi scores qsel maskLo maskHi kcat vcat qtile snk word
    open_payloads
    rfl
  refine List.forall_mem_cons.mpr ⟨fun x => Eq.trans (congrFun ?_ x) (it_eq m c t ⟨7, by decide⟩ ⟨2, by decide⟩ x), ?_⟩
  · unfold it item weigh pLo pMid pHi scores qsel maskLo maskHi kcat vcat qtile snk word
    open_payloads
    rfl
  refine List.forall_mem_cons.mpr ⟨fun x => Eq.trans (congrFun ?_ x) (it_eq m c t ⟨7, by decide⟩ ⟨1, by decide⟩ x), ?_⟩
  · unfold it item weigh pLo pMid pHi scores qsel maskLo maskHi kcat vcat qtile snk word
    open_payloads
    rfl
  refine List.forall_mem_cons.mpr ⟨fun x => Eq.trans (congrFun ?_ x) (it_eq m c t ⟨7, by decide⟩ ⟨0, by decide⟩ x), ?_⟩
  · unfold it item weigh pLo pMid pHi scores qsel maskLo maskHi kcat vcat qtile snk word
    open_payloads
    rfl
  refine List.forall_mem_cons.mpr ⟨fun x => Eq.trans (congrFun ?_ x) (it_eq m c t ⟨6, by decide⟩ ⟨3, by decide⟩ x), ?_⟩
  · unfold it item weigh pLo pMid pHi scores qsel maskLo maskHi kcat vcat qtile snk word
    open_payloads
    rfl
  refine List.forall_mem_cons.mpr ⟨fun x => Eq.trans (congrFun ?_ x) (it_eq m c t ⟨6, by decide⟩ ⟨2, by decide⟩ x), ?_⟩
  · unfold it item weigh pLo pMid pHi scores qsel maskLo maskHi kcat vcat qtile snk word
    open_payloads
    rfl
  refine List.forall_mem_cons.mpr ⟨fun x => Eq.trans (congrFun ?_ x) (it_eq m c t ⟨6, by decide⟩ ⟨1, by decide⟩ x), ?_⟩
  · unfold it item weigh pLo pMid pHi scores qsel maskLo maskHi kcat vcat qtile snk word
    open_payloads
    rfl
  refine List.forall_mem_cons.mpr ⟨fun x => Eq.trans (congrFun ?_ x) (it_eq m c t ⟨6, by decide⟩ ⟨0, by decide⟩ x), ?_⟩
  · unfold it item weigh pLo pMid pHi scores qsel maskLo maskHi kcat vcat qtile snk word
    open_payloads
    rfl
  refine List.forall_mem_cons.mpr ⟨fun x => Eq.trans (congrFun ?_ x) (it_eq m c t ⟨5, by decide⟩ ⟨3, by decide⟩ x), ?_⟩
  · unfold it item weigh pLo pMid pHi scores qsel maskLo maskHi kcat vcat qtile snk word
    open_payloads
    rfl
  refine List.forall_mem_cons.mpr ⟨fun x => Eq.trans (congrFun ?_ x) (it_eq m c t ⟨5, by decide⟩ ⟨2, by decide⟩ x), ?_⟩
  · unfold it item weigh pLo pMid pHi scores qsel maskLo maskHi kcat vcat qtile snk word
    open_payloads
    rfl
  refine List.forall_mem_cons.mpr ⟨fun x => Eq.trans (congrFun ?_ x) (it_eq m c t ⟨5, by decide⟩ ⟨1, by decide⟩ x), ?_⟩
  · unfold it item weigh pLo pMid pHi scores qsel maskLo maskHi kcat vcat qtile snk word
    open_payloads
    rfl
  refine List.forall_mem_cons.mpr ⟨fun x => Eq.trans (congrFun ?_ x) (it_eq m c t ⟨5, by decide⟩ ⟨0, by decide⟩ x), ?_⟩
  · unfold it item weigh pLo pMid pHi scores qsel maskLo maskHi kcat vcat qtile snk word
    open_payloads
    rfl
  refine List.forall_mem_cons.mpr ⟨fun x => Eq.trans (congrFun ?_ x) (it_eq m c t ⟨4, by decide⟩ ⟨3, by decide⟩ x), ?_⟩
  · unfold it item weigh pLo pMid pHi scores qsel maskLo maskHi kcat vcat qtile snk word
    open_payloads
    rfl
  refine List.forall_mem_cons.mpr ⟨fun x => Eq.trans (congrFun ?_ x) (it_eq m c t ⟨4, by decide⟩ ⟨2, by decide⟩ x), ?_⟩
  · unfold it item weigh pLo pMid pHi scores qsel maskLo maskHi kcat vcat qtile snk word
    open_payloads
    rfl
  refine List.forall_mem_cons.mpr ⟨fun x => Eq.trans (congrFun ?_ x) (it_eq m c t ⟨4, by decide⟩ ⟨1, by decide⟩ x), ?_⟩
  · unfold it item weigh pLo pMid pHi scores qsel maskLo maskHi kcat vcat qtile snk word
    open_payloads
    rfl
  refine List.forall_mem_cons.mpr ⟨fun x => Eq.trans (congrFun ?_ x) (it_eq m c t ⟨4, by decide⟩ ⟨0, by decide⟩ x), ?_⟩
  · unfold it item weigh pLo pMid pHi scores qsel maskLo maskHi kcat vcat qtile snk word
    open_payloads
    rfl
  refine List.forall_mem_cons.mpr ⟨fun x => Eq.trans (congrFun ?_ x) (it_eq m c t ⟨3, by decide⟩ ⟨3, by decide⟩ x), ?_⟩
  · unfold it item weigh pLo pMid pHi scores qsel maskLo maskHi kcat vcat qtile snk word
    open_payloads
    rfl
  refine List.forall_mem_cons.mpr ⟨fun x => Eq.trans (congrFun ?_ x) (it_eq m c t ⟨3, by decide⟩ ⟨2, by decide⟩ x), ?_⟩
  · unfold it item weigh pLo pMid pHi scores qsel maskLo maskHi kcat vcat qtile snk word
    open_payloads
    rfl
  refine List.forall_mem_cons.mpr ⟨fun x => Eq.trans (congrFun ?_ x) (it_eq m c t ⟨3, by decide⟩ ⟨1, by decide⟩ x), ?_⟩
  · unfold it item weigh pLo pMid pHi scores qsel maskLo maskHi kcat vcat qtile snk word
    open_payloads
    rfl
  refine List.forall_mem_cons.mpr ⟨fun x => Eq.trans (congrFun ?_ x) (it_eq m c t ⟨3, by decide⟩ ⟨0, by decide⟩ x), ?_⟩
  · unfold it item weigh pLo pMid pHi scores qsel maskLo maskHi kcat vcat qtile snk word
    open_payloads
    rfl
  refine List.forall_mem_cons.mpr ⟨fun x => Eq.trans (congrFun ?_ x) (it_eq m c t ⟨2, by decide⟩ ⟨3, by decide⟩ x), ?_⟩
  · unfold it item weigh pLo pMid pHi scores qsel maskLo maskHi kcat vcat qtile snk word
    open_payloads
    rfl
  refine List.forall_mem_cons.mpr ⟨fun x => Eq.trans (congrFun ?_ x) (it_eq m c t ⟨2, by decide⟩ ⟨2, by decide⟩ x), ?_⟩
  · unfold it item weigh pLo pMid pHi scores qsel maskLo maskHi kcat vcat qtile snk word
    open_payloads
    rfl
  refine List.forall_mem_cons.mpr ⟨fun x => Eq.trans (congrFun ?_ x) (it_eq m c t ⟨2, by decide⟩ ⟨1, by decide⟩ x), ?_⟩
  · unfold it item weigh pLo pMid pHi scores qsel maskLo maskHi kcat vcat qtile snk word
    open_payloads
    rfl
  refine List.forall_mem_cons.mpr ⟨fun x => Eq.trans (congrFun ?_ x) (it_eq m c t ⟨2, by decide⟩ ⟨0, by decide⟩ x), ?_⟩
  · unfold it item weigh pLo pMid pHi scores qsel maskLo maskHi kcat vcat qtile snk word
    open_payloads
    rfl
  refine List.forall_mem_cons.mpr ⟨fun x => Eq.trans (congrFun ?_ x) (it_eq m c t ⟨1, by decide⟩ ⟨3, by decide⟩ x), ?_⟩
  · unfold it item weigh pLo pMid pHi scores qsel maskLo maskHi kcat vcat qtile snk word
    open_payloads
    rfl
  refine List.forall_mem_cons.mpr ⟨fun x => Eq.trans (congrFun ?_ x) (it_eq m c t ⟨1, by decide⟩ ⟨2, by decide⟩ x), ?_⟩
  · unfold it item weigh pLo pMid pHi scores qsel maskLo maskHi kcat vcat qtile snk word
    open_payloads
    rfl
  refine List.forall_mem_cons.mpr ⟨fun x => Eq.trans (congrFun ?_ x) (it_eq m c t ⟨1, by decide⟩ ⟨1, by decide⟩ x), ?_⟩
  · unfold it item weigh pLo pMid pHi scores qsel maskLo maskHi kcat vcat qtile snk word
    open_payloads
    rfl
  refine List.forall_mem_cons.mpr ⟨fun x => Eq.trans (congrFun ?_ x) (it_eq m c t ⟨1, by decide⟩ ⟨0, by decide⟩ x), ?_⟩
  · unfold it item weigh pLo pMid pHi scores qsel maskLo maskHi kcat vcat qtile snk word
    open_payloads
    rfl
  refine List.forall_mem_cons.mpr ⟨fun x => Eq.trans (congrFun ?_ x) (it_eq m c t ⟨0, by decide⟩ ⟨3, by decide⟩ x), ?_⟩
  · unfold it item weigh pLo pMid pHi scores qsel maskLo maskHi kcat vcat qtile snk word
    open_payloads
    rfl
  refine List.forall_mem_cons.mpr ⟨fun x => Eq.trans (congrFun ?_ x) (it_eq m c t ⟨0, by decide⟩ ⟨2, by decide⟩ x), ?_⟩
  · unfold it item weigh pLo pMid pHi scores qsel maskLo maskHi kcat vcat qtile snk word
    open_payloads
    rfl
  refine List.forall_mem_cons.mpr ⟨fun x => Eq.trans (congrFun ?_ x) (it_eq m c t ⟨0, by decide⟩ ⟨1, by decide⟩ x), ?_⟩
  · unfold it item weigh pLo pMid pHi scores qsel maskLo maskHi kcat vcat qtile snk word
    open_payloads
    rfl
  refine List.forall_mem_cons.mpr ⟨fun x => Eq.trans (congrFun ?_ x) (it_eq m c t ⟨0, by decide⟩ ⟨0, by decide⟩ x), ?_⟩
  · unfold it item weigh pLo pMid pHi scores qsel maskLo maskHi kcat vcat qtile snk word
    open_payloads
    rfl
  exact fun p hp => absurd hp List.not_mem_nil

end Cert.KernelIdeal.Att
end
-- ==== Proof.Arrays.lean ====
module

public import proofs.«01_k».proof.Proof.Block
public import Idealize.ShloMosaic.Lib.Pointwise
public import Idealize.ShloMosaic.Lib.StableHlo.ReadAt
public import Idealize.ShloMosaic.Lib.Pipeline.ValueKit

@[expose] public section

set_option maxRecDepth 16384

noncomputable section

namespace Cert.KernelIdeal.Att

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-! ## Where a grid point's blocks sit -/

theorem coord1 : ∀ t : Fin grid0.N, (grid0.coords t 1).val = t.val % 4 := by decide +kernel
theorem index1 : ∀ t : Fin grid0.N, win0_1.index t 0 = t.val ∧ win0_1.index t 1 = 0 := by decide +kernel
theorem index2 : ∀ t : Fin grid0.N, win0_2.index t 0 = 32 * (t.val / 4) + (8 * (t.val % 4) - 1) ∧ win0_2.index t 1 = 0 := by decide +kernel
theorem index3 : ∀ t : Fin grid0.N, win0_3.index t 0 = t.val ∧ win0_3.index t 1 = 0 := by decide +kernel
theorem index4 : ∀ t : Fin grid0.N, win0_4.index t 0 = 32 * (t.val / 4) + min (8 * (t.val % 4) + 8) 31 ∧ win0_4.index t 1 = 0 := by decide +kernel
theorem index5 : ∀ t : Fin grid0.N, win0_5.index t 0 = 0 ∧ win0_5.index t 1 = 32 * (t.val / 4) + (8 * (t.val % 4) - 1) := by decide +kernel
theorem index6 : ∀ t : Fin grid0.N, win0_6.index t 0 = 0 ∧ win0_6.index t 1 = t.val := by decide +kernel
theorem index7 : ∀ t : Fin grid0.N, win0_7.index t 0 = 0 ∧ win0_7.index t 1 = 32 * (t.val / 4) + min (8 * (t.val % 4) + 8) 31 := by decide +kernel
theorem index8 : ∀ t : Fin grid0.N, win0_8.index t 0 = t.val ∧ win0_8.index t 1 = 0 := by decide +kernel

/-- The array row of a tile's key `i`, counting from the block before the tile. -/
def kRow (t i : ℕ) : ℕ := if i < 128 then 128 * (32 * (t / 4) + (8 * (t % 4) - 1)) + i else if i < 1152 then 1024 * t + (i - 128)
  else 128 * (32 * (t / 4) + min (8 * (t % 4) + 8) 31) + (i - 1152)

theorem kRow_lt (t i : ℕ) (ht : t < 32) (hi : i < 1280) : kRow t i < 32768 := by
  unfold kRow; split
  · omega
  · split
    · omega
    · have : min (8 * (t % 4) + 8) 31 ≤ 31 := min_le_right _ _
      omega

theorem iblk1 (c : Dev nD) (t : Fin cfg0.N) (x : Fin 1024) (l : Fin 512) (i : Fin 32768) (h : i.val = (win0_1.index t 0) * 1024 + x.val) :
    (iblk m c 1 t : S1024x512.Idx → Elt Ideal .bf16) (ix2 x l) = V m c main_v4 (ix2 i l) := by
  show V m c main_v4 ((win0_1.rect t).emb (ix2 x l)) = _
  refine congrArg (V m c main_v4) (funext fun a => Fin.ext ((Pipeline.Window.rect_emb_val win0_1 t _ a).trans ?_))
  match a with
  | ⟨0, _⟩ => exact h.symm
  | ⟨1, _⟩ => exact (congrArg (· * 512 + l.val) (index1 t).2).trans (by show 0 * 512 + l.val = l.val; omega)

theorem iblk2 (c : Dev nD) (t : Fin cfg0.N) (x : Fin 128) (l : Fin 256) (i : Fin 32768) (h : i.val = (win0_2.index t 0) * 128 + x.val) :
    (iblk m c 2 t : S128x256.Idx → Elt Ideal .bf16) (ix2 x l) = V m c main_v10 (ix2 i l) := by
  show V m c main_v10 ((win0_2.rect t).emb (ix2 x l)) = _
  refine congrArg (V m c main_v10) (funext fun a => Fin.ext ((Pipeline.Window.rect_emb_val win0_2 t _ a).trans ?_))
  match a with
  | ⟨0, _⟩ => exact h.symm
  | ⟨1, _⟩ => exact (congrArg (· * 256 + l.val) (index2 t).2).trans (by show 0 * 256 + l.val = l.val; omega)

theorem iblk3 (c : Dev nD) (t : Fin cfg0.N) (x : Fin 1024) (l : Fin 256) (i : Fin 32768) (h : i.val = (win0_3.index t 0) * 1024 + x.val) :
    (iblk m c 3 t : S1024x256.Idx → Elt Ideal .bf16) (ix2 x l) = V m c main_v10 (ix2 i l) := by
  show V m c main_v10 ((win0_3.rect t).emb (ix2 x l)) = _
  refine congrArg (V m c main_v10) (funext fun a => Fin.ext ((Pipeline.Window.rect_emb_val win0_3 t _ a).trans ?_))
  match a with
  | ⟨0, _⟩ => exact h.symm
  | ⟨1, _⟩ => exact (congrArg (· * 256 + l.val) (index3 t).2).trans (by show 0 * 256 + l.val = l.val; omega)

theorem iblk4 (c : Dev nD) (t : Fin cfg0.N) (x : Fin 128) (l : Fin 256) (i : Fin 32768) (h : i.val = (win0_4.index t 0) * 128 + x.val) :
    (iblk m c 4 t : S128x256.Idx → Elt Ideal .bf16) (ix2 x l) = V m c main_v10 (ix2 i l) := by
  show V m c main_v10 ((win0_4.rect t).emb (ix2 x l)) = _
  refine congrArg (V m c main_v10) (funext fun a => Fin.ext ((Pipeline.Window.rect_emb_val win0_4 t _ a).trans ?_))
  match a with
  | ⟨0, _⟩ => exact h.symm
  | ⟨1, _⟩ => exact (congrArg (· * 256 + l.val) (index4 t).2).trans (by show 0 * 256 + l.val = l.val; omega)

theorem iblk5 (c : Dev nD) (t : Fin cfg0.N) (x : Fin 128) (l : Fin 160) (i : Fin 32768) (h : i.val = (win0_5.index t 1) * 128 + x.val) :
    (iblk m c 5 t : S160x128.Idx → Elt Ideal .bf16) (ix2 l x) = V m c main_v16 (ix2 l i) := by
  show V m c main_v16 ((win0_5.rect t).emb (ix2 l x)) = _
  refine congrArg (V m c main_v16) (funext fun a => Fin.ext ((Pipeline.Window.rect_emb_val win0_5 t _ a).trans ?_))
  match a with
  | ⟨0, _⟩ => exact (congrArg (· * 160 + l.val) (index5 t).1).trans (by show 0 * 160 + l.val = l.val; omega)
  | ⟨1, _⟩ => exact h.symm

theorem iblk6 (c : Dev nD) (t : Fin cfg0.N) (x : Fin 1024) (l : Fin 160) (i : Fin 32768) (h : i.val = (win0_6.index t 1) * 1024 + x.val) :
    (iblk m c 6 t : S160x1024.Idx → Elt Ideal .bf16) (ix2 l x) = V m c main_v16 (ix2 l i) := by
  show V m c main_v16 ((win0_6.rect t).emb (ix2 l x)) = _
  refine congrArg (V m c main_v16) (funext fun a => Fin.ext ((Pipeline.Window.rect_emb_val win0_6 t _ a).trans ?_))
  match a with
  | ⟨0, _⟩ => exact (congrArg (· * 160 + l.val) (index6 t).1).trans (by show 0 * 160 + l.val = l.val; omega)
  | ⟨1, _⟩ => exact h.symm

theorem iblk7 (c : Dev nD) (t : Fin cfg0.N) (x : Fin 128) (l : Fin 160) (i : Fin 32768) (h : i.val = (win0_7.index t 1) * 128 + x.val) :
    (iblk m c 7 t : S160x128.Idx → Elt Ideal .bf16) (ix2 l x) = V m c main_v16 (ix2 l i) := by
  show V m c main_v16 ((win0_7.rect t).emb (ix2 l x)) = _
  refine congrArg (V m c main_v16) (funext fun a => Fin.ext ((Pipeline.Window.rect_emb_val win0_7 t _ a).trans ?_))
  match a with
  | ⟨0, _⟩ => exact (congrArg (· * 160 + l.val) (index7 t).1).trans (by show 0 * 160 + l.val = l.val; omega)
  | ⟨1, _⟩ => exact h.symm

theorem kcat_apply (c : Dev nD) (t : Fin cfg0.N) (i : Fin 1280) (l : Fin 256) :
    kcat m c t (ix2 i l) = V m c main_v10 (ix2 ⟨kRow t.val i.val, kRow_lt _ _ t.isLt i.isLt⟩ l) := by
  pointwise [kcat, k0_pay1]
  split
  · refine iblk2 m c t _ _ _ ?_
    rw [(index2 t).1]; show kRow _ _ = _; unfold kRow; rw [if_pos (by assumption)]; dsimp only; omega
  · split
    · refine iblk3 m c t _ _ _ ?_
      rw [(index3 t).1]; show kRow _ _ = _; unfold kRow; rw [if_neg (by assumption), if_pos (by omega)]; dsimp only; omega
    · refine iblk4 m c t _ _ _ ?_
      rw [(index4 t).1]; show kRow _ _ = _; unfold kRow; rw [if_neg (by assumption), if_neg (by omega)]; dsimp only; omega

theorem vcat_apply (c : Dev nD) (t : Fin cfg0.N) (i : Fin 1280) (l : Fin 160) :
    vcat m c t (ix2 l i) = V m c main_v16 (ix2 l ⟨kRow t.val i.val, kRow_lt _ _ t.isLt i.isLt⟩) := by
  pointwise [vcat, k0_pay2]
  split
  · refine iblk5 m c t _ _ _ ?_
    rw [(index5 t).2]; show kRow _ _ = _; unfold kRow; rw [if_pos (by assumption)]; dsimp only; omega
  · split
    · refine iblk6 m c t _ _ _ ?_
      rw [(index6 t).2]; show kRow _ _ = _; unfold kRow; rw [if_neg (by assumption), if_pos (by omega)]; dsimp only; omega
    · refine iblk7 m c t _ _ _ ?_
      rw [(index7 t).2]; show kRow _ _ = _; unfold kRow; rw [if_neg (by assumption), if_neg (by omega)]; dsimp only; omega

/-- The queries, the keys, the values and the sinks the program is given. -/
abbrev qA (c : Dev nD) : FVec Ideal S32768x512 .f32 := m ((c : Thread nD τ).loc main_arg0)
@[inherit_doc qA] abbrev kA (c : Dev nD) : FVec Ideal S32768x128 .f32 := m ((c : Thread nD τ).loc main_arg1)
@[inherit_doc qA] abbrev vA (c : Dev nD) : FVec Ideal S32768x128 .f32 := m ((c : Thread nD τ).loc main_arg2)
@[inherit_doc qA] abbrev sA (c : Dev nD) : FVec Ideal S8 .f32 := m ((c : Thread nD τ).loc main_arg3)

/-- The scale the host gives the queries. -/
def qs : EReal := Ideal.div (Ideal.ofBits .f32 0x3E000000#32) (Ideal.log (Ideal.ofBits .f32 0x40000000#32))

theorem V4 (c : Dev nD) (r : Fin 32768) (l : Fin 512) :
    V m c main_v4 (ix2 r l) = qA m c (ix2 r l) * qs := by
  show StableHlo.after hostOps0 _ (Proc.devRef .tc main_v4) (ix2 r l) = _
  after_reads_at
  rfl

/-- The doubled keys as one array. -/
def keys (x : FVec Ideal S32768x128 .f32) : FVec Ideal S32768x256 .bf16 :=
  truncf .bf16 (concatenate S32768x256 1
    [⟨S32768x64, extractStridedSlice S32768x64 ![0, 0] x slices_S32768x128_S32768x64_0_0⟩,
     ⟨S32768x64, extractStridedSlice S32768x64 ![0, 0] x slices_S32768x128_S32768x64_0_0⟩,
     ⟨S32768x64, extractStridedSlice S32768x64 ![0, 64] x slices_S32768x128_S32768x64_0_64⟩,
     ⟨S32768x64, extractStridedSlice S32768x64 ![0, 64] x slices_S32768x128_S32768x64_0_64⟩]
    concatenates_S32768x64_S32768x64_S32768x64_S32768x64_S32768x256_d1) bitsLt_bf16_f32

/-- The transposed values with the rows of ones as one array. -/
def vals (x : FVec Ideal S32768x128 .f32) : FVec Ideal S160x32768 .bf16 :=
  truncf .bf16 (concatenate S160x32768 0
    [⟨S64x32768, extractStridedSlice S64x32768 ![0, 0] (transpose S128x32768 [1, 0] x transposes_S32768x128_S128x32768_1_0) slices_S128x32768_S64x32768_0_0⟩,
     ⟨S16x32768, broadcastInDim S16x32768 ![] bcast_S_S16x32768 (constant S_ FTy.f32 1065353216#32)⟩,
     ⟨S64x32768, extractStridedSlice S64x32768 ![64, 0] (transpose S128x32768 [1, 0] x transposes_S32768x128_S128x32768_1_0) slices_S128x32768_S64x32768_64_0⟩,
     ⟨S16x32768, broadcastInDim S16x32768 ![] bcast_S_S16x32768 (constant S_ FTy.f32 1065353216#32)⟩]
    concatenates_S64x32768_S16x32768_S64x32768_S16x32768_S160x32768_d0) bitsLt_bf16_f32

theorem V10 (c : Dev nD) : V m c main_v10 = keys (kA m c) := by
  show StableHlo.after hostOps0 _ (Proc.devRef .tc main_v10) = _
  after_results
  rfl

theorem V16 (c : Dev nD) : V m c main_v16 = vals (vA m c) := by
  show StableHlo.after hostOps0 _ (Proc.devRef .tc main_v16) = _
  after_results
  rfl

/-- The keys of a kv head, whose columns come twice. -/
theorem keys_apply (x : FVec Ideal S32768x128 .f32) (r : Fin 32768) (c : Fin 2) (w : Fin 2) (e : Fin 64) (h) (h') :
    keys x (ix2 r ⟨128 * c.val + (64 * w.val + e.val), h⟩) = x (ix2 r ⟨64 * c.val + e.val, h'⟩) := by
  pointwise [keys]
  have hc := c.isLt
  have hw := w.isLt
  have he := e.isLt
  split
  · exact congrArg (fun i => x (ix2 r i)) (Fin.ext (by dsimp only; omega))
  · split
    · exact congrArg (fun i => x (ix2 r i)) (Fin.ext (by dsimp only; omega))
    · split
      · exact congrArg (fun i => x (ix2 r i)) (Fin.ext (by dsimp only; omega))
      · exact congrArg (fun i => x (ix2 r i)) (Fin.ext (by dsimp only; omega))

/-- The value rows. -/
theorem vals_apply (x : FVec Ideal S32768x128 .f32) (r : Fin 32768) (c : Fin 2) (d : Fin 64) (h) (h') :
    vals x (ix2 ⟨80 * c.val + d.val, h⟩ r) = x (ix2 r ⟨64 * c.val + d.val, h'⟩) := by
  pointwise [vals]
  have hc := c.isLt
  have hd := d.isLt
  split
  · exact congrArg (fun i => x (ix2 r i)) (Fin.ext (by dsimp only; omega))
  · split
    · exfalso; omega
    · split
      · exact congrArg (fun i => x (ix2 r i)) (Fin.ext (by dsimp only; omega))
      · exfalso; omega

/-- The row of ones under each kv head's values. -/
theorem vals_ones (x : FVec Ideal S32768x128 .f32) (r : Fin 32768) (c : Fin 2) (h) :
    vals x (ix2 ⟨80 * c.val + 64, h⟩ r) = 1 := by
  pointwise [vals]
  have hc := c.isLt
  split
  · exfalso; omega
  · split
    · rfl
    · split
      · exfalso; omega
      · rfl

theorem qs_eq : qs = (((1 / 8) * (Real.log 2)⁻¹ : ℝ) : EReal) := by
  have h8 : Ideal.ofBits .f32 0x3E000000#32 = ((1 / 8 : ℝ) : EReal) := by simp [Ideal.ofBits, Ideal.ieee]; rw [← EReal.coe_mul]; norm_num
  have h2 : Ideal.ofBits .f32 0x40000000#32 = ((2 : ℝ) : EReal) := by simp [Ideal.ofBits, Ideal.ieee]; rw [← EReal.coe_mul]; norm_num
  have hl : Real.log 2 ≠ 0 := (Real.log_pos (by norm_num)).ne'
  unfold qs
  rw [h8, h2, Ideal.log_coe, if_neg (by norm_num), Ideal.div_coe hl, ← EReal.coe_mul, one_div (Real.log 2)]

theorem qtile_apply (c : Dev nD) (t : Fin cfg0.N) (j : Fin 8) (pr : Fin 4) (x y : Fin 128) (r : Fin 32768) (l : Fin 512)
    (hr : r.val = t.val * 1024 + (128 * j.val + x.val)) (hl : l.val = 128 * pr.val + y.val) :
    qtile m c t j pr (ix2 x y) = qA m c (ix2 r l) * qs := by
  have hj := j.isLt
  have hx := x.isLt
  rw [← V4 m c r l, ← iblk1 m c t ⟨128 * j.val + x.val, by omega⟩ l r (by rw [(index1 t).1]; exact hr)]
  unfold qtile
  refine congrArg (iblk m c 1 t) (funext fun a => Fin.ext ?_)
  match a with
  | ⟨0, _⟩ => exact Rect.idx_unit_val (s := S1024x512) ![128 * j.val, 128 * pr.val] S128x128.size (inb_tile j pr) (ix2 x y) 0
  | ⟨1, _⟩ => exact (Rect.idx_unit_val (s := S1024x512) ![128 * j.val, 128 * pr.val] S128x128.size (inb_tile j pr) (ix2 x y) 1).trans hl.symm

theorem index0 : ∀ t : Fin grid0.N, win0_0.index t 0 = 0 := by decide +kernel

theorem snk_apply (c : Dev nD) (t : Fin cfg0.N) (n : Fin 8) : snk m c t n = sA m c (ix1 n) := by
  refine Eq.trans ?_ (congrFun (V_main_arg3 m c) (ix1 n))
  show V m c main_arg3 ((win0_0.rect t).emb _) = _
  refine congrArg (V m c main_arg3) (funext fun a => Fin.ext ((Pipeline.Window.rect_emb_val win0_0 t _ a).trans ?_))
  match a with
  | ⟨0, _⟩ =>
    refine (congrArg (· * 8 + _) (index0 t)).trans ?_
    refine (Nat.zero_add _).trans ?_
    exact (Rect.idx_unit_val (s := S8) ![n.val] ![1] (inb_sink n) (Shape.Idx.first (s := S1) (by decide)) 0)

theorem word_eq : ∀ (t : Fin grid0.N) (j : Fin 8), word t j = BitVec.ofNat 32 (8 * (t.val % 4) + j.val) := by decide +kernel

end Cert.KernelIdeal.Att
end
-- ==== Proof.MaskBits.lean ====
module

public import Idealize.ShloMosaic.PureOps

@[expose] public section

/-! The window's masks as 32-bit words: every case is decided. -/

namespace Cert.MaskBits

open Idealize.ShloMosaic

/-- A lane of the low half. -/
theorem slt64 : ∀ l : Fin 128, IntOp.cmpi .slt (BitVec.ofNat 32 l.val) 64#32 = if l.val < 64 then 1#1 else 0#1 := by decide +kernel

/-- A column of the first head. -/
theorem slt128 : ∀ w : Fin 256, IntOp.cmpi .slt (BitVec.ofNat 32 w.val) 128#32 = if w.val < 128 then 1#1 else 0#1 := by decide +kernel

/-- A column's query. -/
theorem query : ∀ w : Fin 256, Scalar.select (IntOp.cmpi .sge (BitVec.ofNat 32 w.val) 128#32)
    (IntOp.subi (BitVec.ofNat 32 w.val) 128#32) (BitVec.ofNat 32 w.val) = BitVec.ofNat 32 (w.val % 128) := by decide +kernel

/-- The mask of the block before; `p` says there is one. -/
theorem maskLo_bits : ∀ (k x : Fin 128) (p : Bool),
    IntOp.cmpi .sge (BitVec.ofNat 32 k.val) (IntOp.addi (BitVec.ofNat 32 x.val) (if p then 0#32 else 128#32))
      = if x.val ≤ k.val ∧ p = true then 1#1 else 0#1 := by decide +kernel

/-- The mask of the block after; `p` says there is one. -/
theorem maskHi_bits : ∀ (k x : Fin 128) (p : Bool),
    IntOp.cmpi .sle (BitVec.ofNat 32 k.val) (IntOp.subi (BitVec.ofNat 32 x.val) (if p then 0#32 else 128#32))
      = if k.val ≤ x.val ∧ p = true then 1#1 else 0#1 := by decide +kernel

/-- There is a block before. -/
theorem gtBits : ∀ g : Fin 32, Scalar.select (Scalar.cmpi .sgt (BitVec.ofNat 32 g.val) 0#32) 0#32 128#32 = if decide (0 < g.val) then 0#32 else 128#32 := by
  decide +kernel
/-- There is a block after. -/
theorem ltBits : ∀ g : Fin 32, Scalar.select (Scalar.cmpi .slt (BitVec.ofNat 32 g.val) 31#32) 0#32 128#32 = if decide (g.val < 31) then 0#32 else 128#32 := by
  decide +kernel

end Cert.MaskBits
end
-- ==== Proof.AttnMath.lean ====
module

public import Idealize.ShloMosaic.PureOps.Ideal.Laws
public import Idealize.ShloMosaic.Lib.IdealHost

@[expose] public section

noncomputable section

namespace Cert.AttnMath

open Idealize.ShloMosaic

/-- A sum of extended reals times a real that is not negative is the sum of the products. -/
theorem sum_mul_real {ι : Type*} (s : Finset ι) (f : ι → EReal) (c : ℝ) (hc : 0 ≤ c) :
    (∑ k ∈ s, f k) * (c : EReal) = ∑ k ∈ s, f k * (c : EReal) := by
  classical
  induction s using Finset.induction_on with
  | empty => simp
  | insert a s ha ih =>
    rw [Finset.sum_insert ha, Finset.sum_insert ha, ← ih, mul_comm, mul_comm (f a), mul_comm (∑ k ∈ s, f k)]
    exact EReal.left_distrib_of_nonneg_of_ne_top (EReal.coe_nonneg.mpr hc) (EReal.coe_ne_top c) _ _

/-- A sum of reals read as an extended real. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The kernel's form of one query's result: scores in the base-2 scale, the maximum over the sink and the three
    blocks of keys in turn, the weighted sum times the reciprocal of the normaliser. -/
def attnK (M : Fin 384 → Prop) [DecidablePred M] (S : Fin 384 → EReal) (s : EReal) (V O : Fin 384 → EReal) : EReal :=
  let a : Fin 384 → EReal := fun k => if M k then S k else ⊥
  let mx := max (max (max s (Finset.univ.fold max ⊥ fun k : Fin 128 => a ⟨k.val, by omega⟩))
    (Finset.univ.fold max ⊥ fun k : Fin 128 => a ⟨128 + k.val, by omega⟩))
    (Finset.univ.fold max ⊥ fun k : Fin 128 => a ⟨256 + k.val, by omega⟩)
  (∑ k, V k * Ideal.exp2 (a k - mx)) * Ideal.div 1 (∑ k, O k * Ideal.exp2 (a k - mx) + Ideal.exp2 (s - mx))

/-- The reference's form: the softmax of the masked scores and the sink, each weight divided, then the weighted sum. -/
def attnR (M : Fin 384 → Prop) [DecidablePred M] (S : Fin 384 → EReal) (s : EReal) (V : Fin 384 → EReal) : EReal :=
  let a : Fin 384 → EReal := fun k => if M k then S k else ⊥
  let mx := max (Finset.univ.fold max ⊥ a) s
  ∑ k, V k * Ideal.div (Ideal.exp (a k - mx)) (∑ k, Ideal.exp (a k - mx) + Ideal.exp (s - mx))

/-- Two to the power `x / log 2` is `exp x`. -/
theorem rpow_two_div_log (x : ℝ) : Real.rpow 2 (x * (Real.log 2)⁻¹) = Real.exp x := by
  show (2 : ℝ) ^ (x * (Real.log 2)⁻¹) = _
  rw [Real.rpow_def_of_pos (by norm_num)]
  congr 1
  have : Real.log 2 ≠ 0 := (Real.log_pos (by norm_num)).ne'
  field_simp

/-- THE EQUATION: the kernel's form at the scores and sink times `1 / log 2` is the reference's form. -/
theorem attnK_eq_attnR (M : Fin 384 → Prop) [DecidablePred M] (z : Fin 384 → ℝ) (σ : ℝ) (S S' V V' O : Fin 384 → EReal)
    (hS : ∀ k, M k → S k = ((z k * (Real.log 2)⁻¹ : ℝ) : EReal)) (hS' : ∀ k, M k → S' k = (z k : EReal))
    (hV : ∀ k, M k → V k = V' k) (hO : ∀ k, O k = 1) :
    attnK M S ((σ * (Real.log 2)⁻¹ : ℝ) : EReal) V O = attnR M S' (σ : EReal) V' := by
  have hlog : 0 < (Real.log 2)⁻¹ := inv_pos.mpr (Real.log_pos (by norm_num))
  set L := (Real.log 2)⁻¹ with hL
  have ha : ∀ k, (if M k then S k else (⊥ : EReal)) = if M k then ((z k * L : ℝ) : EReal) else ⊥ := by
    intro k; split
    · exact hS k ‹_›
    · rfl
  have ha' : ∀ k, (if M k then S' k else (⊥ : EReal)) = if M k then ((z k : ℝ) : EReal) else ⊥ := by
    intro k; split
    · exact hS' k ‹_›
    · rfl
  unfold attnK attnR
  simp only [ha, ha']
  -- the reference's maximum is a real
  obtain ⟨μ, hμ⟩ : ∃ μ : ℝ, max (Finset.univ.fold max ⊥ fun k => if M k then ((z k : ℝ) : EReal) else ⊥) (σ : EReal) = μ := by
    have h1 : max (Finset.univ.fold max ⊥ fun k => if M k then ((z k : ℝ) : EReal) else ⊥) (σ : EReal) < ⊤ := by
      refine max_lt ((Finset.fold_max_lt _).mpr ⟨bot_lt_top, fun k _ => ?_⟩) (EReal.coe_lt_top _)
      split
      · exact EReal.coe_lt_top _
      · exact bot_lt_top
    have h2 : ⊥ < max (Finset.univ.fold max ⊥ fun k => if M k then ((z k : ℝ) : EReal) else ⊥) (σ : EReal) :=
      lt_of_lt_of_le (EReal.bot_lt_coe σ) (le_max_right _ _)
    exact ⟨_, (EReal.coe_toReal h1.ne h2.ne').symm⟩
  have hle : ∀ k, M k → z k ≤ μ := fun k hk => by
    have := (le_max_left _ _).trans hμ.le
    have := ((Finset.fold_max_le _).mp this).2 k (Finset.mem_univ k)
    rw [if_pos hk] at this
    exact EReal.coe_le_coe_iff.mp this
  have hσ : σ ≤ μ := EReal.coe_le_coe_iff.mp ((le_max_right _ _).trans hμ.le)
  have hatt : μ ≤ σ ∨ ∃ k, M k ∧ μ ≤ z k := by
    rcases le_max_iff.mp hμ.ge with h | h
    · rcases (Finset.le_fold_max _).mp h with h | ⟨k, -, h⟩
      · exact absurd h (not_le.mpr (EReal.bot_lt_coe μ))
      · by_cases hk : M k
        · rw [if_pos hk] at h; exact Or.inr ⟨k, hk, EReal.coe_le_coe_iff.mp h⟩
        · rw [if_neg hk] at h; exact absurd h (not_le.mpr (EReal.bot_lt_coe μ))
    · exact Or.inl (EReal.coe_le_coe_iff.mp h)
  -- the kernel's maximum is that real in the base-2 scale
  have hb : ∀ k, (if M k then ((z k * L : ℝ) : EReal) else ⊥) ≤ ((μ * L : ℝ) : EReal) := fun k => by
    split
    · exact EReal.coe_le_coe_iff.mpr (mul_le_mul_of_nonneg_right (hle k ‹_›) hlog.le)
    · exact bot_le
  have hmx : max (max (max ((σ * L : ℝ) : EReal) (Finset.univ.fold max ⊥ fun k : Fin 128 => if M ⟨k.val, by omega⟩ then ((z ⟨k.val, by omega⟩ * L : ℝ) : EReal) else ⊥))
      (Finset.univ.fold max ⊥ fun k : Fin 128 => if M ⟨128 + k.val, by omega⟩ then ((z ⟨128 + k.val, by omega⟩ * L : ℝ) : EReal) else ⊥))
      (Finset.univ.fold max ⊥ fun k : Fin 128 => if M ⟨256 + k.val, by omega⟩ then ((z ⟨256 + k.val, by omega⟩ * L : ℝ) : EReal) else ⊥)
      = ((μ * L : ℝ) : EReal) := by
    apply le_antisymm
    · refine max_le (max_le (max_le (EReal.coe_le_coe_iff.mpr (mul_le_mul_of_nonneg_right hσ hlog.le)) ?_) ?_) ?_
      all_goals exact (Finset.fold_max_le _).mpr ⟨bot_le, fun k _ => hb _⟩
    · rcases hatt with h | ⟨k, hk, h⟩
      · exact (EReal.coe_le_coe_iff.mpr (mul_le_mul_of_nonneg_right h hlog.le)).trans
          ((le_max_left _ _).trans ((le_max_left _ _).trans (le_max_left _ _)))
      · have hz : ((μ * L : ℝ) : EReal) ≤ if M k then ((z k * L : ℝ) : EReal) else ⊥ := by
          rw [if_pos hk]; exact EReal.coe_le_coe_iff.mpr (mul_le_mul_of_nonneg_right h hlog.le)
        rcases lt_or_ge k.val 128 with h1 | h1
        · refine le_trans ?_ ((le_max_left _ _).trans (le_max_left _ _))
          refine le_trans ?_ (le_max_right _ _)
          exact (Finset.le_fold_max _).mpr (Or.inr ⟨⟨k.val, h1⟩, Finset.mem_univ _, hz⟩)
        · rcases lt_or_ge k.val 256 with h2 | h2
          · refine le_trans ?_ (le_max_left _ _)
            refine le_trans ?_ (le_max_right _ _)
            refine (Finset.le_fold_max _).mpr (Or.inr ⟨⟨k.val - 128, by omega⟩, Finset.mem_univ _, ?_⟩)
            have e : (⟨128 + (k.val - 128), by omega⟩ : Fin 384) = k := Fin.ext (by show 128 + (k.val - 128) = k.val; omega)
            simp only [e]; exact hz
          · refine le_trans ?_ (le_max_right _ _)
            refine (Finset.le_fold_max _).mpr (Or.inr ⟨⟨k.val - 256, by omega⟩, Finset.mem_univ _, ?_⟩)
            have e : (⟨256 + (k.val - 256), by omega⟩ : Fin 384) = k := Fin.ext (by show 256 + (k.val - 256) = k.val; omega)
            simp only [e]; exact hz
  rw [hmx, hμ]
  -- the weights, as reals
  have hp : ∀ k, Ideal.exp2 ((if M k then ((z k * L : ℝ) : EReal) else ⊥) - ((μ * L : ℝ) : EReal))
      = ((if M k then Real.exp (z k - μ) else 0 : ℝ) : EReal) := fun k => by
    by_cases hk : M k
    · rw [if_pos hk, if_pos hk, ← EReal.coe_sub, Ideal.exp2_coe, ← sub_mul, hL, rpow_two_div_log]
    · rw [if_neg hk, if_neg hk, EReal.bot_sub]; simp
  have hp' : ∀ k, Ideal.exp ((if M k then ((z k : ℝ) : EReal) else ⊥) - (μ : EReal))
      = ((if M k then Real.exp (z k - μ) else 0 : ℝ) : EReal) := fun k => by
    by_cases hk : M k
    · rw [if_pos hk, if_pos hk, ← EReal.coe_sub, Ideal.exp_coe]
    · rw [if_neg hk, if_neg hk, EReal.bot_sub]; simp
  have hs : Ideal.exp2 (((σ * L : ℝ) : EReal) - ((μ * L : ℝ) : EReal)) = (Real.exp (σ - μ) : EReal) := by
    rw [← EReal.coe_sub, Ideal.exp2_coe, ← sub_mul, hL, rpow_two_div_log]
  have hs' : Ideal.exp ((σ : EReal) - (μ : EReal)) = (Real.exp (σ - μ) : EReal) := by
    rw [← EReal.coe_sub, Ideal.exp_coe]
  simp only [hp, hp', hs, hs', hO, one_mul]
  rw [← coe_sum, ← EReal.coe_add]
  set D : ℝ := ∑ k, (if M k then Real.exp (z k - μ) else 0) + Real.exp (σ - μ) with hD
  have hDpos : 0 < D := by
    refine add_pos_of_nonneg_of_pos (Finset.sum_nonneg fun k _ => ?_) (Real.exp_pos _)
    split
    · exact (Real.exp_pos _).le
    · exact le_rfl
  rw [Ideal.div_coe hDpos.ne', one_mul, sum_mul_real _ _ _ (by positivity)]
  refine Finset.sum_congr rfl fun k _ => ?_
  rw [Ideal.div_coe hDpos.ne']
  by_cases hk : M k
  · rw [hV k hk, mul_assoc]
  · simp [hk]

/-- Which of an item's 384 keys query `x` of block `g` attends to: the window, and the ends of the sequence. -/
def win (g x : ℕ) (k : Fin 384) : Prop := (k.val < 128 → x ≤ k.val ∧ 0 < g) ∧ (256 ≤ k.val → k.val ≤ x + 256 ∧ g < 31)

instance (g x : ℕ) : DecidablePred (win g x) := fun _ => inferInstanceAs (Decidable (_ ∧ _))

end Cert.AttnMath
end
-- ==== Proof.ItemRead.lean ====
module

public import proofs.«01_k».proof.Proof.Item
public import proofs.«01_k».proof.Proof.MaskBits
public import proofs.«01_k».proof.Proof.AttnMath
public import Idealize.ShloMosaic.Lib.Pointwise

@[expose] public section

set_option maxRecDepth 16384

noncomputable section

namespace Cert.KernelIdeal.Att

open Cert.MaskBits Cert.AttnMath
open Cert.KernelIdeal Cert.KernelIdeal.Gen Idealize.ShloMosaic Idealize.ShloMosaic.TcCoe Idealize.SL.Sem
open Idealize.ShloMosaic.Pipeline (Dat)

/-- The doubled heads at an index: column `w` is query `w % 128` of head `w / 128`, zero off its half of the lanes. -/
theorem qsel_apply (q : FVec Ideal S128x128 .bf16) (w : Fin 256) (l : Fin 128) :
    qsel q (ix2 w l) = if w.val / 128 = l.val / 64 then q (ix2 (⟨w.val % 128, Nat.mod_lt _ (by decide)⟩ : Fin 128) l) else 0 := by
  pointwise [qsel, k0_pay5]
  simp only [slt64]
  by_cases hw : w.val < 128 <;> by_cases hl : l.val < 64
  · have hc : w.val / 128 = l.val / 64 := by omega
    rw [dif_pos hw, if_pos hl, if_pos hc]
    exact congrArg (fun z => q (ix2 z l)) (Fin.ext (by show w.val = w.val % 128; omega))
  · have hc : ¬ w.val / 128 = l.val / 64 := by omega
    rw [dif_pos hw, if_neg hl, if_neg hc]; rfl
  · have hc : ¬ w.val / 128 = l.val / 64 := by omega
    rw [dif_neg hw, if_pos hl, if_neg hc]; rfl
  · have hc : w.val / 128 = l.val / 64 := by omega
    rw [dif_neg hw, if_neg hl, if_pos hc]
    exact congrArg (fun z => q (ix2 z l)) (Fin.ext (by show w.val - 128 = w.val % 128; omega))

theorem maskLo_apply (g : Fin 32) (k : Fin 128) (w : Fin 256) :
    maskLo (BitVec.ofNat 32 g.val) (ix2 k w) = if w.val % 128 ≤ k.val ∧ 0 < g.val then 1#1 else 0#1 := by
  pointwise [maskLo, k0_pay3]
  rw [gtBits, query, maskLo_bits k ⟨w.val % 128, Nat.mod_lt _ (by decide)⟩]; simp only [decide_eq_true_eq]

theorem maskHi_apply (g : Fin 32) (k : Fin 128) (w : Fin 256) :
    maskHi (BitVec.ofNat 32 g.val) (ix2 k w) = if k.val ≤ w.val % 128 ∧ g.val < 31 then 1#1 else 0#1 := by
  pointwise [maskHi, k0_pay3]
  rw [ltBits, query, maskHi_bits k ⟨w.val % 128, Nat.mod_lt _ (by decide)⟩]; simp only [decide_eq_true_eq]

theorem ofBits_negInf_f32 : Ideal.ofBits .f32 0xFF800000#32 = (⊥ : EReal) := by
  simp [Ideal.ofBits, Ideal.ieee]

theorem pLo_apply (g : Fin 32) (s : FVec Ideal S384x256 .f32) (k : Fin 128) (w : Fin 256) :
    pLo (BitVec.ofNat 32 g.val) s (ix2 k w)
      = if win g.val (w.val % 128) ⟨k.val, by omega⟩ then s (ix2 (⟨k.val, by omega⟩ : Fin 384) w) else ⊥ := by
  pointwise [pLo]
  rw [maskLo_apply]
  have hk := k.isLt
  by_cases h : w.val % 128 ≤ k.val ∧ 0 < g.val
  · rw [if_pos h, if_pos ⟨fun _ => h, fun h' => by simp only at h'; omega⟩]; rfl
  · rw [if_neg h, if_neg (fun h' => h (h'.1 hk))]; exact ofBits_negInf_f32

theorem pMid_apply (g : Fin 32) (s : FVec Ideal S384x256 .f32) (k : Fin 128) (w : Fin 256) :
    pMid s (ix2 k w)
      = if win g.val (w.val % 128) ⟨128 + k.val, by omega⟩ then s (ix2 (⟨128 + k.val, by omega⟩ : Fin 384) w) else ⊥ := by
  pointwise [pMid]
  rw [if_pos ⟨fun h => by simp only at h; omega, fun h => by simp only at h; omega⟩]

theorem pHi_apply (g : Fin 32) (s : FVec Ideal S384x256 .f32) (k : Fin 128) (w : Fin 256) :
    pHi (BitVec.ofNat 32 g.val) s (ix2 k w)
      = if win g.val (w.val % 128) ⟨256 + k.val, by omega⟩ then s (ix2 (⟨256 + k.val, by omega⟩ : Fin 384) w) else ⊥ := by
  pointwise [pHi]
  rw [maskHi_apply]
  by_cases h : k.val ≤ w.val % 128 ∧ g.val < 31
  · rw [if_pos h, if_pos ⟨fun h' => by simp only at h'; omega, fun _ => ⟨by show 256 + k.val ≤ _; omega, h.2⟩⟩]; rfl
  · rw [if_neg h, if_neg (fun h' => h (by have := h'.2 (by show 256 ≤ 256 + k.val; omega); simp only at this; exact ⟨by omega, this.2⟩))]
    exact ofBits_negInf_f32

/-- A column's sink times the named constant. -/
theorem sink_apply (a b : Elt Ideal .f32) (w : Fin 256) :
    k0_pay26 k0_pay4 a b (ix2 0 w) = (if w.val < 128 then a else b) * ((Real.log 2)⁻¹ : ℝ) := by
  pointwise [k0_pay26, k0_pay4]
  rw [slt128]
  have h : (Named.named (F := Ideal) κ "log2e" (φ := .f32) 0x3FB8AA3B#32) = (((Real.log 2)⁻¹ : ℝ) : EReal) :=
    IdealRules.named_const.ideal_named_scalar _ _ _ _ rfl
  refine (congrArg (_ * ·) h).trans ?_
  split <;> rfl

/-- A sum over 128 lanes of terms that are zero off half `u` is the sum over that half. -/
theorem sum_half (u : ℕ) (hu : u < 2) (f : Fin 128 → EReal) :
    (∑ x : Fin 128, if u = x.val / 64 then f x else 0) = ∑ e : Fin 64, f ⟨64 * u + e.val, by omega⟩ := by
  rw [show (∑ x : Fin 128, if u = x.val / 64 then f x else 0) = ∑ x : Fin (64 + 64), if u = x.val / 64 then f x else 0 from rfl, Fin.sum_univ_add]
  have hu' : u = 0 ∨ u = 1 := by omega
  rcases hu' with rfl | rfl
  · rw [Finset.sum_eq_zero (s := Finset.univ) (f := fun i : Fin 64 => if 0 = (Fin.natAdd 64 i).val / 64 then f (Fin.natAdd 64 i) else 0)
      (fun i _ => if_neg (by simp only [Fin.val_natAdd]; omega)), add_zero]
    refine Finset.sum_congr rfl fun i _ => ?_
    rw [if_pos (by simp only [Fin.val_castAdd]; omega)]
    congr 1; exact Fin.ext (by simp)
  · rw [Finset.sum_eq_zero (s := Finset.univ) (f := fun i : Fin 64 => if 1 = (Fin.castAdd 64 i).val / 64 then f (Fin.castAdd 64 i) else 0)
      (fun i _ => if_neg (by simp only [Fin.val_castAdd]; omega)), zero_add]
    refine Finset.sum_congr rfl fun i _ => ?_
    rw [if_pos (by simp only [Fin.val_natAdd]; omega)]
    congr 1

/-- A key's score against a column: the 64 features of that column's head. -/
theorem scores_apply (kc : FVec Ideal S1280x256 .bf16) (q : FVec Ideal S128x128 .bf16) (j : Fin 8) (c : Fin 2)
    (h : S1280x256.Slices ![128 * j.val, 128 * c.val] S384x128) (k : Fin 384) (w : Fin 256) :
    scores kc q j.val c.val h (ix2 k w)
      = ∑ e : Fin 64, kc (ix2 (⟨128 * j.val + k.val, by omega⟩ : Fin 1280) (⟨128 * c.val + (64 * (w.val / 128) + e.val), by omega⟩ : Fin 256))
          * q (ix2 (⟨w.val % 128, Nat.mod_lt _ (by decide)⟩ : Fin 128) (⟨64 * (w.val / 128) + e.val, by omega⟩ : Fin 128)) := by
  pointwise [scores]
  rw [← sum_half (w.val / 128) (by omega) (fun x => kc (ix2 (⟨128 * j.val + k.val, by omega⟩ : Fin 1280) (⟨128 * c.val + x.val, by omega⟩ : Fin 256))
          * q (ix2 (⟨w.val % 128, Nat.mod_lt _ (by decide)⟩ : Fin 128) x))]
  refine Finset.sum_congr rfl fun x _ => ?_
  rw [qsel_apply]
  split
  · rfl
  · exact mul_zero _

/-- The running maximum of the sink and the three pieces, at a column. -/
def mx (a b c : FVec Ideal S128x256 .f32) (s : FVec Ideal S1x256 .f32) (w : Fin 256) : EReal :=
  max (max (max (s (ix2 0 w)) (Finset.univ.fold max ⊥ fun x => a (ix2 x w))) (Finset.univ.fold max ⊥ fun x => b (ix2 x w)))
    (Finset.univ.fold max ⊥ fun x => c (ix2 x w))

theorem pay40_apply (a b c : FVec Ideal S128x256 .f32) (s : FVec Ideal S1x256 .f32) (k : Fin 384) (w : Fin 256) :
    k0_pay40 a b c s (ix2 k w) = Ideal.exp2 ((if h : k.val < 128 then a (ix2 ⟨k.val, h⟩ w) else if h : k.val - 128 < 128
      then b (ix2 ⟨k.val - 128, h⟩ w) else c (ix2 ⟨k.val - 128 - 128, by omega⟩ w)) - mx a b c s w) := by
  pointwise [k0_pay40, k0_pay39]
  rw [ofBits_negInf_f32]
  split
  · rfl
  · split <;> rfl

theorem pay41_apply (a b c : FVec Ideal S128x256 .f32) (s : FVec Ideal S1x256 .f32) (w : Fin 256) :
    k0_pay41 a b c s (ix2 0 w) = Ideal.exp2 (s (ix2 0 w) - mx a b c s w) := by
  pointwise [k0_pay41, k0_pay39]
  rw [ofBits_negInf_f32]
  rfl

/-- The weighted values over their sum, at a query and a feature of the pair. -/
theorem weigh_apply (vc : FVec Ideal S160x1280 .bf16) (p : FVec Ideal S384x256 .bf16) (st : FVec Ideal S1x256 .f32) (j : Fin 8) (c : Fin 2)
    (h : S160x1280.Slices ![80 * c.val, 128 * j.val] S80x384) (x y : Fin 128) :
    weigh vc p st j.val c.val h (ix2 x y)
      = (∑ k : Fin 384, vc (ix2 (⟨80 * c.val + y.val % 64, by omega⟩ : Fin 160) (⟨128 * j.val + k.val, by omega⟩ : Fin 1280))
            * p (ix2 k (⟨128 * (y.val / 64) + x.val, by omega⟩ : Fin 256)))
        * Ideal.div 1 (∑ k : Fin 384, vc (ix2 (⟨80 * c.val + 64, by omega⟩ : Fin 160) (⟨128 * j.val + k.val, by omega⟩ : Fin 1280))
            * p (ix2 k (⟨128 * (y.val / 64) + x.val, by omega⟩ : Fin 256)) + st (ix2 0 (⟨128 * (y.val / 64) + x.val, by omega⟩ : Fin 256))) := by
  pointwise [weigh]
  by_cases hy : y.val < 64
  · have e1 : y.val % 64 = y.val := by omega
    have e2 : 128 * (y.val / 64) + x.val = x.val := by omega
    rw [dif_pos hy]; simp only [e1, e2]
  · have e1 : y.val % 64 = y.val - 64 := by omega
    have e2 : 128 * (y.val / 64) + x.val = 128 + x.val := by omega
    rw [dif_neg hy]; simp only [e1, e2]

/-- ONE ITEM at a query `x` and a feature `y` of the pair of heads. -/
theorem item_apply (g : Fin 32) (kc : FVec Ideal S1280x256 .bf16) (vc : FVec Ideal S160x1280 .bf16) (q : FVec Ideal S128x128 .bf16)
    (a b : Elt Ideal .f32) (j : Fin 8) (c : Fin 2) (hk : S1280x256.Slices ![128 * j.val, 128 * c.val] S384x128)
    (hv : S160x1280.Slices ![80 * c.val, 128 * j.val] S80x384) (x y : Fin 128) :
    item (BitVec.ofNat 32 g.val) kc vc q a b j.val c.val hk hv (ix2 x y)
      = attnK (win g.val x.val)
          (fun k => ∑ e : Fin 64, kc (ix2 (⟨128 * j.val + k.val, by omega⟩ : Fin 1280) (⟨128 * c.val + (64 * (y.val / 64) + e.val), by omega⟩ : Fin 256))
            * q (ix2 x (⟨64 * (y.val / 64) + e.val, by omega⟩ : Fin 128)))
          ((if y.val < 64 then a else b) * ((Real.log 2)⁻¹ : ℝ))
          (fun k => vc (ix2 (⟨80 * c.val + y.val % 64, by omega⟩ : Fin 160) (⟨128 * j.val + k.val, by omega⟩ : Fin 1280)))
          (fun k => vc (ix2 (⟨80 * c.val + 64, by omega⟩ : Fin 160) (⟨128 * j.val + k.val, by omega⟩ : Fin 1280))) := by
  unfold item
  rw [weigh_apply]
  simp only [pay40_apply, pay41_apply]
  have e1 : (128 * (y.val / 64) + x.val) % 128 = x.val := by omega
  have e2 : (128 * (y.val / 64) + x.val) / 128 = y.val / 64 := by omega
  have hm : ∀ k : Fin 384, (if h : k.val < 128 then pLo (BitVec.ofNat 32 g.val) (scores kc q j.val c.val hk) (ix2 ⟨k.val, h⟩ (⟨128 * (y.val / 64) + x.val, by omega⟩ : Fin 256))
      else if h : k.val - 128 < 128 then pMid (scores kc q j.val c.val hk) (ix2 ⟨k.val - 128, h⟩ (⟨128 * (y.val / 64) + x.val, by omega⟩ : Fin 256))
      else pHi (BitVec.ofNat 32 g.val) (scores kc q j.val c.val hk) (ix2 ⟨k.val - 128 - 128, by omega⟩ (⟨128 * (y.val / 64) + x.val, by omega⟩ : Fin 256)))
      = if win g.val x.val k then scores kc q j.val c.val hk (ix2 k (⟨128 * (y.val / 64) + x.val, by omega⟩ : Fin 256)) else ⊥ := by
    intro k
    split
    · rw [pLo_apply]; simp only [e1]
    · split
      · rename_i h1 h2
        have e : 128 + (k.val - 128) = k.val := by omega
        rw [pMid_apply g]; simp only [e1, e]
      · have e : 256 + (k.val - 128 - 128) = k.val := by omega
        rw [pHi_apply]; simp only [e1, e]
  have e3 : (128 * (y.val / 64) + x.val < 128) = (y.val < 64) := by apply propext; omega
  simp only [hm]
  simp only [mx, pLo_apply, pMid_apply g, pHi_apply, scores_apply, e1, e2, e3, sink_apply]
  rfl

end Cert.KernelIdeal.Att
end
-- ==== Proof.KernelOut.lean ====
module

public import proofs.«01_k».proof.Proof.Arrays
public import proofs.«01_k».proof.Proof.ItemRead

@[expose] public section

set_option maxRecDepth 16384

noncomputable section

namespace Cert.KernelIdeal.Att

open Cert.AttnMath
open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The final array at a row and a column is the block of the row's tile. -/
theorem arr_block (c : Dev nD) (r : Fin 32768) (l : Fin 512) (t : Fin cfg0.N) (x : Fin 1024) (h : r.val = t.val * 1024 + x.val) :
    (dats m 0 c).arrAt 8 cfg0.N (ix2 r l) = blockAt m c t (ix2 x l) := by
  have hb := congrFun (Value.blocks8 m c t ((by decide +kernel : ∀ t : Fin grid0.N, win0_8.flush t = true) t)) (ix2 x l)
  rw [Value.flushed8, outsAt_eq] at hb
  refine Eq.trans ?_ hb
  show (dats m 0 c).arrAt 8 cfg0.N _ = (dats m 0 c).arrAt 8 cfg0.N ((win0_8.rect t).emb (ix2 x l))
  refine congrArg ((dats m 0 c).arrAt 8 cfg0.N) (funext fun a => Fin.ext ((Pipeline.Window.rect_emb_val win0_8 t _ a).trans ?_).symm)
  match a with
  | ⟨0, _⟩ => exact (congrArg (· * 1024 + x.val) (index8 t).1).trans h.symm
  | ⟨1, _⟩ => exact (congrArg (· * 512 + l.val) (index8 t).2).trans (by show 0 * 512 + l.val = l.val; omega)

/-- The row of the key `k` of the three blocks a query row sees. -/
def keyRow (r k : ℕ) : ℕ := kRow (r / 1024) (128 * (r % 1024 / 128) + k)

theorem keyRow_lt (r : Fin 32768) (k : Fin 384) : keyRow r.val k.val < 32768 :=
  kRow_lt _ _ (by omega) (by have := k.isLt; omega)

/-- Inside the window the key's row is counted from the query's block. -/
theorem keyRow_win (r : Fin 32768) (k : Fin 384) (h : win (r.val / 128 % 32) (r.val % 128) k) :
    keyRow r.val k.val + 128 = 4096 * (r.val / 4096) + 128 * (r.val / 128 % 32) + k.val := by
  have hr := r.isLt
  have hk := k.isLt
  obtain ⟨h0, h1⟩ := h
  unfold keyRow kRow
  split
  · have := h0 (by omega)
    omega
  · split
    · omega
    · have h2 := h1 (by omega)
      have : min (8 * (r.val / 1024 % 4) + 8) 31 = 8 * (r.val / 1024 % 4) + 8 := min_eq_left (by omega)
      omega

/-- THE KERNEL'S RESULT at a row and a column, from its arguments. -/
theorem out_apply (c : Dev nD) (r : Fin 32768) (l : Fin 512) :
    (dats m 0 c).arrAt 8 cfg0.N (ix2 r l)
      = attnK (win (r.val / 128 % 32) (r.val % 128))
          (fun k => ∑ e : Fin 64, kA m c (ix2 ⟨keyRow r.val k.val, keyRow_lt r k⟩ (⟨64 * (l.val / 256) + e.val, by omega⟩ : Fin 128))
            * (qA m c (ix2 r (⟨64 * (l.val / 64) + e.val, by omega⟩ : Fin 512)) * qs))
          (sA m c (ix1 (⟨l.val / 64, by omega⟩ : Fin 8)) * ((Real.log 2)⁻¹ : ℝ))
          (fun k => vA m c (ix2 ⟨keyRow r.val k.val, keyRow_lt r k⟩ (⟨64 * (l.val / 256) + l.val % 64, by omega⟩ : Fin 128)))
          (fun _ => 1) := by
  have hr := r.isLt
  have hl := l.isLt
  rw [arr_block m c r l ⟨r.val / 1024, by show r.val / 1024 < 32; omega⟩ ⟨r.val % 1024, by omega⟩ (by dsimp only; omega)]
  rw [← blockAt_of m c ⟨r.val / 1024, by show r.val / 1024 < 32; omega⟩ ⟨r.val % 1024 / 128, by omega⟩ ⟨l.val / 128, by omega⟩
    (ix2 ⟨r.val % 128, by omega⟩ ⟨l.val % 128, by omega⟩) _ (by show r.val % 1024 = _ + r.val % 128; dsimp only; omega) (by show l.val = _ + l.val % 128; dsimp only; omega)]
  unfold it
  rw [word_eq]
  refine (item_apply ⟨8 * (r.val / 1024 % 4) + r.val % 1024 / 128, by omega⟩ _ _ _ _ _ ⟨r.val % 1024 / 128, by omega⟩ ⟨l.val / 128 / 2, by omega⟩ _ _
    ⟨r.val % 128, by omega⟩ ⟨l.val % 128, by omega⟩).trans ?_
  have hg : 8 * (r.val / 1024 % 4) + r.val % 1024 / 128 = r.val / 128 % 32 := by omega
  simp only [hg]
  have hS : ∀ k : Fin 384, (∑ e : Fin 64, kcat m c ⟨r.val / 1024, by show r.val / 1024 < 32; omega⟩
        (ix2 (⟨128 * (r.val % 1024 / 128) + k.val, by omega⟩ : Fin 1280) (⟨128 * (l.val / 128 / 2) + (64 * (l.val % 128 / 64) + e.val), by omega⟩ : Fin 256))
        * qtile m c ⟨r.val / 1024, by show r.val / 1024 < 32; omega⟩ ⟨r.val % 1024 / 128, by omega⟩ ⟨l.val / 128, by omega⟩
          (ix2 (⟨r.val % 128, by omega⟩ : Fin 128) (⟨64 * (l.val % 128 / 64) + e.val, by omega⟩ : Fin 128)))
      = ∑ e : Fin 64, kA m c (ix2 ⟨keyRow r.val k.val, keyRow_lt r k⟩ (⟨64 * (l.val / 256) + e.val, by omega⟩ : Fin 128))
            * (qA m c (ix2 r (⟨64 * (l.val / 64) + e.val, by omega⟩ : Fin 512)) * qs) := by
    intro k
    refine Finset.sum_congr rfl fun e _ => ?_
    rw [kcat_apply, V10, keys_apply _ _ ⟨l.val / 128 / 2, by omega⟩ ⟨l.val % 128 / 64, by omega⟩ e _ (by dsimp only; omega),
      qtile_apply m c _ _ _ _ _ r (⟨64 * (l.val / 64) + e.val, by omega⟩ : Fin 512) (by dsimp only; omega) (by dsimp only; omega)]
    refine congrArg (· * _) ?_
    refine congrArg (kA m c) (congrArg₂ ix2 rfl (Fin.ext ?_))
    dsimp only; omega
  have hV : ∀ k : Fin 384, vcat m c ⟨r.val / 1024, by show r.val / 1024 < 32; omega⟩
        (ix2 (⟨80 * (l.val / 128 / 2) + l.val % 128 % 64, by omega⟩ : Fin 160) (⟨128 * (r.val % 1024 / 128) + k.val, by omega⟩ : Fin 1280))
      = vA m c (ix2 ⟨keyRow r.val k.val, keyRow_lt r k⟩ (⟨64 * (l.val / 256) + l.val % 64, by omega⟩ : Fin 128)) := by
    intro k
    rw [vcat_apply, V16, vals_apply _ _ ⟨l.val / 128 / 2, by omega⟩ ⟨l.val % 128 % 64, by omega⟩ _ (by dsimp only; omega)]
    refine congrArg (vA m c) (congrArg₂ ix2 rfl (Fin.ext ?_))
    dsimp only; omega
  have hO : ∀ k : Fin 384, vcat m c ⟨r.val / 1024, by show r.val / 1024 < 32; omega⟩
        (ix2 (⟨80 * (l.val / 128 / 2) + 64, by omega⟩ : Fin 160) (⟨128 * (r.val % 1024 / 128) + k.val, by omega⟩ : Fin 1280)) = 1 := by
    intro k
    rw [vcat_apply, V16, vals_ones _ _ ⟨l.val / 128 / 2, by omega⟩]
  have hs : (if l.val % 128 < 64 then snk m c ⟨r.val / 1024, by show r.val / 1024 < 32; omega⟩ ⟨2 * (l.val / 128), by omega⟩
        else snk m c ⟨r.val / 1024, by show r.val / 1024 < 32; omega⟩ ⟨2 * (l.val / 128) + 1, by omega⟩)
      = sA m c (ix1 (⟨l.val / 64, by omega⟩ : Fin 8)) := by
    split
    · rw [snk_apply]
      exact congrArg (fun i => sA m c (ix1 i)) (Fin.ext (by dsimp only; omega))
    · rw [snk_apply]
      exact congrArg (fun i => sA m c (ix1 i)) (Fin.ext (by dsimp only; omega))
  rw [funext hS, funext hV, funext hO, hs]

end Cert.KernelIdeal.Att
end
-- ==== Proof.RefMask.lean ====
module

public import Idealize.ShloMosaic.PureOps

@[expose] public section

set_option maxRecDepth 16384

namespace Cert.ReferenceIdeal.Att

open Idealize.ShloMosaic

/-- The distance of a key from a query, bounded by the window. -/
theorem near_bits : ∀ (k : Fin 384) (p : Fin 128),
    IntOp.cmpi .sle (IntOp.absi (IntOp.subi (IntOp.subi (BitVec.ofNat 32 k.val) 128#32) (BitVec.ofNat 32 p.val))) 128#32
      = if p.val ≤ k.val ∧ k.val ≤ p.val + 256 then 1#1 else 0#1 := by decide +kernel

/-- The key is not before the sequence. -/
theorem first_bits : ∀ (n : Fin 32) (k : Fin 384),
    IntOp.cmpi .sge (IntOp.addi (IntOp.subi (IntOp.muli (BitVec.ofNat 32 n.val) 128#32) 128#32) (BitVec.ofNat 32 k.val)) 0#32
      = if 128 ≤ 128 * n.val + k.val then 1#1 else 0#1 := by decide +kernel

/-- The key is not after the sequence. -/
theorem last_bits : ∀ (n : Fin 32) (k : Fin 384),
    IntOp.cmpi .slt (IntOp.addi (IntOp.subi (IntOp.muli (BitVec.ofNat 32 n.val) 128#32) 128#32) (BitVec.ofNat 32 k.val)) 4096#32
      = if 128 * n.val + k.val < 4224 then 1#1 else 0#1 := by decide +kernel

end Cert.ReferenceIdeal.Att
-- ==== Proof.RefRead.lean ====
module

public import proofs.«01_k».proof.Proof.Gen.ReferenceIdeal.Read
public import proofs.«01_k».proof.Proof.AttnMath
public import proofs.«01_k».proof.Proof.RefMask
public import Idealize.ShloMosaic.Lib.Pointwise

@[expose] public section

set_option maxRecDepth 16384

noncomputable section

namespace Cert.ReferenceIdeal.Att

open Cert.AttnMath
open Cert.ReferenceIdeal Cert.ReferenceIdeal.Gen Cert.ReferenceIdeal.Read Idealize.ShloMosaic Idealize.ShloMosaic.TcCoe Idealize.SL.Sem

variable (x0 : FVec Ideal S32768x512 .f32) (x1 x2 : FVec Ideal S32768x128 .f32) (x3 : FVec Ideal S8 .f32)

/-- The values a block of queries sees, inside the sequence. -/
theorem v14_apply (b : Fin 8) (n : Fin 32) (k : Fin 384) (h : Fin 2) (d : Fin 64) (i : Fin 32768) (l : Fin 128)
    (h0 : 128 ≤ 128 * n.val + k.val) (h1 : 128 * n.val + k.val < 4224) (hi : i.val + 128 = 4096 * b.val + 128 * n.val + k.val) (hl : l.val = 64 * h.val + d.val) :
    val_main_v14 (F := Ideal) x2 (ix5 b n k h d) = x2 (ix2 i l) := by
  pointwise [val_main_v14, val_main_v13, val_main_v12, val_main_v11, val_main_v6, val_main_v5, val_main_call1_v0, val_main_c_0, val_main_v2]
  split
  · split
    · exact congrArg x2 (congrArg₂ ix2 (Fin.ext (by dsimp only; omega)) (Fin.ext (by dsimp only; omega)))
    · exfalso; omega
  · split
    · split
      · exact congrArg x2 (congrArg₂ ix2 (Fin.ext (by dsimp only; omega)) (Fin.ext (by dsimp only; omega)))
      · exfalso; omega
    · split
      · exact congrArg x2 (congrArg₂ ix2 (Fin.ext (by dsimp only; omega)) (Fin.ext (by dsimp only; omega)))
      · exfalso; omega

/-- The keys a block of queries sees, inside the sequence. -/
theorem v10_apply (b : Fin 8) (n : Fin 32) (k : Fin 384) (h : Fin 2) (d : Fin 64) (i : Fin 32768) (l : Fin 128)
    (h0 : 128 ≤ 128 * n.val + k.val) (h1 : 128 * n.val + k.val < 4224) (hi : i.val + 128 = 4096 * b.val + 128 * n.val + k.val) (hl : l.val = 64 * h.val + d.val) :
    val_main_v10 (F := Ideal) x1 (ix5 b n k h d) = x1 (ix2 i l) := by
  pointwise [val_main_v10, val_main_v9, val_main_v8, val_main_v7, val_main_v4, val_main_v3, val_main_call0_v0, val_main_c, val_main_v1]
  split
  · split
    · exact congrArg x1 (congrArg₂ ix2 (Fin.ext (by dsimp only; omega)) (Fin.ext (by dsimp only; omega)))
    · exfalso; omega
  · split
    · split
      · exact congrArg x1 (congrArg₂ ix2 (Fin.ext (by dsimp only; omega)) (Fin.ext (by dsimp only; omega)))
      · exfalso; omega
    · split
      · exact congrArg x1 (congrArg₂ ix2 (Fin.ext (by dsimp only; omega)) (Fin.ext (by dsimp only; omega)))
      · exfalso; omega

/-- The scores before the mask. -/
theorem v19_apply (b : Fin 8) (n : Fin 32) (h : Fin 2) (g : Fin 4) (p : Fin 128) (k : Fin 384) :
    val_main_v19 (F := Ideal) x0 x1 (ix6 b n h g p k)
      = (∑ e : Fin 64, val_main_v10 (F := Ideal) x1 (ix5 b n k h e)
          * x0 (ix2 (⟨b.val * 4096 + n.val * 128 + p.val, by omega⟩ : Fin 32768) (⟨h.val * 256 + g.val * 64 + e.val, by omega⟩ : Fin 512)))
        * Ideal.ofBits .f32 1040187392#32 := by
  pointwise [val_main_cst, val_main_v16, val_main_v17, val_main_v18, val_main_v19, val_main_v15, val_main_v0]

/-- The mask. -/
theorem mask_apply (b : Fin 8) (n : Fin 32) (h : Fin 2) (g : Fin 4) (p : Fin 128) (k : Fin 384) :
    val_main_call2_v1 (F := Ideal) (ix6 b n h g p k) = if win n.val p.val k then 1#1 else 0#1 := by
  pointwise [val_main_c_1, val_main_c_2, val_main_c_3, val_main_c_4, val_main_c_5, val_main_c_6, val_main_call2_v1, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20]
  rw [near_bits, first_bits, last_bits]
  have hn := n.isLt
  have hp := p.isLt
  have hk := k.isLt
  have e : win n.val p.val k ↔ (p.val ≤ k.val ∧ k.val ≤ p.val + 256) ∧ 128 ≤ 128 * n.val + k.val ∧ 128 * n.val + k.val < 4224 := by
    unfold win; omega
  by_cases h1 : p.val ≤ k.val ∧ k.val ≤ p.val + 256 <;> by_cases h2 : 128 ≤ 128 * n.val + k.val <;> by_cases h3 : 128 * n.val + k.val < 4224 <;>
    simp only [e, h1, h2, h3, and_true, true_and, and_false, false_and, if_true, if_false] <;> rfl

/-- The masked scores. -/
theorem v53_apply (b : Fin 8) (n : Fin 32) (h : Fin 2) (g : Fin 4) (p : Fin 128) (k : Fin 384) :
    val_main_v53 (F := Ideal) x0 x1 (ix6 b n h g p k)
      = if win n.val p.val k then val_main_v19 (F := Ideal) x0 x1 (ix6 b n h g p k) else ⊥ := by
  have hb : val_main_call2_v2 (F := Ideal) (ix6 b n h g p k) = ⊥ := by
    pointwise [val_main_call2_v2, val_main_call2_v0, val_main_cst_7]
    show Ideal.ofBits .f32 0xFF800000#32 = ⊥
    simp [Ideal.ofBits, Ideal.ieee]
  rw [val_main_v53_apply, mask_apply, hb]
  split <;> rfl

/-- The largest masked score of a query. -/
theorem v55_apply (b : Fin 8) (n : Fin 32) (h : Fin 2) (g : Fin 4) (p : Fin 128) :
    val_main_v55 (F := Ideal) x0 x1 (ix5 b n h g p)
      = Finset.univ.fold max ⊥ fun k : Fin 384 => (val_main_v53 (F := Ideal) x0 x1 (ix6 b n h g p k) : EReal) := by
  have hr : S8x32x2x4x128x384.Reduces [5] S8x32x2x4x128 := by decide
  have hb : val_main_cst_8 (F := Ideal) (Shape.Idx.first h_S_) = (⊥ : EReal) := by
    show Ideal.ofBits .f32 0xFF800000#32 = ⊥
    simp [Ideal.ofBits, Ideal.ieee]
  unfold val_main_v55
  rw [Host.reduce_eq_fold_single FloatOps.maximumf _ _ reducesTo_S8x32x2x4x128x384_S8x32x2x4x128_d5 hr h_S_, hb]
  have hf : (val_main_v53 (F := Ideal) x0 x1 ∘ hr.lift (ix5 b n h g p)) = fun k : Fin 384 => (val_main_v53 (F := Ideal) x0 x1 (ix6 b n h g p k) : EReal) := by
    funext k
    generalize val_main_v53 (F := Ideal) x0 x1 = y
    exact congrArg y (funext fun a => Fin.ext (by match a with | ⟨0, _⟩ => rfl | ⟨1, _⟩ => rfl | ⟨2, _⟩ => rfl | ⟨3, _⟩ => rfl | ⟨4, _⟩ => rfl | ⟨5, _⟩ => rfl))
  exact congrArg (fun f => Finset.fold max (⊥ : EReal) f (Finset.univ : Finset (Fin 384))) hf

/-- The larger of the largest score and the sink. -/
theorem v58_apply (b : Fin 8) (n : Fin 32) (h : Fin 2) (g : Fin 4) (p : Fin 128) (z : Fin 1) :
    val_main_v58 (F := Ideal) x0 x1 x3 (ix6 b n h g p z)
      = max (Finset.univ.fold max ⊥ fun k : Fin 384 => (val_main_v53 (F := Ideal) x0 x1 (ix6 b n h g p k) : EReal))
        (x3 (ix1 (⟨h.val * 4 + g.val, by omega⟩ : Fin 8))) := by
  have e1 : idx_main_v56 (ix6 b n h g p z) = ix5 b n h g p := by
    funext a
    match a with | ⟨0, _⟩ => rfl | ⟨1, _⟩ => rfl | ⟨2, _⟩ => rfl | ⟨3, _⟩ => rfl | ⟨4, _⟩ => rfl
  have e2 : idx_main_v57 (ix6 b n h g p z) = ix6 (0 : Fin 1) (0 : Fin 1) h g (0 : Fin 1) (0 : Fin 1) := by
    funext a
    match a with | ⟨0, _⟩ => rfl | ⟨1, _⟩ => rfl | ⟨2, _⟩ => rfl | ⟨3, _⟩ => rfl | ⟨4, _⟩ => rfl | ⟨5, _⟩ => rfl
  have e3 : val_main_v54 (F := Ideal) x3 (ix6 (0 : Fin 1) (0 : Fin 1) h g (0 : Fin 1) (0 : Fin 1)) = x3 (ix1 (⟨h.val * 4 + g.val, by omega⟩ : Fin 8)) := by
    pointwise [val_main_v54]
  rw [val_main_v58_apply, val_main_v56_apply, val_main_v57_apply, e1, e2, e3, v55_apply]
  exact Ideal.maximumf_def _ _

theorem v61_apply (b : Fin 8) (n : Fin 32) (h : Fin 2) (g : Fin 4) (p : Fin 128) (k : Fin 384) :
    val_main_v61 (F := Ideal) x0 x1 x3 (ix6 b n h g p k)
      = Ideal.exp (val_main_v53 (F := Ideal) x0 x1 (ix6 b n h g p k) - val_main_v58 (F := Ideal) x0 x1 x3 (ix6 b n h g p 0)) := by
  pointwise [val_main_v61, val_main_v60, val_main_v59]

theorem v62_apply (b : Fin 8) (n : Fin 32) (h : Fin 2) (g : Fin 4) (p : Fin 128) :
    val_main_v62 (F := Ideal) x0 x1 x3 (ix5 b n h g p)
      = ∑ k : Fin 384, Ideal.exp (val_main_v53 (F := Ideal) x0 x1 (ix6 b n h g p k) - val_main_v58 (F := Ideal) x0 x1 x3 (ix6 b n h g p 0)) := by
  have h0 : val_main_cst_9 (F := Ideal) (Shape.Idx.first h_S_) = (0 : EReal) := by
    show Ideal.ofBits .f32 0x00000000#32 = 0
    simp [Ideal.ofBits, Ideal.ieee]
  rw [val_main_v62_apply, h0]
  refine (zero_add _).trans (Finset.sum_congr rfl fun k _ => ?_)
  rw [← v61_apply]
  refine congrArg (val_main_v61 (F := Ideal) x0 x1 x3) (funext fun a => ?_)
  match a with | ⟨0, _⟩ => rfl | ⟨1, _⟩ => rfl | ⟨2, _⟩ => rfl | ⟨3, _⟩ => rfl | ⟨4, _⟩ => rfl | ⟨5, _⟩ => rfl

/-- The weights. -/
theorem v69_apply (b : Fin 8) (n : Fin 32) (h : Fin 2) (g : Fin 4) (p : Fin 128) (k : Fin 384) :
    val_main_v69 (F := Ideal) x0 x1 x3 (ix6 b n h g p k)
      = Ideal.div (Ideal.exp (val_main_v53 (F := Ideal) x0 x1 (ix6 b n h g p k) - val_main_v58 (F := Ideal) x0 x1 x3 (ix6 b n h g p 0)))
        (∑ k : Fin 384, Ideal.exp (val_main_v53 (F := Ideal) x0 x1 (ix6 b n h g p k) - val_main_v58 (F := Ideal) x0 x1 x3 (ix6 b n h g p 0))
          + Ideal.exp (x3 (ix1 (⟨h.val * 4 + g.val, by omega⟩ : Fin 8)) - val_main_v58 (F := Ideal) x0 x1 x3 (ix6 b n h g p 0))) := by
  rw [← v61_apply, ← v62_apply]
  pointwise [val_main_v69, val_main_v68, val_main_v67, val_main_v66, val_main_v65, val_main_v64, val_main_v63, val_main_v54]

/-- THE REFERENCE'S RESULT at a row and a column. -/
theorem ref_apply (r : Fin 32768) (c : Fin 512) :
    val_main_v73 (F := Ideal) x0 x1 x2 x3 (ix2 r c)
      = attnR (win (r.val / 128 % 32) (r.val % 128))
          (fun k => (∑ e : Fin 64, val_main_v10 (F := Ideal) x1 (ix5 (⟨r.val / 4096, by omega⟩ : Fin 8) (⟨r.val / 128 % 32, by omega⟩ : Fin 32) k (⟨c.val / 256, by omega⟩ : Fin 2) e)
            * x0 (ix2 r (⟨64 * (c.val / 64) + e.val, by omega⟩ : Fin 512))) * Ideal.ofBits .f32 1040187392#32)
          (x3 (ix1 (⟨c.val / 64, by omega⟩ : Fin 8)))
          (fun k => val_main_v14 (F := Ideal) x2 (ix5 (⟨r.val / 4096, by omega⟩ : Fin 8) (⟨r.val / 128 % 32, by omega⟩ : Fin 32) k (⟨c.val / 256, by omega⟩ : Fin 2) (⟨c.val % 64, by omega⟩ : Fin 64))) := by
  pointwise [val_main_v73, val_main_v72, val_main_v71, val_main_v70]
  unfold attnR
  dsimp only
  have hr := r.isLt
  have hc := c.isLt
  have hS : ∀ k : Fin 384, val_main_v53 (F := Ideal) x0 x1 (ix6 (⟨r.val / 4096, by omega⟩ : Fin 8) (⟨r.val / 128 % 32, by omega⟩ : Fin 32) (⟨c.val / 256, by omega⟩ : Fin 2)
        (⟨c.val / 64 % 4, by omega⟩ : Fin 4) (⟨r.val % 128, by omega⟩ : Fin 128) k)
      = if win (r.val / 128 % 32) (r.val % 128) k then
          (∑ e : Fin 64, val_main_v10 (F := Ideal) x1 (ix5 (⟨r.val / 4096, by omega⟩ : Fin 8) (⟨r.val / 128 % 32, by omega⟩ : Fin 32) k (⟨c.val / 256, by omega⟩ : Fin 2) e)
            * x0 (ix2 r (⟨64 * (c.val / 64) + e.val, by omega⟩ : Fin 512))) * Ideal.ofBits .f32 1040187392#32 else ⊥ := by
    intro k
    rw [v53_apply, v19_apply]
    have e0 : ∀ h, (⟨r.val / 4096 * 4096 + r.val / 128 % 32 * 128 + r.val % 128, h⟩ : Fin 32768) = r := fun h => Fin.ext (by dsimp only; omega)
    have e1 : ∀ (e : Fin 64) h, (⟨c.val / 256 * 256 + c.val / 64 % 4 * 64 + e.val, h⟩ : Fin 512) = ⟨64 * (c.val / 64) + e.val, by omega⟩ := fun e h => Fin.ext (by dsimp only; omega)
    simp only [e0, e1]
  have e2 : ∀ h, (⟨c.val / 256 * 4 + c.val / 64 % 4, h⟩ : Fin 8) = ⟨c.val / 64, by omega⟩ := fun h => Fin.ext (by dsimp only; omega)
  refine Finset.sum_congr rfl fun k _ => congrArg (_ * ·) ?_
  rw [v69_apply, v58_apply]
  simp only [hS, e2]

end Cert.ReferenceIdeal.Att
end
-- ==== Proof.Equation.lean ====
module

public import proofs.«01_k».proof.Proof.KernelOut
public import proofs.«01_k».proof.Proof.RefRead

@[expose] public section

set_option maxRecDepth 16384

noncomputable section

namespace Cert.Attention

open Cert.AttnMath Cert.KernelIdeal.Att
open Idealize.ShloMosaic Idealize.ShloMosaic.TcCoe Idealize.SL.Sem
open Cert.KernelIdeal (S32768x512 S32768x128 S8)

/-- A sum of products of reals. -/
theorem sum_real (f g : Fin 64 → ℝ) : (∑ e : Fin 64, (f e : EReal) * (g e : EReal)) = ((∑ e : Fin 64, f e * g e : ℝ) : EReal) := by
  rw [coe_sum]
  exact Finset.sum_congr rfl fun e _ => (EReal.coe_mul _ _).symm

/-- THE EQUATION: with finite queries, keys and sinks the two programs' results are the same array. -/
theorem result_eq (x0 : FVec Ideal S32768x512 .f32) (x1 x2 : FVec Ideal S32768x128 .f32) (x3 : FVec Ideal S8 .f32)
    (h0 : ∀ i, (x0 i : EReal) = (((x0 i : EReal).toReal : ℝ) : EReal)) (h1 : ∀ i, (x1 i : EReal) = (((x1 i : EReal).toReal : ℝ) : EReal))
    (h3 : ∀ i, (x3 i : EReal) = (((x3 i : EReal).toReal : ℝ) : EReal)) (r : Fin 32768) (l : Fin 512) :
    attnK (win (r.val / 128 % 32) (r.val % 128))
        (fun k => ∑ e : Fin 64, x1 (ix2 ⟨keyRow r.val k.val, keyRow_lt r k⟩ (⟨64 * (l.val / 256) + e.val, by omega⟩ : Fin 128))
          * (x0 (ix2 r (⟨64 * (l.val / 64) + e.val, by omega⟩ : Fin 512)) * qs))
        (x3 (ix1 (⟨l.val / 64, by omega⟩ : Fin 8)) * ((Real.log 2)⁻¹ : ℝ))
        (fun k => x2 (ix2 ⟨keyRow r.val k.val, keyRow_lt r k⟩ (⟨64 * (l.val / 256) + l.val % 64, by omega⟩ : Fin 128)))
        (fun _ => 1)
      = Cert.ReferenceIdeal.Read.val_main_v73 (F := Ideal) x0 x1 x2 x3 (ix2 r l) := by
  have hr := r.isLt
  have hl := l.isLt
  have hw : ∀ k : Fin 384, win (r.val / 128 % 32) (r.val % 128) k →
      128 ≤ 128 * (r.val / 128 % 32) + k.val ∧ 128 * (r.val / 128 % 32) + k.val < 4224 := by
    intro k hk
    have := k.isLt
    unfold win at hk
    omega
  rw [Cert.ReferenceIdeal.Att.ref_apply, h3 (ix1 (⟨l.val / 64, by omega⟩ : Fin 8)), ← EReal.coe_mul]
  refine attnK_eq_attnR _
    (fun k => (∑ e : Fin 64, (x1 (ix2 ⟨keyRow r.val k.val, keyRow_lt r k⟩ (⟨64 * (l.val / 256) + e.val, by omega⟩ : Fin 128)) : EReal).toReal
      * (x0 (ix2 r (⟨64 * (l.val / 64) + e.val, by omega⟩ : Fin 512)) : EReal).toReal) * (1 / 8)) _ _ _ _ _ _ ?_ ?_ ?_ fun _ => rfl
  · intro k hk
    have e : ∀ e : Fin 64, (x1 (ix2 ⟨keyRow r.val k.val, keyRow_lt r k⟩ (⟨64 * (l.val / 256) + e.val, by omega⟩ : Fin 128)) : EReal)
          * (x0 (ix2 r (⟨64 * (l.val / 64) + e.val, by omega⟩ : Fin 512)) * qs)
        = (((x1 (ix2 ⟨keyRow r.val k.val, keyRow_lt r k⟩ (⟨64 * (l.val / 256) + e.val, by omega⟩ : Fin 128)) : EReal).toReal : ℝ) : EReal)
          * (((x0 (ix2 r (⟨64 * (l.val / 64) + e.val, by omega⟩ : Fin 512)) : EReal).toReal * ((1 / 8) * (Real.log 2)⁻¹) : ℝ) : EReal) := by
      intro e
      rw [← h1, qs_eq, EReal.coe_mul (EReal.toReal _), ← h0]
    rw [Finset.sum_congr rfl fun i _ => e i, sum_real]
    refine congrArg _ ?_
    rw [Finset.sum_mul, Finset.sum_mul]
    exact Finset.sum_congr rfl fun i _ => by ring
  · intro k hk
    have h8 : Ideal.ofBits .f32 1040187392#32 = ((1 / 8 : ℝ) : EReal) := by simp [Ideal.ofBits, Ideal.ieee]; rw [← EReal.coe_mul]; norm_num
    have e : ∀ e : Fin 64, Cert.ReferenceIdeal.Read.val_main_v10 (F := Ideal) x1 (ix5 (⟨r.val / 4096, by omega⟩ : Fin 8) (⟨r.val / 128 % 32, by omega⟩ : Fin 32) k (⟨l.val / 256, by omega⟩ : Fin 2) e)
            * x0 (ix2 r (⟨64 * (l.val / 64) + e.val, by omega⟩ : Fin 512))
        = (((x1 (ix2 ⟨keyRow r.val k.val, keyRow_lt r k⟩ (⟨64 * (l.val / 256) + e.val, by omega⟩ : Fin 128)) : EReal).toReal : ℝ) : EReal)
          * (((x0 (ix2 r (⟨64 * (l.val / 64) + e.val, by omega⟩ : Fin 512)) : EReal).toReal : ℝ) : EReal) := by
      intro e
      rw [← h1, ← h0, Cert.ReferenceIdeal.Att.v10_apply x1 _ _ k _ e ⟨keyRow r.val k.val, keyRow_lt r k⟩ (⟨64 * (l.val / 256) + e.val, by omega⟩ : Fin 128)
        (hw k hk).1 (hw k hk).2 (keyRow_win r k hk) rfl]
    rw [Finset.sum_congr rfl fun i _ => e i, sum_real, h8, ← EReal.coe_mul]
  · intro k hk
    exact (Cert.ReferenceIdeal.Att.v14_apply x2 _ _ k _ _ ⟨keyRow r.val k.val, keyRow_lt r k⟩ (⟨64 * (l.val / 256) + l.val % 64, by omega⟩ : Fin 128)
        (hw k hk).1 (hw k hk).2 (keyRow_win r k hk) rfl).symm

end Cert.Attention
end
-- ==== Proof.MergeTile.lean ====
module

public import proofs.«01_k».proof.Proof.Gen.MergeIdeal.Value
public import Idealize.ShloMosaic.Lib.Pointwise
public import Idealize.ShloMosaic.Lib.Pipeline.ValueKit.Tiles

@[expose] public section

set_option maxRecDepth 1024

noncomputable section

namespace Cert.MergeIdeal.Row

open Cert.MergeIdeal Cert.MergeIdeal.Gen Idealize.ShloMosaic Idealize.ShloMosaic.TcCoe Idealize.SL.Sem
open Idealize.ShloMosaic.Pipeline (Dat)

variable {F : FTy → Type} [FloatOps F] [Named F]

/-- The sigmoid as the kernel computes it. -/
def sgm {s : Shape} (x : FVec F s .f32) : FVec F s .f32 :=
  divf (broadcast s (Scalar.ofBits .f32 0x3F800000#32)) (addf (broadcast s (Scalar.ofBits .f32 0x3F800000#32))
    (exp2 (mulf x (broadcast s (Named.named κ "neglog2e" 0xBFB8AA3B#32)))))

/-- The root mean square norm of 256 rows of 1024 columns. -/
def normT (x : FVec F S256x1024 .f32) (g : FVec F S1x1024 .f32) : FVec F S256x1024 .f32 :=
  mulf (mulf x (broadcastTo S256x1024 (rsqrt (addf (divf (shapeCast S256x1 (multiReduction .add [1] S256 (mulf x x) 0x00000000#32
    reduces_S256x1024_S256 (.inl rfl) rfl) shapeCasts_S256_S256x1) (broadcast S256x1 (Scalar.ofBits .f32 0x44800000#32)))
    (broadcast S256x1 (Scalar.ofBits .f32 0x358637BD#32)))) broadcasts_S256x1_S256x1024))
    (broadcastTo S256x1024 (shapeCast S1x1024 g shapeCasts_S1x1024_S1x1024) broadcasts_S1x1024_S256x1024)

/-- One head, normed and gated. -/
def headT (x : FVec F S256x256 .f32) (g : FVec F S1x256 .f32) (o : FVec F S256x256 .bf16) : FVec F S256x256 .bf16 :=
  truncf .bf16 (mulf (mulf (mulf x (broadcastTo S256x256 (rsqrt (addf (divf (shapeCast S256x1 (multiReduction .add [1] S256 (mulf x x) 0x00000000#32
    reduces_S256x256_S256 (.inl rfl) rfl) shapeCasts_S256_S256x1) (broadcast S256x1 (Scalar.ofBits .f32 0x43800000#32)))
    (broadcast S256x1 (Scalar.ofBits .f32 0x358637BD#32)))) broadcasts_S256x1_S256x256))
    (broadcastTo S256x256 (shapeCast S1x256 g shapeCasts_S1x256_S1x256) broadcasts_S1x256_S256x256))
    (sgm (extf .f32 (shapeCast S256x256 o shapeCasts_S256x256_S256x256) bitsLt_bf16_f32))) bitsLt_bf16_f32

/-- The four heads side by side. -/
def cat4 (a b c d : FVec F S256x256 .bf16) : FVec F S256x1024 .bf16 :=
  concatenate S256x1024 1 [⟨S256x256, a⟩, ⟨S256x256, b⟩, ⟨S256x256, c⟩, ⟨S256x256, d⟩] concatenates_S256x256_S256x256_S256x256_S256x256_S256x1024_d1

/-- 256 rows times a square matrix. -/
def dotT (x : FVec F S256x1024 .bf16) (w : FVec F S1024x1024 .bf16) : FVec F S256x1024 .f32 :=
  matmul dot_S256x1024_S1024x1024_S256x1024_1_0_0_1_n_n none x (shapeCast S1024x1024 w shapeCasts_S1024x1024_S1024x1024)
    (constant S256x1024 .f32 0x00000000#32)

/-- 256 rows of the attention's result times the branch's matrix. -/
def branchT (x : FVec F S256x512 .bf16) (w : FVec F S512x1024 .bf16) : FVec F S256x1024 .f32 :=
  matmul dot_S256x512_S512x1024_S256x1024_1_0_0_1_n_n none (shapeCast S256x512 x shapeCasts_S256x512_S256x512)
    (shapeCast S512x1024 w shapeCasts_S512x1024_S512x1024) (constant S256x1024 .f32 0x00000000#32)

/-- 256 rows of the embedding times its matrix. -/
def projT (x : FVec F S256x256 .f32) (w : FVec F S256x1024 .bf16) : FVec F S256x1024 .f32 :=
  matmul dot_S256x256_S256x1024_S256x1024_1_0_0_1_n_n none (truncf .bf16 (shapeCast S256x256 x shapeCasts_S256x256_S256x256) bitsLt_bf16_f32)
    (shapeCast S256x1024 w shapeCasts_S256x1024_S256x1024) (constant S256x1024 .f32 0x00000000#32)

/-- A merge gate of 256 rows. -/
def gateT (x : FVec F S256x1024 .bf16) : FVec F S256x1024 .f32 :=
  sgm (extf .f32 (shapeCast S256x1024 x shapeCasts_S256x1024_S256x1024) bitsLt_bf16_f32)

/-- The two branches merged. -/
def mergedT (ya ym : FVec F S256x1024 .f32) (ga gm : FVec F S256x1024 .f32) : FVec F S256x1024 .bf16 :=
  truncf .bf16 (addf (mulf ga ya) (mulf gm ym)) bitsLt_bf16_f32

/-- The first product of the feed-forward network. -/
def upT (x : FVec F S256x1024 .bf16) (w1 : FVec F S1024x5632 .bf16) : FVec F S256x5632 .f32 :=
  matmul dot_S256x1024_S1024x5632_S256x5632_1_0_0_1_n_n none x (shapeCast S1024x5632 w1 shapeCasts_S1024x5632_S1024x5632)
    (constant S256x5632 .f32 0x00000000#32)

/-- The gated hidden rows of the feed-forward network. -/
def hiddenT (z : FVec F S256x5632 .f32) : FVec F S256x2816 .bf16 :=
  truncf .bf16 (mulf (mulf (extractStridedSlice S256x2816 ![0, 0] z slices_S256x5632_o0_0_S256x2816)
    (sgm (extractStridedSlice S256x2816 ![0, 0] z slices_S256x5632_o0_0_S256x2816)))
    (extractStridedSlice S256x2816 ![0, 2816] z slices_S256x5632_o0_2816_S256x2816)) bitsLt_bf16_f32

/-- The second product of the feed-forward network. -/
def downT (y : FVec F S256x2816 .bf16) (w2 : FVec F S2816x1024 .bf16) : FVec F S256x1024 .f32 :=
  matmul dot_S256x2816_S2816x1024_S256x1024_1_0_0_1_n_n none y (shapeCast S2816x1024 w2 shapeCasts_S2816x1024_S2816x1024)
    (constant S256x1024 .f32 0x00000000#32)

/-- 256 rows after the feed-forward half step. -/
def ffnT (x : FVec F S256x1024 .f32) (g : FVec F S1x1024 .f32) (w1 : FVec F S1024x5632 .bf16) (w2 : FVec F S2816x1024 .bf16)
    (g' : FVec F S1x1024 .f32) : FVec F S256x1024 .f32 :=
  addf x (mulf (broadcast S256x1024 (Scalar.ofBits .f32 0x3F000000#32))
    (normT (downT (hiddenT (upT (truncf .bf16 (normT x g) bitsLt_bf16_f32) w1)) w2) g'))

/-- 256 residual rows after the merge. -/
def mixT (h : FVec F S256x1024 .f32) (y : FVec F S256x1024 .bf16) (wo : FVec F S1024x1024 .bf16) (g : FVec F S1x1024 .f32) : FVec F S256x1024 .f32 :=
  addf h (normT (dotT y wo) g)

/-- The embedding's rows times their gate. -/
def gatedT (h : FVec F S256x1024 .f32) (p : FVec F S256x256 .f32) (g : FVec F S1x1024 .f32) (wg : FVec F S1024x1024 .bf16)
    (wp : FVec F S256x1024 .bf16) : FVec F S256x1024 .f32 :=
  mulf (projT p wp) (sgm (dotT (truncf .bf16 (normT h g) bitsLt_bf16_f32) wg))

/-- 256 residual rows after the embedding. -/
def pleT (h : FVec F S256x1024 .f32) (p : FVec F S256x256 .f32) (g : FVec F S1x1024 .f32) (wg : FVec F S1024x1024 .bf16)
    (wp : FVec F S256x1024 .bf16) (g' : FVec F S1x1024 .f32) : FVec F S256x1024 .f32 :=
  addf h (normT (gatedT h p g wg wp) g')

theorem inb_h : ∀ (s : Fin 2) a, (![256 * s.val, 0] : Fin 2 → Nat) a + S256x1024.size a ≤ S512x1024.size a := by decide
theorem inb_a : ∀ (s : Fin 2) a, (![256 * s.val, 0] : Fin 2 → Nat) a + S256x512.size a ≤ S512x512.size a := by decide
theorem inb_p : ∀ (s : Fin 2) a, (![256 * s.val, 0] : Fin 2 → Nat) a + S256x256.size a ≤ S512x256.size a := by decide
theorem inb_m : ∀ (s : Fin 2) (n : Fin 4) a, (![256 * s.val, 256 * n.val] : Fin 2 → Nat) a + S256x256.size a ≤ S512x1024.size a := by decide
theorem inb_g : ∀ (n : Fin 4) a, (![0, 256 * n.val] : Fin 2 → Nat) a + S1x256.size a ≤ S1x1024.size a := by decide
theorem inb_b : ∀ (s : Fin 2) (n : Fin 2) a, (![256 * s.val, 1024 * n.val] : Fin 2 → Nat) a + S256x1024.size a ≤ S512x2048.size a := by decide

variable (x0 : Vec F S512x1024 .f32) (x1 : Vec F S512x512 .bf16) (x2 : Vec F S512x1024 .f32) (x3 : Vec F S512x1024 .bf16) (x4 : Vec F S512x2048 .bf16) (x5 : Vec F S512x256 .f32) (x6 : Vec F S1x1024 .f32) (x7 : Vec F S512x1024 .bf16) (x8 : Vec F S1024x1024 .bf16) (x9 : Vec F S1024x1024 .bf16) (x10 : Vec F S1x1024 .f32) (x11 : Vec F S1x1024 .f32) (x12 : Vec F S1024x5632 .bf16) (x13 : Vec F S2816x1024 .bf16) (x14 : Vec F S1x1024 .f32) (x15 : Vec F S1x1024 .f32) (x16 : Vec F S1024x1024 .bf16) (x17 : Vec F S256x1024 .bf16) (x18 : Vec F S1x1024 .f32)

/-- Head `n` of half `s` of a tile. -/
def hd (s : Fin 2) (n : Fin 4) : FVec F S256x256 .bf16 :=
  headT (View.ld x2 (Rect.unit ![256 * s.val, 256 * n.val] S256x256.size (inb_m s n)))
    (View.ld x6 (Rect.unit ![0, 256 * n.val] S1x256.size (inb_g n)))
    (View.ld x3 (Rect.unit ![256 * s.val, 256 * n.val] S256x256.size (inb_m s n)))

/-- The four heads of half `s` of a tile. -/
def hds (s : Fin 2) : FVec F S256x1024 .bf16 := cat4 (hd x2 x3 x6 s 0) (hd x2 x3 x6 s 1) (hd x2 x3 x6 s 2) (hd x2 x3 x6 s 3)

/-- Half `s` of a tile after the merge. -/
def mixed (s : Fin 2) : FVec F S256x1024 .f32 :=
  mixT (View.ld x0 (Rect.unit ![256 * s.val, 0] S256x1024.size (inb_h s)))
    (mergedT (branchT (View.ld x1 (Rect.unit ![256 * s.val, 0] S256x512.size (inb_a s))) (View.ld x7 r0_1)) (dotT (hds x2 x3 x6 s) (View.ld x8 r0_22))
      (gateT (View.ld x4 (Rect.unit ![256 * s.val, 1024 * (0 : Fin 2).val] S256x1024.size (inb_b s 0))))
      (gateT (View.ld x4 (Rect.unit ![256 * s.val, 1024 * (1 : Fin 2).val] S256x1024.size (inb_b s 1)))))
    (View.ld x9 r0_22) (View.ld x10 r0_24)

/-- Half `s` of a tile after the feed-forward half step. -/
def stepped (s : Fin 2) : FVec F S256x1024 .f32 :=
  ffnT (mixed x0 x1 x2 x3 x4 x6 x7 x8 x9 x10 s) (View.ld x11 r0_24) (View.ld x12 r0_26) (View.ld x13 r0_27) (View.ld x14 r0_24)

/-- Half `s` of a tile after the embedding: what the kernel stores. -/
def stored (s : Fin 2) : FVec F S256x1024 .f32 :=
  pleT (stepped x0 x1 x2 x3 x4 x6 x7 x8 x9 x10 x11 x12 x13 x14 s) (View.ld x5 (Rect.unit ![256 * s.val, 0] S256x256.size (inb_p s)))
    (View.ld x15 r0_24) (View.ld x16 r0_22) (View.ld x17 r0_4) (View.ld x18 r0_24)

/-- What a tile's block holds at a row and a column. -/
def blockT : Vec F S512x1024 .f32 := fun y =>
  stored x0 x1 x2 x3 x4 x5 x6 x7 x8 x9 x10 x11 x12 x13 x14 x15 x16 x17 x18
    ⟨(y 0).val / 256, by have : (y 0).val < 512 := (y 0).isLt; omega⟩ (ix2 ⟨(y 0).val % 256, Nat.mod_lt _ (by decide)⟩ (y 1))

/-- The block at an index given by its half's place. -/
theorem blockT_of (s : Fin 2) (x : S256x1024.Idx) (y : S512x1024.Idx)
    (h0 : (y 0).val = 256 * s.val + (x 0).val) (h1 : (y 1).val = 0 + (x 1).val) :
    stored x0 x1 x2 x3 x4 x5 x6 x7 x8 x9 x10 x11 x12 x13 x14 x15 x16 x17 x18 s x
      = blockT x0 x1 x2 x3 x4 x5 x6 x7 x8 x9 x10 x11 x12 x13 x14 x15 x16 x17 x18 y := by
  have hx0 : (x 0).val < 256 := (x 0).isLt
  have e0 : ∀ h, (⟨(y 0).val / 256, h⟩ : Fin 2) = s := fun h => Fin.ext (by dsimp only; omega)
  have i0 : ∀ h, (⟨(y 0).val % 256, h⟩ : Fin 256) = x 0 := fun h => Fin.ext (by dsimp only; omega)
  have i1 : y 1 = x 1 := Fin.ext (by rw [h1]; omega)
  unfold blockT
  rw [e0, i0, i1]
  exact congrArg _ (eq_ix2 x)

set_option maxHeartbeats 1000000 in
/-- The second store's value. -/
theorem piece1 :
    k0_pay2 (k0_pay6 (View.ld x5 r0_5) (View.ld x17 r0_4)) (k0_pay58 x0 x1 x2 x3 x4 x5 x6 x7 x8 x9 x10 x11 x12 x13 x14 x15 x16 x17 x18) (k0_pay38 (k0_pay58 x0 x1 x2 x3 x4 x5 x6 x7 x8 x9 x10 x11 x12 x13 x14 x15 x16 x17 x18) (View.ld x15 r0_24) (View.ld x16 r0_22)) (View.ld x18 r0_24)
      = stored x0 x1 x2 x3 x4 x5 x6 x7 x8 x9 x10 x11 x12 x13 x14 x15 x16 x17 x18 1 := by
  have e58 : k0_pay58 x0 x1 x2 x3 x4 x5 x6 x7 x8 x9 x10 x11 x12 x13 x14 x15 x16 x17 x18
      = stepped x0 x1 x2 x3 x4 x6 x7 x8 x9 x10 x11 x12 x13 x14 1 := by
    have e331 : k0_pay27 (k0_pay48 x0 x1 x2 x3 x4 x5 x6 x7 x8 x9 x10 x11 x12 x13 x14 x15 x16 x17 x18) (View.ld x0 r0_25) (k0_pay50 x0 x1 x2 x3 x4 x5 x6 x7 x8 x9 x10 x11 x12 x13 x14 x15 x16 x17 x18) (k0_pay51 x0 x1 x2 x3 x4 x5 x6 x7 x8 x9 x10 x11 x12 x13 x14 x15 x16 x17 x18)
        = mixed x0 x1 x2 x3 x4 x6 x7 x8 x9 x10 1 := rfl
    show k0_pay36 (k0_pay27 _ _ _ _) (k0_pay32 (k0_pay29 _ _ _ _ _) _ _) _ = _
    show k0_pay36 (k0_pay27 (k0_pay48 x0 x1 x2 x3 x4 x5 x6 x7 x8 x9 x10 x11 x12 x13 x14 x15 x16 x17 x18) (View.ld x0 r0_25) (k0_pay50 x0 x1 x2 x3 x4 x5 x6 x7 x8 x9 x10 x11 x12 x13 x14 x15 x16 x17 x18) (k0_pay51 x0 x1 x2 x3 x4 x5 x6 x7 x8 x9 x10 x11 x12 x13 x14 x15 x16 x17 x18))
      (k0_pay32 (truncf .bf16 (normT (k0_pay27 (k0_pay48 x0 x1 x2 x3 x4 x5 x6 x7 x8 x9 x10 x11 x12 x13 x14 x15 x16 x17 x18) (View.ld x0 r0_25) (k0_pay50 x0 x1 x2 x3 x4 x5 x6 x7 x8 x9 x10 x11 x12 x13 x14 x15 x16 x17 x18) (k0_pay51 x0 x1 x2 x3 x4 x5 x6 x7 x8 x9 x10 x11 x12 x13 x14 x15 x16 x17 x18)) (View.ld x11 r0_24)) bitsLt_bf16_f32) (View.ld x12 r0_26) (View.ld x13 r0_27)) (View.ld x14 r0_24) = _
    rw [e331]
    rfl
  rw [e58]
  rfl

/-- The first store's value. -/
theorem piece0 :
    k0_pay1 (k0_pay35 (k0_pay49 x0 x1 x2 x3 x4 x5 x6 x7 x8 x9 x10 x11 x12 x13 x14 x15 x16 x17 x18) (k0_pay55 x0 x1 x2 x3 x4 x5 x6 x7 x8 x9 x10 x11 x12 x13 x14 x15 x16 x17 x18) (k0_pay56 x0 x1 x2 x3 x4 x5 x6 x7 x8 x9 x10 x11 x12 x13 x14 x15 x16 x17 x18) (k0_pay57 x0 x1 x2 x3 x4 x5 x6 x7 x8 x9 x10 x11 x12 x13 x14 x15 x16 x17 x18) (Scalar.ofBits .f32 0x44800000#32)) (k0_pay39 (k0_pay44 x0 x1 x2 x3 x4 x5 x6 x7 x8 x9 x10 x11 x12 x13 x14 x15 x16 x17 x18) (k0_pay59 x0 x1 x2 x3 x4 x5 x6 x7 x8 x9 x10 x11 x12 x13 x14 x15 x16 x17 x18) (View.ld x16 r0_22)) (k0_pay40 (View.ld x18 r0_24)) (k0_pay41 (k0_pay44 x0 x1 x2 x3 x4 x5 x6 x7 x8 x9 x10 x11 x12 x13 x14 x15 x16 x17 x18) (k0_pay59 x0 x1 x2 x3 x4 x5 x6 x7 x8 x9 x10 x11 x12 x13 x14 x15 x16 x17 x18) (View.ld x16 r0_22)) (k0_pay42 (F := F))
      = stored x0 x1 x2 x3 x4 x5 x6 x7 x8 x9 x10 x11 x12 x13 x14 x15 x16 x17 x18 0 := by
  have e49 : k0_pay49 x0 x1 x2 x3 x4 x5 x6 x7 x8 x9 x10 x11 x12 x13 x14 x15 x16 x17 x18 = mixed x0 x1 x2 x3 x4 x6 x7 x8 x9 x10 0 := rfl
  have e55 : k0_pay55 x0 x1 x2 x3 x4 x5 x6 x7 x8 x9 x10 x11 x12 x13 x14 x15 x16 x17 x18 = downT (hiddenT (upT (truncf .bf16 (normT (k0_pay49 x0 x1 x2 x3 x4 x5 x6 x7 x8 x9 x10 x11 x12 x13 x14 x15 x16 x17 x18) (View.ld x11 r0_24)) bitsLt_bf16_f32) (View.ld x12 r0_26))) (View.ld x13 r0_27) := rfl
  have e35 : k0_pay35 (k0_pay49 x0 x1 x2 x3 x4 x5 x6 x7 x8 x9 x10 x11 x12 x13 x14 x15 x16 x17 x18) (k0_pay55 x0 x1 x2 x3 x4 x5 x6 x7 x8 x9 x10 x11 x12 x13 x14 x15 x16 x17 x18) (k0_pay56 x0 x1 x2 x3 x4 x5 x6 x7 x8 x9 x10 x11 x12 x13 x14 x15 x16 x17 x18) (k0_pay57 x0 x1 x2 x3 x4 x5 x6 x7 x8 x9 x10 x11 x12 x13 x14 x15 x16 x17 x18) (Scalar.ofBits .f32 0x44800000#32)
      = addf (k0_pay49 x0 x1 x2 x3 x4 x5 x6 x7 x8 x9 x10 x11 x12 x13 x14 x15 x16 x17 x18) (mulf (broadcast S256x1024 (Scalar.ofBits .f32 0x3F000000#32)) (normT (k0_pay55 x0 x1 x2 x3 x4 x5 x6 x7 x8 x9 x10 x11 x12 x13 x14 x15 x16 x17 x18) (View.ld x14 r0_24))) := rfl
  have e416 : k0_pay35 (k0_pay49 x0 x1 x2 x3 x4 x5 x6 x7 x8 x9 x10 x11 x12 x13 x14 x15 x16 x17 x18) (k0_pay55 x0 x1 x2 x3 x4 x5 x6 x7 x8 x9 x10 x11 x12 x13 x14 x15 x16 x17 x18) (k0_pay56 x0 x1 x2 x3 x4 x5 x6 x7 x8 x9 x10 x11 x12 x13 x14 x15 x16 x17 x18) (k0_pay57 x0 x1 x2 x3 x4 x5 x6 x7 x8 x9 x10 x11 x12 x13 x14 x15 x16 x17 x18) (Scalar.ofBits .f32 0x44800000#32)
      = stepped x0 x1 x2 x3 x4 x6 x7 x8 x9 x10 x11 x12 x13 x14 0 := by
    rw [e35, e55, e49]; rfl
  have e59 : k0_pay59 x0 x1 x2 x3 x4 x5 x6 x7 x8 x9 x10 x11 x12 x13 x14 x15 x16 x17 x18 = truncf .bf16 (normT (k0_pay35 (k0_pay49 x0 x1 x2 x3 x4 x5 x6 x7 x8 x9 x10 x11 x12 x13 x14 x15 x16 x17 x18) (k0_pay55 x0 x1 x2 x3 x4 x5 x6 x7 x8 x9 x10 x11 x12 x13 x14 x15 x16 x17 x18) (k0_pay56 x0 x1 x2 x3 x4 x5 x6 x7 x8 x9 x10 x11 x12 x13 x14 x15 x16 x17 x18) (k0_pay57 x0 x1 x2 x3 x4 x5 x6 x7 x8 x9 x10 x11 x12 x13 x14 x15 x16 x17 x18) (Scalar.ofBits .f32 0x44800000#32)) (View.ld x15 r0_24)) bitsLt_bf16_f32 := rfl
  rw [e59, e416]
  rfl

/-- THE BLOCK: what a grid point writes is its two halves, each at its place. -/
theorem out_eq : out0_19 x0 x1 x2 x3 x4 x5 x6 x7 x8 x9 x10 x11 x12 x13 x14 x15 x16 x17 x18 = blockT x0 x1 x2 x3 x4 x5 x6 x7 x8 x9 x10 x11 x12 x13 x14 x15 x16 x17 x18 := by
  unfold out0_19
  funext y
  refine View.canon_apply_of_pieces _ _ ?_ y (cover0_19 _ _ y)
  refine List.forall_mem_cons.mpr ⟨fun x => Eq.trans (congrFun (piece1 x0 x1 x2 x3 x4 x5 x6 x7 x8 x9 x10 x11 x12 x13 x14 x15 x16 x17 x18) x) ?_, ?_⟩
  · exact blockT_of x0 x1 x2 x3 x4 x5 x6 x7 x8 x9 x10 x11 x12 x13 x14 x15 x16 x17 x18 1 x _ (Rect.idx_unit_val (s := S512x1024) ![256, 0] S256x1024.size inb_S512x1024_S256x1024_256_0 x 0)
      (Rect.idx_unit_val (s := S512x1024) ![256, 0] S256x1024.size inb_S512x1024_S256x1024_256_0 x 1)
  refine List.forall_mem_cons.mpr ⟨fun x => Eq.trans (congrFun (piece0 x0 x1 x2 x3 x4 x5 x6 x7 x8 x9 x10 x11 x12 x13 x14 x15 x16 x17 x18) x) ?_, fun _ h => absurd h (List.not_mem_nil)⟩
  exact blockT_of x0 x1 x2 x3 x4 x5 x6 x7 x8 x9 x10 x11 x12 x13 x14 x15 x16 x17 x18 0 x _ (Rect.idx_unit_val (s := S512x1024) ![0, 0] S256x1024.size inb_S512x1024_S256x1024_0_0 x 0)
      (Rect.idx_unit_val (s := S512x1024) ![0, 0] S256x1024.size inb_S512x1024_S256x1024_0_0 x 1)

end Cert.MergeIdeal.Row
end
-- ==== Proof.RowMath.lean ====
module

public import Idealize.ShloMosaic.PureOps.Ideal.Laws
public import Idealize.ShloMosaic.Lib.IdealHost

@[expose] public section

noncomputable section

namespace Cert.RowMath

open Idealize.ShloMosaic

/-- A row times a matrix. -/
def lin {n k : ℕ} (x : Fin n → EReal) (w : Fin n → Fin k → EReal) (j : Fin k) : EReal := ∑ i, x i * w i j

/-- The factor of the root mean square norm of a row of `n` numbers, the number `n` given as `d`. -/
def fac {n : ℕ} (d : EReal) (x : Fin n → EReal) : EReal :=
  Ideal.rsqrt (Ideal.div (∑ i, x i * x i) d + Ideal.ofBits .f32 0x358637BD#32)

/-- The root mean square norm of a row of 1024 numbers with gain `g`. -/
def norm (x g : Fin 1024 → EReal) (j : Fin 1024) : EReal := x j * fac (Ideal.ofBits .f32 0x44800000#32) x * g j

/-- The gated hidden row of the feed-forward network. -/
def hidden (x : Fin 1024 → EReal) (w1 : Fin 1024 → Fin 5632 → EReal) (k : Fin 2816) : EReal :=
  lin x w1 ⟨k.val, by omega⟩ * Ideal.logistic (lin x w1 ⟨k.val, by omega⟩) * lin x w1 ⟨2816 + k.val, by omega⟩

/-- The row after a feed-forward half step. -/
def ffn (x g : Fin 1024 → EReal) (w1 : Fin 1024 → Fin 5632 → EReal) (w2 : Fin 2816 → Fin 1024 → EReal) (g' : Fin 1024 → EReal)
    (j : Fin 1024) : EReal :=
  x j + Ideal.ofBits .f32 0x3F000000#32 * norm (lin (hidden (norm x g) w1) w2) g' j

/-- The column `256 (j / 256) + k` of the head that has column `j`. -/
def hcol (j : Fin 1024) (k : Fin 256) : Fin 1024 := ⟨256 * (j.val / 256) + k.val, by omega⟩

/-- The mLSTM's row, normed in each of its four heads and gated. -/
def heads (x g o : Fin 1024 → EReal) (j : Fin 1024) : EReal :=
  x j * fac (Ideal.ofBits .f32 0x43800000#32) (fun k => x (hcol j k)) * g j * Ideal.logistic (o j)

/-- The row that merges the two branches. -/
def merged (ya ym : Fin 1024 → EReal) (bg : Fin 2048 → EReal) (j : Fin 1024) : EReal :=
  Ideal.logistic (bg ⟨j.val, by omega⟩) * ya j + Ideal.logistic (bg ⟨1024 + j.val, by omega⟩) * ym j

/-- The residual row after the merge. -/
def mix (h : Fin 1024 → EReal) (ao : Fin 512 → EReal) (x o : Fin 1024 → EReal) (bg : Fin 2048 → EReal) (g : Fin 1024 → EReal)
    (wa : Fin 512 → Fin 1024 → EReal) (wm wo : Fin 1024 → Fin 1024 → EReal) (g' : Fin 1024 → EReal) (j : Fin 1024) : EReal :=
  h j + norm (lin (merged (lin ao wa) (lin (heads x g o) wm) bg) wo) g' j

/-- The embedding's row times its gate. -/
def gated (h : Fin 1024 → EReal) (p : Fin 256 → EReal) (g : Fin 1024 → EReal) (wg : Fin 1024 → Fin 1024 → EReal)
    (wp : Fin 256 → Fin 1024 → EReal) (j : Fin 1024) : EReal :=
  lin p wp j * Ideal.logistic (lin (norm h g) wg j)

/-- The residual row after the embedding. -/
def ple (h : Fin 1024 → EReal) (p : Fin 256 → EReal) (g : Fin 1024 → EReal) (wg : Fin 1024 → Fin 1024 → EReal)
    (wp : Fin 256 → Fin 1024 → EReal) (g' : Fin 1024 → EReal) (j : Fin 1024) : EReal :=
  h j + norm (gated h p g wg wp) g' j

/-- The kernel's sigmoid, by powers of two with the negated logarithm of `e` to base two, is the logistic function. -/
theorem sig_eq (x : EReal) :
    Ideal.div 1 (1 + Ideal.exp2 (x * ((-((Real.log 2)⁻¹) : ℝ) : EReal))) = Ideal.logistic x := by
  have hl : 0 < Real.log 2 := Real.log_pos (by norm_num)
  have hn : -((Real.log 2)⁻¹) < 0 := neg_lt_zero.mpr (inv_pos.mpr hl)
  unfold Ideal.logistic
  refine congrArg (fun z => Ideal.div 1 (1 + z)) ?_
  induction x using EReal.rec with
  | bot => rw [EReal.bot_mul_coe_of_neg hn]; rfl
  | top => rw [EReal.top_mul_coe_of_neg hn]; rfl
  | coe r =>
    rw [← EReal.coe_mul, ← EReal.coe_neg]
    show ((Real.rpow 2 _ : ℝ) : EReal) = ((Real.exp _ : ℝ) : EReal)
    refine congrArg _ ?_
    refine (Real.rpow_def_of_pos (by norm_num : (0 : ℝ) < 2) _).trans (congrArg _ ?_)
    field_simp

end Cert.RowMath
end
-- ==== Proof.MergeTileRead.lean ====
module

public import proofs.«01_k».proof.Proof.MergeTile
public import proofs.«01_k».proof.Proof.RowMath

@[expose] public section

set_option maxRecDepth 16384

noncomputable section

namespace Cert.MergeIdeal.Row

open Cert.RowMath
open Cert.MergeIdeal Cert.MergeIdeal.Gen Idealize.ShloMosaic Idealize.ShloMosaic.TcCoe Idealize.SL.Sem

theorem ofBits_one : Ideal.ofBits .f32 0x3F800000#32 = (1 : EReal) := by
  simp [Ideal.ofBits, Ideal.ieee]
  rw [← EReal.coe_mul]; norm_num

theorem neg_named : (Named.named (F := Ideal) κ "neglog2e" (φ := .f32) 0xBFB8AA3B#32 : EReal) = ((-((Real.log 2)⁻¹) : ℝ) : EReal) :=
  IdealRules.named_const.ideal_named_scalar _ _ _ _ rfl

/-- The kernel's sigmoid at an index. -/
theorem sgm_apply {s : Shape} (x : FVec Ideal s .f32) (i : s.Idx) : sgm x i = Ideal.logistic (x i) := by
  show Ideal.div (Ideal.ofBits .f32 0x3F800000#32) (Ideal.ofBits .f32 0x3F800000#32 + Ideal.exp2 (x i * Named.named (F := Ideal) κ "neglog2e" (φ := .f32) 0xBFB8AA3B#32)) = _
  rw [ofBits_one, neg_named]
  exact sig_eq _

/-- The norm at an index. -/
theorem normT_apply (x : FVec Ideal S256x1024 .f32) (g : FVec Ideal S1x1024 .f32) (r : Fin 256) (j : Fin 1024) :
    normT x g (ix2 r j) = norm (fun j => x (ix2 r j)) (fun j => g (ix2 (0 : Fin 1) j)) j := by
  pointwise [normT]
  rfl

/-- A head at an index. -/
theorem headT_apply (x : FVec Ideal S256x256 .f32) (g : FVec Ideal S1x256 .f32) (o : FVec Ideal S256x256 .bf16) (r : Fin 256) (j : Fin 256) :
    headT x g o (ix2 r j) = x (ix2 r j) * fac (Ideal.ofBits .f32 0x43800000#32) (fun k : Fin 256 => x (ix2 r k)) * g (ix2 (0 : Fin 1) j)
      * Ideal.logistic (o (ix2 r j)) := by
  pointwise [headT]
  rw [sgm_apply]
  pointwise []
  rfl

theorem cat4_apply (a b c d : FVec Ideal S256x256 .bf16) (r : Fin 256) (j : Fin 1024) :
    cat4 a b c d (ix2 r j) = (![a, b, c, d] : Fin 4 → FVec Ideal S256x256 .bf16) ⟨j.val / 256, by omega⟩ (ix2 r (⟨j.val % 256, by omega⟩ : Fin 256)) := by
  pointwise [cat4]
  have hj := j.isLt
  split
  · have e : (⟨j.val / 256, by omega⟩ : Fin 4) = 0 := Fin.ext (by show j.val / 256 = 0; omega)
    rw [e]
    exact congrArg (fun k => a (ix2 r k)) (Fin.ext (by dsimp only; omega))
  · split
    · have e : (⟨j.val / 256, by omega⟩ : Fin 4) = 1 := Fin.ext (by show j.val / 256 = 1; omega)
      rw [e]
      exact congrArg (fun k => b (ix2 r k)) (Fin.ext (by dsimp only; omega))
    · split
      · have e : (⟨j.val / 256, by omega⟩ : Fin 4) = 2 := Fin.ext (by show j.val / 256 = 2; omega)
        rw [e]
        exact congrArg (fun k => c (ix2 r k)) (Fin.ext (by dsimp only; omega))
      · have e : (⟨j.val / 256, by omega⟩ : Fin 4) = 3 := Fin.ext (by show j.val / 256 = 3; omega)
        rw [e]
        exact congrArg (fun k => d (ix2 r k)) (Fin.ext (by dsimp only; omega))

theorem dotT_apply (x : FVec Ideal S256x1024 .bf16) (w : FVec Ideal S1024x1024 .bf16) (r : Fin 256) (j : Fin 1024) :
    dotT x w (ix2 r j) = lin (fun i : Fin 1024 => x (ix2 r i)) (fun (i j : Fin 1024) => w (ix2 i j)) j := by
  pointwise [dotT]
  rfl

theorem branchT_apply (x : FVec Ideal S256x512 .bf16) (w : FVec Ideal S512x1024 .bf16) (r : Fin 256) (j : Fin 1024) :
    branchT x w (ix2 r j) = lin (fun i : Fin 512 => x (ix2 r i)) (fun (i : Fin 512) (j : Fin 1024) => w (ix2 i j)) j := by
  pointwise [branchT]
  rfl

theorem projT_apply (x : FVec Ideal S256x256 .f32) (w : FVec Ideal S256x1024 .bf16) (r : Fin 256) (j : Fin 1024) :
    projT x w (ix2 r j) = lin (fun i : Fin 256 => x (ix2 r i)) (fun (i : Fin 256) (j : Fin 1024) => w (ix2 i j)) j := by
  pointwise [projT]
  rfl

theorem gateT_apply (x : FVec Ideal S256x1024 .bf16) (r : Fin 256) (j : Fin 1024) :
    gateT x (ix2 r j) = Ideal.logistic (x (ix2 r j)) := by
  unfold gateT
  rw [sgm_apply]
  pointwise []

theorem upT_apply (x : FVec Ideal S256x1024 .bf16) (w : FVec Ideal S1024x5632 .bf16) (r : Fin 256) (j : Fin 5632) :
    upT x w (ix2 r j) = lin (fun i : Fin 1024 => x (ix2 r i)) (fun (i : Fin 1024) (j : Fin 5632) => w (ix2 i j)) j := by
  pointwise [upT]
  rfl

theorem hiddenT_apply (z : FVec Ideal S256x5632 .f32) (r : Fin 256) (k : Fin 2816) :
    hiddenT z (ix2 r k) = z (ix2 r (⟨k.val, by omega⟩ : Fin 5632)) * Ideal.logistic (z (ix2 r (⟨k.val, by omega⟩ : Fin 5632)))
      * z (ix2 r (⟨2816 + k.val, by omega⟩ : Fin 5632)) := by
  pointwise [hiddenT]
  rw [sgm_apply]
  pointwise []

theorem downT_apply (x : FVec Ideal S256x2816 .bf16) (w : FVec Ideal S2816x1024 .bf16) (r : Fin 256) (j : Fin 1024) :
    downT x w (ix2 r j) = lin (fun i : Fin 2816 => x (ix2 r i)) (fun (i : Fin 2816) (j : Fin 1024) => w (ix2 i j)) j := by
  pointwise [downT]
  rfl

/-- The feed-forward half step at an index. -/
theorem ffnT_apply (x : FVec Ideal S256x1024 .f32) (g : FVec Ideal S1x1024 .f32) (w1 : FVec Ideal S1024x5632 .bf16) (w2 : FVec Ideal S2816x1024 .bf16)
    (g' : FVec Ideal S1x1024 .f32) (r : Fin 256) (j : Fin 1024) :
    ffnT x g w1 w2 g' (ix2 r j) = ffn (fun j => x (ix2 r j)) (fun j => g (ix2 (0 : Fin 1) j)) (fun i k => w1 (ix2 i k)) (fun i k => w2 (ix2 i k))
      (fun j => g' (ix2 (0 : Fin 1) j)) j := by
  have h1 : ∀ k : Fin 5632, upT (truncf .bf16 (normT x g) bitsLt_bf16_f32) w1 (ix2 r k)
      = lin (norm (fun j => x (ix2 r j)) (fun j => g (ix2 (0 : Fin 1) j))) (fun i k => w1 (ix2 i k)) k := by
    intro k
    rw [upT_apply]
    refine congrArg (fun f => lin f _ k) (funext fun i => ?_)
    exact normT_apply x g r i
  have h2 : ∀ k : Fin 1024, downT (hiddenT (upT (truncf .bf16 (normT x g) bitsLt_bf16_f32) w1)) w2 (ix2 r k)
      = lin (hidden (norm (fun j => x (ix2 r j)) (fun j => g (ix2 (0 : Fin 1) j))) (fun i k => w1 (ix2 i k))) (fun i k => w2 (ix2 i k)) k := by
    intro k
    rw [downT_apply]
    refine congrArg (fun f => lin f _ k) (funext fun i => ?_)
    rw [hiddenT_apply, h1, h1]
    rfl
  show x (ix2 r j) + Ideal.ofBits .f32 0x3F000000#32 * normT _ _ (ix2 r j) = _
  rw [normT_apply]
  simp only [h2]
  rfl

/-- The residual rows after the merge at an index. -/
theorem mixT_apply (h : FVec Ideal S256x1024 .f32) (y : FVec Ideal S256x1024 .bf16) (wo : FVec Ideal S1024x1024 .bf16) (g : FVec Ideal S1x1024 .f32)
    (r : Fin 256) (j : Fin 1024) :
    mixT h y wo g (ix2 r j) = h (ix2 r j) + norm (lin (fun i : Fin 1024 => y (ix2 r i)) (fun i k => wo (ix2 i k))) (fun j => g (ix2 (0 : Fin 1) j)) j := by
  show h (ix2 r j) + normT _ _ (ix2 r j) = _
  rw [normT_apply]
  simp only [dotT_apply]

/-- The embedding step at an index. -/
theorem pleT_apply (h : FVec Ideal S256x1024 .f32) (p : FVec Ideal S256x256 .f32) (g : FVec Ideal S1x1024 .f32) (wg : FVec Ideal S1024x1024 .bf16)
    (wp : FVec Ideal S256x1024 .bf16) (g' : FVec Ideal S1x1024 .f32) (r : Fin 256) (j : Fin 1024) :
    pleT h p g wg wp g' (ix2 r j) = ple (fun j => h (ix2 r j)) (fun j => p (ix2 r j)) (fun j => g (ix2 (0 : Fin 1) j)) (fun i k => wg (ix2 i k))
      (fun i k => wp (ix2 i k)) (fun j => g' (ix2 (0 : Fin 1) j)) j := by
  have h1 : ∀ k : Fin 1024, gatedT h p g wg wp (ix2 r k)
      = gated (fun j => h (ix2 r j)) (fun j => p (ix2 r j)) (fun j => g (ix2 (0 : Fin 1) j)) (fun i k => wg (ix2 i k)) (fun i k => wp (ix2 i k)) k := by
    intro k
    show projT p wp (ix2 r k) * sgm (dotT (truncf .bf16 (normT h g) bitsLt_bf16_f32) wg) (ix2 r k) = _
    rw [projT_apply, sgm_apply, dotT_apply]
    refine congrArg (fun f => lin _ _ k * Ideal.logistic (lin f _ k)) (funext fun i => ?_)
    exact normT_apply h g r i
  show h (ix2 r j) + normT _ _ (ix2 r j) = _
  rw [normT_apply]
  simp only [h1]
  rfl

variable (x0 : FVec Ideal S512x1024 .f32) (x1 : FVec Ideal S512x512 .bf16) (x2 : FVec Ideal S512x1024 .f32) (x3 : FVec Ideal S512x1024 .bf16) (x4 : FVec Ideal S512x2048 .bf16) (x5 : FVec Ideal S512x256 .f32) (x6 : FVec Ideal S1x1024 .f32) (x7 : FVec Ideal S512x1024 .bf16) (x8 : FVec Ideal S1024x1024 .bf16) (x9 : FVec Ideal S1024x1024 .bf16) (x10 : FVec Ideal S1x1024 .f32) (x11 : FVec Ideal S1x1024 .f32) (x12 : FVec Ideal S1024x5632 .bf16) (x13 : FVec Ideal S2816x1024 .bf16) (x14 : FVec Ideal S1x1024 .f32) (x15 : FVec Ideal S1x1024 .f32) (x16 : FVec Ideal S1024x1024 .bf16) (x17 : FVec Ideal S256x1024 .bf16) (x18 : FVec Ideal S1x1024 .f32)

/-- The row `r` of half `s` in its tile. -/
def trow (s : Fin 2) (r : Fin 256) : Fin 512 := ⟨256 * s.val + r.val, by omega⟩

theorem ld2 {A B a b : ℕ} {e : EltTy} (x : Vec Ideal (⟨2, ![A, B]⟩ : Shape) e) (o p : ℕ)
    (h : ∀ i, (![o, p] : Fin 2 → Nat) i + (![a, b] : Fin 2 → Nat) i ≤ (⟨2, ![A, B]⟩ : Shape).size i) (r : Fin a) (j : Fin b) (R : Fin A) (J : Fin B)
    (h0 : R.val = o + r.val) (h1 : J.val = p + j.val) :
    View.ld x (Rect.unit (s := (⟨2, ![A, B]⟩ : Shape)) ![o, p] ![a, b] h) (ix2 r j) = x (ix2 R J) := by
  refine congrArg x (funext fun i => Fin.ext ?_)
  refine (Rect.idx_unit_val (s := (⟨2, ![A, B]⟩ : Shape)) ![o, p] ![a, b] h (ix2 r j) i).trans ?_
  match i with
  | ⟨0, _⟩ => exact h0.symm
  | ⟨1, _⟩ => exact h1.symm

/-- The heads of a half at an index. -/
theorem hds_apply (s : Fin 2) (r : Fin 256) (j : Fin 1024) :
    hds (F := Ideal) x2 x3 x6 s (ix2 r j) = heads (fun j => x2 (ix2 (trow s r) j)) (fun j => x6 (ix2 (0 : Fin 1) j)) (fun j => x3 (ix2 (trow s r) j)) j := by
  have hn : ∀ n : Fin 4, (![hd x2 x3 x6 s 0, hd x2 x3 x6 s 1, hd x2 x3 x6 s 2, hd x2 x3 x6 s 3] : Fin 4 → FVec Ideal S256x256 .bf16) n = hd x2 x3 x6 s n := by
    intro n
    match n with
    | ⟨0, _⟩ => rfl
    | ⟨1, _⟩ => rfl
    | ⟨2, _⟩ => rfl
    | ⟨3, _⟩ => rfl
  unfold hds
  rw [cat4_apply, hn]
  unfold hd heads
  rw [headT_apply]
  have e2 : ∀ k : Fin 256, View.ld (Val := Elt Ideal) (e' := .f32) x2 (Rect.unit (s := S512x1024) ![256 * s.val, 256 * (⟨j.val / 256, by omega⟩ : Fin 4).val] S256x256.size (inb_m s ⟨j.val / 256, by omega⟩)) (ix2 r k)
      = x2 (ix2 (trow s r) (hcol j k)) := fun k => ld2 (e := .f32) x2 _ _ _ r k _ _ rfl rfl
  have e3 : ∀ k : Fin 256, View.ld (Val := Elt Ideal) (e' := .bf16) x3 (Rect.unit (s := S512x1024) ![256 * s.val, 256 * (⟨j.val / 256, by omega⟩ : Fin 4).val] S256x256.size (inb_m s ⟨j.val / 256, by omega⟩)) (ix2 r k)
      = x3 (ix2 (trow s r) (hcol j k)) := fun k => ld2 (e := .bf16) x3 _ _ _ r k _ _ rfl rfl
  have e6 : ∀ k : Fin 256, View.ld (Val := Elt Ideal) (e' := .f32) x6 (Rect.unit (s := S1x1024) ![0, 256 * (⟨j.val / 256, by omega⟩ : Fin 4).val] S1x256.size (inb_g ⟨j.val / 256, by omega⟩)) (ix2 (0 : Fin 1) k)
      = x6 (ix2 (0 : Fin 1) (hcol j k)) := fun k => ld2 (e := .f32) x6 _ _ _ (0 : Fin 1) k _ _ rfl rfl
  have ej : hcol j ⟨j.val % 256, by omega⟩ = j := Fin.ext (by show 256 * (j.val / 256) + j.val % 256 = j.val; omega)
  simp only [e2, e3, e6, ej]

/-- The half after the merge at an index. -/
theorem mixed_apply (s : Fin 2) (r : Fin 256) (j : Fin 1024) :
    mixed (F := Ideal) x0 x1 x2 x3 x4 x6 x7 x8 x9 x10 s (ix2 r j)
      = mix (fun j => x0 (ix2 (trow s r) j)) (fun j => x1 (ix2 (trow s r) j)) (fun j => x2 (ix2 (trow s r) j)) (fun j => x3 (ix2 (trow s r) j))
          (fun j => x4 (ix2 (trow s r) j)) (fun j => x6 (ix2 (0 : Fin 1) j)) (fun i k => x7 (ix2 i k)) (fun i k => x8 (ix2 i k))
          (fun i k => x9 (ix2 i k)) (fun j => x10 (ix2 (0 : Fin 1) j)) j := by
  have e0 : View.ld (Val := Elt Ideal) (e' := .f32) x0 (Rect.unit (s := S512x1024) ![256 * s.val, 0] S256x1024.size (inb_h s)) (ix2 r j) = x0 (ix2 (trow s r) j) :=
    ld2 (e := .f32) x0 _ _ _ r j _ _ rfl (Nat.zero_add _).symm
  have e1 : ∀ k : Fin 512, View.ld (Val := Elt Ideal) (e' := .bf16) x1 (Rect.unit (s := S512x512) ![256 * s.val, 0] S256x512.size (inb_a s)) (ix2 r k) = x1 (ix2 (trow s r) k) :=
    fun k => ld2 (e := .bf16) x1 _ _ _ r k _ _ rfl (Nat.zero_add _).symm
  have e4 : ∀ k : Fin 1024, View.ld (Val := Elt Ideal) (e' := .bf16) x4 (Rect.unit (s := S512x2048) ![256 * s.val, 1024 * (0 : Fin 2).val] S256x1024.size (inb_b s 0)) (ix2 r k)
      = x4 (ix2 (trow s r) (⟨k.val, by omega⟩ : Fin 2048)) :=
    fun k => ld2 (e := .bf16) x4 _ _ _ r k _ _ rfl (Nat.zero_add _).symm
  have e4' : ∀ k : Fin 1024, View.ld (Val := Elt Ideal) (e' := .bf16) x4 (Rect.unit (s := S512x2048) ![256 * s.val, 1024 * (1 : Fin 2).val] S256x1024.size (inb_b s 1)) (ix2 r k)
      = x4 (ix2 (trow s r) (⟨1024 + k.val, by omega⟩ : Fin 2048)) :=
    fun k => ld2 (e := .bf16) x4 _ _ _ r k _ _ rfl rfl
  have e7 : ∀ (i : Fin 512) (k : Fin 1024), View.ld (Val := Elt Ideal) (e' := .bf16) x7 r0_1 (ix2 i k) = x7 (ix2 i k) :=
    fun i k => ld2 (e := .bf16) x7 _ _ _ i k _ _ (Nat.zero_add _).symm (Nat.zero_add _).symm
  have e8 : ∀ (i : Fin 1024) (k : Fin 1024), View.ld (Val := Elt Ideal) (e' := .bf16) x8 r0_22 (ix2 i k) = x8 (ix2 i k) :=
    fun i k => ld2 (e := .bf16) x8 _ _ _ i k _ _ (Nat.zero_add _).symm (Nat.zero_add _).symm
  have e9 : ∀ (i : Fin 1024) (k : Fin 1024), View.ld (Val := Elt Ideal) (e' := .bf16) x9 r0_22 (ix2 i k) = x9 (ix2 i k) :=
    fun i k => ld2 (e := .bf16) x9 _ _ _ i k _ _ (Nat.zero_add _).symm (Nat.zero_add _).symm
  have e10 : ∀ k : Fin 1024, View.ld (Val := Elt Ideal) (e' := .f32) x10 r0_24 (ix2 (0 : Fin 1) k) = x10 (ix2 (0 : Fin 1) k) :=
    fun k => ld2 (e := .f32) x10 _ _ _ (0 : Fin 1) k _ _ (Nat.zero_add _).symm (Nat.zero_add _).symm
  unfold mixed
  rw [mixT_apply, e0]
  unfold mix
  have hm : ∀ i : Fin 1024, mergedT (F := Ideal) (branchT (View.ld (Val := Elt Ideal) (e' := .bf16) x1 (Rect.unit (s := S512x512) ![256 * s.val, 0] S256x512.size (inb_a s))) (View.ld (Val := Elt Ideal) (e' := .bf16) x7 r0_1)) (dotT (hds x2 x3 x6 s) (View.ld (Val := Elt Ideal) (e' := .bf16) x8 r0_22))
      (gateT (View.ld (Val := Elt Ideal) (e' := .bf16) x4 (Rect.unit (s := S512x2048) ![256 * s.val, 1024 * (0 : Fin 2).val] S256x1024.size (inb_b s 0))))
      (gateT (View.ld (Val := Elt Ideal) (e' := .bf16) x4 (Rect.unit (s := S512x2048) ![256 * s.val, 1024 * (1 : Fin 2).val] S256x1024.size (inb_b s 1)))) (ix2 r i)
      = merged (lin (fun j : Fin 512 => x1 (ix2 (trow s r) j)) (fun i k => x7 (ix2 i k)))
        (lin (heads (fun j => x2 (ix2 (trow s r) j)) (fun j => x6 (ix2 (0 : Fin 1) j)) (fun j => x3 (ix2 (trow s r) j))) (fun i k => x8 (ix2 i k)))
        (fun j => x4 (ix2 (trow s r) j)) i := by
    intro i
    show gateT (F := Ideal) _ (ix2 r i) * branchT (F := Ideal) _ _ (ix2 r i) + gateT (F := Ideal) _ (ix2 r i) * dotT (F := Ideal) _ _ (ix2 r i) = _
    rw [gateT_apply, gateT_apply, branchT_apply, dotT_apply, e4, e4']
    simp only [hds_apply, e1, e7, e8]
    rfl
  simp only [hm, e9, e10]

/-- The half after the feed-forward half step at an index. -/
theorem stepped_apply (s : Fin 2) (r : Fin 256) (j : Fin 1024) :
    stepped (F := Ideal) x0 x1 x2 x3 x4 x6 x7 x8 x9 x10 x11 x12 x13 x14 s (ix2 r j)
      = ffn (mix (fun j => x0 (ix2 (trow s r) j)) (fun j => x1 (ix2 (trow s r) j)) (fun j => x2 (ix2 (trow s r) j)) (fun j => x3 (ix2 (trow s r) j))
          (fun j => x4 (ix2 (trow s r) j)) (fun j => x6 (ix2 (0 : Fin 1) j)) (fun i k => x7 (ix2 i k)) (fun i k => x8 (ix2 i k))
          (fun i k => x9 (ix2 i k)) (fun j => x10 (ix2 (0 : Fin 1) j)))
        (fun j => x11 (ix2 (0 : Fin 1) j)) (fun i k => x12 (ix2 i k)) (fun i k => x13 (ix2 i k)) (fun j => x14 (ix2 (0 : Fin 1) j)) j := by
  have e11 : ∀ k : Fin 1024, View.ld (Val := Elt Ideal) (e' := .f32) x11 r0_24 (ix2 (0 : Fin 1) k) = x11 (ix2 (0 : Fin 1) k) :=
    fun k => ld2 (e := .f32) x11 _ _ _ (0 : Fin 1) k _ _ (Nat.zero_add _).symm (Nat.zero_add _).symm
  have e14 : ∀ k : Fin 1024, View.ld (Val := Elt Ideal) (e' := .f32) x14 r0_24 (ix2 (0 : Fin 1) k) = x14 (ix2 (0 : Fin 1) k) :=
    fun k => ld2 (e := .f32) x14 _ _ _ (0 : Fin 1) k _ _ (Nat.zero_add _).symm (Nat.zero_add _).symm
  have e12 : ∀ (i : Fin 1024) (k : Fin 5632), View.ld (Val := Elt Ideal) (e' := .bf16) x12 r0_26 (ix2 i k) = x12 (ix2 i k) :=
    fun i k => ld2 (e := .bf16) x12 _ _ _ i k _ _ (Nat.zero_add _).symm (Nat.zero_add _).symm
  have e13 : ∀ (i : Fin 2816) (k : Fin 1024), View.ld (Val := Elt Ideal) (e' := .bf16) x13 r0_27 (ix2 i k) = x13 (ix2 i k) :=
    fun i k => ld2 (e := .bf16) x13 _ _ _ i k _ _ (Nat.zero_add _).symm (Nat.zero_add _).symm
  unfold stepped
  rw [ffnT_apply]
  simp only [mixed_apply, e11, e12, e13, e14]

/-- What the kernel stores at an index. -/
theorem stored_apply (s : Fin 2) (r : Fin 256) (j : Fin 1024) :
    stored (F := Ideal) x0 x1 x2 x3 x4 x5 x6 x7 x8 x9 x10 x11 x12 x13 x14 x15 x16 x17 x18 s (ix2 r j)
      = ple (ffn (mix (fun j => x0 (ix2 (trow s r) j)) (fun j => x1 (ix2 (trow s r) j)) (fun j => x2 (ix2 (trow s r) j)) (fun j => x3 (ix2 (trow s r) j))
          (fun j => x4 (ix2 (trow s r) j)) (fun j => x6 (ix2 (0 : Fin 1) j)) (fun i k => x7 (ix2 i k)) (fun i k => x8 (ix2 i k))
          (fun i k => x9 (ix2 i k)) (fun j => x10 (ix2 (0 : Fin 1) j)))
        (fun j => x11 (ix2 (0 : Fin 1) j)) (fun i k => x12 (ix2 i k)) (fun i k => x13 (ix2 i k)) (fun j => x14 (ix2 (0 : Fin 1) j)))
        (fun j => x5 (ix2 (trow s r) j)) (fun j => x15 (ix2 (0 : Fin 1) j)) (fun i k => x16 (ix2 i k)) (fun i k => x17 (ix2 i k))
        (fun j => x18 (ix2 (0 : Fin 1) j)) j := by
  have e5 : ∀ k : Fin 256, View.ld (Val := Elt Ideal) (e' := .f32) x5 (Rect.unit (s := S512x256) ![256 * s.val, 0] S256x256.size (inb_p s)) (ix2 r k) = x5 (ix2 (trow s r) k) :=
    fun k => ld2 (e := .f32) x5 _ _ _ r k _ _ rfl (Nat.zero_add _).symm
  have e15 : ∀ k : Fin 1024, View.ld (Val := Elt Ideal) (e' := .f32) x15 r0_24 (ix2 (0 : Fin 1) k) = x15 (ix2 (0 : Fin 1) k) :=
    fun k => ld2 (e := .f32) x15 _ _ _ (0 : Fin 1) k _ _ (Nat.zero_add _).symm (Nat.zero_add _).symm
  have e18 : ∀ k : Fin 1024, View.ld (Val := Elt Ideal) (e' := .f32) x18 r0_24 (ix2 (0 : Fin 1) k) = x18 (ix2 (0 : Fin 1) k) :=
    fun k => ld2 (e := .f32) x18 _ _ _ (0 : Fin 1) k _ _ (Nat.zero_add _).symm (Nat.zero_add _).symm
  have e16 : ∀ (i : Fin 1024) (k : Fin 1024), View.ld (Val := Elt Ideal) (e' := .bf16) x16 r0_22 (ix2 i k) = x16 (ix2 i k) :=
    fun i k => ld2 (e := .bf16) x16 _ _ _ i k _ _ (Nat.zero_add _).symm (Nat.zero_add _).symm
  have e17 : ∀ (i : Fin 256) (k : Fin 1024), View.ld (Val := Elt Ideal) (e' := .bf16) x17 r0_4 (ix2 i k) = x17 (ix2 i k) :=
    fun i k => ld2 (e := .bf16) x17 _ _ _ i k _ _ (Nat.zero_add _).symm (Nat.zero_add _).symm
  unfold stored
  rw [pleT_apply]
  simp only [stepped_apply, e5, e15, e16, e17, e18]

end Cert.MergeIdeal.Row
end
-- ==== Proof.MergeOut.lean ====
module

public import proofs.«01_k».proof.Proof.MergeTileRead
public import Idealize.ShloMosaic.Lib.Pointwise
public import Idealize.ShloMosaic.Lib.StableHlo.ReadAt
public import Idealize.ShloMosaic.Lib.Pipeline.ValueKit

@[expose] public section

set_option maxRecDepth 16384

noncomputable section

namespace Cert.MergeIdeal.Row

open Cert.RowMath
open Cert.MergeIdeal Cert.MergeIdeal.Gen Idealize.ShloMosaic Idealize.ShloMosaic.TcCoe Idealize.SL.Sem
open Idealize.ShloMosaic.Pipeline (Dat)

variable (m : (ℓ : Loc nD τ sig) → Buf (Elt Ideal) ℓ)

/-! ## The arguments -/

/-- Argument 0. -/
abbrev a0 (c : Dev nD) : FVec Ideal S32768x1024 .f32 := m ((c : Thread nD τ).loc main_arg0)
/-- Argument 1. -/
abbrev a1 (c : Dev nD) : FVec Ideal S32768x512 .f32 := m ((c : Thread nD τ).loc main_arg1)
/-- Argument 2. -/
abbrev a2 (c : Dev nD) : FVec Ideal S32768x1024 .f32 := m ((c : Thread nD τ).loc main_arg2)
/-- Argument 3. -/
abbrev a3 (c : Dev nD) : FVec Ideal S32768x1024 .f32 := m ((c : Thread nD τ).loc main_arg3)
/-- Argument 4. -/
abbrev a4 (c : Dev nD) : FVec Ideal S32768x2048 .f32 := m ((c : Thread nD τ).loc main_arg4)
/-- Argument 5. -/
abbrev a5 (c : Dev nD) : FVec Ideal S8x4096x256 .f32 := m ((c : Thread nD τ).loc main_arg5)
/-- Argument 6. -/
abbrev a6 (c : Dev nD) : FVec Ideal S1024 .f32 := m ((c : Thread nD τ).loc main_arg6)
/-- Argument 7. -/
abbrev a7 (c : Dev nD) : FVec Ideal S512x1024 .f32 := m ((c : Thread nD τ).loc main_arg7)
/-- Argument 8. -/
abbrev a8 (c : Dev nD) : FVec Ideal S1024x1024 .f32 := m ((c : Thread nD τ).loc main_arg8)
/-- Argument 9. -/
abbrev a9 (c : Dev nD) : FVec Ideal S1024x1024 .f32 := m ((c : Thread nD τ).loc main_arg9)
/-- Argument 10. -/
abbrev a10 (c : Dev nD) : FVec Ideal S1024 .f32 := m ((c : Thread nD τ).loc main_arg10)
/-- Argument 11. -/
abbrev a11 (c : Dev nD) : FVec Ideal S1024 .f32 := m ((c : Thread nD τ).loc main_arg11)
/-- Argument 12. -/
abbrev a12 (c : Dev nD) : FVec Ideal S1024x5632 .f32 := m ((c : Thread nD τ).loc main_arg12)
/-- Argument 13. -/
abbrev a13 (c : Dev nD) : FVec Ideal S2816x1024 .f32 := m ((c : Thread nD τ).loc main_arg13)
/-- Argument 14. -/
abbrev a14 (c : Dev nD) : FVec Ideal S1024 .f32 := m ((c : Thread nD τ).loc main_arg14)
/-- Argument 15. -/
abbrev a15 (c : Dev nD) : FVec Ideal S1024 .f32 := m ((c : Thread nD τ).loc main_arg15)
/-- Argument 16. -/
abbrev a16 (c : Dev nD) : FVec Ideal S1024x1024 .f32 := m ((c : Thread nD τ).loc main_arg16)
/-- Argument 17. -/
abbrev a17 (c : Dev nD) : FVec Ideal S256x1024 .f32 := m ((c : Thread nD τ).loc main_arg17)
/-- Argument 18. -/
abbrev a18 (c : Dev nD) : FVec Ideal S1024 .f32 := m ((c : Thread nD τ).loc main_arg18)

/-! ## The windows -/

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = t.val ∧ win0_2.index t 1 = 0 := by decide +kernel
theorem index3 : ∀ t : Fin grid0.N, win0_3.index t 0 = t.val ∧ win0_3.index t 1 = 0 := by decide +kernel
theorem index4 : ∀ t : Fin grid0.N, win0_4.index t 0 = t.val ∧ win0_4.index t 1 = 0 := by decide +kernel
theorem index5 : ∀ t : Fin grid0.N, win0_5.index t 0 = t.val ∧ win0_5.index t 1 = 0 := by decide +kernel
theorem index6 : ∀ t : Fin grid0.N, win0_6.index t 0 = 0 ∧ win0_6.index t 1 = 0 := by decide +kernel
theorem index7 : ∀ t : Fin grid0.N, win0_7.index t 0 = 0 ∧ win0_7.index t 1 = 0 := by decide +kernel
theorem index8 : ∀ t : Fin grid0.N, win0_8.index t 0 = 0 ∧ win0_8.index t 1 = 0 := by decide +kernel
theorem index9 : ∀ t : Fin grid0.N, win0_9.index t 0 = 0 ∧ win0_9.index t 1 = 0 := by decide +kernel
theorem index10 : ∀ t : Fin grid0.N, win0_10.index t 0 = 0 ∧ win0_10.index t 1 = 0 := by decide +kernel
theorem index11 : ∀ t : Fin grid0.N, win0_11.index t 0 = 0 ∧ win0_11.index t 1 = 0 := by decide +kernel
theorem index12 : ∀ t : Fin grid0.N, win0_12.index t 0 = 0 ∧ win0_12.index t 1 = 0 := by decide +kernel
theorem index13 : ∀ t : Fin grid0.N, win0_13.index t 0 = 0 ∧ win0_13.index t 1 = 0 := by decide +kernel
theorem index14 : ∀ t : Fin grid0.N, win0_14.index t 0 = 0 ∧ win0_14.index t 1 = 0 := by decide +kernel
theorem index15 : ∀ t : Fin grid0.N, win0_15.index t 0 = 0 ∧ win0_15.index t 1 = 0 := by decide +kernel
theorem index16 : ∀ t : Fin grid0.N, win0_16.index t 0 = 0 ∧ win0_16.index t 1 = 0 := by decide +kernel
theorem index17 : ∀ t : Fin grid0.N, win0_17.index t 0 = 0 ∧ win0_17.index t 1 = 0 := by decide +kernel
theorem index18 : ∀ t : Fin grid0.N, win0_18.index t 0 = 0 ∧ win0_18.index t 1 = 0 := by decide +kernel
theorem index19 : ∀ t : Fin grid0.N, win0_19.index t 0 = t.val ∧ win0_19.index t 1 = 0 := by decide +kernel

theorem host0 (c : Dev nD) (i : Fin 32768) (l : Fin 1024) : V m c main_arg0 (ix2 i l) = a0 m c (ix2 i l) :=
  congrFun (V_main_arg0 m c) (ix2 i l)

theorem blk0 (c : Dev nD) (t : Fin cfg0.N) (x : Fin 512) (l : Fin 1024) (i : Fin 32768) (h : i.val = t.val * 512 + x.val) :
    (iblk m c 0 t : S512x1024.Idx → Elt Ideal .f32) (ix2 x l) = a0 m c (ix2 i l) := by
  refine Eq.trans ?_ (host0 m c i l)
  show V m c main_arg0 ((win0_0.rect t).emb (ix2 x l)) = _
  refine congrArg (V m c main_arg0) (funext fun a => Fin.ext ((Pipeline.Window.rect_emb_val win0_0 t _ a).trans ?_))
  match a with
  | ⟨0, _⟩ => exact (congrArg (· * 512 + x.val) (index0 t).1).trans h.symm
  | ⟨1, _⟩ => exact (congrArg (· * 1024 + l.val) (index0 t).2).trans (by show 0 * 1024 + l.val = l.val; omega)

theorem host1 (c : Dev nD) (i : Fin 32768) (l : Fin 512) : V m c main_v0 (ix2 i l) = a1 m c (ix2 i l) := by
  show StableHlo.after hostOps0 _ (Proc.devRef .tc main_v0) (ix2 i l) = _
  after_reads_at

theorem blk1 (c : Dev nD) (t : Fin cfg0.N) (x : Fin 512) (l : Fin 512) (i : Fin 32768) (h : i.val = t.val * 512 + x.val) :
    (iblk m c 1 t : S512x512.Idx → Elt Ideal .bf16) (ix2 x l) = a1 m c (ix2 i l) := by
  refine Eq.trans ?_ (host1 m c i l)
  show V m c main_v0 ((win0_1.rect t).emb (ix2 x l)) = _
  refine congrArg (V m c main_v0) (funext fun a => Fin.ext ((Pipeline.Window.rect_emb_val win0_1 t _ a).trans ?_))
  match a with
  | ⟨0, _⟩ => exact (congrArg (· * 512 + x.val) (index1 t).1).trans h.symm
  | ⟨1, _⟩ => exact (congrArg (· * 512 + l.val) (index1 t).2).trans (by show 0 * 512 + l.val = l.val; omega)

theorem host2 (c : Dev nD) (i : Fin 32768) (l : Fin 1024) : V m c main_arg2 (ix2 i l) = a2 m c (ix2 i l) :=
  congrFun (V_main_arg2 m c) (ix2 i l)

theorem blk2 (c : Dev nD) (t : Fin cfg0.N) (x : Fin 512) (l : Fin 1024) (i : Fin 32768) (h : i.val = t.val * 512 + x.val) :
    (iblk m c 2 t : S512x1024.Idx → Elt Ideal .f32) (ix2 x l) = a2 m c (ix2 i l) := by
  refine Eq.trans ?_ (host2 m c i l)
  show V m c main_arg2 ((win0_2.rect t).emb (ix2 x l)) = _
  refine congrArg (V m c main_arg2) (funext fun a => Fin.ext ((Pipeline.Window.rect_emb_val win0_2 t _ a).trans ?_))
  match a with
  | ⟨0, _⟩ => exact (congrArg (· * 512 + x.val) (index2 t).1).trans h.symm
  | ⟨1, _⟩ => exact (congrArg (· * 1024 + l.val) (index2 t).2).trans (by show 0 * 1024 + l.val = l.val; omega)

theorem host3 (c : Dev nD) (i : Fin 32768) (l : Fin 1024) : V m c main_v1 (ix2 i l) = a3 m c (ix2 i l) := by
  show StableHlo.after hostOps0 _ (Proc.devRef .tc main_v1) (ix2 i l) = _
  after_reads_at

theorem blk3 (c : Dev nD) (t : Fin cfg0.N) (x : Fin 512) (l : Fin 1024) (i : Fin 32768) (h : i.val = t.val * 512 + x.val) :
    (iblk m c 3 t : S512x1024.Idx → Elt Ideal .bf16) (ix2 x l) = a3 m c (ix2 i l) := by
  refine Eq.trans ?_ (host3 m c i l)
  show V m c main_v1 ((win0_3.rect t).emb (ix2 x l)) = _
  refine congrArg (V m c main_v1) (funext fun a => Fin.ext ((Pipeline.Window.rect_emb_val win0_3 t _ a).trans ?_))
  match a with
  | ⟨0, _⟩ => exact (congrArg (· * 512 + x.val) (index3 t).1).trans h.symm
  | ⟨1, _⟩ => exact (congrArg (· * 1024 + l.val) (index3 t).2).trans (by show 0 * 1024 + l.val = l.val; omega)

theorem host4 (c : Dev nD) (i : Fin 32768) (l : Fin 2048) : V m c main_v2 (ix2 i l) = a4 m c (ix2 i l) := by
  show StableHlo.after hostOps0 _ (Proc.devRef .tc main_v2) (ix2 i l) = _
  after_reads_at

theorem blk4 (c : Dev nD) (t : Fin cfg0.N) (x : Fin 512) (l : Fin 2048) (i : Fin 32768) (h : i.val = t.val * 512 + x.val) :
    (iblk m c 4 t : S512x2048.Idx → Elt Ideal .bf16) (ix2 x l) = a4 m c (ix2 i l) := by
  refine Eq.trans ?_ (host4 m c i l)
  show V m c main_v2 ((win0_4.rect t).emb (ix2 x l)) = _
  refine congrArg (V m c main_v2) (funext fun a => Fin.ext ((Pipeline.Window.rect_emb_val win0_4 t _ a).trans ?_))
  match a with
  | ⟨0, _⟩ => exact (congrArg (· * 512 + x.val) (index4 t).1).trans h.symm
  | ⟨1, _⟩ => exact (congrArg (· * 2048 + l.val) (index4 t).2).trans (by show 0 * 2048 + l.val = l.val; omega)

theorem host5 (c : Dev nD) (i : Fin 32768) (l : Fin 256) :
    V m c main_v10 (ix2 i l) = a5 m c (ix3 (⟨i.val / 4096, by omega⟩ : Fin 8) (⟨i.val % 4096, by omega⟩ : Fin 4096) l) := by
  have e : V m c main_v10 = shapeCast S32768x256 (a5 m c) shapeCasts_S8x4096x256_S32768x256 := by
    show StableHlo.after hostOps0 _ (Proc.devRef .tc main_v10) = _
    after_results
    rfl
  rw [e]
  pointwise []

theorem blk5 (c : Dev nD) (t : Fin cfg0.N) (x : Fin 512) (l : Fin 256) (i : Fin 32768) (h : i.val = t.val * 512 + x.val) :
    (iblk m c 5 t : S512x256.Idx → Elt Ideal .f32) (ix2 x l) = a5 m c (ix3 (⟨i.val / 4096, by omega⟩ : Fin 8) (⟨i.val % 4096, by omega⟩ : Fin 4096) l) := by
  refine Eq.trans ?_ (host5 m c i l)
  show V m c main_v10 ((win0_5.rect t).emb (ix2 x l)) = _
  refine congrArg (V m c main_v10) (funext fun a => Fin.ext ((Pipeline.Window.rect_emb_val win0_5 t _ a).trans ?_))
  match a with
  | ⟨0, _⟩ => exact (congrArg (· * 512 + x.val) (index5 t).1).trans h.symm
  | ⟨1, _⟩ => exact (congrArg (· * 256 + l.val) (index5 t).2).trans (by show 0 * 256 + l.val = l.val; omega)

theorem host6 (c : Dev nD) (l : Fin 1024) : V m c main_v11 (ix2 (0 : Fin 1) l) = a6 m c (ix1 l) := by
  have e : V m c main_v11 = shapeCast S1x1024 (a6 m c) shapeCasts_S1024_S1x1024 := by
    show StableHlo.after hostOps0 _ (Proc.devRef .tc main_v11) = _
    after_results
    rfl
  rw [e]
  pointwise []

theorem blk6 (c : Dev nD) (t : Fin cfg0.N) (l : Fin 1024) :
    (iblk m c 6 t : S1x1024.Idx → Elt Ideal .f32) (ix2 (0 : Fin 1) l) = a6 m c (ix1 l) := by
  refine Eq.trans ?_ (host6 m c l)
  show V m c main_v11 ((win0_6.rect t).emb (ix2 (0 : Fin 1) l)) = _
  refine congrArg (V m c main_v11) (funext fun a => Fin.ext ((Pipeline.Window.rect_emb_val win0_6 t _ a).trans ?_))
  match a with
  | ⟨0, _⟩ => exact congrArg (· * 1 + 0) (index6 t).1
  | ⟨1, _⟩ => exact (congrArg (· * 1024 + l.val) (index6 t).2).trans (by show 0 * 1024 + l.val = l.val; omega)

theorem host7 (c : Dev nD) (i : Fin 512) (l : Fin 1024) : V m c main_v3 (ix2 i l) = a7 m c (ix2 i l) := by
  show StableHlo.after hostOps0 _ (Proc.devRef .tc main_v3) (ix2 i l) = _
  after_reads_at

theorem blk7 (c : Dev nD) (t : Fin cfg0.N) (i : Fin 512) (l : Fin 1024) :
    (iblk m c 7 t : S512x1024.Idx → Elt Ideal .bf16) (ix2 i l) = a7 m c (ix2 i l) := by
  refine Eq.trans ?_ (host7 m c i l)
  show V m c main_v3 ((win0_7.rect t).emb (ix2 i l)) = _
  refine congrArg (V m c main_v3) (funext fun a => Fin.ext ((Pipeline.Window.rect_emb_val win0_7 t _ a).trans ?_))
  match a with
  | ⟨0, _⟩ => exact (congrArg (· * 512 + i.val) (index7 t).1).trans (by show 0 * 512 + i.val = i.val; omega)
  | ⟨1, _⟩ => exact (congrArg (· * 1024 + l.val) (index7 t).2).trans (by show 0 * 1024 + l.val = l.val; omega)

theorem host8 (c : Dev nD) (i : Fin 1024) (l : Fin 1024) : V m c main_v4 (ix2 i l) = a8 m c (ix2 i l) := by
  show StableHlo.after hostOps0 _ (Proc.devRef .tc main_v4) (ix2 i l) = _
  after_reads_at

theorem blk8 (c : Dev nD) (t : Fin cfg0.N) (i : Fin 1024) (l : Fin 1024) :
    (iblk m c 8 t : S1024x1024.Idx → Elt Ideal .bf16) (ix2 i l) = a8 m c (ix2 i l) := by
  refine Eq.trans ?_ (host8 m c i l)
  show V m c main_v4 ((win0_8.rect t).emb (ix2 i l)) = _
  refine congrArg (V m c main_v4) (funext fun a => Fin.ext ((Pipeline.Window.rect_emb_val win0_8 t _ a).trans ?_))
  match a with
  | ⟨0, _⟩ => exact (congrArg (· * 1024 + i.val) (index8 t).1).trans (by show 0 * 1024 + i.val = i.val; omega)
  | ⟨1, _⟩ => exact (congrArg (· * 1024 + l.val) (index8 t).2).trans (by show 0 * 1024 + l.val = l.val; omega)

theorem host9 (c : Dev nD) (i : Fin 1024) (l : Fin 1024) : V m c main_v5 (ix2 i l) = a9 m c (ix2 i l) := by
  show StableHlo.after hostOps0 _ (Proc.devRef .tc main_v5) (ix2 i l) = _
  after_reads_at

theorem blk9 (c : Dev nD) (t : Fin cfg0.N) (i : Fin 1024) (l : Fin 1024) :
    (iblk m c 9 t : S1024x1024.Idx → Elt Ideal .bf16) (ix2 i l) = a9 m c (ix2 i l) := by
  refine Eq.trans ?_ (host9 m c i l)
  show V m c main_v5 ((win0_9.rect t).emb (ix2 i l)) = _
  refine congrArg (V m c main_v5) (funext fun a => Fin.ext ((Pipeline.Window.rect_emb_val win0_9 t _ a).trans ?_))
  match a with
  | ⟨0, _⟩ => exact (congrArg (· * 1024 + i.val) (index9 t).1).trans (by show 0 * 1024 + i.val = i.val; omega)
  | ⟨1, _⟩ => exact (congrArg (· * 1024 + l.val) (index9 t).2).trans (by show 0 * 1024 + l.val = l.val; omega)

theorem host10 (c : Dev nD) (l : Fin 1024) : V m c main_v12 (ix2 (0 : Fin 1) l) = a10 m c (ix1 l) := by
  have e : V m c main_v12 = shapeCast S1x1024 (a10 m c) shapeCasts_S1024_S1x1024 := by
    show StableHlo.after hostOps0 _ (Proc.devRef .tc main_v12) = _
    after_results
    rfl
  rw [e]
  pointwise []

theorem blk10 (c : Dev nD) (t : Fin cfg0.N) (l : Fin 1024) :
    (iblk m c 10 t : S1x1024.Idx → Elt Ideal .f32) (ix2 (0 : Fin 1) l) = a10 m c (ix1 l) := by
  refine Eq.trans ?_ (host10 m c l)
  show V m c main_v12 ((win0_10.rect t).emb (ix2 (0 : Fin 1) l)) = _
  refine congrArg (V m c main_v12) (funext fun a => Fin.ext ((Pipeline.Window.rect_emb_val win0_10 t _ a).trans ?_))
  match a with
  | ⟨0, _⟩ => exact congrArg (· * 1 + 0) (index10 t).1
  | ⟨1, _⟩ => exact (congrArg (· * 1024 + l.val) (index10 t).2).trans (by show 0 * 1024 + l.val = l.val; omega)

theorem host11 (c : Dev nD) (l : Fin 1024) : V m c main_v13 (ix2 (0 : Fin 1) l) = a11 m c (ix1 l) := by
  have e : V m c main_v13 = shapeCast S1x1024 (a11 m c) shapeCasts_S1024_S1x1024 := by
    show StableHlo.after hostOps0 _ (Proc.devRef .tc main_v13) = _
    after_results
    rfl
  rw [e]
  pointwise []

theorem blk11 (c : Dev nD) (t : Fin cfg0.N) (l : Fin 1024) :
    (iblk m c 11 t : S1x1024.Idx → Elt Ideal .f32) (ix2 (0 : Fin 1) l) = a11 m c (ix1 l) := by
  refine Eq.trans ?_ (host11 m c l)
  show V m c main_v13 ((win0_11.rect t).emb (ix2 (0 : Fin 1) l)) = _
  refine congrArg (V m c main_v13) (funext fun a => Fin.ext ((Pipeline.Window.rect_emb_val win0_11 t _ a).trans ?_))
  match a with
  | ⟨0, _⟩ => exact congrArg (· * 1 + 0) (index11 t).1
  | ⟨1, _⟩ => exact (congrArg (· * 1024 + l.val) (index11 t).2).trans (by show 0 * 1024 + l.val = l.val; omega)

theorem host12 (c : Dev nD) (i : Fin 1024) (l : Fin 5632) : V m c main_v6 (ix2 i l) = a12 m c (ix2 i l) := by
  show StableHlo.after hostOps0 _ (Proc.devRef .tc main_v6) (ix2 i l) = _
  after_reads_at

theorem blk12 (c : Dev nD) (t : Fin cfg0.N) (i : Fin 1024) (l : Fin 5632) :
    (iblk m c 12 t : S1024x5632.Idx → Elt Ideal .bf16) (ix2 i l) = a12 m c (ix2 i l) := by
  refine Eq.trans ?_ (host12 m c i l)
  show V m c main_v6 ((win0_12.rect t).emb (ix2 i l)) = _
  refine congrArg (V m c main_v6) (funext fun a => Fin.ext ((Pipeline.Window.rect_emb_val win0_12 t _ a).trans ?_))
  match a with
  | ⟨0, _⟩ => exact (congrArg (· * 1024 + i.val) (index12 t).1).trans (by show 0 * 1024 + i.val = i.val; omega)
  | ⟨1, _⟩ => exact (congrArg (· * 5632 + l.val) (index12 t).2).trans (by show 0 * 5632 + l.val = l.val; omega)

theorem host13 (c : Dev nD) (i : Fin 2816) (l : Fin 1024) : V m c main_v7 (ix2 i l) = a13 m c (ix2 i l) := by
  show StableHlo.after hostOps0 _ (Proc.devRef .tc main_v7) (ix2 i l) = _
  after_reads_at

theorem blk13 (c : Dev nD) (t : Fin cfg0.N) (i : Fin 2816) (l : Fin 1024) :
    (iblk m c 13 t : S2816x1024.Idx → Elt Ideal .bf16) (ix2 i l) = a13 m c (ix2 i l) := by
  refine Eq.trans ?_ (host13 m c i l)
  show V m c main_v7 ((win0_13.rect t).emb (ix2 i l)) = _
  refine congrArg (V m c main_v7) (funext fun a => Fin.ext ((Pipeline.Window.rect_emb_val win0_13 t _ a).trans ?_))
  match a with
  | ⟨0, _⟩ => exact (congrArg (· * 2816 + i.val) (index13 t).1).trans (by show 0 * 2816 + i.val = i.val; omega)
  | ⟨1, _⟩ => exact (congrArg (· * 1024 + l.val) (index13 t).2).trans (by show 0 * 1024 + l.val = l.val; omega)

theorem host14 (c : Dev nD) (l : Fin 1024) : V m c main_v14 (ix2 (0 : Fin 1) l) = a14 m c (ix1 l) := by
  have e : V m c main_v14 = shapeCast S1x1024 (a14 m c) shapeCasts_S1024_S1x1024 := by
    show StableHlo.after hostOps0 _ (Proc.devRef .tc main_v14) = _
    after_results
    rfl
  rw [e]
  pointwise []

theorem blk14 (c : Dev nD) (t : Fin cfg0.N) (l : Fin 1024) :
    (iblk m c 14 t : S1x1024.Idx → Elt Ideal .f32) (ix2 (0 : Fin 1) l) = a14 m c (ix1 l) := by
  refine Eq.trans ?_ (host14 m c l)
  show V m c main_v14 ((win0_14.rect t).emb (ix2 (0 : Fin 1) l)) = _
  refine congrArg (V m c main_v14) (funext fun a => Fin.ext ((Pipeline.Window.rect_emb_val win0_14 t _ a).trans ?_))
  match a with
  | ⟨0, _⟩ => exact congrArg (· * 1 + 0) (index14 t).1
  | ⟨1, _⟩ => exact (congrArg (· * 1024 + l.val) (index14 t).2).trans (by show 0 * 1024 + l.val = l.val; omega)

theorem host15 (c : Dev nD) (l : Fin 1024) : V m c main_v15 (ix2 (0 : Fin 1) l) = a15 m c (ix1 l) := by
  have e : V m c main_v15 = shapeCast S1x1024 (a15 m c) shapeCasts_S1024_S1x1024 := by
    show StableHlo.after hostOps0 _ (Proc.devRef .tc main_v15) = _
    after_results
    rfl
  rw [e]
  pointwise []

theorem blk15 (c : Dev nD) (t : Fin cfg0.N) (l : Fin 1024) :
    (iblk m c 15 t : S1x1024.Idx → Elt Ideal .f32) (ix2 (0 : Fin 1) l) = a15 m c (ix1 l) := by
  refine Eq.trans ?_ (host15 m c l)
  show V m c main_v15 ((win0_15.rect t).emb (ix2 (0 : Fin 1) l)) = _
  refine congrArg (V m c main_v15) (funext fun a => Fin.ext ((Pipeline.Window.rect_emb_val win0_15 t _ a).trans ?_))
  match a with
  | ⟨0, _⟩ => exact congrArg (· * 1 + 0) (index15 t).1
  | ⟨1, _⟩ => exact (congrArg (· * 1024 + l.val) (index15 t).2).trans (by show 0 * 1024 + l.val = l.val; omega)

theorem host16 (c : Dev nD) (i : Fin 1024) (l : Fin 1024) : V m c main_v8 (ix2 i l) = a16 m c (ix2 i l) := by
  show StableHlo.after hostOps0 _ (Proc.devRef .tc main_v8) (ix2 i l) = _
  after_reads_at

theorem blk16 (c : Dev nD) (t : Fin cfg0.N) (i : Fin 1024) (l : Fin 1024) :
    (iblk m c 16 t : S1024x1024.Idx → Elt Ideal .bf16) (ix2 i l) = a16 m c (ix2 i l) := by
  refine Eq.trans ?_ (host16 m c i l)
  show V m c main_v8 ((win0_16.rect t).emb (ix2 i l)) = _
  refine congrArg (V m c main_v8) (funext fun a => Fin.ext ((Pipeline.Window.rect_emb_val win0_16 t _ a).trans ?_))
  match a with
  | ⟨0, _⟩ => exact (congrArg (· * 1024 + i.val) (index16 t).1).trans (by show 0 * 1024 + i.val = i.val; omega)
  | ⟨1, _⟩ => exact (congrArg (· * 1024 + l.val) (index16 t).2).trans (by show 0 * 1024 + l.val = l.val; omega)

theorem host17 (c : Dev nD) (i : Fin 256) (l : Fin 1024) : V m c main_v9 (ix2 i l) = a17 m c (ix2 i l) := by
  show StableHlo.after hostOps0 _ (Proc.devRef .tc main_v9) (ix2 i l) = _
  after_reads_at

theorem blk17 (c : Dev nD) (t : Fin cfg0.N) (i : Fin 256) (l : Fin 1024) :
    (iblk m c 17 t : S256x1024.Idx → Elt Ideal .bf16) (ix2 i l) = a17 m c (ix2 i l) := by
  refine Eq.trans ?_ (host17 m c i l)
  show V m c main_v9 ((win0_17.rect t).emb (ix2 i l)) = _
  refine congrArg (V m c main_v9) (funext fun a => Fin.ext ((Pipeline.Window.rect_emb_val win0_17 t _ a).trans ?_))
  match a with
  | ⟨0, _⟩ => exact (congrArg (· * 256 + i.val) (index17 t).1).trans (by show 0 * 256 + i.val = i.val; omega)
  | ⟨1, _⟩ => exact (congrArg (· * 1024 + l.val) (index17 t).2).trans (by show 0 * 1024 + l.val = l.val; omega)

theorem host18 (c : Dev nD) (l : Fin 1024) : V m c main_v16 (ix2 (0 : Fin 1) l) = a18 m c (ix1 l) := by
  have e : V m c main_v16 = shapeCast S1x1024 (a18 m c) shapeCasts_S1024_S1x1024 := by
    show StableHlo.after hostOps0 _ (Proc.devRef .tc main_v16) = _
    after_results
    rfl
  rw [e]
  pointwise []

theorem blk18 (c : Dev nD) (t : Fin cfg0.N) (l : Fin 1024) :
    (iblk m c 18 t : S1x1024.Idx → Elt Ideal .f32) (ix2 (0 : Fin 1) l) = a18 m c (ix1 l) := by
  refine Eq.trans ?_ (host18 m c l)
  show V m c main_v16 ((win0_18.rect t).emb (ix2 (0 : Fin 1) l)) = _
  refine congrArg (V m c main_v16) (funext fun a => Fin.ext ((Pipeline.Window.rect_emb_val win0_18 t _ a).trans ?_))
  match a with
  | ⟨0, _⟩ => exact congrArg (· * 1 + 0) (index18 t).1
  | ⟨1, _⟩ => exact (congrArg (· * 1024 + l.val) (index18 t).2).trans (by show 0 * 1024 + l.val = l.val; omega)

/-! ## The result -/

/-- The final array at a row and a column is the block of the row's tile. -/
theorem arr_block (c : Dev nD) (r : Fin 32768) (l : Fin 1024) (t : Fin cfg0.N) (x : Fin 512) (h : r.val = t.val * 512 + x.val) :
    (dats m 0 c).arrAt 19 cfg0.N (ix2 r l)
      = blockT (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (ix2 x l) := by
  have hb := congrFun (Value.blocks19 m c t ((by decide +kernel : ∀ t : Fin grid0.N, win0_19.flush t = true) t)) (ix2 x l)
  rw [Value.flushed19, out_eq] at hb
  refine Eq.trans ?_ hb
  show (dats m 0 c).arrAt 19 cfg0.N _ = (dats m 0 c).arrAt 19 cfg0.N ((win0_19.rect t).emb (ix2 x l))
  refine congrArg ((dats m 0 c).arrAt 19 cfg0.N) (funext fun a => Fin.ext ((Pipeline.Window.rect_emb_val win0_19 t _ a).trans ?_).symm)
  match a with
  | ⟨0, _⟩ => exact (congrArg (· * 512 + x.val) (index19 t).1).trans h.symm
  | ⟨1, _⟩ => exact (congrArg (· * 1024 + l.val) (index19 t).2).trans (by show 0 * 1024 + l.val = l.val; omega)

/-- Row `r` of the layer's result, from the arguments' rows. -/
def resultRow (x0 : FVec Ideal S32768x1024 .f32) (x1 : FVec Ideal S32768x512 .f32) (x2 x3 : FVec Ideal S32768x1024 .f32) (x4 : FVec Ideal S32768x2048 .f32)
    (x5 : FVec Ideal S8x4096x256 .f32) (x6 : FVec Ideal S1024 .f32) (x7 : FVec Ideal S512x1024 .f32) (x8 x9 : FVec Ideal S1024x1024 .f32)
    (x10 x11 : FVec Ideal S1024 .f32) (x12 : FVec Ideal S1024x5632 .f32) (x13 : FVec Ideal S2816x1024 .f32) (x14 x15 : FVec Ideal S1024 .f32)
    (x16 : FVec Ideal S1024x1024 .f32) (x17 : FVec Ideal S256x1024 .f32) (x18 : FVec Ideal S1024 .f32) (r : Fin 32768) (j : Fin 1024) : EReal :=
  ple (ffn (mix (fun j => x0 (ix2 r j)) (fun j => x1 (ix2 r j)) (fun j => x2 (ix2 r j)) (fun j => x3 (ix2 r j))
      (fun j => x4 (ix2 r j)) (fun j => x6 (ix1 j)) (fun i k => x7 (ix2 i k)) (fun i k => x8 (ix2 i k))
      (fun i k => x9 (ix2 i k)) (fun j => x10 (ix1 j)))
    (fun j => x11 (ix1 j)) (fun i k => x12 (ix2 i k)) (fun i k => x13 (ix2 i k)) (fun j => x14 (ix1 j)))
    (fun j => x5 (ix3 (⟨r.val / 4096, by omega⟩ : Fin 8) (⟨r.val % 4096, by omega⟩ : Fin 4096) j)) (fun j => x15 (ix1 j))
    (fun i k => x16 (ix2 i k)) (fun i k => x17 (ix2 i k)) (fun j => x18 (ix1 j)) j

/-- THE KERNEL'S RESULT at a row and a column, from its arguments. -/
theorem out_apply (c : Dev nD) (r : Fin 32768) (l : Fin 1024) :
    (dats m 0 c).arrAt 19 cfg0.N (ix2 r l) = resultRow (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) r l := by
  have hr := r.isLt
  have ht : r.val / 512 < cfg0.N := by show r.val / 512 < 64; omega
  have hx : ∀ s : Fin 2, ∀ x : Fin 256, s.val = r.val % 512 / 256 → x.val = r.val % 512 % 256 →
      r.val = (⟨r.val / 512, ht⟩ : Fin cfg0.N).val * 512 + (trow s x).val := by
    intro s x hs hx
    show r.val = r.val / 512 * 512 + (256 * s.val + x.val)
    omega
  have hR := hx ⟨r.val % 512 / 256, by omega⟩ ⟨r.val % 512 % 256, by omega⟩ rfl rfl
  rw [arr_block m c r l ⟨r.val / 512, ht⟩ ⟨r.val % 512, by omega⟩ (by dsimp only; omega)]
  unfold blockT
  refine (stored_apply _ _ _ _ _ _ _ _ _ _ _ _ _ _ _ _ _ _ _ ⟨r.val % 512 / 256, by omega⟩ ⟨r.val % 512 % 256, by omega⟩ l).trans ?_
  unfold resultRow
  simp only [blk0 m c _ _ _ r hR, blk1 m c _ _ _ r hR, blk2 m c _ _ _ r hR, blk3 m c _ _ _ r hR, blk4 m c _ _ _ r hR, blk5 m c _ _ _ r hR, blk6 m c, blk7 m c, blk8 m c, blk9 m c, blk10 m c, blk11 m c, blk12 m c, blk13 m c, blk14 m c, blk15 m c, blk16 m c, blk17 m c, blk18 m c]

end Cert.MergeIdeal.Row
end
-- ==== Proof.MergeRef.lean ====
module

public import proofs.«01_k».proof.Proof.Gen.MergeReferenceIdeal.Read
public import proofs.«01_k».proof.Proof.MergeOut
public import Idealize.ShloMosaic.Lib.Pointwise

@[expose] public section

set_option maxRecDepth 16384

noncomputable section

namespace Cert.MergeReferenceIdeal.Row

open Cert.RowMath
open Cert.MergeReferenceIdeal Cert.MergeReferenceIdeal.Gen Cert.MergeReferenceIdeal.Read Idealize.ShloMosaic Idealize.ShloMosaic.TcCoe Idealize.SL.Sem

theorem ofBits_one : Ideal.ofBits .f32 0x3F800000#32 = (1 : EReal) := by
  simp [Ideal.ofBits, Ideal.ieee]
  rw [← EReal.coe_mul]; norm_num

/-- The reference's root mean square norm of the rows. -/
def normR (x : FVec Ideal S32768x1024 .f32) (g : FVec Ideal S1024 .f32) : FVec Ideal S32768x1024 .f32 :=
  mulf (mulf x (broadcastInDim S32768x1024 ![0, 1] bcast_S32768x1_S32768x1024_0_1 (Host.rsqrt (addf (Host.divf
    (broadcastInDim S32768x1 ![0] bcast_S32768_S32768x1_0 (Host.reduceAdd (mulf x x) (constant S_ .f32 0x00000000#32) reducesTo_S32768x1024_S32768_d1 h_S_))
    (broadcastInDim S32768x1 ![] bcast_S_S32768x1 (constant S_ .f32 0x44800000#32))) (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 g))

/-- The reference's sigmoid. -/
def sgmR {s : Shape} (h : S_.BroadcastsInDim s (![] : Fin 0 → Fin s.rank)) (x : FVec Ideal s .f32) : FVec Ideal s .f32 :=
  Host.divf (broadcastInDim s ![] h (constant S_ .f32 0x3F800000#32)) (addf (broadcastInDim s ![] h (constant S_ .f32 0x3F800000#32)) (Host.exp (Host.negf x)))

theorem sgmR_apply {s : Shape} (h : S_.BroadcastsInDim s (![] : Fin 0 → Fin s.rank)) (x : FVec Ideal s .f32) (i : s.Idx) : sgmR h x i = Ideal.logistic (x i) := by
  show Ideal.div (Ideal.ofBits .f32 0x3F800000#32) (Ideal.ofBits .f32 0x3F800000#32 + Ideal.exp (-(x i))) = _
  rw [ofBits_one]
  rfl

theorem normR_apply (x : FVec Ideal S32768x1024 .f32) (g : FVec Ideal S1024 .f32) (r : Fin 32768) (j : Fin 1024) :
    normR x g (ix2 r j) = norm (fun j => x (ix2 r j)) (fun j => g (ix1 j)) j := by
  pointwise [normR]
  rfl

/-- The reference's heads. -/
theorem v16_apply (x2 : FVec Ideal S32768x1024 .f32) (x6 : FVec Ideal S1024 .f32) (r : Fin 32768) (j : Fin 1024) :
    val_main_v16 (F := Ideal) x2 x6 (ix2 r j)
      = x2 (ix2 r j) * fac (Ideal.ofBits .f32 0x43800000#32) (fun k : Fin 256 => x2 (ix2 r (hcol j k))) * x6 (ix1 j) := by
  pointwise [val_main_v16, val_main_v15, val_main_v14, val_main_v13, val_main_v12, val_main_v11, val_main_v10, val_main_v9, val_main_v8, val_main_v7, val_main_cst_1,
    val_main_v6, val_main_v5, val_main_cst_0, val_main_v4, val_main_v3, val_main_cst, val_main_v2, val_main_v1]
  have e : ∀ (k : Fin 256) (h : j.val / 256 * 256 + k.val < 1024), (⟨j.val / 256 * 256 + k.val, h⟩ : Fin 1024) = hcol j k :=
    fun k h => Fin.ext (by show j.val / 256 * 256 + k.val = 256 * (j.val / 256) + k.val; omega)
  simp only [e]
  rfl

theorem dot512x1024_apply (x : FVec Ideal S32768x512 .f32) (w : FVec Ideal S512x1024 .f32) (r : Fin 32768) (j : Fin 1024) :
    Host.dotGeneral (F := Ideal) dot_S32768x512_S512x1024_S32768x1024_1_0_0_1_n_n none x w (ix2 r j)
      = lin (fun i : Fin 512 => x (ix2 r i)) (fun (i : Fin 512) (j : Fin 1024) => w (ix2 i j)) j := by
  pointwise []
  rfl

theorem dot1024x1024_apply (x : FVec Ideal S32768x1024 .f32) (w : FVec Ideal S1024x1024 .f32) (r : Fin 32768) (j : Fin 1024) :
    Host.dotGeneral (F := Ideal) dot_S32768x1024_S1024x1024_S32768x1024_1_0_0_1_n_n none x w (ix2 r j)
      = lin (fun i : Fin 1024 => x (ix2 r i)) (fun (i : Fin 1024) (j : Fin 1024) => w (ix2 i j)) j := by
  pointwise []
  rfl

theorem dot1024x5632_apply (x : FVec Ideal S32768x1024 .f32) (w : FVec Ideal S1024x5632 .f32) (r : Fin 32768) (j : Fin 5632) :
    Host.dotGeneral (F := Ideal) dot_S32768x1024_S1024x5632_S32768x5632_1_0_0_1_n_n none x w (ix2 r j)
      = lin (fun i : Fin 1024 => x (ix2 r i)) (fun (i : Fin 1024) (j : Fin 5632) => w (ix2 i j)) j := by
  pointwise []
  rfl

theorem dot2816x1024_apply (x : FVec Ideal S32768x2816 .f32) (w : FVec Ideal S2816x1024 .f32) (r : Fin 32768) (j : Fin 1024) :
    Host.dotGeneral (F := Ideal) dot_S32768x2816_S2816x1024_S32768x1024_1_0_0_1_n_n none x w (ix2 r j)
      = lin (fun i : Fin 2816 => x (ix2 r i)) (fun (i : Fin 2816) (j : Fin 1024) => w (ix2 i j)) j := by
  pointwise []
  rfl

theorem dot256x1024_apply (x : FVec Ideal S32768x256 .f32) (w : FVec Ideal S256x1024 .f32) (r : Fin 32768) (j : Fin 1024) :
    Host.dotGeneral (F := Ideal) dot_S32768x256_S256x1024_S32768x1024_1_0_0_1_n_n none x w (ix2 r j)
      = lin (fun i : Fin 256 => x (ix2 r i)) (fun (i : Fin 256) (j : Fin 1024) => w (ix2 i j)) j := by
  pointwise []
  rfl

theorem v25_apply (x4 : FVec Ideal S32768x2048 .f32) (r : Fin 32768) (j : Fin 1024) :
    val_main_v25 (F := Ideal) x4 (ix2 r j) = x4 (ix2 r (⟨j.val, by omega⟩ : Fin 2048)) := by
  pointwise [val_main_v25]

theorem v33_apply (x4 : FVec Ideal S32768x2048 .f32) (r : Fin 32768) (j : Fin 1024) :
    val_main_v33 (F := Ideal) x4 (ix2 r j) = x4 (ix2 r (⟨1024 + j.val, by omega⟩ : Fin 2048)) := by
  pointwise [val_main_v33]

theorem v112_apply (x5 : FVec Ideal S8x4096x256 .f32) (r : Fin 32768) (l : Fin 256) :
    val_main_v112 (F := Ideal) x5 (ix2 r l) = x5 (ix3 (⟨r.val / 4096, by omega⟩ : Fin 8) (⟨r.val % 4096, by omega⟩ : Fin 4096) l) := by
  pointwise [val_main_v112]

/-- The gated hidden rows. -/
def hiddenR (z : FVec Ideal S32768x5632 .f32) : FVec Ideal S32768x2816 .f32 :=
  mulf (mulf (extractStridedSlice S32768x2816 ![0, 0] z slices_S32768x5632_S32768x2816_0_0)
    (sgmR bcast_S_S32768x2816 (extractStridedSlice S32768x2816 ![0, 0] z slices_S32768x5632_S32768x2816_0_0)))
    (extractStridedSlice S32768x2816 ![0, 2816] z slices_S32768x5632_S32768x2816_0_2816)

theorem hiddenR_apply (z : FVec Ideal S32768x5632 .f32) (r : Fin 32768) (k : Fin 2816) :
    hiddenR z (ix2 r k) = z (ix2 r (⟨k.val, by omega⟩ : Fin 5632)) * Ideal.logistic (z (ix2 r (⟨k.val, by omega⟩ : Fin 5632)))
      * z (ix2 r (⟨2816 + k.val, by omega⟩ : Fin 5632)) := by
  pointwise [hiddenR]
  rw [sgmR_apply]
  pointwise []

variable (x0 : FVec Ideal S32768x1024 .f32) (x1 : FVec Ideal S32768x512 .f32) (x2 x3 : FVec Ideal S32768x1024 .f32) (x4 : FVec Ideal S32768x2048 .f32)
    (x5 : FVec Ideal S8x4096x256 .f32) (x6 : FVec Ideal S1024 .f32) (x7 : FVec Ideal S512x1024 .f32) (x8 x9 : FVec Ideal S1024x1024 .f32)
    (x10 x11 : FVec Ideal S1024 .f32) (x12 : FVec Ideal S1024x5632 .f32) (x13 : FVec Ideal S2816x1024 .f32) (x14 x15 : FVec Ideal S1024 .f32)
    (x16 : FVec Ideal S1024x1024 .f32) (x17 : FVec Ideal S256x1024 .f32) (x18 : FVec Ideal S1024 .f32)

/-- The gated heads. -/
theorem v23_apply (r : Fin 32768) (j : Fin 1024) :
    val_main_v23 (F := Ideal) x2 x3 x6 (ix2 r j) = heads (fun j => x2 (ix2 r j)) (fun j => x6 (ix1 j)) (fun j => x3 (ix2 r j)) j := by
  show val_main_v16 (F := Ideal) x2 x6 (ix2 r j) * sgmR bcast_S_S32768x1024 x3 (ix2 r j) = _
  rw [v16_apply, sgmR_apply]
  rfl

/-- The merged rows. -/
theorem v41_apply (r : Fin 32768) (j : Fin 1024) :
    val_main_v41 (F := Ideal) x1 x2 x3 x4 x6 x7 x8 (ix2 r j)
      = merged (lin (fun j : Fin 512 => x1 (ix2 r j)) (fun i k => x7 (ix2 i k)))
        (lin (heads (fun j => x2 (ix2 r j)) (fun j => x6 (ix1 j)) (fun j => x3 (ix2 r j))) (fun i k => x8 (ix2 i k))) (fun j => x4 (ix2 r j)) j := by
  show sgmR bcast_S_S32768x1024 (val_main_v25 (F := Ideal) x4) (ix2 r j)
      * Host.dotGeneral (F := Ideal) dot_S32768x512_S512x1024_S32768x1024_1_0_0_1_n_n none x1 x7 (ix2 r j)
    + sgmR bcast_S_S32768x1024 (val_main_v33 (F := Ideal) x4) (ix2 r j)
      * Host.dotGeneral (F := Ideal) dot_S32768x1024_S1024x1024_S32768x1024_1_0_0_1_n_n none (val_main_v23 (F := Ideal) x2 x3 x6) x8 (ix2 r j) = _
  rw [sgmR_apply, sgmR_apply, v25_apply, v33_apply, dot512x1024_apply, dot1024x1024_apply]
  simp only [v23_apply]
  rfl

/-- The residual rows after the merge. -/
theorem v56_apply (r : Fin 32768) (j : Fin 1024) :
    val_main_v56 (F := Ideal) x0 x1 x2 x3 x4 x6 x7 x8 x9 x10 (ix2 r j)
      = mix (fun j => x0 (ix2 r j)) (fun j => x1 (ix2 r j)) (fun j => x2 (ix2 r j)) (fun j => x3 (ix2 r j))
      (fun j => x4 (ix2 r j)) (fun j => x6 (ix1 j)) (fun i k => x7 (ix2 i k)) (fun i k => x8 (ix2 i k))
      (fun i k => x9 (ix2 i k)) (fun j => x10 (ix1 j)) j := by
  show x0 (ix2 r j) + normR (Host.dotGeneral (F := Ideal) dot_S32768x1024_S1024x1024_S32768x1024_1_0_0_1_n_n none (val_main_v41 (F := Ideal) x1 x2 x3 x4 x6 x7 x8) x9) x10 (ix2 r j) = _
  rw [normR_apply]
  simp only [dot1024x1024_apply, v41_apply]
  rfl

/-- The residual rows after the half step. -/
theorem v91_apply (r : Fin 32768) (j : Fin 1024) :
    val_main_v91 (F := Ideal) x0 x1 x2 x3 x4 x6 x7 x8 x9 x10 x11 x12 x13 x14 (ix2 r j)
      = ffn (fun j => val_main_v56 (F := Ideal) x0 x1 x2 x3 x4 x6 x7 x8 x9 x10 (ix2 r j)) (fun j => x11 (ix1 j)) (fun i k => x12 (ix2 i k))
          (fun i k => x13 (ix2 i k)) (fun j => x14 (ix1 j)) j := by
  have e70 : val_main_v70 (F := Ideal) x0 x1 x2 x3 x4 x6 x7 x8 x9 x10 x11 x12
      = Host.dotGeneral (F := Ideal) dot_S32768x1024_S1024x5632_S32768x5632_1_0_0_1_n_n none (normR (val_main_v56 (F := Ideal) x0 x1 x2 x3 x4 x6 x7 x8 x9 x10) x11) x12 := rfl
  have e75 : val_main_v75 (F := Ideal) x0 x1 x2 x3 x4 x6 x7 x8 x9 x10 x11 x12 x13
      = Host.dotGeneral (F := Ideal) dot_S32768x2816_S2816x1024_S32768x1024_1_0_0_1_n_n none (hiddenR (val_main_v70 (F := Ideal) x0 x1 x2 x3 x4 x6 x7 x8 x9 x10 x11 x12)) x13 := rfl
  have e : val_main_v91 (F := Ideal) x0 x1 x2 x3 x4 x6 x7 x8 x9 x10 x11 x12 x13 x14 (ix2 r j)
      = val_main_v56 (F := Ideal) x0 x1 x2 x3 x4 x6 x7 x8 x9 x10 (ix2 r j) + Ideal.ofBits .f32 0x3F000000#32
        * normR (val_main_v75 (F := Ideal) x0 x1 x2 x3 x4 x6 x7 x8 x9 x10 x11 x12 x13) x14 (ix2 r j) := rfl
  rw [e, normR_apply]
  generalize val_main_v56 (F := Ideal) x0 x1 x2 x3 x4 x6 x7 x8 x9 x10 = h at e70 ⊢
  simp only [e75, dot2816x1024_apply, hiddenR_apply, e70, dot1024x5632_apply, normR_apply]
  rfl

/-- The layer's rows. -/
theorem v128_apply (r : Fin 32768) (j : Fin 1024) :
    val_main_v128 (F := Ideal) x0 x1 x2 x3 x4 x5 x6 x7 x8 x9 x10 x11 x12 x13 x14 x15 x16 x17 x18 (ix2 r j)
      = ple (fun j => val_main_v91 (F := Ideal) x0 x1 x2 x3 x4 x6 x7 x8 x9 x10 x11 x12 x13 x14 (ix2 r j))
          (fun j => x5 (ix3 (⟨r.val / 4096, by omega⟩ : Fin 8) (⟨r.val % 4096, by omega⟩ : Fin 4096) j)) (fun j => x15 (ix1 j))
          (fun i k => x16 (ix2 i k)) (fun i k => x17 (ix2 i k)) (fun j => x18 (ix1 j)) j := by
  have e105 : val_main_v105 (F := Ideal) x0 x1 x2 x3 x4 x6 x7 x8 x9 x10 x11 x12 x13 x14 x15 x16
      = Host.dotGeneral (F := Ideal) dot_S32768x1024_S1024x1024_S32768x1024_1_0_0_1_n_n none (normR (val_main_v91 (F := Ideal) x0 x1 x2 x3 x4 x6 x7 x8 x9 x10 x11 x12 x13 x14) x15) x16 := rfl
  have e114 : val_main_v114 (F := Ideal) x0 x1 x2 x3 x4 x5 x6 x7 x8 x9 x10 x11 x12 x13 x14 x15 x16 x17
      = mulf (Host.dotGeneral (F := Ideal) dot_S32768x256_S256x1024_S32768x1024_1_0_0_1_n_n none (val_main_v112 (F := Ideal) x5) x17)
        (sgmR bcast_S_S32768x1024 (val_main_v105 (F := Ideal) x0 x1 x2 x3 x4 x6 x7 x8 x9 x10 x11 x12 x13 x14 x15 x16)) := rfl
  have e : val_main_v128 (F := Ideal) x0 x1 x2 x3 x4 x5 x6 x7 x8 x9 x10 x11 x12 x13 x14 x15 x16 x17 x18 (ix2 r j)
      = val_main_v91 (F := Ideal) x0 x1 x2 x3 x4 x6 x7 x8 x9 x10 x11 x12 x13 x14 (ix2 r j)
        + normR (val_main_v114 (F := Ideal) x0 x1 x2 x3 x4 x5 x6 x7 x8 x9 x10 x11 x12 x13 x14 x15 x16 x17) x18 (ix2 r j) := rfl
  rw [e, normR_apply, e114, e105]
  generalize val_main_v91 (F := Ideal) x0 x1 x2 x3 x4 x6 x7 x8 x9 x10 x11 x12 x13 x14 = h
  have hg : ∀ k : Fin 1024, (mulf (Host.dotGeneral (F := Ideal) (φ₁ := .f32) (φ₂ := .f32) dot_S32768x256_S256x1024_S32768x1024_1_0_0_1_n_n none (val_main_v112 (F := Ideal) x5) x17)
        (sgmR bcast_S_S32768x1024 (Host.dotGeneral (F := Ideal) dot_S32768x1024_S1024x1024_S32768x1024_1_0_0_1_n_n none (normR h x15) x16)) : FVec Ideal S32768x1024 .f32) (ix2 r k)
      = gated (fun j => h (ix2 r j)) (fun j => x5 (ix3 (⟨r.val / 4096, by omega⟩ : Fin 8) (⟨r.val % 4096, by omega⟩ : Fin 4096) j)) (fun j => x15 (ix1 j))
          (fun i k => x16 (ix2 i k)) (fun i k => x17 (ix2 i k)) k := by
    intro k
    show Host.dotGeneral (F := Ideal) (φ₁ := .f32) (φ₂ := .f32) dot_S32768x256_S256x1024_S32768x1024_1_0_0_1_n_n none (val_main_v112 (F := Ideal) x5) x17 (ix2 r k)
      * sgmR bcast_S_S32768x1024 (Host.dotGeneral (F := Ideal) dot_S32768x1024_S1024x1024_S32768x1024_1_0_0_1_n_n none (normR h x15) x16) (ix2 r k) = _
    rw [sgmR_apply, dot256x1024_apply, dot1024x1024_apply]
    simp only [v112_apply, normR_apply]
    rfl
  simp only [hg]
  rfl

/-- THE REFERENCE'S RESULT at a row and a column, from its arguments. -/
theorem result_apply (r : Fin 32768) (j : Fin 1024) :
    val_main_v128 (F := Ideal) x0 x1 x2 x3 x4 x5 x6 x7 x8 x9 x10 x11 x12 x13 x14 x15 x16 x17 x18 (ix2 r j)
      = Cert.MergeIdeal.Row.resultRow x0 x1 x2 x3 x4 x5 x6 x7 x8 x9 x10 x11 x12 x13 x14 x15 x16 x17 x18 r j := by
  rw [v128_apply]
  simp only [v91_apply, v56_apply]
  rfl

end Cert.MergeReferenceIdeal.Row
end
-- ==== Proof.ProjStage.lean ====
module

public import proofs.«01_k».proof.Proof.Gen.ProjIdeal.Skeleton
public import proofs.«01_k».proof.Proof.RowMath
public import Idealize.ShloMosaic.Lib.Pointwise
public import Idealize.ShloMosaic.Lib.KernelVsHost

@[expose] public section

set_option maxRecDepth 16384

noncomputable section

namespace Cert.ProjIdeal.Row

open Cert.RowMath
open Cert.ProjIdeal Cert.ProjIdeal.Gen Idealize.ShloMosaic Idealize.ShloMosaic.TcCoe Idealize.SL.Sem

section Stages

variable {F : FTy → Type} [FloatOps F] [Named F]

/-- The sigmoid as the kernel computes it. -/
def sgm {s : Shape} (x : FVec F s .f32) : FVec F s .f32 :=
  divf (broadcast s (Scalar.ofBits .f32 0x3F800000#32)) (addf (broadcast s (Scalar.ofBits .f32 0x3F800000#32))
    (exp2 (mulf x (broadcast s (Named.named κ "neglog2e" 0xBFB8AA3B#32)))))

/-- The root mean square norm of 256 rows, before its gain. -/
def unitT (x : FVec F S256x1024 .f32) : FVec F S256x1024 .f32 :=
  mulf x (broadcastTo S256x1024 (rsqrt (addf (divf (shapeCast S256x1 (multiReduction .add [1] S256 (mulf x x) 0x00000000#32
    reduces_S256x1024_S256 (.inl rfl) rfl) shapeCasts_S256_S256x1) (broadcast S256x1 (Scalar.ofBits .f32 0x44800000#32)))
    (broadcast S256x1 (Scalar.ofBits .f32 0x358637BD#32)))) broadcasts_S256x1_S256x1024)

/-- The root mean square norm of 256 rows. -/
def normT (x : FVec F S256x1024 .f32) (g : FVec F S1x1024 .f32) : FVec F S256x1024 .f32 :=
  mulf (unitT x) (broadcastTo S256x1024 (shapeCast S1x1024 g shapeCasts_S1x1024_S1x1024) broadcasts_S1x1024_S256x1024)

/-- The first product of the feed-forward network. -/
def upT (x : FVec F S256x1024 .bf16) (w1 : FVec F S1024x5632 .bf16) : FVec F S256x5632 .f32 :=
  matmul dot_S256x1024_S1024x5632_S256x5632_1_0_0_1_n_n none x (shapeCast S1024x5632 w1 shapeCasts_S1024x5632_S1024x5632)
    (constant S256x5632 .f32 0x00000000#32)

/-- The gated hidden rows of the feed-forward network. -/
def hiddenT (z : FVec F S256x5632 .f32) : FVec F S256x2816 .bf16 :=
  truncf .bf16 (mulf (mulf (extractStridedSlice S256x2816 ![0, 0] z slices_S256x5632_o0_0_S256x2816)
    (sgm (extractStridedSlice S256x2816 ![0, 0] z slices_S256x5632_o0_0_S256x2816)))
    (extractStridedSlice S256x2816 ![0, 2816] z slices_S256x5632_o0_2816_S256x2816)) bitsLt_bf16_f32

/-- The second product of the feed-forward network. -/
def downT (y : FVec F S256x2816 .bf16) (w2 : FVec F S2816x1024 .bf16) : FVec F S256x1024 .f32 :=
  matmul dot_S256x2816_S2816x1024_S256x1024_1_0_0_1_n_n none y (shapeCast S2816x1024 w2 shapeCasts_S2816x1024_S2816x1024)
    (constant S256x1024 .f32 0x00000000#32)

/-- 256 rows after the feed-forward half step. -/
def ffnT (x : FVec F S256x1024 .f32) (g : FVec F S1x1024 .f32) (w1 : FVec F S1024x5632 .bf16) (w2 : FVec F S2816x1024 .bf16)
    (g' : FVec F S1x1024 .f32) : FVec F S256x1024 .f32 :=
  addf x (mulf (broadcast S256x1024 (Scalar.ofBits .f32 0x3F000000#32))
    (normT (downT (hiddenT (upT (truncf .bf16 (normT x g) bitsLt_bf16_f32) w1)) w2) g'))

/-- The normed rows that are projected. -/
def rowsT (h : FVec F S256x1024 .f32) (g : FVec F S1x1024 .f32) : FVec F S256x1024 .bf16 := truncf .bf16 (normT h g) bitsLt_bf16_f32

/-- The rows times the transposed columns of the attention's queries, keys and values. -/
def attT (u : FVec F S256x1024 .bf16) (w : FVec F S768x1024 .bf16) : FVec F S256x768 .f32 :=
  matmul dot_S256x1024_S768x1024_S256x768_1_1_0_0_n_n none u (shapeCast S768x1024 w shapeCasts_S768x1024_S768x1024) (constant S256x768 .f32 0x00000000#32)

/-- The rows times 1024 transposed columns. -/
def wideT (u : FVec F S256x1024 .bf16) (w : FVec F S1024x1024 .bf16) : FVec F S256x1024 .f32 :=
  matmul dot_S256x1024_S1024x1024_S256x1024_1_1_0_0_n_n none u (shapeCast S1024x1024 w shapeCasts_S1024x1024_S1024x1024) (constant S256x1024 .f32 0x00000000#32)

/-- The rows times the transposed columns of the merge gates. -/
def mergeT (u : FVec F S256x1024 .bf16) (w : FVec F S2048x1024 .bf16) : FVec F S256x2048 .f32 :=
  matmul dot_S256x1024_S2048x1024_S256x2048_1_1_0_0_n_n none u (shapeCast S2048x1024 w shapeCasts_S2048x1024_S2048x1024) (constant S256x2048 .f32 0x00000000#32)

/-- The rows times the transposed columns of the mLSTM's gates, with their biases. -/
def biasT (u : FVec F S256x1024 .bf16) (w : FVec F S128x1024 .bf16) (b : FVec F S1x128 .f32) : FVec F S256x128 .f32 :=
  addf (matmul dot_S256x1024_S128x1024_S256x128_1_1_0_0_n_n none u (shapeCast S128x1024 w shapeCasts_S128x1024_S128x1024) (constant S256x128 .f32 0x00000000#32))
    (broadcastTo S256x128 (shapeCast S1x128 b shapeCasts_S1x128_S1x128) broadcasts_S1x128_S256x128)

/-- 128 columns, rotated by the three tables. -/
def rotT (t c a b : FVec F S256x128 .f32) : FVec F S256x128 .f32 :=
  addf (addf (mulf t c) (mulf (dynamicRotate 1 120#32 none t rotates_S256x128_d1) a)) (mulf (dynamicRotate 1 8#32 none t rotates_S256x128_d1) b)

/-- Two heads of the queries: rotated and scaled. -/
def queryT (t c a b : FVec F S256x128 .f32) : FVec F S256x128 .bf16 :=
  truncf .bf16 (mulf (rotT t c a b) (broadcast S256x128 (Named.named κ "qscale" 0x3E38AA3B#32))) bitsLt_bf16_f32

/-- The first 64 of 128 lanes. -/
def lowT : IVec S256x128 1 := cmpi .slt (iota .tc S256x128 32 [1] iota_S256x128_d1_w32) (broadcast S256x128 64#32)

/-- The first head of the keys, twice. -/
def keyT (k : FVec F S256x128 .f32) : FVec F S256x128 .bf16 :=
  truncf .bf16 (select lowT k (dynamicRotate 1 64#32 none k rotates_S256x128_d1)) bitsLt_bf16_f32

/-- The second head of the keys, twice. -/
def keyT' (k : FVec F S256x128 .f32) : FVec F S256x128 .bf16 :=
  truncf .bf16 (select lowT (dynamicRotate 1 64#32 none k rotates_S256x128_d1) k) bitsLt_bf16_f32

/-- The values, transposed, with 16 rows of ones after each head. -/
def valueT (v : FVec F S256x128 .f32) : FVec F S160x256 .bf16 :=
  truncf .bf16 (concatenate S160x256 0 [⟨S64x256, extractStridedSlice S64x256 ![0, 0] (transpose S128x256 [1, 0] v transposes_S256x128_p1_0_S128x256) slices_S128x256_o0_0_S64x256⟩,
    ⟨S16x256, broadcast S16x256 (Scalar.ofBits .f32 0x3F800000#32)⟩,
    ⟨S64x256, extractStridedSlice S64x256 ![64, 0] (transpose S128x256 [1, 0] v transposes_S256x128_p1_0_S128x256) slices_S128x256_o64_0_S64x256⟩,
    ⟨S16x256, broadcast S16x256 (Scalar.ofBits .f32 0x3F800000#32)⟩] concatenates_S64x256_S16x256_S64x256_S16x256_S160x256_d0) bitsLt_bf16_f32

/-- The remainder of the lane's number by two, as the kernel computes it. -/
def remT : IVec S256x128 32 :=
  remsi (iota .tc S256x128 32 [1] iota_S256x128_d1_w32) (broadcast S256x128 (Scalar.select (Scalar.cmpi .eq 2#32 0#32) 1#32 2#32))

/-- The odd lanes, as the kernel finds them. -/
def oddT : IVec S256x128 1 :=
  cmpi .eq (select (andi (xori (cmpi .slt remT (broadcast S256x128 0#32))
      (broadcastTo S256x128 (broadcast S256x128 (Scalar.cmpi .slt (Scalar.select (Scalar.cmpi .eq 2#32 0#32) 1#32 2#32) 0#32)) broadcasts_S256x128_S256x128))
      (cmpi .ne remT (broadcast S256x128 0#32)))
    (addi remT (broadcast S256x128 (Scalar.select (Scalar.cmpi .eq 2#32 0#32) 1#32 2#32))) remT) (broadcast S256x128 1#32)

/-- The logarithm of the sigmoid, as the kernel computes it. -/
def logT (x : FVec F S256x128 .f32) : FVec F S256x128 .f32 :=
  subf (minimumf x (broadcast S256x128 (Scalar.ofBits .f32 0x00000000#32)))
    (log (addf (broadcast S256x128 (Scalar.ofBits .f32 0x3F800000#32)) (exp (subf (broadcast S256x128 (Scalar.ofBits .f32 0x00000000#32)) (absf x)))))

/-- The mLSTM's gates, transposed. -/
def gateT (x : FVec F S256x128 .f32) : FVec F S16x256 .f32 :=
  extractStridedSlice S16x256 ![0, 0] (transpose S128x256 [1, 0] (select oddT (logT x) x) transposes_S256x128_p1_0_S128x256) slices_S128x256_o0_0_S16x256

end Stages

/-! ## The stages at an index -/

theorem ofBits_one : Ideal.ofBits .f32 0x3F800000#32 = (1 : EReal) := by
  simp [Ideal.ofBits, Ideal.ieee]
  rw [← EReal.coe_mul]; norm_num

theorem ofBits_zero : Ideal.ofBits .f32 0x00000000#32 = (0 : EReal) := by
  simp [Ideal.ofBits, Ideal.ieee]

theorem neg_named : (Named.named (F := Ideal) κ "neglog2e" (φ := .f32) 0xBFB8AA3B#32 : EReal) = ((-((Real.log 2)⁻¹) : ℝ) : EReal) :=
  IdealRules.named_const.ideal_named_scalar _ _ _ _ rfl

theorem scale_named : (Named.named (F := Ideal) κ "qscale" (φ := .f32) 0x3E38AA3B#32 : EReal) = (((8 * (Real.log 2))⁻¹ : ℝ) : EReal) :=
  IdealRules.named_const.ideal_named_scalar _ _ _ _ rfl

/-- The kernel's sigmoid at an index. -/
theorem sgm_apply {s : Shape} (x : FVec Ideal s .f32) (i : s.Idx) : sgm x i = Ideal.logistic (x i) := by
  show Ideal.div (Ideal.ofBits .f32 0x3F800000#32) (Ideal.ofBits .f32 0x3F800000#32 + Ideal.exp2 (x i * Named.named (F := Ideal) κ "neglog2e" (φ := .f32) 0xBFB8AA3B#32)) = _
  rw [ofBits_one, neg_named]
  exact sig_eq _

/-- The norm at an index. -/
theorem normT_apply (x : FVec Ideal S256x1024 .f32) (g : FVec Ideal S1x1024 .f32) (r : Fin 256) (j : Fin 1024) :
    normT x g (ix2 r j) = norm (fun j => x (ix2 r j)) (fun j => g (ix2 (0 : Fin 1) j)) j := by
  pointwise [normT, unitT]
  rfl

theorem upT_apply (x : FVec Ideal S256x1024 .bf16) (w : FVec Ideal S1024x5632 .bf16) (r : Fin 256) (j : Fin 5632) :
    upT x w (ix2 r j) = lin (fun i : Fin 1024 => x (ix2 r i)) (fun (i : Fin 1024) (j : Fin 5632) => w (ix2 i j)) j := by
  pointwise [upT]
  rfl

theorem hiddenT_apply (z : FVec Ideal S256x5632 .f32) (r : Fin 256) (k : Fin 2816) :
    hiddenT z (ix2 r k) = z (ix2 r (⟨k.val, by omega⟩ : Fin 5632)) * Ideal.logistic (z (ix2 r (⟨k.val, by omega⟩ : Fin 5632)))
      * z (ix2 r (⟨2816 + k.val, by omega⟩ : Fin 5632)) := by
  pointwise [hiddenT]
  rw [sgm_apply]
  pointwise []

theorem downT_apply (x : FVec Ideal S256x2816 .bf16) (w : FVec Ideal S2816x1024 .bf16) (r : Fin 256) (j : Fin 1024) :
    downT x w (ix2 r j) = lin (fun i : Fin 2816 => x (ix2 r i)) (fun (i : Fin 2816) (j : Fin 1024) => w (ix2 i j)) j := by
  pointwise [downT]
  rfl

/-- The feed-forward half step at an index. -/
theorem ffnT_apply (x : FVec Ideal S256x1024 .f32) (g : FVec Ideal S1x1024 .f32) (w1 : FVec Ideal S1024x5632 .bf16) (w2 : FVec Ideal S2816x1024 .bf16)
    (g' : FVec Ideal S1x1024 .f32) (r : Fin 256) (j : Fin 1024) :
    ffnT x g w1 w2 g' (ix2 r j) = ffn (fun j => x (ix2 r j)) (fun j => g (ix2 (0 : Fin 1) j)) (fun i k => w1 (ix2 i k)) (fun i k => w2 (ix2 i k))
      (fun j => g' (ix2 (0 : Fin 1) j)) j := by
  have h1 : ∀ k : Fin 5632, upT (truncf .bf16 (normT x g) bitsLt_bf16_f32) w1 (ix2 r k)
      = lin (norm (fun j => x (ix2 r j)) (fun j => g (ix2 (0 : Fin 1) j))) (fun i k => w1 (ix2 i k)) k := by
    intro k
    rw [upT_apply]
    refine congrArg (fun f => lin f _ k) (funext fun i => ?_)
    exact normT_apply x g r i
  have h2 : ∀ k : Fin 1024, downT (hiddenT (upT (truncf .bf16 (normT x g) bitsLt_bf16_f32) w1)) w2 (ix2 r k)
      = lin (hidden (norm (fun j => x (ix2 r j)) (fun j => g (ix2 (0 : Fin 1) j))) (fun i k => w1 (ix2 i k))) (fun i k => w2 (ix2 i k)) k := by
    intro k
    rw [downT_apply]
    refine congrArg (fun f => lin f _ k) (funext fun i => ?_)
    rw [hiddenT_apply, h1, h1]
    rfl
  show x (ix2 r j) + Ideal.ofBits .f32 0x3F000000#32 * normT _ _ (ix2 r j) = _
  rw [normT_apply]
  simp only [h2]
  rfl

theorem rowsT_apply (h : FVec Ideal S256x1024 .f32) (g : FVec Ideal S1x1024 .f32) (r : Fin 256) (j : Fin 1024) :
    rowsT h g (ix2 r j) = norm (fun j => h (ix2 r j)) (fun j => g (ix2 (0 : Fin 1) j)) j := normT_apply h g r j

theorem attT_apply (u : FVec Ideal S256x1024 .bf16) (w : FVec Ideal S768x1024 .bf16) (r : Fin 256) (j : Fin 768) :
    attT u w (ix2 r j) = lin (fun i : Fin 1024 => u (ix2 r i)) (fun (i : Fin 1024) (j : Fin 768) => w (ix2 j i)) j := by
  pointwise [attT]
  rfl

theorem wideT_apply (u : FVec Ideal S256x1024 .bf16) (w : FVec Ideal S1024x1024 .bf16) (r : Fin 256) (j : Fin 1024) :
    wideT u w (ix2 r j) = lin (fun i : Fin 1024 => u (ix2 r i)) (fun (i : Fin 1024) (j : Fin 1024) => w (ix2 j i)) j := by
  pointwise [wideT]
  rfl

theorem mergeT_apply (u : FVec Ideal S256x1024 .bf16) (w : FVec Ideal S2048x1024 .bf16) (r : Fin 256) (j : Fin 2048) :
    mergeT u w (ix2 r j) = lin (fun i : Fin 1024 => u (ix2 r i)) (fun (i : Fin 1024) (j : Fin 2048) => w (ix2 j i)) j := by
  pointwise [mergeT]
  rfl

theorem biasT_apply (u : FVec Ideal S256x1024 .bf16) (w : FVec Ideal S128x1024 .bf16) (b : FVec Ideal S1x128 .f32) (r : Fin 256) (j : Fin 128) :
    biasT u w b (ix2 r j) = lin (fun i : Fin 1024 => u (ix2 r i)) (fun (i : Fin 1024) (j : Fin 128) => w (ix2 j i)) j + b (ix2 (0 : Fin 1) j) := by
  pointwise [biasT]
  rfl

/-- A rotation of the lanes at an index. -/
theorem roll_apply (x : FVec Ideal S256x128 .f32) (n : BitVec 32) (r : Fin 256) (l k : Fin 128) (h : k.val = (l.val + 128 - n.toNat % 128) % 128) :
    dynamicRotate 1 n none x rotates_S256x128_d1 (ix2 r l) = x (ix2 r k) := by
  refine dynamicRotate_apply (1 : Fin 2) n x _ (ix2 r l) (ix2 r k) fun b => ?_
  match b with
  | ⟨0, _⟩ => rfl
  | ⟨1, _⟩ => exact h

/-- The kernel's rotary embedding of 128 lanes, from its three tables' rows. -/
def turn (t c a b : Fin 128 → EReal) (l : Fin 128) : EReal :=
  t l * c l + t ⟨(l.val + 8) % 128, Nat.mod_lt _ (by decide)⟩ * a l + t ⟨(l.val + 120) % 128, Nat.mod_lt _ (by decide)⟩ * b l

theorem rotT_apply (t c a b : FVec Ideal S256x128 .f32) (r : Fin 256) (l : Fin 128) :
    rotT t c a b (ix2 r l) = turn (fun l => t (ix2 r l)) (fun l => c (ix2 r l)) (fun l => a (ix2 r l)) (fun l => b (ix2 r l)) l := by
  show t (ix2 r l) * c (ix2 r l) + dynamicRotate 1 120#32 none t rotates_S256x128_d1 (ix2 r l) * a (ix2 r l)
    + dynamicRotate 1 8#32 none t rotates_S256x128_d1 (ix2 r l) * b (ix2 r l) = _
  rw [roll_apply t 120#32 r l ⟨(l.val + 8) % 128, Nat.mod_lt _ (by decide)⟩ (by show (l.val + 8) % 128 = (l.val + 128 - 120) % 128; omega),
    roll_apply t 8#32 r l ⟨(l.val + 120) % 128, Nat.mod_lt _ (by decide)⟩ (by show (l.val + 120) % 128 = (l.val + 128 - 8) % 128; omega)]
  rfl

theorem queryT_apply (t c a b : FVec Ideal S256x128 .f32) (r : Fin 256) (l : Fin 128) :
    queryT t c a b (ix2 r l) = turn (fun l => t (ix2 r l)) (fun l => c (ix2 r l)) (fun l => a (ix2 r l)) (fun l => b (ix2 r l)) l
      * (((8 * (Real.log 2))⁻¹ : ℝ) : EReal) := by
  show rotT t c a b (ix2 r l) * Named.named (F := Ideal) κ "qscale" (φ := .f32) 0x3E38AA3B#32 = _
  rw [rotT_apply, scale_named]

theorem lowT_apply (r : Fin 256) (l : Fin 128) : lowT (ix2 r l) = if l.val < 64 then 1#1 else 0#1 := by
  pointwise [lowT]
  revert l
  decide

theorem oddT_apply (r : Fin 256) (l : Fin 128) : oddT (ix2 r l) = if l.val % 2 = 1 then 1#1 else 0#1 := by
  pointwise [oddT, remT]
  revert l
  decide

theorem keyT_apply (k : FVec Ideal S256x128 .f32) (r : Fin 256) (l : Fin 128) :
    keyT k (ix2 r l) = k (ix2 r (⟨l.val % 64, by omega⟩ : Fin 128)) := by
  show (if lowT (ix2 r l) = 1#1 then k (ix2 r l) else dynamicRotate 1 64#32 none k rotates_S256x128_d1 (ix2 r l)) = _
  rw [lowT_apply, roll_apply k 64#32 r l ⟨(l.val + 64) % 128, Nat.mod_lt _ (by decide)⟩ (by show (l.val + 64) % 128 = (l.val + 128 - 64) % 128; omega)]
  by_cases h : l.val < 64
  · rw [if_pos h, if_pos rfl]
    exact congrArg (fun z => k (ix2 r z)) (Fin.ext (by show l.val = l.val % 64; omega))
  · rw [if_neg h, if_neg (by decide)]
    exact congrArg (fun z => k (ix2 r z)) (Fin.ext (by show (l.val + 64) % 128 = l.val % 64; omega))

theorem keyT'_apply (k : FVec Ideal S256x128 .f32) (r : Fin 256) (l : Fin 128) :
    keyT' k (ix2 r l) = k (ix2 r (⟨64 + l.val % 64, by omega⟩ : Fin 128)) := by
  show (if lowT (ix2 r l) = 1#1 then dynamicRotate 1 64#32 none k rotates_S256x128_d1 (ix2 r l) else k (ix2 r l)) = _
  rw [lowT_apply, roll_apply k 64#32 r l ⟨(l.val + 64) % 128, Nat.mod_lt _ (by decide)⟩ (by show (l.val + 64) % 128 = (l.val + 128 - 64) % 128; omega)]
  by_cases h : l.val < 64
  · rw [if_pos h, if_pos rfl]
    exact congrArg (fun z => k (ix2 r z)) (Fin.ext (by show (l.val + 64) % 128 = 64 + l.val % 64; omega))
  · rw [if_neg h, if_neg (by decide)]
    exact congrArg (fun z => k (ix2 r z)) (Fin.ext (by show l.val = 64 + l.val % 64; omega))

/-- The values with their ones, along one position. -/
def ones (t : Fin 128 → EReal) (i : Fin 160) : EReal :=
  if h : i.val < 64 then t ⟨i.val, by omega⟩
  else if i.val - 64 < 16 then 1
  else if h : i.val - 64 - 16 < 64 then t ⟨64 + (i.val - 64 - 16), by omega⟩
  else 1

theorem valueT_apply (v : FVec Ideal S256x128 .f32) (i : Fin 160) (r : Fin 256) : valueT v (ix2 i r) = ones (fun l => v (ix2 r l)) i := by
  pointwise [valueT]
  rfl

/-- The logarithm of the sigmoid of one number, as the kernel computes it. -/
def logsig (x : EReal) : EReal := min x 0 - Ideal.log (1 + Ideal.exp (0 - max x (-x)))

theorem logT_apply (x : FVec Ideal S256x128 .f32) (i : S256x128.Idx) : logT x i = logsig (x i) := by
  show min (x i) (Ideal.ofBits .f32 0x00000000#32) - Ideal.log (Ideal.ofBits .f32 0x3F800000#32 + Ideal.exp (Ideal.ofBits .f32 0x00000000#32 - max (x i) (-(x i)))) = _
  rw [ofBits_one, ofBits_zero]
  rfl

theorem gateT_apply (x : FVec Ideal S256x128 .f32) (i : Fin 16) (r : Fin 256) :
    gateT x (ix2 i r) = if i.val % 2 = 1 then logsig (x (ix2 r (⟨i.val, by omega⟩ : Fin 128))) else x (ix2 r (⟨i.val, by omega⟩ : Fin 128)) := by
  have e : gateT x (ix2 i r) = if oddT (ix2 r (⟨i.val, by omega⟩ : Fin 128)) = 1#1 then logT x (ix2 r (⟨i.val, by omega⟩ : Fin 128)) else x (ix2 r (⟨i.val, by omega⟩ : Fin 128)) := by
    unfold gateT
    generalize hz : select oddT (logT x) x = z
    pointwise []
    rw [← hz]
    rfl
  rw [e, oddT_apply, logT_apply]
  by_cases h : i.val % 2 = 1
  · rw [if_pos h, if_pos h, if_pos rfl]
  · rw [if_neg h, if_neg h, if_neg (by decide)]

end Cert.ProjIdeal.Row
end
-- ==== Proof.ProjIdealRun.lean ====
module

public import proofs.«01_k».proof.Proof.Gen.ProjIdeal.Launch
public import proofs.«01_k».proof.Proof.Gen.ProjIdeal.Skeleton
public import proofs.«01_k».proof.Proof.Gen.ProjIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

-- the blocks have long axes
set_option maxRecDepth 16384

noncomputable section

namespace Cert.ProjIdeal.Run

open Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

set_option maxHeartbeats 800000 in
/-- @main up to the region: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data with the array `V` (`hA`) of which the body leaves the block in place (`hafter`). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data with the array `V` (`hA`) of which the body leaves the block in place (`hafter`). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data with the array `V` (`hA`) of which the body leaves the block in place (`hafter`). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof
    data with the array `V` (`hA`) of which the body leaves the block in place (`hafter`). -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof
    data with the array `V` (`hA`) of which the body leaves the block in place (`hafter`). -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for any proof
    data with the array `V` (`hA`) of which the body leaves the block in place (`hafter`). -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for any proof
    data with the array `V` (`hA`) of which the body leaves the block in place (`hafter`). -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for any proof
    data with the array `V` (`hA`) of which the body leaves the block in place (`hafter`). -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for any proof
    data with the array `V` (`hA`) of which the body leaves the block in place (`hafter`). -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for any proof
    data with the array `V` (`hA`) of which the body leaves the block in place (`hafter`). -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for any proof
    data with the array `V` (`hA`) of which the body leaves the block in place (`hafter`). -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for any proof
    data with the array `V` (`hA`) of which the body leaves the block in place (`hafter`). -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for any proof
    data with the array `V` (`hA`) of which the body leaves the block in place (`hafter`). -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1380000 in
/-- From a run whose final state the pipeline's library describes, with the arrays at entry given by `V` (`hA`), every
    argument ends as it was launched: a staged input is never written back, and no other argument is written. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩) h

/-! ## The body's accesses -/

abbrev r0_0 : Rect S512x1024 := Rect.unit (s := S512x1024) ![0, 0] S256x1024.size inb_S512x1024_S256x1024_0_0
abbrev r0_1 : Rect S512x1024 := Rect.unit (s := S512x1024) ![256, 0] S256x1024.size inb_S512x1024_S256x1024_256_0
abbrev r0_2 : Rect S1x1024 := Rect.unit (s := S1x1024) ![0, 0] S1x1024.size inb_S1x1024_S1x1024_0_0
abbrev r0_3 : Rect S1024x5632 := Rect.unit (s := S1024x5632) ![0, 0] S1024x5632.size inb_S1024x5632_S1024x5632_0_0
abbrev r0_4 : Rect S2816x1024 := Rect.unit (s := S2816x1024) ![0, 0] S2816x1024.size inb_S2816x1024_S2816x1024_0_0
abbrev r0_5 : Rect S3840x1024 := Rect.unit (s := S3840x1024) ![0, 0] S768x1024.size inb_S3840x1024_S768x1024_0_0
abbrev r0_6 : Rect S512x128 := Rect.unit (s := S512x128) ![0, 0] S256x128.size inb_S512x128_S256x128_0_0
abbrev r0_7 : Rect S512x512 := Rect.unit (s := S512x512) ![0, 0] S256x128.size inb_S512x512_S256x128_0_0
abbrev r0_8 : Rect S512x512 := Rect.unit (s := S512x512) ![0, 128] S256x128.size inb_S512x512_S256x128_0_128
abbrev r0_9 : Rect S512x512 := Rect.unit (s := S512x512) ![0, 256] S256x128.size inb_S512x512_S256x128_0_256
abbrev r0_10 : Rect S512x512 := Rect.unit (s := S512x512) ![0, 384] S256x128.size inb_S512x512_S256x128_0_384
abbrev r0_11 : Rect S512x256 := Rect.unit (s := S512x256) ![0, 0] S256x128.size inb_S512x256_S256x128_0_0
abbrev r0_12 : Rect S512x256 := Rect.unit (s := S512x256) ![0, 128] S256x128.size inb_S512x256_S256x128_0_128
abbrev r0_13 : Rect S160x512 := Rect.unit (s := S160x512) ![0, 0] S160x256.size inb_S160x512_S160x256_0_0
abbrev r0_14 : Rect S3840x1024 := Rect.unit (s := S3840x1024) ![768, 0] S1024x1024.size inb_S3840x1024_S1024x1024_768_0
abbrev r0_15 : Rect S512x512 := Rect.unit (s := S512x512) ![0, 0] S256x512.size inb_S512x512_S256x512_0_0
abbrev r0_16 : Rect S3840x1024 := Rect.unit (s := S3840x1024) ![1792, 0] S1024x1024.size inb_S3840x1024_S1024x1024_1792_0
abbrev r0_17 : Rect S3840x1024 := Rect.unit (s := S3840x1024) ![2816, 0] S1024x1024.size inb_S3840x1024_S1024x1024_2816_0
abbrev r0_18 : Rect S128x1024 := Rect.unit (s := S128x1024) ![0, 0] S128x1024.size inb_S128x1024_S128x1024_0_0
abbrev r0_19 : Rect S1x128 := Rect.unit (s := S1x128) ![0, 0] S1x128.size inb_S1x128_S1x128_0_0
abbrev r0_20 : Rect S16x512 := Rect.unit (s := S16x512) ![0, 0] S16x256.size inb_S16x512_S16x256_0_0
abbrev r0_21 : Rect S2048x1024 := Rect.unit (s := S2048x1024) ![0, 0] S2048x1024.size inb_S2048x1024_S2048x1024_0_0
abbrev r0_22 : Rect S512x2048 := Rect.unit (s := S512x2048) ![0, 0] S256x2048.size inb_S512x2048_S256x2048_0_0
abbrev r0_23 : Rect S512x128 := Rect.unit (s := S512x128) ![256, 0] S256x128.size inb_S512x128_S256x128_256_0
abbrev r0_24 : Rect S512x512 := Rect.unit (s := S512x512) ![256, 0] S256x128.size inb_S512x512_S256x128_256_0
abbrev r0_25 : Rect S512x512 := Rect.unit (s := S512x512) ![256, 128] S256x128.size inb_S512x512_S256x128_256_128
abbrev r0_26 : Rect S512x512 := Rect.unit (s := S512x512) ![256, 256] S256x128.size inb_S512x512_S256x128_256_256
abbrev r0_27 : Rect S512x512 := Rect.unit (s := S512x512) ![256, 384] S256x128.size inb_S512x512_S256x128_256_384
abbrev r0_28 : Rect S512x256 := Rect.unit (s := S512x256) ![256, 0] S256x128.size inb_S512x256_S256x128_256_0
abbrev r0_29 : Rect S512x256 := Rect.unit (s := S512x256) ![256, 128] S256x128.size inb_S512x256_S256x128_256_128
abbrev r0_30 : Rect S160x512 := Rect.unit (s := S160x512) ![0, 256] S160x256.size inb_S160x512_S160x256_0_256
abbrev r0_31 : Rect S512x512 := Rect.unit (s := S512x512) ![256, 0] S256x512.size inb_S512x512_S256x512_256_0
abbrev r0_32 : Rect S16x512 := Rect.unit (s := S16x512) ![0, 256] S16x256.size inb_S16x512_S16x256_0_256
abbrev r0_33 : Rect S512x2048 := Rect.unit (s := S512x2048) ![256, 0] S256x2048.size inb_S512x2048_S256x2048_256_0

/-! ## What the body leaves in each output window's buffer -/

/-! ### Values of the body that the stores' payloads, spelt out, would write more than once

    Each is a vector that the body binds, as a function of the input windows' blocks; the buffers' contents below
    refer to it by its name. -/

def k0_pay61 (x0 : Vec F S512x1024 .f32) (x1 : Vec F S1x1024 .f32) (x2 : Vec F S1024x5632 .bf16) (x3 : Vec F S2816x1024 .bf16) (x4 : Vec F S1x1024 .f32) (x5 : Vec F S1x1024 .f32) (x6 : Vec F S3840x1024 .bf16) (x7 : Vec F S128x1024 .bf16) (x8 : Vec F S2048x1024 .bf16) (x9 : Vec F S1x128 .f32) (x10 : Vec F S512x128 .f32) (x11 : Vec F S512x128 .f32) (x12 : Vec F S512x128 .f32) : FVec F S256x1024 .f32 :=
  k0_pay5 (k0_pay3 (View.ld x0 r0_1) (View.ld x1 r0_2) (View.ld x2 r0_3)) (View.ld x3 r0_4) -- `v69`
def k0_pay62 (x0 : Vec F S512x1024 .f32) (x1 : Vec F S1x1024 .f32) (x2 : Vec F S1024x5632 .bf16) (x3 : Vec F S2816x1024 .bf16) (x4 : Vec F S1x1024 .f32) (x5 : Vec F S1x1024 .f32) (x6 : Vec F S3840x1024 .bf16) (x7 : Vec F S128x1024 .bf16) (x8 : Vec F S2048x1024 .bf16) (x9 : Vec F S1x128 .f32) (x10 : Vec F S512x128 .f32) (x11 : Vec F S512x128 .f32) (x12 : Vec F S512x128 .f32) : FVec F S1x1024 .f32 :=
  k0_pay6 (View.ld x4 r0_2) -- `v71`
def k0_pay63 (x0 : Vec F S512x1024 .f32) (x1 : Vec F S1x1024 .f32) (x2 : Vec F S1024x5632 .bf16) (x3 : Vec F S2816x1024 .bf16) (x4 : Vec F S1x1024 .f32) (x5 : Vec F S1x1024 .f32) (x6 : Vec F S3840x1024 .bf16) (x7 : Vec F S128x1024 .bf16) (x8 : Vec F S2048x1024 .bf16) (x9 : Vec F S1x128 .f32) (x10 : Vec F S512x128 .f32) (x11 : Vec F S512x128 .f32) (x12 : Vec F S512x128 .f32) : FVec F S256x1024 .f32 :=
  k0_pay7 (k0_pay2 (View.ld x0 r0_0) (View.ld x1 r0_2) (View.ld x2 r0_3)) (k0_pay4 (View.ld x0 r0_0) (View.ld x1 r0_2) (View.ld x2 r0_3)) (View.ld x3 r0_4) -- `v81`
def k0_pay64 (x0 : Vec F S512x1024 .f32) (x1 : Vec F S1x1024 .f32) (x2 : Vec F S1024x5632 .bf16) (x3 : Vec F S2816x1024 .bf16) (x4 : Vec F S1x1024 .f32) (x5 : Vec F S1x1024 .f32) (x6 : Vec F S3840x1024 .bf16) (x7 : Vec F S128x1024 .bf16) (x8 : Vec F S2048x1024 .bf16) (x9 : Vec F S1x128 .f32) (x10 : Vec F S512x128 .f32) (x11 : Vec F S512x128 .f32) (x12 : Vec F S512x128 .f32) : FVec F S256x1024 .bf16 :=
  k0_pay10 (View.ld x0 r0_0) (k0_pay62 x0 x1 x2 x3 x4 x5 x6 x7 x8 x9 x10 x11 x12) (k0_pay63 x0 x1 x2 x3 x4 x5 x6 x7 x8 x9 x10 x11 x12) (View.ld x5 r0_2) -- `v119`
def k0_pay65 (x0 : Vec F S512x1024 .f32) (x1 : Vec F S1x1024 .f32) (x2 : Vec F S1024x5632 .bf16) (x3 : Vec F S2816x1024 .bf16) (x4 : Vec F S1x1024 .f32) (x5 : Vec F S1x1024 .f32) (x6 : Vec F S3840x1024 .bf16) (x7 : Vec F S128x1024 .bf16) (x8 : Vec F S2048x1024 .bf16) (x9 : Vec F S1x128 .f32) (x10 : Vec F S512x128 .f32) (x11 : Vec F S512x128 .f32) (x12 : Vec F S512x128 .f32) : IVec S256x128 32 :=
  iota .tc S256x128 32 [1] iota_S256x128_d1_w32 -- `v136`
def k0_pay66 (x0 : Vec F S512x1024 .f32) (x1 : Vec F S1x1024 .f32) (x2 : Vec F S1024x5632 .bf16) (x3 : Vec F S2816x1024 .bf16) (x4 : Vec F S1x1024 .f32) (x5 : Vec F S1x1024 .f32) (x6 : Vec F S3840x1024 .bf16) (x7 : Vec F S128x1024 .bf16) (x8 : Vec F S2048x1024 .bf16) (x9 : Vec F S1x128 .f32) (x10 : Vec F S512x128 .f32) (x11 : Vec F S512x128 .f32) (x12 : Vec F S512x128 .f32) : FVec F S256x1024 .bf16 :=
  k0_pay11 (k0_pay9 (View.ld x0 r0_1) (k0_pay61 x0 x1 x2 x3 x4 x5 x6 x7 x8 x9 x10 x11 x12) (View.ld x4 r0_2)) (View.ld x5 r0_2) -- `v135`
def k0_pay67 (x0 : Vec F S512x1024 .f32) (x1 : Vec F S1x1024 .f32) (x2 : Vec F S1024x5632 .bf16) (x3 : Vec F S2816x1024 .bf16) (x4 : Vec F S1x1024 .f32) (x5 : Vec F S1x1024 .f32) (x6 : Vec F S3840x1024 .bf16) (x7 : Vec F S128x1024 .bf16) (x8 : Vec F S2048x1024 .bf16) (x9 : Vec F S1x128 .f32) (x10 : Vec F S512x128 .f32) (x11 : Vec F S512x128 .f32) (x12 : Vec F S512x128 .f32) : IVec S256x128 1 :=
  k0_pay12 -- `v138`
def k0_pay68 (x0 : Vec F S512x1024 .f32) (x1 : Vec F S1x1024 .f32) (x2 : Vec F S1024x5632 .bf16) (x3 : Vec F S2816x1024 .bf16) (x4 : Vec F S1x1024 .f32) (x5 : Vec F S1x1024 .f32) (x6 : Vec F S3840x1024 .bf16) (x7 : Vec F S128x1024 .bf16) (x8 : Vec F S2048x1024 .bf16) (x9 : Vec F S1x128 .f32) (x10 : Vec F S512x128 .f32) (x11 : Vec F S512x128 .f32) (x12 : Vec F S512x128 .f32) : FVec F S256x768 .f32 :=
  k0_pay13 (k0_pay64 x0 x1 x2 x3 x4 x5 x6 x7 x8 x9 x10 x11 x12) (View.ld x6 r0_5) -- `v141`
def k0_pay69 (x0 : Vec F S512x1024 .f32) (x1 : Vec F S1x1024 .f32) (x2 : Vec F S1024x5632 .bf16) (x3 : Vec F S2816x1024 .bf16) (x4 : Vec F S1x1024 .f32) (x5 : Vec F S1x1024 .f32) (x6 : Vec F S3840x1024 .bf16) (x7 : Vec F S128x1024 .bf16) (x8 : Vec F S2048x1024 .bf16) (x9 : Vec F S1x128 .f32) (x10 : Vec F S512x128 .f32) (x11 : Vec F S512x128 .f32) (x12 : Vec F S512x128 .f32) : FVec F S256x128 .f32 :=
  k0_pay14 (View.ld x10 r0_6) -- `v143`
def k0_pay70 (x0 : Vec F S512x1024 .f32) (x1 : Vec F S1x1024 .f32) (x2 : Vec F S1024x5632 .bf16) (x3 : Vec F S2816x1024 .bf16) (x4 : Vec F S1x1024 .f32) (x5 : Vec F S1x1024 .f32) (x6 : Vec F S3840x1024 .bf16) (x7 : Vec F S128x1024 .bf16) (x8 : Vec F S2048x1024 .bf16) (x9 : Vec F S1x128 .f32) (x10 : Vec F S512x128 .f32) (x11 : Vec F S512x128 .f32) (x12 : Vec F S512x128 .f32) : FVec F S256x128 .f32 :=
  k0_pay15 (View.ld x11 r0_6) -- `v145`
def k0_pay71 (x0 : Vec F S512x1024 .f32) (x1 : Vec F S1x1024 .f32) (x2 : Vec F S1024x5632 .bf16) (x3 : Vec F S2816x1024 .bf16) (x4 : Vec F S1x1024 .f32) (x5 : Vec F S1x1024 .f32) (x6 : Vec F S3840x1024 .bf16) (x7 : Vec F S128x1024 .bf16) (x8 : Vec F S2048x1024 .bf16) (x9 : Vec F S1x128 .f32) (x10 : Vec F S512x128 .f32) (x11 : Vec F S512x128 .f32) (x12 : Vec F S512x128 .f32) : FVec F S256x128 .f32 :=
  k0_pay16 (View.ld x12 r0_6) -- `v147`
def k0_pay72 (x0 : Vec F S512x1024 .f32) (x1 : Vec F S1x1024 .f32) (x2 : Vec F S1024x5632 .bf16) (x3 : Vec F S2816x1024 .bf16) (x4 : Vec F S1x1024 .f32) (x5 : Vec F S1x1024 .f32) (x6 : Vec F S3840x1024 .bf16) (x7 : Vec F S128x1024 .bf16) (x8 : Vec F S2048x1024 .bf16) (x9 : Vec F S1x128 .f32) (x10 : Vec F S512x128 .f32) (x11 : Vec F S512x128 .f32) (x12 : Vec F S512x128 .f32) : FVec F S256x128 .f32 :=
  k0_pay24 (k0_pay68 x0 x1 x2 x3 x4 x5 x6 x7 x8 x9 x10 x11 x12) (k0_pay69 x0 x1 x2 x3 x4 x5 x6 x7 x8 x9 x10 x11 x12) (k0_pay70 x0 x1 x2 x3 x4 x5 x6 x7 x8 x9 x10 x11 x12) -- `v200`
def k0_pay73 (x0 : Vec F S512x1024 .f32) (x1 : Vec F S1x1024 .f32) (x2 : Vec F S1024x5632 .bf16) (x3 : Vec F S2816x1024 .bf16) (x4 : Vec F S1x1024 .f32) (x5 : Vec F S1x1024 .f32) (x6 : Vec F S3840x1024 .bf16) (x7 : Vec F S128x1024 .bf16) (x8 : Vec F S2048x1024 .bf16) (x9 : Vec F S1x128 .f32) (x10 : Vec F S512x128 .f32) (x11 : Vec F S512x128 .f32) (x12 : Vec F S512x128 .f32) : FVec F S256x128 .f32 :=
  k0_pay25 (k0_pay68 x0 x1 x2 x3 x4 x5 x6 x7 x8 x9 x10 x11 x12) (k0_pay71 x0 x1 x2 x3 x4 x5 x6 x7 x8 x9 x10 x11 x12) -- `v202`
def k0_pay74 (x0 : Vec F S512x1024 .f32) (x1 : Vec F S1x1024 .f32) (x2 : Vec F S1024x5632 .bf16) (x3 : Vec F S2816x1024 .bf16) (x4 : Vec F S1x1024 .f32) (x5 : Vec F S1x1024 .f32) (x6 : Vec F S3840x1024 .bf16) (x7 : Vec F S128x1024 .bf16) (x8 : Vec F S2048x1024 .bf16) (x9 : Vec F S1x128 .f32) (x10 : Vec F S512x128 .f32) (x11 : Vec F S512x128 .f32) (x12 : Vec F S512x128 .f32) : FVec F S256x768 .f32 :=
  k0_pay39 (k0_pay66 x0 x1 x2 x3 x4 x5 x6 x7 x8 x9 x10 x11 x12) (View.ld x6 r0_5) -- `v284`
def k0_pay75 (x0 : Vec F S512x1024 .f32) (x1 : Vec F S1x1024 .f32) (x2 : Vec F S1024x5632 .bf16) (x3 : Vec F S2816x1024 .bf16) (x4 : Vec F S1x1024 .f32) (x5 : Vec F S1x1024 .f32) (x6 : Vec F S3840x1024 .bf16) (x7 : Vec F S128x1024 .bf16) (x8 : Vec F S2048x1024 .bf16) (x9 : Vec F S1x128 .f32) (x10 : Vec F S512x128 .f32) (x11 : Vec F S512x128 .f32) (x12 : Vec F S512x128 .f32) : FVec F S256x128 .f32 :=
  k0_pay40 (View.ld x10 r0_23) -- `v286`
def k0_pay76 (x0 : Vec F S512x1024 .f32) (x1 : Vec F S1x1024 .f32) (x2 : Vec F S1024x5632 .bf16) (x3 : Vec F S2816x1024 .bf16) (x4 : Vec F S1x1024 .f32) (x5 : Vec F S1x1024 .f32) (x6 : Vec F S3840x1024 .bf16) (x7 : Vec F S128x1024 .bf16) (x8 : Vec F S2048x1024 .bf16) (x9 : Vec F S1x128 .f32) (x10 : Vec F S512x128 .f32) (x11 : Vec F S512x128 .f32) (x12 : Vec F S512x128 .f32) : FVec F S256x128 .f32 :=
  k0_pay41 (View.ld x11 r0_23) -- `v288`
def k0_pay77 (x0 : Vec F S512x1024 .f32) (x1 : Vec F S1x1024 .f32) (x2 : Vec F S1024x5632 .bf16) (x3 : Vec F S2816x1024 .bf16) (x4 : Vec F S1x1024 .f32) (x5 : Vec F S1x1024 .f32) (x6 : Vec F S3840x1024 .bf16) (x7 : Vec F S128x1024 .bf16) (x8 : Vec F S2048x1024 .bf16) (x9 : Vec F S1x128 .f32) (x10 : Vec F S512x128 .f32) (x11 : Vec F S512x128 .f32) (x12 : Vec F S512x128 .f32) : FVec F S256x128 .f32 :=
  k0_pay42 (View.ld x12 r0_23) -- `v290`

/-- Window 13's staging buffer after the body, from the input windows' blocks: its 2 stores as pieces, the last
    one first. -/
def out0_13 (x0 : Vec F S512x1024 .f32) (x1 : Vec F S1x1024 .f32) (x2 : Vec F S1024x5632 .bf16) (x3 : Vec F S2816x1024 .bf16) (x4 : Vec F S1x1024 .f32) (x5 : Vec F S1x1024 .f32) (x6 : Vec F S3840x1024 .bf16) (x7 : Vec F S128x1024 .bf16) (x8 : Vec F S2048x1024 .bf16) (x9 : Vec F S1x128 .f32) (x10 : Vec F S512x128 .f32) (x11 : Vec F S512x128 .f32) (x12 : Vec F S512x128 .f32) : Vec F S512x1024 .f32 :=
  View.canon [⟨r0_1, k0_pay9 (View.ld x0 r0_1) (k0_pay61 x0 x1 x2 x3 x4 x5 x6 x7 x8 x9 x10 x11 x12) (View.ld x4 r0_2)⟩,
    ⟨r0_0, k0_pay8 (View.ld x0 r0_0) (k0_pay62 x0 x1 x2 x3 x4 x5 x6 x7 x8 x9 x10 x11 x12) (k0_pay63 x0 x1 x2 x3 x4 x5 x6 x7 x8 x9 x10 x11 x12)⟩]

/-- Its stores tile the buffer (checked by evaluation), so they cover it. -/
theorem cover0_13 (p0 : Vec F S256x1024 .f32) (p1 : Vec F S256x1024 .f32) (y : S512x1024.Idx) :
    ∃ pc ∈ ([⟨r0_1, p0⟩, ⟨r0_0, p1⟩] : List (View.Piece (Elt F) S512x1024 .f32)), y ∈ pc.1.set :=
  View.cover_of_tiled [⟨r0_1, p0⟩, ⟨r0_0, p1⟩] S256x1024.size (by rfl) y

/-- Window 14's staging buffer after the body, from the input windows' blocks: its 8 stores as pieces, the last
    one first. -/
def out0_14 (x0 : Vec F S512x1024 .f32) (x1 : Vec F S1x1024 .f32) (x2 : Vec F S1024x5632 .bf16) (x3 : Vec F S2816x1024 .bf16) (x4 : Vec F S1x1024 .f32) (x5 : Vec F S1x1024 .f32) (x6 : Vec F S3840x1024 .bf16) (x7 : Vec F S128x1024 .bf16) (x8 : Vec F S2048x1024 .bf16) (x9 : Vec F S1x128 .f32) (x10 : Vec F S512x128 .f32) (x11 : Vec F S512x128 .f32) (x12 : Vec F S512x128 .f32) : Vec F S512x512 .bf16 :=
  View.canon [⟨r0_27, k0_pay49 (k0_pay74 x0 x1 x2 x3 x4 x5 x6 x7 x8 x9 x10 x11 x12) (k0_pay75 x0 x1 x2 x3 x4 x5 x6 x7 x8 x9 x10 x11 x12) (k0_pay76 x0 x1 x2 x3 x4 x5 x6 x7 x8 x9 x10 x11 x12) (k0_pay77 x0 x1 x2 x3 x4 x5 x6 x7 x8 x9 x10 x11 x12)⟩,
    ⟨r0_26, k0_pay48 (k0_pay74 x0 x1 x2 x3 x4 x5 x6 x7 x8 x9 x10 x11 x12) (k0_pay75 x0 x1 x2 x3 x4 x5 x6 x7 x8 x9 x10 x11 x12) (k0_pay76 x0 x1 x2 x3 x4 x5 x6 x7 x8 x9 x10 x11 x12) (k0_pay77 x0 x1 x2 x3 x4 x5 x6 x7 x8 x9 x10 x11 x12)⟩,
    ⟨r0_25, k0_pay47 (k0_pay45 (k0_pay66 x0 x1 x2 x3 x4 x5 x6 x7 x8 x9 x10 x11 x12) (View.ld x6 r0_5) (View.ld x10 r0_23) (View.ld x11 r0_23)) (k0_pay46 (k0_pay66 x0 x1 x2 x3 x4 x5 x6 x7 x8 x9 x10 x11 x12) (View.ld x6 r0_5) (View.ld x12 r0_23))⟩,
    ⟨r0_24, k0_pay43 (k0_pay66 x0 x1 x2 x3 x4 x5 x6 x7 x8 x9 x10 x11 x12) (View.ld x6 r0_5) (View.ld x10 r0_23) (View.ld x11 r0_23) (View.ld x12 r0_23)⟩,
    ⟨r0_10, k0_pay22 (k0_pay68 x0 x1 x2 x3 x4 x5 x6 x7 x8 x9 x10 x11 x12) (k0_pay69 x0 x1 x2 x3 x4 x5 x6 x7 x8 x9 x10 x11 x12) (k0_pay70 x0 x1 x2 x3 x4 x5 x6 x7 x8 x9 x10 x11 x12) (k0_pay71 x0 x1 x2 x3 x4 x5 x6 x7 x8 x9 x10 x11 x12)⟩,
    ⟨r0_9, k0_pay21 (k0_pay68 x0 x1 x2 x3 x4 x5 x6 x7 x8 x9 x10 x11 x12) (k0_pay69 x0 x1 x2 x3 x4 x5 x6 x7 x8 x9 x10 x11 x12) (k0_pay70 x0 x1 x2 x3 x4 x5 x6 x7 x8 x9 x10 x11 x12) (k0_pay71 x0 x1 x2 x3 x4 x5 x6 x7 x8 x9 x10 x11 x12)⟩,
    ⟨r0_8, k0_pay20 (k0_pay70 x0 x1 x2 x3 x4 x5 x6 x7 x8 x9 x10 x11 x12) (k0_pay71 x0 x1 x2 x3 x4 x5 x6 x7 x8 x9 x10 x11 x12) (k0_pay18 (k0_pay64 x0 x1 x2 x3 x4 x5 x6 x7 x8 x9 x10 x11 x12) (View.ld x6 r0_5)) (k0_pay19 (k0_pay64 x0 x1 x2 x3 x4 x5 x6 x7 x8 x9 x10 x11 x12) (View.ld x6 r0_5) (View.ld x10 r0_6)) 120#32⟩,
    ⟨r0_7, k0_pay17 (k0_pay64 x0 x1 x2 x3 x4 x5 x6 x7 x8 x9 x10 x11 x12) (View.ld x6 r0_5) (View.ld x10 r0_6) (View.ld x11 r0_6) (View.ld x12 r0_6)⟩]

/-- Its stores tile the buffer (checked by evaluation), so they cover it. -/
theorem cover0_14 (p0 : Vec F S256x128 .bf16) (p1 : Vec F S256x128 .bf16) (p2 : Vec F S256x128 .bf16) (p3 : Vec F S256x128 .bf16) (p4 : Vec F S256x128 .bf16) (p5 : Vec F S256x128 .bf16) (p6 : Vec F S256x128 .bf16) (p7 : Vec F S256x128 .bf16) (y : S512x512.Idx) :
    ∃ pc ∈ ([⟨r0_27, p0⟩, ⟨r0_26, p1⟩, ⟨r0_25, p2⟩, ⟨r0_24, p3⟩, ⟨r0_10, p4⟩, ⟨r0_9, p5⟩, ⟨r0_8, p6⟩, ⟨r0_7, p7⟩] : List (View.Piece (Elt F) S512x512 .bf16)), y ∈ pc.1.set :=
  View.cover_of_tiled [⟨r0_27, p0⟩, ⟨r0_26, p1⟩, ⟨r0_25, p2⟩, ⟨r0_24, p3⟩, ⟨r0_10, p4⟩, ⟨r0_9, p5⟩, ⟨r0_8, p6⟩, ⟨r0_7, p7⟩] S256x128.size (by rfl) y

/-- Window 15's staging buffer after the body, from the input windows' blocks: its 4 stores as pieces, the last
    one first. -/
def out0_15 (x0 : Vec F S512x1024 .f32) (x1 : Vec F S1x1024 .f32) (x2 : Vec F S1024x5632 .bf16) (x3 : Vec F S2816x1024 .bf16) (x4 : Vec F S1x1024 .f32) (x5 : Vec F S1x1024 .f32) (x6 : Vec F S3840x1024 .bf16) (x7 : Vec F S128x1024 .bf16) (x8 : Vec F S2048x1024 .bf16) (x9 : Vec F S1x128 .f32) (x10 : Vec F S512x128 .f32) (x11 : Vec F S512x128 .f32) (x12 : Vec F S512x128 .f32) : Vec F S512x256 .bf16 :=
  View.canon [⟨r0_29, k0_pay53 (k0_pay67 x0 x1 x2 x3 x4 x5 x6 x7 x8 x9 x10 x11 x12) (k0_pay50 (k0_pay74 x0 x1 x2 x3 x4 x5 x6 x7 x8 x9 x10 x11 x12) (k0_pay75 x0 x1 x2 x3 x4 x5 x6 x7 x8 x9 x10 x11 x12) (k0_pay76 x0 x1 x2 x3 x4 x5 x6 x7 x8 x9 x10 x11 x12) (k0_pay77 x0 x1 x2 x3 x4 x5 x6 x7 x8 x9 x10 x11 x12)) (k0_pay51 (k0_pay74 x0 x1 x2 x3 x4 x5 x6 x7 x8 x9 x10 x11 x12) (k0_pay75 x0 x1 x2 x3 x4 x5 x6 x7 x8 x9 x10 x11 x12) (k0_pay76 x0 x1 x2 x3 x4 x5 x6 x7 x8 x9 x10 x11 x12) (k0_pay77 x0 x1 x2 x3 x4 x5 x6 x7 x8 x9 x10 x11 x12))⟩,
    ⟨r0_28, k0_pay52 (k0_pay67 x0 x1 x2 x3 x4 x5 x6 x7 x8 x9 x10 x11 x12) (k0_pay74 x0 x1 x2 x3 x4 x5 x6 x7 x8 x9 x10 x11 x12) (k0_pay75 x0 x1 x2 x3 x4 x5 x6 x7 x8 x9 x10 x11 x12) (k0_pay76 x0 x1 x2 x3 x4 x5 x6 x7 x8 x9 x10 x11 x12) (k0_pay77 x0 x1 x2 x3 x4 x5 x6 x7 x8 x9 x10 x11 x12)⟩,
    ⟨r0_12, k0_pay29 (k0_pay67 x0 x1 x2 x3 x4 x5 x6 x7 x8 x9 x10 x11 x12) (k0_pay72 x0 x1 x2 x3 x4 x5 x6 x7 x8 x9 x10 x11 x12) (k0_pay73 x0 x1 x2 x3 x4 x5 x6 x7 x8 x9 x10 x11 x12)⟩,
    ⟨r0_11, k0_pay28 (k0_pay67 x0 x1 x2 x3 x4 x5 x6 x7 x8 x9 x10 x11 x12) (k0_pay72 x0 x1 x2 x3 x4 x5 x6 x7 x8 x9 x10 x11 x12) (k0_pay73 x0 x1 x2 x3 x4 x5 x6 x7 x8 x9 x10 x11 x12)⟩]

/-- Its stores tile the buffer (checked by evaluation), so they cover it. -/
theorem cover0_15 (p0 : Vec F S256x128 .bf16) (p1 : Vec F S256x128 .bf16) (p2 : Vec F S256x128 .bf16) (p3 : Vec F S256x128 .bf16) (y : S512x256.Idx) :
    ∃ pc ∈ ([⟨r0_29, p0⟩, ⟨r0_28, p1⟩, ⟨r0_12, p2⟩, ⟨r0_11, p3⟩] : List (View.Piece (Elt F) S512x256 .bf16)), y ∈ pc.1.set :=
  View.cover_of_tiled [⟨r0_29, p0⟩, ⟨r0_28, p1⟩, ⟨r0_12, p2⟩, ⟨r0_11, p3⟩] S256x128.size (by rfl) y

/-- Window 16's staging buffer after the body, from the input windows' blocks: its 2 stores as pieces, the last
    one first. -/
def out0_16 (x0 : Vec F S512x1024 .f32) (x1 : Vec F S1x1024 .f32) (x2 : Vec F S1024x5632 .bf16) (x3 : Vec F S2816x1024 .bf16) (x4 : Vec F S1x1024 .f32) (x5 : Vec F S1x1024 .f32) (x6 : Vec F S3840x1024 .bf16) (x7 : Vec F S128x1024 .bf16) (x8 : Vec F S2048x1024 .bf16) (x9 : Vec F S1x128 .f32) (x10 : Vec F S512x128 .f32) (x11 : Vec F S512x128 .f32) (x12 : Vec F S512x128 .f32) : Vec F S160x512 .bf16 :=
  View.canon [⟨r0_30, k0_pay54 (k0_pay74 x0 x1 x2 x3 x4 x5 x6 x7 x8 x9 x10 x11 x12)⟩,
    ⟨r0_13, k0_pay30 (k0_pay68 x0 x1 x2 x3 x4 x5 x6 x7 x8 x9 x10 x11 x12)⟩]

/-- Its stores tile the buffer (checked by evaluation), so they cover it. -/
theorem cover0_16 (p0 : Vec F S160x256 .bf16) (p1 : Vec F S160x256 .bf16) (y : S160x512.Idx) :
    ∃ pc ∈ ([⟨r0_30, p0⟩, ⟨r0_13, p1⟩] : List (View.Piece (Elt F) S160x512 .bf16)), y ∈ pc.1.set :=
  View.cover_of_tiled [⟨r0_30, p0⟩, ⟨r0_13, p1⟩] S160x256.size (by rfl) y

/-- Window 17's staging buffer after the body, from the input windows' blocks: its 2 stores as pieces, the last
    one first. -/
def out0_17 (x0 : Vec F S512x1024 .f32) (x1 : Vec F S1x1024 .f32) (x2 : Vec F S1024x5632 .bf16) (x3 : Vec F S2816x1024 .bf16) (x4 : Vec F S1x1024 .f32) (x5 : Vec F S1x1024 .f32) (x6 : Vec F S3840x1024 .bf16) (x7 : Vec F S128x1024 .bf16) (x8 : Vec F S2048x1024 .bf16) (x9 : Vec F S1x128 .f32) (x10 : Vec F S512x128 .f32) (x11 : Vec F S512x128 .f32) (x12 : Vec F S512x128 .f32) : Vec F S512x512 .bf16 :=
  View.canon [⟨r0_31, k0_pay56 (k0_pay66 x0 x1 x2 x3 x4 x5 x6 x7 x8 x9 x10 x11 x12) (View.ld x6 r0_14)⟩,
    ⟨r0_15, k0_pay32 (k0_pay64 x0 x1 x2 x3 x4 x5 x6 x7 x8 x9 x10 x11 x12) (View.ld x6 r0_14)⟩]

/-- Its stores tile the buffer (checked by evaluation), so they cover it. -/
theorem cover0_17 (p0 : Vec F S256x512 .bf16) (p1 : Vec F S256x512 .bf16) (y : S512x512.Idx) :
    ∃ pc ∈ ([⟨r0_31, p0⟩, ⟨r0_15, p1⟩] : List (View.Piece (Elt F) S512x512 .bf16)), y ∈ pc.1.set :=
  View.cover_of_tiled [⟨r0_31, p0⟩, ⟨r0_15, p1⟩] S256x512.size (by rfl) y

/-- Window 18's staging buffer after the body, from the input windows' blocks: its 2 stores as pieces, the last
    one first. -/
def out0_18 (x0 : Vec F S512x1024 .f32) (x1 : Vec F S1x1024 .f32) (x2 : Vec F S1024x5632 .bf16) (x3 : Vec F S2816x1024 .bf16) (x4 : Vec F S1x1024 .f32) (x5 : Vec F S1x1024 .f32) (x6 : Vec F S3840x1024 .bf16) (x7 : Vec F S128x1024 .bf16) (x8 : Vec F S2048x1024 .bf16) (x9 : Vec F S1x128 .f32) (x10 : Vec F S512x128 .f32) (x11 : Vec F S512x128 .f32) (x12 : Vec F S512x128 .f32) : Vec F S512x512 .bf16 :=
  View.canon [⟨r0_31, k0_pay57 (k0_pay66 x0 x1 x2 x3 x4 x5 x6 x7 x8 x9 x10 x11 x12) (View.ld x6 r0_14)⟩,
    ⟨r0_15, k0_pay33 (k0_pay64 x0 x1 x2 x3 x4 x5 x6 x7 x8 x9 x10 x11 x12) (View.ld x6 r0_14)⟩]

/-- Its stores tile the buffer (checked by evaluation), so they cover it. -/
theorem cover0_18 (p0 : Vec F S256x512 .bf16) (p1 : Vec F S256x512 .bf16) (y : S512x512.Idx) :
    ∃ pc ∈ ([⟨r0_31, p0⟩, ⟨r0_15, p1⟩] : List (View.Piece (Elt F) S512x512 .bf16)), y ∈ pc.1.set :=
  View.cover_of_tiled [⟨r0_31, p0⟩, ⟨r0_15, p1⟩] S256x512.size (by rfl) y

/-- Window 19's staging buffer after the body, from the input windows' blocks: its 2 stores as pieces, the last
    one first. -/
def out0_19 (x0 : Vec F S512x1024 .f32) (x1 : Vec F S1x1024 .f32) (x2 : Vec F S1024x5632 .bf16) (x3 : Vec F S2816x1024 .bf16) (x4 : Vec F S1x1024 .f32) (x5 : Vec F S1x1024 .f32) (x6 : Vec F S3840x1024 .bf16) (x7 : Vec F S128x1024 .bf16) (x8 : Vec F S2048x1024 .bf16) (x9 : Vec F S1x128 .f32) (x10 : Vec F S512x128 .f32) (x11 : Vec F S512x128 .f32) (x12 : Vec F S512x128 .f32) : Vec F S512x1024 .bf16 :=
  View.canon [⟨r0_1, k0_pay58 (k0_pay66 x0 x1 x2 x3 x4 x5 x6 x7 x8 x9 x10 x11 x12) (View.ld x6 r0_16)⟩,
    ⟨r0_0, k0_pay34 (k0_pay64 x0 x1 x2 x3 x4 x5 x6 x7 x8 x9 x10 x11 x12) (View.ld x6 r0_16)⟩]

/-- Its stores tile the buffer (checked by evaluation), so they cover it. -/
theorem cover0_19 (p0 : Vec F S256x1024 .bf16) (p1 : Vec F S256x1024 .bf16) (y : S512x1024.Idx) :
    ∃ pc ∈ ([⟨r0_1, p0⟩, ⟨r0_0, p1⟩] : List (View.Piece (Elt F) S512x1024 .bf16)), y ∈ pc.1.set :=
  View.cover_of_tiled [⟨r0_1, p0⟩, ⟨r0_0, p1⟩] S256x1024.size (by rfl) y

/-- Window 20's staging buffer after the body, from the input windows' blocks: its 2 stores as pieces, the last
    one first. -/
def out0_20 (x0 : Vec F S512x1024 .f32) (x1 : Vec F S1x1024 .f32) (x2 : Vec F S1024x5632 .bf16) (x3 : Vec F S2816x1024 .bf16) (x4 : Vec F S1x1024 .f32) (x5 : Vec F S1x1024 .f32) (x6 : Vec F S3840x1024 .bf16) (x7 : Vec F S128x1024 .bf16) (x8 : Vec F S2048x1024 .bf16) (x9 : Vec F S1x128 .f32) (x10 : Vec F S512x128 .f32) (x11 : Vec F S512x128 .f32) (x12 : Vec F S512x128 .f32) : Vec F S512x1024 .bf16 :=
  View.canon [⟨r0_1, k0_pay59 (k0_pay66 x0 x1 x2 x3 x4 x5 x6 x7 x8 x9 x10 x11 x12) (View.ld x6 r0_17)⟩,
    ⟨r0_0, k0_pay36 (k0_pay64 x0 x1 x2 x3 x4 x5 x6 x7 x8 x9 x10 x11 x12) (k0_pay35 (View.ld x6 r0_17))⟩]

/-- Its stores tile the buffer (checked by evaluation), so they cover it. -/
theorem cover0_20 (p0 : Vec F S256x1024 .bf16) (p1 : Vec F S256x1024 .bf16) (y : S512x1024.Idx) :
    ∃ pc ∈ ([⟨r0_1, p0⟩, ⟨r0_0, p1⟩] : List (View.Piece (Elt F) S512x1024 .bf16)), y ∈ pc.1.set :=
  View.cover_of_tiled [⟨r0_1, p0⟩, ⟨r0_0, p1⟩] S256x1024.size (by rfl) y

/-- Window 21's staging buffer after the body, from the input windows' blocks: its 2 stores as pieces, the last
    one first. -/
def out0_21 (x0 : Vec F S512x1024 .f32) (x1 : Vec F S1x1024 .f32) (x2 : Vec F S1024x5632 .bf16) (x3 : Vec F S2816x1024 .bf16) (x4 : Vec F S1x1024 .f32) (x5 : Vec F S1x1024 .f32) (x6 : Vec F S3840x1024 .bf16) (x7 : Vec F S128x1024 .bf16) (x8 : Vec F S2048x1024 .bf16) (x9 : Vec F S1x128 .f32) (x10 : Vec F S512x128 .f32) (x11 : Vec F S512x128 .f32) (x12 : Vec F S512x128 .f32) : Vec F S16x512 .f32 :=
  View.canon [⟨r0_32, k0_pay60 (k0_pay66 x0 x1 x2 x3 x4 x5 x6 x7 x8 x9 x10 x11 x12) (k0_pay65 x0 x1 x2 x3 x4 x5 x6 x7 x8 x9 x10 x11 x12) (View.ld x7 r0_18) (View.ld x9 r0_19)⟩,
    ⟨r0_20, k0_pay37 (k0_pay64 x0 x1 x2 x3 x4 x5 x6 x7 x8 x9 x10 x11 x12) (k0_pay65 x0 x1 x2 x3 x4 x5 x6 x7 x8 x9 x10 x11 x12) (View.ld x7 r0_18) (View.ld x9 r0_19)⟩]

/-- Its stores tile the buffer (checked by evaluation), so they cover it. -/
theorem cover0_21 (p0 : Vec F S16x256 .f32) (p1 : Vec F S16x256 .f32) (y : S16x512.Idx) :
    ∃ pc ∈ ([⟨r0_32, p0⟩, ⟨r0_20, p1⟩] : List (View.Piece (Elt F) S16x512 .f32)), y ∈ pc.1.set :=
  View.cover_of_tiled [⟨r0_32, p0⟩, ⟨r0_20, p1⟩] S16x256.size (by rfl) y

/-- Window 22's staging buffer after the body, from the input windows' blocks: its 2 stores as pieces, the last
    one first. -/
def out0_22 (x0 : Vec F S512x1024 .f32) (x1 : Vec F S1x1024 .f32) (x2 : Vec F S1024x5632 .bf16) (x3 : Vec F S2816x1024 .bf16) (x4 : Vec F S1x1024 .f32) (x5 : Vec F S1x1024 .f32) (x6 : Vec F S3840x1024 .bf16) (x7 : Vec F S128x1024 .bf16) (x8 : Vec F S2048x1024 .bf16) (x9 : Vec F S1x128 .f32) (x10 : Vec F S512x128 .f32) (x11 : Vec F S512x128 .f32) (x12 : Vec F S512x128 .f32) : Vec F S512x2048 .bf16 :=
  View.canon [⟨r0_33, k0_pay1 (k0_pay66 x0 x1 x2 x3 x4 x5 x6 x7 x8 x9 x10 x11 x12) (View.ld x8 r0_21)⟩,
    ⟨r0_22, k0_pay38 (k0_pay64 x0 x1 x2 x3 x4 x5 x6 x7 x8 x9 x10 x11 x12) (View.ld x8 r0_21)⟩]

/-- Its stores tile the buffer (checked by evaluation), so they cover it. -/
theorem cover0_22 (p0 : Vec F S256x2048 .bf16) (p1 : Vec F S256x2048 .bf16) (y : S512x2048.Idx) :
    ∃ pc ∈ ([⟨r0_33, p0⟩, ⟨r0_22, p1⟩] : List (View.Piece (Elt F) S512x2048 .bf16)), y ∈ pc.1.set :=
  View.cover_of_tiled [⟨r0_33, p0⟩, ⟨r0_22, p1⟩] S256x2048.size (by rfl) y

/-! ## The body's triple -/

set_option maxHeartbeats 1000000 in
/-- The kernel body on whole staging memrefs, the inputs' at read contents `xW` and the outputs' at anything, runs to
    the continuation holding the inputs' as they were and each output's at `out0_W` of the inputs'. -/
theorem sound_kernel (c : Dev nD) (E : Set ℕ) (i : grid0.Coords) (arg1 : Memref sig .tc .vmem S512x1024 .f32) (harg1 : arg1.IsWhole) (arg2 : Memref sig .tc .vmem S1x1024 .f32) (harg2 : arg2.IsWhole) (arg3 : Memref sig .tc .vmem S1024x5632 .bf16) (harg3 : arg3.IsWhole) (arg4 : Memref sig .tc .vmem S2816x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S3840x1024 .bf16) (harg7 : arg7.IsWhole) (arg8 : Memref sig .tc .vmem S128x1024 .bf16) (harg8 : arg8.IsWhole) (arg9 : Memref sig .tc .vmem S2048x1024 .bf16) (harg9 : arg9.IsWhole) (arg10 : Memref sig .tc .vmem S1x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x1024 .f32) (harg14 : arg14.IsWhole) (arg15 : Memref sig .tc .vmem S512x512 .bf16) (harg15 : arg15.IsWhole) (arg16 : Memref sig .tc .vmem S512x256 .bf16) (harg16 : arg16.IsWhole) (arg17 : Memref sig .tc .vmem S160x512 .bf16) (harg17 : arg17.IsWhole) (arg18 : Memref sig .tc .vmem S512x512 .bf16) (harg18 : arg18.IsWhole) (arg19 : Memref sig .tc .vmem S512x512 .bf16) (harg19 : arg19.IsWhole) (arg20 : Memref sig .tc .vmem S512x1024 .bf16) (harg20 : arg20.IsWhole) (arg21 : Memref sig .tc .vmem S512x1024 .bf16) (harg21 : arg21.IsWhole) (arg22 : Memref sig .tc .vmem S16x512 .f32) (harg22 : arg22.IsWhole) (arg23 : Memref sig .tc .vmem S512x2048 .bf16) (harg23 : arg23.IsWhole)
    (x0 : Vec F S512x1024 .f32) (x1 : Vec F S1x1024 .f32) (x2 : Vec F S1024x5632 .bf16) (x3 : Vec F S2816x1024 .bf16) (x4 : Vec F S1x1024 .f32) (x5 : Vec F S1x1024 .f32) (x6 : Vec F S3840x1024 .bf16) (x7 : Vec F S128x1024 .bf16) (x8 : Vec F S2048x1024 .bf16) (x9 : Vec F S1x128 .f32) (x10 : Vec F S512x128 .f32) (x11 : Vec F S512x128 .f32) (x12 : Vec F S512x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (out0_13 x0 x1 x2 x3 x4 x5 x6 x7 x8 x9 x10 x11 x12) ∗ owns (c : Thread nD τ) arg15 fullShare (out0_14 x0 x1 x2 x3 x4 x5 x6 x7 x8 x9 x10 x11 x12) ∗ owns (c : Thread nD τ) arg16 fullShare (out0_15 x0 x1 x2 x3 x4 x5 x6 x7 x8 x9 x10 x11 x12) ∗ owns (c : Thread nD τ) arg17 fullShare (out0_16 x0 x1 x2 x3 x4 x5 x6 x7 x8 x9 x10 x11 x12) ∗ owns (c : Thread nD τ) arg18 fullShare (out0_17 x0 x1 x2 x3 x4 x5 x6 x7 x8 x9 x10 x11 x12) ∗ owns (c : Thread nD τ) arg19 fullShare (out0_18 x0 x1 x2 x3 x4 x5 x6 x7 x8 x9 x10 x11 x12) ∗ owns (c : Thread nD τ) arg20 fullShare (out0_19 x0 x1 x2 x3 x4 x5 x6 x7 x8 x9 x10 x11 x12) ∗ owns (c : Thread nD τ) arg21 fullShare (out0_20 x0 x1 x2 x3 x4 x5 x6 x7 x8 x9 x10 x11 x12) ∗ owns (c : Thread nD τ) arg22 fullShare (out0_21 x0 x1 x2 x3 x4 x5 x6 x7 x8 x9 x10 x11 x12) ∗ owns (c : Thread nD τ) arg23 fullShare (out0_22 x0 x1 x2 x3 x4 x5 x6 x7 x8 x9 x10 x11 x12)) -∗ K ⟨⟩))
      ⊢ wp frame (wpE (defs₀ (F := F)) Variants.none c none) E (cc0_ffn1_inproj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_ffn1_inproj_eq_skeleton]; unfold cc0_ffn1_inproj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    refine (View.read_writes_eq_canon _ _ _ (cover0_13 _ _)).trans ?_
    rfl
  isplitl [H14]
  · iexists _; isplitr
    swap; · iexact H14
    ipureintro
    refine (View.read_writes_eq_canon _ _ _ (cover0_14 _ _ _ _ _ _ _ _)).trans ?_
    rfl
  isplitl [H15]
  · iexists _; isplitr
    swap; · iexact H15
    ipureintro
    refine (View.read_writes_eq_canon _ _ _ (cover0_15 _ _ _ _)).trans ?_
    rfl
  isplitl [H16]
  · iexists _; isplitr
    swap; · iexact H16
    ipureintro
    refine (View.read_writes_eq_canon _ _ _ (cover0_16 _ _)).trans ?_
    rfl
  isplitl [H17]
  · iexists _; isplitr
    swap; · iexact H17
    ipureintro
    refine (View.read_writes_eq_canon _ _ _ (cover0_17 _ _)).trans ?_
    rfl
  isplitl [H18]
  · iexists _; isplitr
    swap; · iexact H18
    ipureintro
    refine (View.read_writes_eq_canon _ _ _ (cover0_18 _ _)).trans ?_
    rfl
  isplitl [H19]
  · iexists _; isplitr
    swap; · iexact H19
    ipureintro
    refine (View.read_writes_eq_canon _ _ _ (cover0_19 _ _)).trans ?_
    rfl
  isplitl [H20]
  · iexists _; isplitr
    swap; · iexact H20
    ipureintro
    refine (View.read_writes_eq_canon _ _ _ (cover0_20 _ _)).trans ?_
    rfl
  isplitl [H21]
  · iexists _; isplitr
    swap; · iexact H21
    ipureintro
    refine (View.read_writes_eq_canon _ _ _ (cover0_21 _ _)).trans ?_
    rfl
  iexists _; isplitr
  swap; · iexact H22
  ipureintro
  refine (View.read_writes_eq_canon _ _ _ (cover0_22 _ _)).trans ?_
  rfl

/-! ## The pipeline's proof data -/

/-- The proof data of the one pipeline on core `c`: the arrays as the region finds them (`V`); after the body at
    point `t` each input's buffer at its block and each output's at `out0_W` of the input blocks; nothing else changes and
    nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨14, _⟩ => out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨16, _⟩ => out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨_ + 23, h⟩ => absurd h (Nat.not_lt.2 (Nat.le_add_left _ _))
  Φ _ := Pipeline.ΦA spec0 c
  q _ := fullShare
  owed _ := 0

/-- The proof data's arrays are the contents at the region's entry. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-! ## The body obligation, at a generic point -/

/-- What the body is called with at point `t` (the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  iintro ⟨H0, H1, H2, H3, H4, H5, H6, H7, H8, H9, H10, H11, H12, H13, H14, H15, H16, H17, H18, H19, H20, H21, H22⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 1600000 in
/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- THE FRAME: every run ends, keeps the arguments, and leaves every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.ProjIdeal.Run

end
-- ==== Proof.ProjTile.lean ====
module

public import proofs.«01_k».proof.Proof.ProjStage
public import proofs.«01_k».proof.Proof.ProjIdealRun
public import Idealize.ShloMosaic.Lib.Pipeline.ValueKit.Tiles

@[expose] public section

set_option maxRecDepth 16384

noncomputable section

namespace Cert.ProjIdeal.Row

open Cert.RowMath
open Cert.ProjIdeal Cert.ProjIdeal.Gen Cert.ProjIdeal.Run Idealize.ShloMosaic Idealize.ShloMosaic.TcCoe Idealize.SL.Sem

theorem inb_h : ∀ (s : Fin 2) a, (![256 * s.val, 0] : Fin 2 → Nat) a + S256x1024.size a ≤ S512x1024.size a := by decide
theorem inb_t : ∀ (s : Fin 2) a, (![256 * s.val, 0] : Fin 2 → Nat) a + S256x128.size a ≤ S512x128.size a := by decide

section Pieces

variable {F : FTy → Type} [FloatOps F] [Named F]
variable (x0 : Vec F S512x1024 .f32) (x1 : Vec F S1x1024 .f32) (x2 : Vec F S1024x5632 .bf16) (x3 : Vec F S2816x1024 .bf16) (x4 : Vec F S1x1024 .f32) (x5 : Vec F S1x1024 .f32) (x6 : Vec F S3840x1024 .bf16) (x7 : Vec F S128x1024 .bf16) (x8 : Vec F S2048x1024 .bf16) (x9 : Vec F S1x128 .f32) (x10 : Vec F S512x128 .f32) (x11 : Vec F S512x128 .f32) (x12 : Vec F S512x128 .f32)

/-- Half `s` of a tile after the feed-forward half step. -/
def firstT (s : Fin 2) : FVec F S256x1024 .f32 :=
  ffnT (View.ld x0 (Rect.unit ![256 * s.val, 0] S256x1024.size (inb_h s))) (View.ld x1 r0_2) (View.ld x2 r0_3) (View.ld x3 r0_4) (View.ld x4 r0_2)

/-- The normed rows of half `s` of a tile. -/
def normedT (s : Fin 2) : FVec F S256x1024 .bf16 := rowsT (firstT x0 x1 x2 x3 x4 s) (View.ld x5 r0_2)

/-- Half `s` of a table's tile. -/
def tabT (x : Vec F S512x128 .f32) (s : Fin 2) : FVec F S256x128 .f32 :=
  shapeCast S256x128 (View.ld x (Rect.unit ![256 * s.val, 0] S256x128.size (inb_t s))) shapeCasts_S256x128_S256x128

/-- The attention's columns of half `s` of a tile. -/
def attS (s : Fin 2) : FVec F S256x768 .f32 := attT (normedT x0 x1 x2 x3 x4 x5 s) (View.ld x6 r0_5)

/-- The rotated keys of half `s` of a tile. -/
def keyS (s : Fin 2) : FVec F S256x128 .f32 :=
  rotT (extractStridedSlice S256x128 ![0, 512] (attS x0 x1 x2 x3 x4 x5 x6 s) slices_S256x768_o0_512_S256x128) (tabT x10 s) (tabT x11 s) (tabT x12 s)

theorem first1 : k0_pay9 (View.ld x0 r0_1) (k0_pay61 x0 x1 x2 x3 x4 x5 x6 x7 x8 x9 x10 x11 x12) (View.ld x4 r0_2) = firstT x0 x1 x2 x3 x4 1 := by
  have e : k0_pay61 x0 x1 x2 x3 x4 x5 x6 x7 x8 x9 x10 x11 x12 = downT (hiddenT (upT (truncf .bf16 (normT (View.ld x0 r0_1) (View.ld x1 r0_2)) bitsLt_bf16_f32) (View.ld x2 r0_3))) (View.ld x3 r0_4) := rfl
  rw [e]
  rfl

theorem first0 : k0_pay8 (View.ld x0 r0_0) (k0_pay62 x0 x1 x2 x3 x4 x5 x6 x7 x8 x9 x10 x11 x12) (k0_pay63 x0 x1 x2 x3 x4 x5 x6 x7 x8 x9 x10 x11 x12) = firstT x0 x1 x2 x3 x4 0 := by
  have e : k0_pay63 x0 x1 x2 x3 x4 x5 x6 x7 x8 x9 x10 x11 x12 = unitT (downT (hiddenT (upT (truncf .bf16 (normT (View.ld x0 r0_0) (View.ld x1 r0_2)) bitsLt_bf16_f32) (View.ld x2 r0_3))) (View.ld x3 r0_4)) := rfl
  rw [e]
  rfl

theorem normed1 : k0_pay66 x0 x1 x2 x3 x4 x5 x6 x7 x8 x9 x10 x11 x12 = normedT x0 x1 x2 x3 x4 x5 1 := by
  show k0_pay11 (k0_pay9 (View.ld x0 r0_1) (k0_pay61 x0 x1 x2 x3 x4 x5 x6 x7 x8 x9 x10 x11 x12) (View.ld x4 r0_2)) (View.ld x5 r0_2) = _
  rw [first1]
  rfl

theorem normed0 : k0_pay64 x0 x1 x2 x3 x4 x5 x6 x7 x8 x9 x10 x11 x12 = normedT x0 x1 x2 x3 x4 x5 0 := by
  show k0_pay11 (k0_pay8 (View.ld x0 r0_0) (k0_pay62 x0 x1 x2 x3 x4 x5 x6 x7 x8 x9 x10 x11 x12) (k0_pay63 x0 x1 x2 x3 x4 x5 x6 x7 x8 x9 x10 x11 x12)) (View.ld x5 r0_2) = _
  rw [first0]
  rfl

theorem att0 : k0_pay68 x0 x1 x2 x3 x4 x5 x6 x7 x8 x9 x10 x11 x12 = attS x0 x1 x2 x3 x4 x5 x6 0 := by
  show attT (k0_pay64 x0 x1 x2 x3 x4 x5 x6 x7 x8 x9 x10 x11 x12) (View.ld x6 r0_5) = _
  rw [normed0]
  rfl

theorem att1 : k0_pay74 x0 x1 x2 x3 x4 x5 x6 x7 x8 x9 x10 x11 x12 = attS x0 x1 x2 x3 x4 x5 x6 1 := by
  show attT (k0_pay66 x0 x1 x2 x3 x4 x5 x6 x7 x8 x9 x10 x11 x12) (View.ld x6 r0_5) = _
  rw [normed1]
  rfl

/-! ## The stores' values -/

theorem piece14_0 : k0_pay49 (k0_pay74 x0 x1 x2 x3 x4 x5 x6 x7 x8 x9 x10 x11 x12) (k0_pay75 x0 x1 x2 x3 x4 x5 x6 x7 x8 x9 x10 x11 x12) (k0_pay76 x0 x1 x2 x3 x4 x5 x6 x7 x8 x9 x10 x11 x12) (k0_pay77 x0 x1 x2 x3 x4 x5 x6 x7 x8 x9 x10 x11 x12)
    = queryT (extractStridedSlice S256x128 ![0, 384] (attS x0 x1 x2 x3 x4 x5 x6 1) slices_S256x768_o0_384_S256x128) (tabT x10 1) (tabT x11 1) (tabT x12 1) := by
  show queryT (extractStridedSlice S256x128 ![0, 384] (k0_pay74 x0 x1 x2 x3 x4 x5 x6 x7 x8 x9 x10 x11 x12) slices_S256x768_o0_384_S256x128) (tabT x10 1) (tabT x11 1) (tabT x12 1) = _
  rw [att1]

theorem piece14_1 : k0_pay48 (k0_pay74 x0 x1 x2 x3 x4 x5 x6 x7 x8 x9 x10 x11 x12) (k0_pay75 x0 x1 x2 x3 x4 x5 x6 x7 x8 x9 x10 x11 x12) (k0_pay76 x0 x1 x2 x3 x4 x5 x6 x7 x8 x9 x10 x11 x12) (k0_pay77 x0 x1 x2 x3 x4 x5 x6 x7 x8 x9 x10 x11 x12)
    = queryT (extractStridedSlice S256x128 ![0, 256] (attS x0 x1 x2 x3 x4 x5 x6 1) slices_S256x768_o0_256_S256x128) (tabT x10 1) (tabT x11 1) (tabT x12 1) := by
  show queryT (extractStridedSlice S256x128 ![0, 256] (k0_pay74 x0 x1 x2 x3 x4 x5 x6 x7 x8 x9 x10 x11 x12) slices_S256x768_o0_256_S256x128) (tabT x10 1) (tabT x11 1) (tabT x12 1) = _
  rw [att1]

theorem piece14_2 : k0_pay47 (k0_pay45 (k0_pay66 x0 x1 x2 x3 x4 x5 x6 x7 x8 x9 x10 x11 x12) (View.ld x6 r0_5) (View.ld x10 r0_23) (View.ld x11 r0_23)) (k0_pay46 (k0_pay66 x0 x1 x2 x3 x4 x5 x6 x7 x8 x9 x10 x11 x12) (View.ld x6 r0_5) (View.ld x12 r0_23))
    = queryT (extractStridedSlice S256x128 ![0, 128] (attS x0 x1 x2 x3 x4 x5 x6 1) slices_S256x768_o0_128_S256x128) (tabT x10 1) (tabT x11 1) (tabT x12 1) := by
  show queryT (extractStridedSlice S256x128 ![0, 128] (attT (k0_pay66 x0 x1 x2 x3 x4 x5 x6 x7 x8 x9 x10 x11 x12) (View.ld x6 r0_5)) slices_S256x768_o0_128_S256x128) (tabT x10 1) (tabT x11 1) (tabT x12 1) = _
  rw [normed1]
  rfl

theorem piece14_3 : k0_pay43 (k0_pay66 x0 x1 x2 x3 x4 x5 x6 x7 x8 x9 x10 x11 x12) (View.ld x6 r0_5) (View.ld x10 r0_23) (View.ld x11 r0_23) (View.ld x12 r0_23)
    = queryT (extractStridedSlice S256x128 ![0, 0] (attS x0 x1 x2 x3 x4 x5 x6 1) slices_S256x768_o0_0_S256x128) (tabT x10 1) (tabT x11 1) (tabT x12 1) := by
  show queryT (extractStridedSlice S256x128 ![0, 0] (attT (k0_pay66 x0 x1 x2 x3 x4 x5 x6 x7 x8 x9 x10 x11 x12) (View.ld x6 r0_5)) slices_S256x768_o0_0_S256x128) (tabT x10 1) (tabT x11 1) (tabT x12 1) = _
  rw [normed1]
  rfl

theorem piece14_4 : k0_pay22 (k0_pay68 x0 x1 x2 x3 x4 x5 x6 x7 x8 x9 x10 x11 x12) (k0_pay69 x0 x1 x2 x3 x4 x5 x6 x7 x8 x9 x10 x11 x12) (k0_pay70 x0 x1 x2 x3 x4 x5 x6 x7 x8 x9 x10 x11 x12) (k0_pay71 x0 x1 x2 x3 x4 x5 x6 x7 x8 x9 x10 x11 x12)
    = queryT (extractStridedSlice S256x128 ![0, 384] (attS x0 x1 x2 x3 x4 x5 x6 0) slices_S256x768_o0_384_S256x128) (tabT x10 0) (tabT x11 0) (tabT x12 0) := by
  show queryT (extractStridedSlice S256x128 ![0, 384] (k0_pay68 x0 x1 x2 x3 x4 x5 x6 x7 x8 x9 x10 x11 x12) slices_S256x768_o0_384_S256x128) (tabT x10 0) (tabT x11 0) (tabT x12 0) = _
  rw [att0]

theorem piece14_5 : k0_pay21 (k0_pay68 x0 x1 x2 x3 x4 x5 x6 x7 x8 x9 x10 x11 x12) (k0_pay69 x0 x1 x2 x3 x4 x5 x6 x7 x8 x9 x10 x11 x12) (k0_pay70 x0 x1 x2 x3 x4 x5 x6 x7 x8 x9 x10 x11 x12) (k0_pay71 x0 x1 x2 x3 x4 x5 x6 x7 x8 x9 x10 x11 x12)
    = queryT (extractStridedSlice S256x128 ![0, 256] (attS x0 x1 x2 x3 x4 x5 x6 0) slices_S256x768_o0_256_S256x128) (tabT x10 0) (tabT x11 0) (tabT x12 0) := by
  show queryT (extractStridedSlice S256x128 ![0, 256] (k0_pay68 x0 x1 x2 x3 x4 x5 x6 x7 x8 x9 x10 x11 x12) slices_S256x768_o0_256_S256x128) (tabT x10 0) (tabT x11 0) (tabT x12 0) = _
  rw [att0]

theorem piece14_6 : k0_pay20 (k0_pay70 x0 x1 x2 x3 x4 x5 x6 x7 x8 x9 x10 x11 x12) (k0_pay71 x0 x1 x2 x3 x4 x5 x6 x7 x8 x9 x10 x11 x12) (k0_pay18 (k0_pay64 x0 x1 x2 x3 x4 x5 x6 x7 x8 x9 x10 x11 x12) (View.ld x6 r0_5)) (k0_pay19 (k0_pay64 x0 x1 x2 x3 x4 x5 x6 x7 x8 x9 x10 x11 x12) (View.ld x6 r0_5) (View.ld x10 r0_6)) 120#32
    = queryT (extractStridedSlice S256x128 ![0, 128] (attS x0 x1 x2 x3 x4 x5 x6 0) slices_S256x768_o0_128_S256x128) (tabT x10 0) (tabT x11 0) (tabT x12 0) := by
  show queryT (extractStridedSlice S256x128 ![0, 128] (attT (k0_pay64 x0 x1 x2 x3 x4 x5 x6 x7 x8 x9 x10 x11 x12) (View.ld x6 r0_5)) slices_S256x768_o0_128_S256x128) (tabT x10 0) (tabT x11 0) (tabT x12 0) = _
  rw [normed0]
  rfl

theorem piece14_7 : k0_pay17 (k0_pay64 x0 x1 x2 x3 x4 x5 x6 x7 x8 x9 x10 x11 x12) (View.ld x6 r0_5) (View.ld x10 r0_6) (View.ld x11 r0_6) (View.ld x12 r0_6)
    = queryT (extractStridedSlice S256x128 ![0, 0] (attS x0 x1 x2 x3 x4 x5 x6 0) slices_S256x768_o0_0_S256x128) (tabT x10 0) (tabT x11 0) (tabT x12 0) := by
  show queryT (extractStridedSlice S256x128 ![0, 0] (attT (k0_pay64 x0 x1 x2 x3 x4 x5 x6 x7 x8 x9 x10 x11 x12) (View.ld x6 r0_5)) slices_S256x768_o0_0_S256x128) (tabT x10 0) (tabT x11 0) (tabT x12 0) = _
  rw [normed0]
  rfl

theorem piece15_0 : k0_pay53 (k0_pay67 x0 x1 x2 x3 x4 x5 x6 x7 x8 x9 x10 x11 x12) (k0_pay50 (k0_pay74 x0 x1 x2 x3 x4 x5 x6 x7 x8 x9 x10 x11 x12) (k0_pay75 x0 x1 x2 x3 x4 x5 x6 x7 x8 x9 x10 x11 x12) (k0_pay76 x0 x1 x2 x3 x4 x5 x6 x7 x8 x9 x10 x11 x12) (k0_pay77 x0 x1 x2 x3 x4 x5 x6 x7 x8 x9 x10 x11 x12)) (k0_pay51 (k0_pay74 x0 x1 x2 x3 x4 x5 x6 x7 x8 x9 x10 x11 x12) (k0_pay75 x0 x1 x2 x3 x4 x5 x6 x7 x8 x9 x10 x11 x12) (k0_pay76 x0 x1 x2 x3 x4 x5 x6 x7 x8 x9 x10 x11 x12) (k0_pay77 x0 x1 x2 x3 x4 x5 x6 x7 x8 x9 x10 x11 x12))
    = keyT' (keyS x0 x1 x2 x3 x4 x5 x6 x10 x11 x12 1) := by
  show keyT' (rotT (extractStridedSlice S256x128 ![0, 512] (k0_pay74 x0 x1 x2 x3 x4 x5 x6 x7 x8 x9 x10 x11 x12) slices_S256x768_o0_512_S256x128) (tabT x10 1) (tabT x11 1) (tabT x12 1)) = _
  rw [att1]
  rfl

theorem piece15_1 : k0_pay52 (k0_pay67 x0 x1 x2 x3 x4 x5 x6 x7 x8 x9 x10 x11 x12) (k0_pay74 x0 x1 x2 x3 x4 x5 x6 x7 x8 x9 x10 x11 x12) (k0_pay75 x0 x1 x2 x3 x4 x5 x6 x7 x8 x9 x10 x11 x12) (k0_pay76 x0 x1 x2 x3 x4 x5 x6 x7 x8 x9 x10 x11 x12) (k0_pay77 x0 x1 x2 x3 x4 x5 x6 x7 x8 x9 x10 x11 x12)
    = keyT (keyS x0 x1 x2 x3 x4 x5 x6 x10 x11 x12 1) := by
  show keyT (rotT (extractStridedSlice S256x128 ![0, 512] (k0_pay74 x0 x1 x2 x3 x4 x5 x6 x7 x8 x9 x10 x11 x12) slices_S256x768_o0_512_S256x128) (tabT x10 1) (tabT x11 1) (tabT x12 1)) = _
  rw [att1]
  rfl

theorem piece15_2 : k0_pay29 (k0_pay67 x0 x1 x2 x3 x4 x5 x6 x7 x8 x9 x10 x11 x12) (k0_pay72 x0 x1 x2 x3 x4 x5 x6 x7 x8 x9 x10 x11 x12) (k0_pay73 x0 x1 x2 x3 x4 x5 x6 x7 x8 x9 x10 x11 x12)
    = keyT' (keyS x0 x1 x2 x3 x4 x5 x6 x10 x11 x12 0) := by
  show keyT' (rotT (extractStridedSlice S256x128 ![0, 512] (k0_pay68 x0 x1 x2 x3 x4 x5 x6 x7 x8 x9 x10 x11 x12) slices_S256x768_o0_512_S256x128) (tabT x10 0) (tabT x11 0) (tabT x12 0)) = _
  rw [att0]
  rfl

theorem piece15_3 : k0_pay28 (k0_pay67 x0 x1 x2 x3 x4 x5 x6 x7 x8 x9 x10 x11 x12) (k0_pay72 x0 x1 x2 x3 x4 x5 x6 x7 x8 x9 x10 x11 x12) (k0_pay73 x0 x1 x2 x3 x4 x5 x6 x7 x8 x9 x10 x11 x12)
    = keyT (keyS x0 x1 x2 x3 x4 x5 x6 x10 x11 x12 0) := by
  show keyT (rotT (extractStridedSlice S256x128 ![0, 512] (k0_pay68 x0 x1 x2 x3 x4 x5 x6 x7 x8 x9 x10 x11 x12) slices_S256x768_o0_512_S256x128) (tabT x10 0) (tabT x11 0) (tabT x12 0)) = _
  rw [att0]
  rfl

theorem piece16_0 : k0_pay54 (k0_pay74 x0 x1 x2 x3 x4 x5 x6 x7 x8 x9 x10 x11 x12)
    = valueT (extractStridedSlice S256x128 ![0, 640] (attS x0 x1 x2 x3 x4 x5 x6 1) slices_S256x768_o0_640_S256x128) := by
  show valueT (extractStridedSlice S256x128 ![0, 640] (k0_pay74 x0 x1 x2 x3 x4 x5 x6 x7 x8 x9 x10 x11 x12) slices_S256x768_o0_640_S256x128) = _
  rw [att1]

theorem piece16_1 : k0_pay30 (k0_pay68 x0 x1 x2 x3 x4 x5 x6 x7 x8 x9 x10 x11 x12)
    = valueT (extractStridedSlice S256x128 ![0, 640] (attS x0 x1 x2 x3 x4 x5 x6 0) slices_S256x768_o0_640_S256x128) := by
  show valueT (extractStridedSlice S256x128 ![0, 640] (k0_pay68 x0 x1 x2 x3 x4 x5 x6 x7 x8 x9 x10 x11 x12) slices_S256x768_o0_640_S256x128) = _
  rw [att0]

theorem piece17_0 : k0_pay56 (k0_pay66 x0 x1 x2 x3 x4 x5 x6 x7 x8 x9 x10 x11 x12) (View.ld x6 r0_14)
    = truncf .bf16 (extractStridedSlice S256x512 ![0, 0] (wideT (normedT x0 x1 x2 x3 x4 x5 1) (View.ld x6 r0_14)) slices_S256x1024_o0_0_S256x512) bitsLt_bf16_f32 := by
  show truncf .bf16 (extractStridedSlice S256x512 ![0, 0] (wideT (k0_pay66 x0 x1 x2 x3 x4 x5 x6 x7 x8 x9 x10 x11 x12) (View.ld x6 r0_14)) slices_S256x1024_o0_0_S256x512) bitsLt_bf16_f32 = _
  rw [normed1]

theorem piece17_1 : k0_pay32 (k0_pay64 x0 x1 x2 x3 x4 x5 x6 x7 x8 x9 x10 x11 x12) (View.ld x6 r0_14)
    = truncf .bf16 (extractStridedSlice S256x512 ![0, 0] (wideT (normedT x0 x1 x2 x3 x4 x5 0) (View.ld x6 r0_14)) slices_S256x1024_o0_0_S256x512) bitsLt_bf16_f32 := by
  show truncf .bf16 (extractStridedSlice S256x512 ![0, 0] (wideT (k0_pay64 x0 x1 x2 x3 x4 x5 x6 x7 x8 x9 x10 x11 x12) (View.ld x6 r0_14)) slices_S256x1024_o0_0_S256x512) bitsLt_bf16_f32 = _
  rw [normed0]

theorem piece18_0 : k0_pay57 (k0_pay66 x0 x1 x2 x3 x4 x5 x6 x7 x8 x9 x10 x11 x12) (View.ld x6 r0_14)
    = truncf .bf16 (extractStridedSlice S256x512 ![0, 512] (wideT (normedT x0 x1 x2 x3 x4 x5 1) (View.ld x6 r0_14)) slices_S256x1024_o0_512_S256x512) bitsLt_bf16_f32 := by
  show truncf .bf16 (extractStridedSlice S256x512 ![0, 512] (wideT (k0_pay66 x0 x1 x2 x3 x4 x5 x6 x7 x8 x9 x10 x11 x12) (View.ld x6 r0_14)) slices_S256x1024_o0_512_S256x512) bitsLt_bf16_f32 = _
  rw [normed1]

theorem piece18_1 : k0_pay33 (k0_pay64 x0 x1 x2 x3 x4 x5 x6 x7 x8 x9 x10 x11 x12) (View.ld x6 r0_14)
    = truncf .bf16 (extractStridedSlice S256x512 ![0, 512] (wideT (normedT x0 x1 x2 x3 x4 x5 0) (View.ld x6 r0_14)) slices_S256x1024_o0_512_S256x512) bitsLt_bf16_f32 := by
  show truncf .bf16 (extractStridedSlice S256x512 ![0, 512] (wideT (k0_pay64 x0 x1 x2 x3 x4 x5 x6 x7 x8 x9 x10 x11 x12) (View.ld x6 r0_14)) slices_S256x1024_o0_512_S256x512) bitsLt_bf16_f32 = _
  rw [normed0]

theorem piece19_0 : k0_pay58 (k0_pay66 x0 x1 x2 x3 x4 x5 x6 x7 x8 x9 x10 x11 x12) (View.ld x6 r0_16)
    = truncf .bf16 (wideT (normedT x0 x1 x2 x3 x4 x5 1) (View.ld x6 r0_16)) bitsLt_bf16_f32 := by
  show truncf .bf16 (wideT (k0_pay66 x0 x1 x2 x3 x4 x5 x6 x7 x8 x9 x10 x11 x12) (View.ld x6 r0_16)) bitsLt_bf16_f32 = _
  rw [normed1]

theorem piece19_1 : k0_pay34 (k0_pay64 x0 x1 x2 x3 x4 x5 x6 x7 x8 x9 x10 x11 x12) (View.ld x6 r0_16)
    = truncf .bf16 (wideT (normedT x0 x1 x2 x3 x4 x5 0) (View.ld x6 r0_16)) bitsLt_bf16_f32 := by
  show truncf .bf16 (wideT (k0_pay64 x0 x1 x2 x3 x4 x5 x6 x7 x8 x9 x10 x11 x12) (View.ld x6 r0_16)) bitsLt_bf16_f32 = _
  rw [normed0]

theorem piece20_0 : k0_pay59 (k0_pay66 x0 x1 x2 x3 x4 x5 x6 x7 x8 x9 x10 x11 x12) (View.ld x6 r0_17)
    = truncf .bf16 (wideT (normedT x0 x1 x2 x3 x4 x5 1) (View.ld x6 r0_17)) bitsLt_bf16_f32 := by
  show truncf .bf16 (wideT (k0_pay66 x0 x1 x2 x3 x4 x5 x6 x7 x8 x9 x10 x11 x12) (View.ld x6 r0_17)) bitsLt_bf16_f32 = _
  rw [normed1]

theorem piece20_1 : k0_pay36 (k0_pay64 x0 x1 x2 x3 x4 x5 x6 x7 x8 x9 x10 x11 x12) (k0_pay35 (View.ld x6 r0_17))
    = truncf .bf16 (wideT (normedT x0 x1 x2 x3 x4 x5 0) (View.ld x6 r0_17)) bitsLt_bf16_f32 := by
  show truncf .bf16 (wideT (k0_pay64 x0 x1 x2 x3 x4 x5 x6 x7 x8 x9 x10 x11 x12) (View.ld x6 r0_17)) bitsLt_bf16_f32 = _
  rw [normed0]

theorem piece21_0 : k0_pay60 (k0_pay66 x0 x1 x2 x3 x4 x5 x6 x7 x8 x9 x10 x11 x12) (k0_pay65 x0 x1 x2 x3 x4 x5 x6 x7 x8 x9 x10 x11 x12) (View.ld x7 r0_18) (View.ld x9 r0_19)
    = gateT (biasT (normedT x0 x1 x2 x3 x4 x5 1) (View.ld x7 r0_18) (View.ld x9 r0_19)) := by
  show gateT (biasT (k0_pay66 x0 x1 x2 x3 x4 x5 x6 x7 x8 x9 x10 x11 x12) (View.ld x7 r0_18) (View.ld x9 r0_19)) = _
  rw [normed1]

theorem piece21_1 : k0_pay37 (k0_pay64 x0 x1 x2 x3 x4 x5 x6 x7 x8 x9 x10 x11 x12) (k0_pay65 x0 x1 x2 x3 x4 x5 x6 x7 x8 x9 x10 x11 x12) (View.ld x7 r0_18) (View.ld x9 r0_19)
    = gateT (biasT (normedT x0 x1 x2 x3 x4 x5 0) (View.ld x7 r0_18) (View.ld x9 r0_19)) := by
  show gateT (biasT (k0_pay64 x0 x1 x2 x3 x4 x5 x6 x7 x8 x9 x10 x11 x12) (View.ld x7 r0_18) (View.ld x9 r0_19)) = _
  rw [normed0]

theorem piece22_0 : k0_pay1 (k0_pay66 x0 x1 x2 x3 x4 x5 x6 x7 x8 x9 x10 x11 x12) (View.ld x8 r0_21)
    = truncf .bf16 (mergeT (normedT x0 x1 x2 x3 x4 x5 1) (View.ld x8 r0_21)) bitsLt_bf16_f32 := by
  show truncf .bf16 (mergeT (k0_pay66 x0 x1 x2 x3 x4 x5 x6 x7 x8 x9 x10 x11 x12) (View.ld x8 r0_21)) bitsLt_bf16_f32 = _
  rw [normed1]

theorem piece22_1 : k0_pay38 (k0_pay64 x0 x1 x2 x3 x4 x5 x6 x7 x8 x9 x10 x11 x12) (View.ld x8 r0_21)
    = truncf .bf16 (mergeT (normedT x0 x1 x2 x3 x4 x5 0) (View.ld x8 r0_21)) bitsLt_bf16_f32 := by
  show truncf .bf16 (mergeT (k0_pay64 x0 x1 x2 x3 x4 x5 x6 x7 x8 x9 x10 x11 x12) (View.ld x8 r0_21)) bitsLt_bf16_f32 = _
  rw [normed0]

end Pieces

/-! ## The rows -/

/-- The queries of a row, from its columns and the tables' rows. -/
def qrow (z : Fin 3840 → EReal) (c a b : Fin 128 → EReal) (j : Fin 512) : EReal :=
  turn (fun l => z ⟨128 * (j.val / 128) + l.val, by omega⟩) c a b ⟨j.val % 128, by omega⟩ * (((8 * (Real.log 2))⁻¹ : ℝ) : EReal)

/-- The keys of a row, each head twice. -/
def krow (z : Fin 3840 → EReal) (c a b : Fin 128 → EReal) (j : Fin 256) : EReal :=
  turn (fun l => z ⟨512 + l.val, by omega⟩) c a b ⟨64 * (j.val / 128) + j.val % 64, by omega⟩

/-- The values of a row with their ones. -/
def vrow (z : Fin 3840 → EReal) (j : Fin 160) : EReal := ones (fun l => z ⟨640 + l.val, by omega⟩) j

/-- The mLSTM's gates of a row. -/
def grow (x : Fin 128 → EReal) (j : Fin 16) : EReal := if j.val % 2 = 1 then logsig (x ⟨j.val, by omega⟩) else x ⟨j.val, by omega⟩

variable (x0 : FVec Ideal S512x1024 .f32) (x1 : FVec Ideal S1x1024 .f32) (x2 : FVec Ideal S1024x5632 .bf16) (x3 : FVec Ideal S2816x1024 .bf16) (x4 : FVec Ideal S1x1024 .f32) (x5 : FVec Ideal S1x1024 .f32) (x6 : FVec Ideal S3840x1024 .bf16) (x7 : FVec Ideal S128x1024 .bf16) (x8 : FVec Ideal S2048x1024 .bf16) (x9 : FVec Ideal S1x128 .f32) (x10 : FVec Ideal S512x128 .f32) (x11 : FVec Ideal S512x128 .f32) (x12 : FVec Ideal S512x128 .f32)

/-- The row `r` of half `s` in its tile. -/
def trow (s : Fin 2) (r : Fin 256) : Fin 512 := ⟨256 * s.val + r.val, by omega⟩

/-- Row `R` of a tile after the feed-forward half step. -/
def hrow (R : Fin 512) : Fin 1024 → EReal :=
  ffn (fun j => x0 (ix2 R j)) (fun j => x1 (ix2 (0 : Fin 1) j)) (fun i k => x2 (ix2 i k)) (fun i k => x3 (ix2 i k)) (fun j => x4 (ix2 (0 : Fin 1) j))

/-- Row `R` of a tile, normed. -/
def urow (R : Fin 512) : Fin 1024 → EReal := norm (hrow x0 x1 x2 x3 x4 R) (fun j => x5 (ix2 (0 : Fin 1) j))

/-- Row `R` of a tile times the projection's first columns. -/
def zrow (R : Fin 512) : Fin 3840 → EReal := lin (urow x0 x1 x2 x3 x4 x5 R) (fun i (k : Fin 3840) => x6 (ix2 k i))

theorem ld2 {A B a b : ℕ} {e : EltTy} (x : Vec Ideal (⟨2, ![A, B]⟩ : Shape) e) (o p : ℕ)
    (h : ∀ i, (![o, p] : Fin 2 → Nat) i + (![a, b] : Fin 2 → Nat) i ≤ (⟨2, ![A, B]⟩ : Shape).size i) (r : Fin a) (j : Fin b) (R : Fin A) (J : Fin B)
    (h0 : R.val = o + r.val) (h1 : J.val = p + j.val) :
    View.ld x (Rect.unit (s := (⟨2, ![A, B]⟩ : Shape)) ![o, p] ![a, b] h) (ix2 r j) = x (ix2 R J) := by
  refine congrArg x (funext fun i => Fin.ext ?_)
  refine (Rect.idx_unit_val (s := (⟨2, ![A, B]⟩ : Shape)) ![o, p] ![a, b] h (ix2 r j) i).trans ?_
  match i with
  | ⟨0, _⟩ => exact h0.symm
  | ⟨1, _⟩ => exact h1.symm

theorem firstT_apply (s : Fin 2) (r : Fin 256) (j : Fin 1024) :
    firstT (F := Ideal) x0 x1 x2 x3 x4 s (ix2 r j) = hrow x0 x1 x2 x3 x4 (trow s r) j := by
  have e0 : ∀ j : Fin 1024, View.ld (Val := Elt Ideal) (e' := .f32) x0 (Rect.unit (s := S512x1024) ![256 * s.val, 0] S256x1024.size (inb_h s)) (ix2 r j) = x0 (ix2 (trow s r) j) :=
    fun j => ld2 (e := .f32) x0 _ _ _ r j _ _ rfl (Nat.zero_add _).symm
  have e1 : ∀ k : Fin 1024, View.ld (Val := Elt Ideal) (e' := .f32) x1 r0_2 (ix2 (0 : Fin 1) k) = x1 (ix2 (0 : Fin 1) k) :=
    fun k => ld2 (e := .f32) x1 _ _ _ (0 : Fin 1) k _ _ (Nat.zero_add _).symm (Nat.zero_add _).symm
  have e4 : ∀ k : Fin 1024, View.ld (Val := Elt Ideal) (e' := .f32) x4 r0_2 (ix2 (0 : Fin 1) k) = x4 (ix2 (0 : Fin 1) k) :=
    fun k => ld2 (e := .f32) x4 _ _ _ (0 : Fin 1) k _ _ (Nat.zero_add _).symm (Nat.zero_add _).symm
  have e2 : ∀ (i : Fin 1024) (k : Fin 5632), View.ld (Val := Elt Ideal) (e' := .bf16) x2 r0_3 (ix2 i k) = x2 (ix2 i k) :=
    fun i k => ld2 (e := .bf16) x2 _ _ _ i k _ _ (Nat.zero_add _).symm (Nat.zero_add _).symm
  have e3 : ∀ (i : Fin 2816) (k : Fin 1024), View.ld (Val := Elt Ideal) (e' := .bf16) x3 r0_4 (ix2 i k) = x3 (ix2 i k) :=
    fun i k => ld2 (e := .bf16) x3 _ _ _ i k _ _ (Nat.zero_add _).symm (Nat.zero_add _).symm
  unfold firstT
  rw [ffnT_apply]
  unfold hrow
  simp only [e0, e1, e2, e3, e4]

theorem normedT_apply (s : Fin 2) (r : Fin 256) (j : Fin 1024) :
    normedT (F := Ideal) x0 x1 x2 x3 x4 x5 s (ix2 r j) = urow x0 x1 x2 x3 x4 x5 (trow s r) j := by
  have e5 : ∀ k : Fin 1024, View.ld (Val := Elt Ideal) (e' := .f32) x5 r0_2 (ix2 (0 : Fin 1) k) = x5 (ix2 (0 : Fin 1) k) :=
    fun k => ld2 (e := .f32) x5 _ _ _ (0 : Fin 1) k _ _ (Nat.zero_add _).symm (Nat.zero_add _).symm
  unfold normedT
  rw [rowsT_apply]
  unfold urow
  simp only [firstT_apply, e5]

theorem tabT_apply (x : FVec Ideal S512x128 .f32) (s : Fin 2) (r : Fin 256) (l : Fin 128) :
    tabT (F := Ideal) x s (ix2 r l) = x (ix2 (trow s r) l) := by
  refine Eq.trans ?_ (ld2 (e := .f32) x _ _ (inb_t s) r l _ _ rfl (Nat.zero_add _).symm)
  unfold tabT
  generalize View.ld (Val := Elt Ideal) (e' := .f32) x _ = z
  pointwise []

theorem attS_apply (s : Fin 2) (r : Fin 256) (j : Fin 768) :
    attS (F := Ideal) x0 x1 x2 x3 x4 x5 x6 s (ix2 r j) = zrow x0 x1 x2 x3 x4 x5 x6 (trow s r) ⟨j.val, by omega⟩ := by
  have e6 : ∀ (i : Fin 768) (k : Fin 1024), View.ld (Val := Elt Ideal) (e' := .bf16) x6 r0_5 (ix2 i k) = x6 (ix2 (⟨i.val, by omega⟩ : Fin 3840) k) :=
    fun i k => ld2 (e := .bf16) x6 _ _ _ i k _ _ (Nat.zero_add _).symm (Nat.zero_add _).symm
  unfold attS
  rw [attT_apply]
  simp only [normedT_apply, e6]
  rfl

theorem wide768_apply (s : Fin 2) (r : Fin 256) (j : Fin 1024) :
    wideT (F := Ideal) (normedT x0 x1 x2 x3 x4 x5 s) (View.ld (Val := Elt Ideal) (e' := .bf16) x6 r0_14) (ix2 r j) = zrow x0 x1 x2 x3 x4 x5 x6 (trow s r) ⟨768 + j.val, by omega⟩ := by
  have e6 : ∀ (i : Fin 1024) (k : Fin 1024), View.ld (Val := Elt Ideal) (e' := .bf16) x6 r0_14 (ix2 i k) = x6 (ix2 (⟨768 + i.val, by omega⟩ : Fin 3840) k) :=
    fun i k => ld2 (e := .bf16) x6 _ _ _ i k _ _ rfl (Nat.zero_add _).symm
  rw [wideT_apply]
  simp only [normedT_apply, e6]
  rfl

theorem wide1792_apply (s : Fin 2) (r : Fin 256) (j : Fin 1024) :
    wideT (F := Ideal) (normedT x0 x1 x2 x3 x4 x5 s) (View.ld (Val := Elt Ideal) (e' := .bf16) x6 r0_16) (ix2 r j) = zrow x0 x1 x2 x3 x4 x5 x6 (trow s r) ⟨1792 + j.val, by omega⟩ := by
  have e6 : ∀ (i : Fin 1024) (k : Fin 1024), View.ld (Val := Elt Ideal) (e' := .bf16) x6 r0_16 (ix2 i k) = x6 (ix2 (⟨1792 + i.val, by omega⟩ : Fin 3840) k) :=
    fun i k => ld2 (e := .bf16) x6 _ _ _ i k _ _ rfl (Nat.zero_add _).symm
  rw [wideT_apply]
  simp only [normedT_apply, e6]
  rfl

theorem wide2816_apply (s : Fin 2) (r : Fin 256) (j : Fin 1024) :
    wideT (F := Ideal) (normedT x0 x1 x2 x3 x4 x5 s) (View.ld (Val := Elt Ideal) (e' := .bf16) x6 r0_17) (ix2 r j) = zrow x0 x1 x2 x3 x4 x5 x6 (trow s r) ⟨2816 + j.val, by omega⟩ := by
  have e6 : ∀ (i : Fin 1024) (k : Fin 1024), View.ld (Val := Elt Ideal) (e' := .bf16) x6 r0_17 (ix2 i k) = x6 (ix2 (⟨2816 + i.val, by omega⟩ : Fin 3840) k) :=
    fun i k => ld2 (e := .bf16) x6 _ _ _ i k _ _ rfl (Nat.zero_add _).symm
  rw [wideT_apply]
  simp only [normedT_apply, e6]
  rfl

theorem cut0_apply (s : Fin 2) (r : Fin 256) (l : Fin 128) :
    extractStridedSlice S256x128 ![0, 0] (attS (F := Ideal) x0 x1 x2 x3 x4 x5 x6 s) slices_S256x768_o0_0_S256x128 (ix2 r l)
      = zrow x0 x1 x2 x3 x4 x5 x6 (trow s r) ⟨0 + l.val, by omega⟩ := by
  refine Eq.trans ?_ ((attS_apply x0 x1 x2 x3 x4 x5 x6 s r ⟨0 + l.val, by omega⟩).trans rfl)
  generalize attS (F := Ideal) x0 x1 x2 x3 x4 x5 x6 s = z
  pointwise []

theorem cut128_apply (s : Fin 2) (r : Fin 256) (l : Fin 128) :
    extractStridedSlice S256x128 ![0, 128] (attS (F := Ideal) x0 x1 x2 x3 x4 x5 x6 s) slices_S256x768_o0_128_S256x128 (ix2 r l)
      = zrow x0 x1 x2 x3 x4 x5 x6 (trow s r) ⟨128 + l.val, by omega⟩ := by
  refine Eq.trans ?_ ((attS_apply x0 x1 x2 x3 x4 x5 x6 s r ⟨128 + l.val, by omega⟩).trans rfl)
  generalize attS (F := Ideal) x0 x1 x2 x3 x4 x5 x6 s = z
  pointwise []

theorem cut256_apply (s : Fin 2) (r : Fin 256) (l : Fin 128) :
    extractStridedSlice S256x128 ![0, 256] (attS (F := Ideal) x0 x1 x2 x3 x4 x5 x6 s) slices_S256x768_o0_256_S256x128 (ix2 r l)
      = zrow x0 x1 x2 x3 x4 x5 x6 (trow s r) ⟨256 + l.val, by omega⟩ := by
  refine Eq.trans ?_ ((attS_apply x0 x1 x2 x3 x4 x5 x6 s r ⟨256 + l.val, by omega⟩).trans rfl)
  generalize attS (F := Ideal) x0 x1 x2 x3 x4 x5 x6 s = z
  pointwise []

theorem cut384_apply (s : Fin 2) (r : Fin 256) (l : Fin 128) :
    extractStridedSlice S256x128 ![0, 384] (attS (F := Ideal) x0 x1 x2 x3 x4 x5 x6 s) slices_S256x768_o0_384_S256x128 (ix2 r l)
      = zrow x0 x1 x2 x3 x4 x5 x6 (trow s r) ⟨384 + l.val, by omega⟩ := by
  refine Eq.trans ?_ ((attS_apply x0 x1 x2 x3 x4 x5 x6 s r ⟨384 + l.val, by omega⟩).trans rfl)
  generalize attS (F := Ideal) x0 x1 x2 x3 x4 x5 x6 s = z
  pointwise []

theorem cut512_apply (s : Fin 2) (r : Fin 256) (l : Fin 128) :
    extractStridedSlice S256x128 ![0, 512] (attS (F := Ideal) x0 x1 x2 x3 x4 x5 x6 s) slices_S256x768_o0_512_S256x128 (ix2 r l)
      = zrow x0 x1 x2 x3 x4 x5 x6 (trow s r) ⟨512 + l.val, by omega⟩ := by
  refine Eq.trans ?_ ((attS_apply x0 x1 x2 x3 x4 x5 x6 s r ⟨512 + l.val, by omega⟩).trans rfl)
  generalize attS (F := Ideal) x0 x1 x2 x3 x4 x5 x6 s = z
  pointwise []

theorem cut640_apply (s : Fin 2) (r : Fin 256) (l : Fin 128) :
    extractStridedSlice S256x128 ![0, 640] (attS (F := Ideal) x0 x1 x2 x3 x4 x5 x6 s) slices_S256x768_o0_640_S256x128 (ix2 r l)
      = zrow x0 x1 x2 x3 x4 x5 x6 (trow s r) ⟨640 + l.val, by omega⟩ := by
  refine Eq.trans ?_ ((attS_apply x0 x1 x2 x3 x4 x5 x6 s r ⟨640 + l.val, by omega⟩).trans rfl)
  generalize attS (F := Ideal) x0 x1 x2 x3 x4 x5 x6 s = z
  pointwise []

theorem keyS_apply (s : Fin 2) (r : Fin 256) (l : Fin 128) :
    keyS (F := Ideal) x0 x1 x2 x3 x4 x5 x6 x10 x11 x12 s (ix2 r l) = turn (fun l => zrow x0 x1 x2 x3 x4 x5 x6 (trow s r) ⟨512 + l.val, by omega⟩) (fun l => x10 (ix2 (trow s r) l)) (fun l => x11 (ix2 (trow s r) l)) (fun l => x12 (ix2 (trow s r) l)) l := by
  unfold keyS
  rw [rotT_apply]
  simp only [cut512_apply, tabT_apply]

theorem query0_apply (s : Fin 2) (r : Fin 256) (l : Fin 128) :
    queryT (F := Ideal) (extractStridedSlice S256x128 ![0, 0] (attS (F := Ideal) x0 x1 x2 x3 x4 x5 x6 s) slices_S256x768_o0_0_S256x128) (tabT x10 s) (tabT x11 s) (tabT x12 s) (ix2 r l)
      = qrow (zrow x0 x1 x2 x3 x4 x5 x6 (trow s r)) (fun l => x10 (ix2 (trow s r) l)) (fun l => x11 (ix2 (trow s r) l)) (fun l => x12 (ix2 (trow s r) l)) (⟨0 + l.val, by omega⟩ : Fin 512) := by
  rw [queryT_apply]
  simp only [cut0_apply, tabT_apply]
  unfold qrow
  have e : ∀ h, (⟨(0 + l.val) % 128, h⟩ : Fin 128) = l := fun h => Fin.ext (by show (0 + l.val) % 128 = l.val; omega)
  have e' : ∀ (k : Fin 128) h, (⟨128 * ((0 + l.val) / 128) + k.val, h⟩ : Fin 3840) = ⟨0 + k.val, by omega⟩ := fun k h => Fin.ext (by show 128 * ((0 + l.val) / 128) + k.val = 0 + k.val; omega)
  simp only [e, e']

theorem query128_apply (s : Fin 2) (r : Fin 256) (l : Fin 128) :
    queryT (F := Ideal) (extractStridedSlice S256x128 ![0, 128] (attS (F := Ideal) x0 x1 x2 x3 x4 x5 x6 s) slices_S256x768_o0_128_S256x128) (tabT x10 s) (tabT x11 s) (tabT x12 s) (ix2 r l)
      = qrow (zrow x0 x1 x2 x3 x4 x5 x6 (trow s r)) (fun l => x10 (ix2 (trow s r) l)) (fun l => x11 (ix2 (trow s r) l)) (fun l => x12 (ix2 (trow s r) l)) (⟨128 + l.val, by omega⟩ : Fin 512) := by
  rw [queryT_apply]
  simp only [cut128_apply, tabT_apply]
  unfold qrow
  have e : ∀ h, (⟨(128 + l.val) % 128, h⟩ : Fin 128) = l := fun h => Fin.ext (by show (128 + l.val) % 128 = l.val; omega)
  have e' : ∀ (k : Fin 128) h, (⟨128 * ((128 + l.val) / 128) + k.val, h⟩ : Fin 3840) = ⟨128 + k.val, by omega⟩ := fun k h => Fin.ext (by show 128 * ((128 + l.val) / 128) + k.val = 128 + k.val; omega)
  simp only [e, e']

theorem query256_apply (s : Fin 2) (r : Fin 256) (l : Fin 128) :
    queryT (F := Ideal) (extractStridedSlice S256x128 ![0, 256] (attS (F := Ideal) x0 x1 x2 x3 x4 x5 x6 s) slices_S256x768_o0_256_S256x128) (tabT x10 s) (tabT x11 s) (tabT x12 s) (ix2 r l)
      = qrow (zrow x0 x1 x2 x3 x4 x5 x6 (trow s r)) (fun l => x10 (ix2 (trow s r) l)) (fun l => x11 (ix2 (trow s r) l)) (fun l => x12 (ix2 (trow s r) l)) (⟨256 + l.val, by omega⟩ : Fin 512) := by
  rw [queryT_apply]
  simp only [cut256_apply, tabT_apply]
  unfold qrow
  have e : ∀ h, (⟨(256 + l.val) % 128, h⟩ : Fin 128) = l := fun h => Fin.ext (by show (256 + l.val) % 128 = l.val; omega)
  have e' : ∀ (k : Fin 128) h, (⟨128 * ((256 + l.val) / 128) + k.val, h⟩ : Fin 3840) = ⟨256 + k.val, by omega⟩ := fun k h => Fin.ext (by show 128 * ((256 + l.val) / 128) + k.val = 256 + k.val; omega)
  simp only [e, e']

theorem query384_apply (s : Fin 2) (r : Fin 256) (l : Fin 128) :
    queryT (F := Ideal) (extractStridedSlice S256x128 ![0, 384] (attS (F := Ideal) x0 x1 x2 x3 x4 x5 x6 s) slices_S256x768_o0_384_S256x128) (tabT x10 s) (tabT x11 s) (tabT x12 s) (ix2 r l)
      = qrow (zrow x0 x1 x2 x3 x4 x5 x6 (trow s r)) (fun l => x10 (ix2 (trow s r) l)) (fun l => x11 (ix2 (trow s r) l)) (fun l => x12 (ix2 (trow s r) l)) (⟨384 + l.val, by omega⟩ : Fin 512) := by
  rw [queryT_apply]
  simp only [cut384_apply, tabT_apply]
  unfold qrow
  have e : ∀ h, (⟨(384 + l.val) % 128, h⟩ : Fin 128) = l := fun h => Fin.ext (by show (384 + l.val) % 128 = l.val; omega)
  have e' : ∀ (k : Fin 128) h, (⟨128 * ((384 + l.val) / 128) + k.val, h⟩ : Fin 3840) = ⟨384 + k.val, by omega⟩ := fun k h => Fin.ext (by show 128 * ((384 + l.val) / 128) + k.val = 384 + k.val; omega)
  simp only [e, e']

theorem key0_apply (s : Fin 2) (r : Fin 256) (l : Fin 128) :
    keyT (F := Ideal) (keyS x0 x1 x2 x3 x4 x5 x6 x10 x11 x12 s) (ix2 r l)
      = krow (zrow x0 x1 x2 x3 x4 x5 x6 (trow s r)) (fun l => x10 (ix2 (trow s r) l)) (fun l => x11 (ix2 (trow s r) l)) (fun l => x12 (ix2 (trow s r) l)) (⟨0 + l.val, by omega⟩ : Fin 256) := by
  rw [keyT_apply, keyS_apply]
  exact congrArg (turn _ _ _ _) (Fin.ext (by show l.val % 64 = 64 * ((0 + l.val) / 128) + (0 + l.val) % 64; omega))

theorem key128_apply (s : Fin 2) (r : Fin 256) (l : Fin 128) :
    keyT' (F := Ideal) (keyS x0 x1 x2 x3 x4 x5 x6 x10 x11 x12 s) (ix2 r l)
      = krow (zrow x0 x1 x2 x3 x4 x5 x6 (trow s r)) (fun l => x10 (ix2 (trow s r) l)) (fun l => x11 (ix2 (trow s r) l)) (fun l => x12 (ix2 (trow s r) l)) (⟨128 + l.val, by omega⟩ : Fin 256) := by
  rw [keyT'_apply, keyS_apply]
  exact congrArg (turn _ _ _ _) (Fin.ext (by show 64 + l.val % 64 = 64 * ((128 + l.val) / 128) + (128 + l.val) % 64; omega))

theorem value_apply (s : Fin 2) (j : Fin 160) (r : Fin 256) :
    valueT (F := Ideal) (extractStridedSlice S256x128 ![0, 640] (attS x0 x1 x2 x3 x4 x5 x6 s) slices_S256x768_o0_640_S256x128) (ix2 j r) = vrow (zrow x0 x1 x2 x3 x4 x5 x6 (trow s r)) j := by
  rw [valueT_apply]
  simp only [cut640_apply]
  rfl

theorem mq_apply (s : Fin 2) (r : Fin 256) (l : Fin 512) :
    truncf .bf16 (extractStridedSlice S256x512 ![0, 0] (wideT (F := Ideal) (normedT x0 x1 x2 x3 x4 x5 s) (View.ld (Val := Elt Ideal) (e' := .bf16) x6 r0_14)) slices_S256x1024_o0_0_S256x512) bitsLt_bf16_f32 (ix2 r l)
      = (zrow x0 x1 x2 x3 x4 x5 x6 (trow s r)) ⟨768 + (l).val, by have := (l).isLt; omega⟩ := by
  refine Eq.trans ?_ ((wide768_apply x0 x1 x2 x3 x4 x5 x6 s r ⟨l.val, by omega⟩).trans rfl)
  generalize wideT (F := Ideal) _ _ = z
  pointwise []

theorem mk_apply (s : Fin 2) (r : Fin 256) (l : Fin 512) :
    truncf .bf16 (extractStridedSlice S256x512 ![0, 512] (wideT (F := Ideal) (normedT x0 x1 x2 x3 x4 x5 s) (View.ld (Val := Elt Ideal) (e' := .bf16) x6 r0_14)) slices_S256x1024_o0_512_S256x512) bitsLt_bf16_f32 (ix2 r l)
      = (zrow x0 x1 x2 x3 x4 x5 x6 (trow s r)) ⟨1280 + (l).val, by have := (l).isLt; omega⟩ := by
  refine Eq.trans ?_ ((wide768_apply x0 x1 x2 x3 x4 x5 x6 s r ⟨512 + l.val, by omega⟩).trans ?_)
  · generalize wideT (F := Ideal) _ _ = z
    pointwise []
  · exact congrArg (zrow _ _ _ _ _ _ _ _) (Fin.ext (by show 768 + (512 + l.val) = 1280 + l.val; omega))

theorem gate_apply (s : Fin 2) (j : Fin 16) (r : Fin 256) :
    gateT (F := Ideal) (biasT (normedT x0 x1 x2 x3 x4 x5 s) (View.ld (Val := Elt Ideal) (e' := .bf16) x7 r0_18) (View.ld (Val := Elt Ideal) (e' := .f32) x9 r0_19)) (ix2 j r) = grow (fun k => lin (urow x0 x1 x2 x3 x4 x5 (trow s r)) (fun i (k : Fin 128) => x7 (ix2 k i)) k + x9 (ix2 (0 : Fin 1) k)) j := by
  have e7 : ∀ (i : Fin 128) (k : Fin 1024), View.ld (Val := Elt Ideal) (e' := .bf16) x7 r0_18 (ix2 i k) = x7 (ix2 i k) :=
    fun i k => ld2 (e := .bf16) x7 _ _ _ i k _ _ (Nat.zero_add _).symm (Nat.zero_add _).symm
  have e9 : ∀ k : Fin 128, View.ld (Val := Elt Ideal) (e' := .f32) x9 r0_19 (ix2 (0 : Fin 1) k) = x9 (ix2 (0 : Fin 1) k) :=
    fun k => ld2 (e := .f32) x9 _ _ _ (0 : Fin 1) k _ _ (Nat.zero_add _).symm (Nat.zero_add _).symm
  rw [gateT_apply]
  simp only [biasT_apply, normedT_apply, e7, e9]
  rfl

theorem bg_apply (s : Fin 2) (r : Fin 256) (l : Fin 2048) :
    mergeT (F := Ideal) (normedT x0 x1 x2 x3 x4 x5 s) (View.ld (Val := Elt Ideal) (e' := .bf16) x8 r0_21) (ix2 r l) = lin (urow x0 x1 x2 x3 x4 x5 (trow s r)) (fun i (k : Fin 2048) => x8 (ix2 k i)) l := by
  have e8 : ∀ (i : Fin 2048) (k : Fin 1024), View.ld (Val := Elt Ideal) (e' := .bf16) x8 r0_21 (ix2 i k) = x8 (ix2 i k) :=
    fun i k => ld2 (e := .bf16) x8 _ _ _ i k _ _ (Nat.zero_add _).symm (Nat.zero_add _).symm
  rw [mergeT_apply]
  simp only [normedT_apply, e8]

/-! ## The blocks -/

/-- What a grid point writes in window 13, at an index. -/
def block13 (R : Fin 512) (J : Fin 1024) : EReal := hrow x0 x1 x2 x3 x4 R J

/-- The canonical array of 2 stores that agree with one function is that function. -/
theorem canon_S512x1024_f32 (p0 p1 : FVec Ideal S256x1024 .f32) (G : S512x1024.Idx → EReal)
    (h0 : ∀ x : S256x1024.Idx, p0 x = G (r0_1.emb x)) (h1 : ∀ x : S256x1024.Idx, p1 x = G (r0_0.emb x)) (y : S512x1024.Idx) :
    View.canon (Val := Elt Ideal) (e := .f32) [⟨r0_1, p0⟩, ⟨r0_0, p1⟩] y = G y := by
  refine View.canon_apply_of_pieces (Val := Elt Ideal) (e := .f32) G _ ?_ y (cover0_13 (F := Ideal) p0 p1 y)
  exact List.forall_mem_cons.mpr ⟨h0, List.forall_mem_cons.mpr ⟨h1, fun _ h => absurd h (List.not_mem_nil)⟩⟩

theorem out13_apply (y : S512x1024.Idx) :
    out0_13 (F := Ideal) x0 x1 x2 x3 x4 x5 x6 x7 x8 x9 x10 x11 x12 y = block13 x0 x1 x2 x3 x4 (y 0) (y 1) := by
  unfold out0_13
  refine canon_S512x1024_f32 _ _ (fun y : S512x1024.Idx => block13 x0 x1 x2 x3 x4 (y 0) (y 1)) ?_ ?_ y
  · intro x
    refine (congrFun (first1 (F := Ideal) x0 x1 x2 x3 x4 x5 x6 x7 x8 x9 x10 x11 x12) x).trans ?_
    refine (congrArg _ (eq_ix2 x)).trans ((firstT_apply x0 x1 x2 x3 x4 1 (x 0) (x 1)).trans ?_)
    refine congrArg₂ (block13 x0 x1 x2 x3 x4) (Fin.ext ?_) (Fin.ext ?_)
    · refine Eq.trans ?_ (Rect.idx_unit_val (s := S512x1024) ![256, 0] S256x1024.size inb_S512x1024_S256x1024_256_0 x 0).symm
      show _ = 256 + (x 0).val
      first | rfl | exact (Nat.zero_add _).symm
    · refine Eq.trans ?_ (Rect.idx_unit_val (s := S512x1024) ![256, 0] S256x1024.size inb_S512x1024_S256x1024_256_0 x 1).symm
      show _ = 0 + (x 1).val
      first | rfl | exact (Nat.zero_add _).symm
  · intro x
    refine (congrFun (first0 (F := Ideal) x0 x1 x2 x3 x4 x5 x6 x7 x8 x9 x10 x11 x12) x).trans ?_
    refine (congrArg _ (eq_ix2 x)).trans ((firstT_apply x0 x1 x2 x3 x4 0 (x 0) (x 1)).trans ?_)
    refine congrArg₂ (block13 x0 x1 x2 x3 x4) (Fin.ext ?_) (Fin.ext ?_)
    · refine Eq.trans ?_ (Rect.idx_unit_val (s := S512x1024) ![0, 0] S256x1024.size inb_S512x1024_S256x1024_0_0 x 0).symm
      show _ = 0 + (x 0).val
      first | rfl | exact (Nat.zero_add _).symm
    · refine Eq.trans ?_ (Rect.idx_unit_val (s := S512x1024) ![0, 0] S256x1024.size inb_S512x1024_S256x1024_0_0 x 1).symm
      show _ = 0 + (x 1).val
      first | rfl | exact (Nat.zero_add _).symm

/-- What a grid point writes in window 14, at an index. -/
def block14 (R : Fin 512) (J : Fin 512) : EReal := qrow (zrow x0 x1 x2 x3 x4 x5 x6 R) (fun l => x10 (ix2 R l)) (fun l => x11 (ix2 R l)) (fun l => x12 (ix2 R l)) J

/-- The canonical array of 8 stores that agree with one function is that function. -/
theorem canon_S512x512_bf16_q (p0 p1 p2 p3 p4 p5 p6 p7 : FVec Ideal S256x128 .bf16) (G : S512x512.Idx → EReal)
    (h0 : ∀ x : S256x128.Idx, p0 x = G (r0_27.emb x)) (h1 : ∀ x : S256x128.Idx, p1 x = G (r0_26.emb x)) (h2 : ∀ x : S256x128.Idx, p2 x = G (r0_25.emb x)) (h3 : ∀ x : S256x128.Idx, p3 x = G (r0_24.emb x)) (h4 : ∀ x : S256x128.Idx, p4 x = G (r0_10.emb x)) (h5 : ∀ x : S256x128.Idx, p5 x = G (r0_9.emb x)) (h6 : ∀ x : S256x128.Idx, p6 x = G (r0_8.emb x)) (h7 : ∀ x : S256x128.Idx, p7 x = G (r0_7.emb x)) (y : S512x512.Idx) :
    View.canon (Val := Elt Ideal) (e := .bf16) [⟨r0_27, p0⟩, ⟨r0_26, p1⟩, ⟨r0_25, p2⟩, ⟨r0_24, p3⟩, ⟨r0_10, p4⟩, ⟨r0_9, p5⟩, ⟨r0_8, p6⟩, ⟨r0_7, p7⟩] y = G y := by
  refine View.canon_apply_of_pieces (Val := Elt Ideal) (e := .bf16) G _ ?_ y (cover0_14 (F := Ideal) p0 p1 p2 p3 p4 p5 p6 p7 y)
  exact List.forall_mem_cons.mpr ⟨h0, List.forall_mem_cons.mpr ⟨h1, List.forall_mem_cons.mpr ⟨h2, List.forall_mem_cons.mpr ⟨h3, List.forall_mem_cons.mpr ⟨h4, List.forall_mem_cons.mpr ⟨h5, List.forall_mem_cons.mpr ⟨h6, List.forall_mem_cons.mpr ⟨h7, fun _ h => absurd h (List.not_mem_nil)⟩⟩⟩⟩⟩⟩⟩⟩

theorem out14_apply (y : S512x512.Idx) :
    out0_14 (F := Ideal) x0 x1 x2 x3 x4 x5 x6 x7 x8 x9 x10 x11 x12 y = block14 x0 x1 x2 x3 x4 x5 x6 x10 x11 x12 (y 0) (y 1) := by
  unfold out0_14
  refine canon_S512x512_bf16_q _ _ _ _ _ _ _ _ (fun y : S512x512.Idx => block14 x0 x1 x2 x3 x4 x5 x6 x10 x11 x12 (y 0) (y 1)) ?_ ?_ ?_ ?_ ?_ ?_ ?_ ?_ y
  · intro x
    refine (congrFun (piece14_0 (F := Ideal) x0 x1 x2 x3 x4 x5 x6 x7 x8 x9 x10 x11 x12) x).trans ?_
    refine (congrArg _ (eq_ix2 x)).trans ((query384_apply x0 x1 x2 x3 x4 x5 x6 x10 x11 x12 1 (x 0) (x 1)).trans ?_)
    refine congrArg₂ (block14 x0 x1 x2 x3 x4 x5 x6 x10 x11 x12) (Fin.ext ?_) (Fin.ext ?_)
    · refine Eq.trans ?_ (Rect.idx_unit_val (s := S512x512) ![256, 384] S256x128.size inb_S512x512_S256x128_256_384 x 0).symm
      show _ = 256 + (x 0).val
      first | rfl | exact (Nat.zero_add _).symm
    · refine Eq.trans ?_ (Rect.idx_unit_val (s := S512x512) ![256, 384] S256x128.size inb_S512x512_S256x128_256_384 x 1).symm
      show _ = 384 + (x 1).val
      first | rfl | exact (Nat.zero_add _).symm
  · intro x
    refine (congrFun (piece14_1 (F := Ideal) x0 x1 x2 x3 x4 x5 x6 x7 x8 x9 x10 x11 x12) x).trans ?_
    refine (congrArg _ (eq_ix2 x)).trans ((query256_apply x0 x1 x2 x3 x4 x5 x6 x10 x11 x12 1 (x 0) (x 1)).trans ?_)
    refine congrArg₂ (block14 x0 x1 x2 x3 x4 x5 x6 x10 x11 x12) (Fin.ext ?_) (Fin.ext ?_)
    · refine Eq.trans ?_ (Rect.idx_unit_val (s := S512x512) ![256, 256] S256x128.size inb_S512x512_S256x128_256_256 x 0).symm
      show _ = 256 + (x 0).val
      first | rfl | exact (Nat.zero_add _).symm
    · refine Eq.trans ?_ (Rect.idx_unit_val (s := S512x512) ![256, 256] S256x128.size inb_S512x512_S256x128_256_256 x 1).symm
      show _ = 256 + (x 1).val
      first | rfl | exact (Nat.zero_add _).symm
  · intro x
    refine (congrFun (piece14_2 (F := Ideal) x0 x1 x2 x3 x4 x5 x6 x7 x8 x9 x10 x11 x12) x).trans ?_
    refine (congrArg _ (eq_ix2 x)).trans ((query128_apply x0 x1 x2 x3 x4 x5 x6 x10 x11 x12 1 (x 0) (x 1)).trans ?_)
    refine congrArg₂ (block14 x0 x1 x2 x3 x4 x5 x6 x10 x11 x12) (Fin.ext ?_) (Fin.ext ?_)
    · refine Eq.trans ?_ (Rect.idx_unit_val (s := S512x512) ![256, 128] S256x128.size inb_S512x512_S256x128_256_128 x 0).symm
      show _ = 256 + (x 0).val
      first | rfl | exact (Nat.zero_add _).symm
    · refine Eq.trans ?_ (Rect.idx_unit_val (s := S512x512) ![256, 128] S256x128.size inb_S512x512_S256x128_256_128 x 1).symm
      show _ = 128 + (x 1).val
      first | rfl | exact (Nat.zero_add _).symm
  · intro x
    refine (congrFun (piece14_3 (F := Ideal) x0 x1 x2 x3 x4 x5 x6 x7 x8 x9 x10 x11 x12) x).trans ?_
    refine (congrArg _ (eq_ix2 x)).trans ((query0_apply x0 x1 x2 x3 x4 x5 x6 x10 x11 x12 1 (x 0) (x 1)).trans ?_)
    refine congrArg₂ (block14 x0 x1 x2 x3 x4 x5 x6 x10 x11 x12) (Fin.ext ?_) (Fin.ext ?_)
    · refine Eq.trans ?_ (Rect.idx_unit_val (s := S512x512) ![256, 0] S256x128.size inb_S512x512_S256x128_256_0 x 0).symm
      show _ = 256 + (x 0).val
      first | rfl | exact (Nat.zero_add _).symm
    · refine Eq.trans ?_ (Rect.idx_unit_val (s := S512x512) ![256, 0] S256x128.size inb_S512x512_S256x128_256_0 x 1).symm
      show _ = 0 + (x 1).val
      first | rfl | exact (Nat.zero_add _).symm
  · intro x
    refine (congrFun (piece14_4 (F := Ideal) x0 x1 x2 x3 x4 x5 x6 x7 x8 x9 x10 x11 x12) x).trans ?_
    refine (congrArg _ (eq_ix2 x)).trans ((query384_apply x0 x1 x2 x3 x4 x5 x6 x10 x11 x12 0 (x 0) (x 1)).trans ?_)
    refine congrArg₂ (block14 x0 x1 x2 x3 x4 x5 x6 x10 x11 x12) (Fin.ext ?_) (Fin.ext ?_)
    · refine Eq.trans ?_ (Rect.idx_unit_val (s := S512x512) ![0, 384] S256x128.size inb_S512x512_S256x128_0_384 x 0).symm
      show _ = 0 + (x 0).val
      first | rfl | exact (Nat.zero_add _).symm
    · refine Eq.trans ?_ (Rect.idx_unit_val (s := S512x512) ![0, 384] S256x128.size inb_S512x512_S256x128_0_384 x 1).symm
      show _ = 384 + (x 1).val
      first | rfl | exact (Nat.zero_add _).symm
  · intro x
    refine (congrFun (piece14_5 (F := Ideal) x0 x1 x2 x3 x4 x5 x6 x7 x8 x9 x10 x11 x12) x).trans ?_
    refine (congrArg _ (eq_ix2 x)).trans ((query256_apply x0 x1 x2 x3 x4 x5 x6 x10 x11 x12 0 (x 0) (x 1)).trans ?_)
    refine congrArg₂ (block14 x0 x1 x2 x3 x4 x5 x6 x10 x11 x12) (Fin.ext ?_) (Fin.ext ?_)
    · refine Eq.trans ?_ (Rect.idx_unit_val (s := S512x512) ![0, 256] S256x128.size inb_S512x512_S256x128_0_256 x 0).symm
      show _ = 0 + (x 0).val
      first | rfl | exact (Nat.zero_add _).symm
    · refine Eq.trans ?_ (Rect.idx_unit_val (s := S512x512) ![0, 256] S256x128.size inb_S512x512_S256x128_0_256 x 1).symm
      show _ = 256 + (x 1).val
      first | rfl | exact (Nat.zero_add _).symm
  · intro x
    refine (congrFun (piece14_6 (F := Ideal) x0 x1 x2 x3 x4 x5 x6 x7 x8 x9 x10 x11 x12) x).trans ?_
    refine (congrArg _ (eq_ix2 x)).trans ((query128_apply x0 x1 x2 x3 x4 x5 x6 x10 x11 x12 0 (x 0) (x 1)).trans ?_)
    refine congrArg₂ (block14 x0 x1 x2 x3 x4 x5 x6 x10 x11 x12) (Fin.ext ?_) (Fin.ext ?_)
    · refine Eq.trans ?_ (Rect.idx_unit_val (s := S512x512) ![0, 128] S256x128.size inb_S512x512_S256x128_0_128 x 0).symm
      show _ = 0 + (x 0).val
      first | rfl | exact (Nat.zero_add _).symm
    · refine Eq.trans ?_ (Rect.idx_unit_val (s := S512x512) ![0, 128] S256x128.size inb_S512x512_S256x128_0_128 x 1).symm
      show _ = 128 + (x 1).val
      first | rfl | exact (Nat.zero_add _).symm
  · intro x
    refine (congrFun (piece14_7 (F := Ideal) x0 x1 x2 x3 x4 x5 x6 x7 x8 x9 x10 x11 x12) x).trans ?_
    refine (congrArg _ (eq_ix2 x)).trans ((query0_apply x0 x1 x2 x3 x4 x5 x6 x10 x11 x12 0 (x 0) (x 1)).trans ?_)
    refine congrArg₂ (block14 x0 x1 x2 x3 x4 x5 x6 x10 x11 x12) (Fin.ext ?_) (Fin.ext ?_)
    · refine Eq.trans ?_ (Rect.idx_unit_val (s := S512x512) ![0, 0] S256x128.size inb_S512x512_S256x128_0_0 x 0).symm
      show _ = 0 + (x 0).val
      first | rfl | exact (Nat.zero_add _).symm
    · refine Eq.trans ?_ (Rect.idx_unit_val (s := S512x512) ![0, 0] S256x128.size inb_S512x512_S256x128_0_0 x 1).symm
      show _ = 0 + (x 1).val
      first | rfl | exact (Nat.zero_add _).symm

/-- What a grid point writes in window 15, at an index. -/
def block15 (R : Fin 512) (J : Fin 256) : EReal := krow (zrow x0 x1 x2 x3 x4 x5 x6 R) (fun l => x10 (ix2 R l)) (fun l => x11 (ix2 R l)) (fun l => x12 (ix2 R l)) J

/-- The canonical array of 4 stores that agree with one function is that function. -/
theorem canon_S512x256_bf16 (p0 p1 p2 p3 : FVec Ideal S256x128 .bf16) (G : S512x256.Idx → EReal)
    (h0 : ∀ x : S256x128.Idx, p0 x = G (r0_29.emb x)) (h1 : ∀ x : S256x128.Idx, p1 x = G (r0_28.emb x)) (h2 : ∀ x : S256x128.Idx, p2 x = G (r0_12.emb x)) (h3 : ∀ x : S256x128.Idx, p3 x = G (r0_11.emb x)) (y : S512x256.Idx) :
    View.canon (Val := Elt Ideal) (e := .bf16) [⟨r0_29, p0⟩, ⟨r0_28, p1⟩, ⟨r0_12, p2⟩, ⟨r0_11, p3⟩] y = G y := by
  refine View.canon_apply_of_pieces (Val := Elt Ideal) (e := .bf16) G _ ?_ y (cover0_15 (F := Ideal) p0 p1 p2 p3 y)
  exact List.forall_mem_cons.mpr ⟨h0, List.forall_mem_cons.mpr ⟨h1, List.forall_mem_cons.mpr ⟨h2, List.forall_mem_cons.mpr ⟨h3, fun _ h => absurd h (List.not_mem_nil)⟩⟩⟩⟩

theorem out15_apply (y : S512x256.Idx) :
    out0_15 (F := Ideal) x0 x1 x2 x3 x4 x5 x6 x7 x8 x9 x10 x11 x12 y = block15 x0 x1 x2 x3 x4 x5 x6 x10 x11 x12 (y 0) (y 1) := by
  unfold out0_15
  refine canon_S512x256_bf16 _ _ _ _ (fun y : S512x256.Idx => block15 x0 x1 x2 x3 x4 x5 x6 x10 x11 x12 (y 0) (y 1)) ?_ ?_ ?_ ?_ y
  · intro x
    refine (congrFun (piece15_0 (F := Ideal) x0 x1 x2 x3 x4 x5 x6 x7 x8 x9 x10 x11 x12) x).trans ?_
    refine (congrArg _ (eq_ix2 x)).trans ((key128_apply x0 x1 x2 x3 x4 x5 x6 x10 x11 x12 1 (x 0) (x 1)).trans ?_)
    refine congrArg₂ (block15 x0 x1 x2 x3 x4 x5 x6 x10 x11 x12) (Fin.ext ?_) (Fin.ext ?_)
    · refine Eq.trans ?_ (Rect.idx_unit_val (s := S512x256) ![256, 128] S256x128.size inb_S512x256_S256x128_256_128 x 0).symm
      show _ = 256 + (x 0).val
      first | rfl | exact (Nat.zero_add _).symm
    · refine Eq.trans ?_ (Rect.idx_unit_val (s := S512x256) ![256, 128] S256x128.size inb_S512x256_S256x128_256_128 x 1).symm
      show _ = 128 + (x 1).val
      first | rfl | exact (Nat.zero_add _).symm
  · intro x
    refine (congrFun (piece15_1 (F := Ideal) x0 x1 x2 x3 x4 x5 x6 x7 x8 x9 x10 x11 x12) x).trans ?_
    refine (congrArg _ (eq_ix2 x)).trans ((key0_apply x0 x1 x2 x3 x4 x5 x6 x10 x11 x12 1 (x 0) (x 1)).trans ?_)
    refine congrArg₂ (block15 x0 x1 x2 x3 x4 x5 x6 x10 x11 x12) (Fin.ext ?_) (Fin.ext ?_)
    · refine Eq.trans ?_ (Rect.idx_unit_val (s := S512x256) ![256, 0] S256x128.size inb_S512x256_S256x128_256_0 x 0).symm
      show _ = 256 + (x 0).val
      first | rfl | exact (Nat.zero_add _).symm
    · refine Eq.trans ?_ (Rect.idx_unit_val (s := S512x256) ![256, 0] S256x128.size inb_S512x256_S256x128_256_0 x 1).symm
      show _ = 0 + (x 1).val
      first | rfl | exact (Nat.zero_add _).symm
  · intro x
    refine (congrFun (piece15_2 (F := Ideal) x0 x1 x2 x3 x4 x5 x6 x7 x8 x9 x10 x11 x12) x).trans ?_
    refine (congrArg _ (eq_ix2 x)).trans ((key128_apply x0 x1 x2 x3 x4 x5 x6 x10 x11 x12 0 (x 0) (x 1)).trans ?_)
    refine congrArg₂ (block15 x0 x1 x2 x3 x4 x5 x6 x10 x11 x12) (Fin.ext ?_) (Fin.ext ?_)
    · refine Eq.trans ?_ (Rect.idx_unit_val (s := S512x256) ![0, 128] S256x128.size inb_S512x256_S256x128_0_128 x 0).symm
      show _ = 0 + (x 0).val
      first | rfl | exact (Nat.zero_add _).symm
    · refine Eq.trans ?_ (Rect.idx_unit_val (s := S512x256) ![0, 128] S256x128.size inb_S512x256_S256x128_0_128 x 1).symm
      show _ = 128 + (x 1).val
      first | rfl | exact (Nat.zero_add _).symm
  · intro x
    refine (congrFun (piece15_3 (F := Ideal) x0 x1 x2 x3 x4 x5 x6 x7 x8 x9 x10 x11 x12) x).trans ?_
    refine (congrArg _ (eq_ix2 x)).trans ((key0_apply x0 x1 x2 x3 x4 x5 x6 x10 x11 x12 0 (x 0) (x 1)).trans ?_)
    refine congrArg₂ (block15 x0 x1 x2 x3 x4 x5 x6 x10 x11 x12) (Fin.ext ?_) (Fin.ext ?_)
    · refine Eq.trans ?_ (Rect.idx_unit_val (s := S512x256) ![0, 0] S256x128.size inb_S512x256_S256x128_0_0 x 0).symm
      show _ = 0 + (x 0).val
      first | rfl | exact (Nat.zero_add _).symm
    · refine Eq.trans ?_ (Rect.idx_unit_val (s := S512x256) ![0, 0] S256x128.size inb_S512x256_S256x128_0_0 x 1).symm
      show _ = 0 + (x 1).val
      first | rfl | exact (Nat.zero_add _).symm

/-- What a grid point writes in window 16, at an index. -/
def block16 (J : Fin 160) (R : Fin 512) : EReal := vrow (zrow x0 x1 x2 x3 x4 x5 x6 R) J

/-- The canonical array of 2 stores that agree with one function is that function. -/
theorem canon_S160x512_bf16 (p0 p1 : FVec Ideal S160x256 .bf16) (G : S160x512.Idx → EReal)
    (h0 : ∀ x : S160x256.Idx, p0 x = G (r0_30.emb x)) (h1 : ∀ x : S160x256.Idx, p1 x = G (r0_13.emb x)) (y : S160x512.Idx) :
    View.canon (Val := Elt Ideal) (e := .bf16) [⟨r0_30, p0⟩, ⟨r0_13, p1⟩] y = G y := by
  refine View.canon_apply_of_pieces (Val := Elt Ideal) (e := .bf16) G _ ?_ y (cover0_16 (F := Ideal) p0 p1 y)
  exact List.forall_mem_cons.mpr ⟨h0, List.forall_mem_cons.mpr ⟨h1, fun _ h => absurd h (List.not_mem_nil)⟩⟩

theorem out16_apply (y : S160x512.Idx) :
    out0_16 (F := Ideal) x0 x1 x2 x3 x4 x5 x6 x7 x8 x9 x10 x11 x12 y = block16 x0 x1 x2 x3 x4 x5 x6 (y 0) (y 1) := by
  unfold out0_16
  refine canon_S160x512_bf16 _ _ (fun y : S160x512.Idx => block16 x0 x1 x2 x3 x4 x5 x6 (y 0) (y 1)) ?_ ?_ y
  · intro x
    refine (congrFun (piece16_0 (F := Ideal) x0 x1 x2 x3 x4 x5 x6 x7 x8 x9 x10 x11 x12) x).trans ?_
    refine (congrArg _ (eq_ix2 x)).trans ((value_apply x0 x1 x2 x3 x4 x5 x6 1 (x 0) (x 1)).trans ?_)
    refine congrArg₂ (block16 x0 x1 x2 x3 x4 x5 x6) (Fin.ext ?_) (Fin.ext ?_)
    · refine Eq.trans ?_ (Rect.idx_unit_val (s := S160x512) ![0, 256] S160x256.size inb_S160x512_S160x256_0_256 x 0).symm
      show _ = 0 + (x 0).val
      first | rfl | exact (Nat.zero_add _).symm
    · refine Eq.trans ?_ (Rect.idx_unit_val (s := S160x512) ![0, 256] S160x256.size inb_S160x512_S160x256_0_256 x 1).symm
      show _ = 256 + (x 1).val
      first | rfl | exact (Nat.zero_add _).symm
  · intro x
    refine (congrFun (piece16_1 (F := Ideal) x0 x1 x2 x3 x4 x5 x6 x7 x8 x9 x10 x11 x12) x).trans ?_
    refine (congrArg _ (eq_ix2 x)).trans ((value_apply x0 x1 x2 x3 x4 x5 x6 0 (x 0) (x 1)).trans ?_)
    refine congrArg₂ (block16 x0 x1 x2 x3 x4 x5 x6) (Fin.ext ?_) (Fin.ext ?_)
    · refine Eq.trans ?_ (Rect.idx_unit_val (s := S160x512) ![0, 0] S160x256.size inb_S160x512_S160x256_0_0 x 0).symm
      show _ = 0 + (x 0).val
      first | rfl | exact (Nat.zero_add _).symm
    · refine Eq.trans ?_ (Rect.idx_unit_val (s := S160x512) ![0, 0] S160x256.size inb_S160x512_S160x256_0_0 x 1).symm
      show _ = 0 + (x 1).val
      first | rfl | exact (Nat.zero_add _).symm

/-- What a grid point writes in window 17, at an index. -/
def block17 (R : Fin 512) (J : Fin 512) : EReal := (zrow x0 x1 x2 x3 x4 x5 x6 R) ⟨768 + (J).val, by have := (J).isLt; omega⟩

/-- The canonical array of 2 stores that agree with one function is that function. -/
theorem canon_S512x512_bf16 (p0 p1 : FVec Ideal S256x512 .bf16) (G : S512x512.Idx → EReal)
    (h0 : ∀ x : S256x512.Idx, p0 x = G (r0_31.emb x)) (h1 : ∀ x : S256x512.Idx, p1 x = G (r0_15.emb x)) (y : S512x512.Idx) :
    View.canon (Val := Elt Ideal) (e := .bf16) [⟨r0_31, p0⟩, ⟨r0_15, p1⟩] y = G y := by
  refine View.canon_apply_of_pieces (Val := Elt Ideal) (e := .bf16) G _ ?_ y (cover0_17 (F := Ideal) p0 p1 y)
  exact List.forall_mem_cons.mpr ⟨h0, List.forall_mem_cons.mpr ⟨h1, fun _ h => absurd h (List.not_mem_nil)⟩⟩

theorem out17_apply (y : S512x512.Idx) :
    out0_17 (F := Ideal) x0 x1 x2 x3 x4 x5 x6 x7 x8 x9 x10 x11 x12 y = block17 x0 x1 x2 x3 x4 x5 x6 (y 0) (y 1) := by
  unfold out0_17
  refine canon_S512x512_bf16 _ _ (fun y : S512x512.Idx => block17 x0 x1 x2 x3 x4 x5 x6 (y 0) (y 1)) ?_ ?_ y
  · intro x
    refine (congrFun (piece17_0 (F := Ideal) x0 x1 x2 x3 x4 x5 x6 x7 x8 x9 x10 x11 x12) x).trans ?_
    refine (congrArg _ (eq_ix2 x)).trans ((mq_apply x0 x1 x2 x3 x4 x5 x6 1 (x 0) (x 1)).trans ?_)
    refine congrArg₂ (block17 x0 x1 x2 x3 x4 x5 x6) (Fin.ext ?_) (Fin.ext ?_)
    · refine Eq.trans ?_ (Rect.idx_unit_val (s := S512x512) ![256, 0] S256x512.size inb_S512x512_S256x512_256_0 x 0).symm
      show _ = 256 + (x 0).val
      first | rfl | exact (Nat.zero_add _).symm
    · refine Eq.trans ?_ (Rect.idx_unit_val (s := S512x512) ![256, 0] S256x512.size inb_S512x512_S256x512_256_0 x 1).symm
      show _ = 0 + (x 1).val
      first | rfl | exact (Nat.zero_add _).symm
  · intro x
    refine (congrFun (piece17_1 (F := Ideal) x0 x1 x2 x3 x4 x5 x6 x7 x8 x9 x10 x11 x12) x).trans ?_
    refine (congrArg _ (eq_ix2 x)).trans ((mq_apply x0 x1 x2 x3 x4 x5 x6 0 (x 0) (x 1)).trans ?_)
    refine congrArg₂ (block17 x0 x1 x2 x3 x4 x5 x6) (Fin.ext ?_) (Fin.ext ?_)
    · refine Eq.trans ?_ (Rect.idx_unit_val (s := S512x512) ![0, 0] S256x512.size inb_S512x512_S256x512_0_0 x 0).symm
      show _ = 0 + (x 0).val
      first | rfl | exact (Nat.zero_add _).symm
    · refine Eq.trans ?_ (Rect.idx_unit_val (s := S512x512) ![0, 0] S256x512.size inb_S512x512_S256x512_0_0 x 1).symm
      show _ = 0 + (x 1).val
      first | rfl | exact (Nat.zero_add _).symm

/-- What a grid point writes in window 18, at an index. -/
def block18 (R : Fin 512) (J : Fin 512) : EReal := (zrow x0 x1 x2 x3 x4 x5 x6 R) ⟨1280 + (J).val, by have := (J).isLt; omega⟩

theorem out18_apply (y : S512x512.Idx) :
    out0_18 (F := Ideal) x0 x1 x2 x3 x4 x5 x6 x7 x8 x9 x10 x11 x12 y = block18 x0 x1 x2 x3 x4 x5 x6 (y 0) (y 1) := by
  unfold out0_18
  refine canon_S512x512_bf16 _ _ (fun y : S512x512.Idx => block18 x0 x1 x2 x3 x4 x5 x6 (y 0) (y 1)) ?_ ?_ y
  · intro x
    refine (congrFun (piece18_0 (F := Ideal) x0 x1 x2 x3 x4 x5 x6 x7 x8 x9 x10 x11 x12) x).trans ?_
    refine (congrArg _ (eq_ix2 x)).trans ((mk_apply x0 x1 x2 x3 x4 x5 x6 1 (x 0) (x 1)).trans ?_)
    refine congrArg₂ (block18 x0 x1 x2 x3 x4 x5 x6) (Fin.ext ?_) (Fin.ext ?_)
    · refine Eq.trans ?_ (Rect.idx_unit_val (s := S512x512) ![256, 0] S256x512.size inb_S512x512_S256x512_256_0 x 0).symm
      show _ = 256 + (x 0).val
      first | rfl | exact (Nat.zero_add _).symm
    · refine Eq.trans ?_ (Rect.idx_unit_val (s := S512x512) ![256, 0] S256x512.size inb_S512x512_S256x512_256_0 x 1).symm
      show _ = 0 + (x 1).val
      first | rfl | exact (Nat.zero_add _).symm
  · intro x
    refine (congrFun (piece18_1 (F := Ideal) x0 x1 x2 x3 x4 x5 x6 x7 x8 x9 x10 x11 x12) x).trans ?_
    refine (congrArg _ (eq_ix2 x)).trans ((mk_apply x0 x1 x2 x3 x4 x5 x6 0 (x 0) (x 1)).trans ?_)
    refine congrArg₂ (block18 x0 x1 x2 x3 x4 x5 x6) (Fin.ext ?_) (Fin.ext ?_)
    · refine Eq.trans ?_ (Rect.idx_unit_val (s := S512x512) ![0, 0] S256x512.size inb_S512x512_S256x512_0_0 x 0).symm
      show _ = 0 + (x 0).val
      first | rfl | exact (Nat.zero_add _).symm
    · refine Eq.trans ?_ (Rect.idx_unit_val (s := S512x512) ![0, 0] S256x512.size inb_S512x512_S256x512_0_0 x 1).symm
      show _ = 0 + (x 1).val
      first | rfl | exact (Nat.zero_add _).symm

/-- What a grid point writes in window 19, at an index. -/
def block19 (R : Fin 512) (J : Fin 1024) : EReal := (zrow x0 x1 x2 x3 x4 x5 x6 R) ⟨1792 + (J).val, by have := (J).isLt; omega⟩

/-- The canonical array of 2 stores that agree with one function is that function. -/
theorem canon_S512x1024_bf16 (p0 p1 : FVec Ideal S256x1024 .bf16) (G : S512x1024.Idx → EReal)
    (h0 : ∀ x : S256x1024.Idx, p0 x = G (r0_1.emb x)) (h1 : ∀ x : S256x1024.Idx, p1 x = G (r0_0.emb x)) (y : S512x1024.Idx) :
    View.canon (Val := Elt Ideal) (e := .bf16) [⟨r0_1, p0⟩, ⟨r0_0, p1⟩] y = G y := by
  refine View.canon_apply_of_pieces (Val := Elt Ideal) (e := .bf16) G _ ?_ y (cover0_19 (F := Ideal) p0 p1 y)
  exact List.forall_mem_cons.mpr ⟨h0, List.forall_mem_cons.mpr ⟨h1, fun _ h => absurd h (List.not_mem_nil)⟩⟩

theorem out19_apply (y : S512x1024.Idx) :
    out0_19 (F := Ideal) x0 x1 x2 x3 x4 x5 x6 x7 x8 x9 x10 x11 x12 y = block19 x0 x1 x2 x3 x4 x5 x6 (y 0) (y 1) := by
  unfold out0_19
  refine canon_S512x1024_bf16 _ _ (fun y : S512x1024.Idx => block19 x0 x1 x2 x3 x4 x5 x6 (y 0) (y 1)) ?_ ?_ y
  · intro x
    refine (congrFun (piece19_0 (F := Ideal) x0 x1 x2 x3 x4 x5 x6 x7 x8 x9 x10 x11 x12) x).trans ?_
    refine (congrArg _ (eq_ix2 x)).trans ((wide1792_apply x0 x1 x2 x3 x4 x5 x6 1 (x 0) (x 1)).trans ?_)
    refine congrArg₂ (block19 x0 x1 x2 x3 x4 x5 x6) (Fin.ext ?_) (Fin.ext ?_)
    · refine Eq.trans ?_ (Rect.idx_unit_val (s := S512x1024) ![256, 0] S256x1024.size inb_S512x1024_S256x1024_256_0 x 0).symm
      show _ = 256 + (x 0).val
      first | rfl | exact (Nat.zero_add _).symm
    · refine Eq.trans ?_ (Rect.idx_unit_val (s := S512x1024) ![256, 0] S256x1024.size inb_S512x1024_S256x1024_256_0 x 1).symm
      show _ = 0 + (x 1).val
      first | rfl | exact (Nat.zero_add _).symm
  · intro x
    refine (congrFun (piece19_1 (F := Ideal) x0 x1 x2 x3 x4 x5 x6 x7 x8 x9 x10 x11 x12) x).trans ?_
    refine (congrArg _ (eq_ix2 x)).trans ((wide1792_apply x0 x1 x2 x3 x4 x5 x6 0 (x 0) (x 1)).trans ?_)
    refine congrArg₂ (block19 x0 x1 x2 x3 x4 x5 x6) (Fin.ext ?_) (Fin.ext ?_)
    · refine Eq.trans ?_ (Rect.idx_unit_val (s := S512x1024) ![0, 0] S256x1024.size inb_S512x1024_S256x1024_0_0 x 0).symm
      show _ = 0 + (x 0).val
      first | rfl | exact (Nat.zero_add _).symm
    · refine Eq.trans ?_ (Rect.idx_unit_val (s := S512x1024) ![0, 0] S256x1024.size inb_S512x1024_S256x1024_0_0 x 1).symm
      show _ = 0 + (x 1).val
      first | rfl | exact (Nat.zero_add _).symm

/-- What a grid point writes in window 20, at an index. -/
def block20 (R : Fin 512) (J : Fin 1024) : EReal := (zrow x0 x1 x2 x3 x4 x5 x6 R) ⟨2816 + (J).val, by have := (J).isLt; omega⟩

theorem out20_apply (y : S512x1024.Idx) :
    out0_20 (F := Ideal) x0 x1 x2 x3 x4 x5 x6 x7 x8 x9 x10 x11 x12 y = block20 x0 x1 x2 x3 x4 x5 x6 (y 0) (y 1) := by
  unfold out0_20
  refine canon_S512x1024_bf16 _ _ (fun y : S512x1024.Idx => block20 x0 x1 x2 x3 x4 x5 x6 (y 0) (y 1)) ?_ ?_ y
  · intro x
    refine (congrFun (piece20_0 (F := Ideal) x0 x1 x2 x3 x4 x5 x6 x7 x8 x9 x10 x11 x12) x).trans ?_
    refine (congrArg _ (eq_ix2 x)).trans ((wide2816_apply x0 x1 x2 x3 x4 x5 x6 1 (x 0) (x 1)).trans ?_)
    refine congrArg₂ (block20 x0 x1 x2 x3 x4 x5 x6) (Fin.ext ?_) (Fin.ext ?_)
    · refine Eq.trans ?_ (Rect.idx_unit_val (s := S512x1024) ![256, 0] S256x1024.size inb_S512x1024_S256x1024_256_0 x 0).symm
      show _ = 256 + (x 0).val
      first | rfl | exact (Nat.zero_add _).symm
    · refine Eq.trans ?_ (Rect.idx_unit_val (s := S512x1024) ![256, 0] S256x1024.size inb_S512x1024_S256x1024_256_0 x 1).symm
      show _ = 0 + (x 1).val
      first | rfl | exact (Nat.zero_add _).symm
  · intro x
    refine (congrFun (piece20_1 (F := Ideal) x0 x1 x2 x3 x4 x5 x6 x7 x8 x9 x10 x11 x12) x).trans ?_
    refine (congrArg _ (eq_ix2 x)).trans ((wide2816_apply x0 x1 x2 x3 x4 x5 x6 0 (x 0) (x 1)).trans ?_)
    refine congrArg₂ (block20 x0 x1 x2 x3 x4 x5 x6) (Fin.ext ?_) (Fin.ext ?_)
    · refine Eq.trans ?_ (Rect.idx_unit_val (s := S512x1024) ![0, 0] S256x1024.size inb_S512x1024_S256x1024_0_0 x 0).symm
      show _ = 0 + (x 0).val
      first | rfl | exact (Nat.zero_add _).symm
    · refine Eq.trans ?_ (Rect.idx_unit_val (s := S512x1024) ![0, 0] S256x1024.size inb_S512x1024_S256x1024_0_0 x 1).symm
      show _ = 0 + (x 1).val
      first | rfl | exact (Nat.zero_add _).symm

/-- What a grid point writes in window 21, at an index. -/
def block21 (J : Fin 16) (R : Fin 512) : EReal := grow (fun k => lin (urow x0 x1 x2 x3 x4 x5 R) (fun i (k : Fin 128) => x7 (ix2 k i)) k + x9 (ix2 (0 : Fin 1) k)) J

/-- The canonical array of 2 stores that agree with one function is that function. -/
theorem canon_S16x512_f32 (p0 p1 : FVec Ideal S16x256 .f32) (G : S16x512.Idx → EReal)
    (h0 : ∀ x : S16x256.Idx, p0 x = G (r0_32.emb x)) (h1 : ∀ x : S16x256.Idx, p1 x = G (r0_20.emb x)) (y : S16x512.Idx) :
    View.canon (Val := Elt Ideal) (e := .f32) [⟨r0_32, p0⟩, ⟨r0_20, p1⟩] y = G y := by
  refine View.canon_apply_of_pieces (Val := Elt Ideal) (e := .f32) G _ ?_ y (cover0_21 (F := Ideal) p0 p1 y)
  exact List.forall_mem_cons.mpr ⟨h0, List.forall_mem_cons.mpr ⟨h1, fun _ h => absurd h (List.not_mem_nil)⟩⟩

theorem out21_apply (y : S16x512.Idx) :
    out0_21 (F := Ideal) x0 x1 x2 x3 x4 x5 x6 x7 x8 x9 x10 x11 x12 y = block21 x0 x1 x2 x3 x4 x5 x7 x9 (y 0) (y 1) := by
  unfold out0_21
  refine canon_S16x512_f32 _ _ (fun y : S16x512.Idx => block21 x0 x1 x2 x3 x4 x5 x7 x9 (y 0) (y 1)) ?_ ?_ y
  · intro x
    refine (congrFun (piece21_0 (F := Ideal) x0 x1 x2 x3 x4 x5 x6 x7 x8 x9 x10 x11 x12) x).trans ?_
    refine (congrArg _ (eq_ix2 x)).trans ((gate_apply x0 x1 x2 x3 x4 x5 x7 x9 1 (x 0) (x 1)).trans ?_)
    refine congrArg₂ (block21 x0 x1 x2 x3 x4 x5 x7 x9) (Fin.ext ?_) (Fin.ext ?_)
    · refine Eq.trans ?_ (Rect.idx_unit_val (s := S16x512) ![0, 256] S16x256.size inb_S16x512_S16x256_0_256 x 0).symm
      show _ = 0 + (x 0).val
      first | rfl | exact (Nat.zero_add _).symm
    · refine Eq.trans ?_ (Rect.idx_unit_val (s := S16x512) ![0, 256] S16x256.size inb_S16x512_S16x256_0_256 x 1).symm
      show _ = 256 + (x 1).val
      first | rfl | exact (Nat.zero_add _).symm
  · intro x
    refine (congrFun (piece21_1 (F := Ideal) x0 x1 x2 x3 x4 x5 x6 x7 x8 x9 x10 x11 x12) x).trans ?_
    refine (congrArg _ (eq_ix2 x)).trans ((gate_apply x0 x1 x2 x3 x4 x5 x7 x9 0 (x 0) (x 1)).trans ?_)
    refine congrArg₂ (block21 x0 x1 x2 x3 x4 x5 x7 x9) (Fin.ext ?_) (Fin.ext ?_)
    · refine Eq.trans ?_ (Rect.idx_unit_val (s := S16x512) ![0, 0] S16x256.size inb_S16x512_S16x256_0_0 x 0).symm
      show _ = 0 + (x 0).val
      first | rfl | exact (Nat.zero_add _).symm
    · refine Eq.trans ?_ (Rect.idx_unit_val (s := S16x512) ![0, 0] S16x256.size inb_S16x512_S16x256_0_0 x 1).symm
      show _ = 0 + (x 1).val
      first | rfl | exact (Nat.zero_add _).symm

/-- What a grid point writes in window 22, at an index. -/
def block22 (R : Fin 512) (J : Fin 2048) : EReal := lin (urow x0 x1 x2 x3 x4 x5 R) (fun i (k : Fin 2048) => x8 (ix2 k i)) J

/-- The canonical array of 2 stores that agree with one function is that function. -/
theorem canon_S512x2048_bf16 (p0 p1 : FVec Ideal S256x2048 .bf16) (G : S512x2048.Idx → EReal)
    (h0 : ∀ x : S256x2048.Idx, p0 x = G (r0_33.emb x)) (h1 : ∀ x : S256x2048.Idx, p1 x = G (r0_22.emb x)) (y : S512x2048.Idx) :
    View.canon (Val := Elt Ideal) (e := .bf16) [⟨r0_33, p0⟩, ⟨r0_22, p1⟩] y = G y := by
  refine View.canon_apply_of_pieces (Val := Elt Ideal) (e := .bf16) G _ ?_ y (cover0_22 (F := Ideal) p0 p1 y)
  exact List.forall_mem_cons.mpr ⟨h0, List.forall_mem_cons.mpr ⟨h1, fun _ h => absurd h (List.not_mem_nil)⟩⟩

theorem out22_apply (y : S512x2048.Idx) :
    out0_22 (F := Ideal) x0 x1 x2 x3 x4 x5 x6 x7 x8 x9 x10 x11 x12 y = block22 x0 x1 x2 x3 x4 x5 x8 (y 0) (y 1) := by
  unfold out0_22
  refine canon_S512x2048_bf16 _ _ (fun y : S512x2048.Idx => block22 x0 x1 x2 x3 x4 x5 x8 (y 0) (y 1)) ?_ ?_ y
  · intro x
    refine (congrFun (piece22_0 (F := Ideal) x0 x1 x2 x3 x4 x5 x6 x7 x8 x9 x10 x11 x12) x).trans ?_
    refine (congrArg _ (eq_ix2 x)).trans ((bg_apply x0 x1 x2 x3 x4 x5 x8 1 (x 0) (x 1)).trans ?_)
    refine congrArg₂ (block22 x0 x1 x2 x3 x4 x5 x8) (Fin.ext ?_) (Fin.ext ?_)
    · refine Eq.trans ?_ (Rect.idx_unit_val (s := S512x2048) ![256, 0] S256x2048.size inb_S512x2048_S256x2048_256_0 x 0).symm
      show _ = 256 + (x 0).val
      first | rfl | exact (Nat.zero_add _).symm
    · refine Eq.trans ?_ (Rect.idx_unit_val (s := S512x2048) ![256, 0] S256x2048.size inb_S512x2048_S256x2048_256_0 x 1).symm
      show _ = 0 + (x 1).val
      first | rfl | exact (Nat.zero_add _).symm
  · intro x
    refine (congrFun (piece22_1 (F := Ideal) x0 x1 x2 x3 x4 x5 x6 x7 x8 x9 x10 x11 x12) x).trans ?_
    refine (congrArg _ (eq_ix2 x)).trans ((bg_apply x0 x1 x2 x3 x4 x5 x8 0 (x 0) (x 1)).trans ?_)
    refine congrArg₂ (block22 x0 x1 x2 x3 x4 x5 x8) (Fin.ext ?_) (Fin.ext ?_)
    · refine Eq.trans ?_ (Rect.idx_unit_val (s := S512x2048) ![0, 0] S256x2048.size inb_S512x2048_S256x2048_0_0 x 0).symm
      show _ = 0 + (x 0).val
      first | rfl | exact (Nat.zero_add _).symm
    · refine Eq.trans ?_ (Rect.idx_unit_val (s := S512x2048) ![0, 0] S256x2048.size inb_S512x2048_S256x2048_0_0 x 1).symm
      show _ = 0 + (x 1).val
      first | rfl | exact (Nat.zero_add _).symm

end Cert.ProjIdeal.Row
end
-- ==== Proof.ProjHost.lean ====
module

public import proofs.«01_k».proof.Proof.ProjTile
public import Idealize.ShloMosaic.Lib.Pointwise
public import Idealize.ShloMosaic.Lib.StableHlo.ReadAt

@[expose] public section

set_option maxRecDepth 16384

noncomputable section

namespace Cert.ProjIdeal.Row

open Cert.RowMath
open Cert.ProjIdeal Cert.ProjIdeal.Gen Cert.ProjIdeal.Run Idealize.ShloMosaic Idealize.ShloMosaic.TcCoe Idealize.SL.Sem

/-! ## The tables -/

/-- The angles of the rotary embedding. -/
def angT : FVec Ideal S4096x8 .f32 :=
  mulf (broadcastInDim S4096x8 ![0, 1] bcast_S4096x1_S4096x8_0_1 (broadcastInDim S4096x1 ![0] bcast_S4096_S4096x1_0 (sitofp .f32 (iotaInDim S4096 32 0))))
    (broadcastInDim S4096x8 ![0, 1] bcast_S1x8_S4096x8_0_1 (broadcastInDim S1x8 ![1] bcast_S8_S1x8_1
      (Host.powf (broadcastInDim S8 ![] bcast_S_S8 (constant S_ .f32 0x48F42400#32))
        (Host.divf (Host.negf (addf (broadcastInDim S8 ![] bcast_S_S8 (constant S_ .f32 0x00000000#32))
          (mulf (broadcastInDim S8 ![] bcast_S_S8 (constant S_ .f32 0x40000000#32)) (sitofp .f32 (iotaInDim S8 32 0)))))
          (broadcastInDim S8 ![] bcast_S_S8 (constant S_ .f32 0x41800000#32))))))

/-- The cosines of one position. -/
def cosA (p : Fin 4096) (f : Fin 8) : EReal := Host.cos angT (ix2 p f)

/-- The sines of one position. -/
def sinA (p : Fin 4096) (f : Fin 8) : EReal := Host.sin angT (ix2 p f)

/-- 64 lanes, twice. -/
def twiceT (x : FVec Ideal S4096x64 .f32) : FVec Ideal S4096x128 .f32 :=
  shapeCast S4096x128 (broadcastInDim S1x4096x2x64 ![0, 1, 2, 3] bcast_S1x4096x1x64_S1x4096x2x64_0_1_2_3 (shapeCast S1x4096x1x64 x shapeCasts_S4096x64_S1x4096x1x64)) shapeCasts_S1x4096x2x64_S4096x128

theorem twiceT_apply (x : FVec Ideal S4096x64 .f32) (p : Fin 4096) (l : Fin 128) : twiceT x (ix2 p l) = x (ix2 p (⟨l.val % 64, by omega⟩ : Fin 64)) := by
  pointwise [twiceT]

/-- The three tables. -/
def cosT : FVec Ideal S4096x64 .f32 := concatenate S4096x64 1 [⟨S4096x8, (Host.cos angT : (⟨S4096x8, .f32⟩ : BufTy).Contents (Elt Ideal))⟩, ⟨S4096x8, (Host.cos angT : (⟨S4096x8, .f32⟩ : BufTy).Contents (Elt Ideal))⟩, ⟨S4096x48, (broadcastInDim S4096x48 ![] bcast_S_S4096x48 (constant (F := Ideal) S_ .f32 0x3F800000#32) : (⟨S4096x48, .f32⟩ : BufTy).Contents (Elt Ideal))⟩] concatenates_S4096x8_S4096x8_S4096x48_S4096x64_d1
@[inherit_doc cosT] def sinaT : FVec Ideal S4096x64 .f32 := concatenate S4096x64 1 [⟨S4096x8, Host.negf (F := Ideal) (Host.sin angT)⟩, ⟨S4096x56, broadcastInDim S4096x56 ![] bcast_S_S4096x56 (constant (F := Ideal) S_ .f32 0x00000000#32)⟩] concatenates_S4096x8_S4096x56_S4096x64_d1
@[inherit_doc cosT] def sinbT : FVec Ideal S4096x64 .f32 := concatenate S4096x64 1 [⟨S4096x8, (broadcastInDim S4096x8 ![] bcast_S_S4096x8 (constant (F := Ideal) S_ .f32 0x00000000#32) : (⟨S4096x8, .f32⟩ : BufTy).Contents (Elt Ideal))⟩, ⟨S4096x8, (Host.sin angT : (⟨S4096x8, .f32⟩ : BufTy).Contents (Elt Ideal))⟩, ⟨S4096x48, (broadcastInDim S4096x48 ![] bcast_S_S4096x48 (constant (F := Ideal) S_ .f32 0x00000000#32) : (⟨S4096x48, .f32⟩ : BufTy).Contents (Elt Ideal))⟩] concatenates_S4096x8_S4096x8_S4096x48_S4096x64_d1

/-- The cosines of the 64 lanes of a head. -/
def cosL (p : Fin 4096) (l : Fin 64) : EReal := if h : l.val < 8 then cosA p ⟨l.val, h⟩ else if h : l.val - 8 < 8 then cosA p ⟨l.val - 8, h⟩ else 1
/-- The sines that meet the lane eight further. -/
def sinaL (p : Fin 4096) (l : Fin 64) : EReal := if h : l.val < 8 then -sinA p ⟨l.val, h⟩ else 0
/-- The sines that meet the lane eight before. -/
def sinbL (p : Fin 4096) (l : Fin 64) : EReal := if h : l.val < 8 then 0 else if h : l.val - 8 < 8 then sinA p ⟨l.val - 8, h⟩ else 0

theorem cosT_apply (p : Fin 4096) (l : Fin 64) : cosT (ix2 p l) = cosL p l := by
  unfold cosT cosL cosA
  generalize Host.cos angT = z
  pointwise []

theorem sinaT_apply (p : Fin 4096) (l : Fin 64) : sinaT (ix2 p l) = sinaL p l := by
  unfold sinaT sinaL sinA
  generalize Host.sin angT = z
  pointwise []

theorem sinbT_apply (p : Fin 4096) (l : Fin 64) : sinbT (ix2 p l) = sinbL p l := by
  unfold sinbT sinbL sinA
  generalize Host.sin angT = z
  pointwise []

variable (m : (ℓ : Loc nD τ sig) → Buf (Elt Ideal) ℓ)

/-! ## The arguments -/

/-- Argument 0. -/
abbrev a0 (c : Dev nD) : FVec Ideal S32768x1024 .f32 := m ((c : Thread nD τ).loc main_arg0)
/-- Argument 1. -/
abbrev a1 (c : Dev nD) : FVec Ideal S1024 .f32 := m ((c : Thread nD τ).loc main_arg1)
/-- Argument 2. -/
abbrev a2 (c : Dev nD) : FVec Ideal S1024x5632 .f32 := m ((c : Thread nD τ).loc main_arg2)
/-- Argument 3. -/
abbrev a3 (c : Dev nD) : FVec Ideal S2816x1024 .f32 := m ((c : Thread nD τ).loc main_arg3)
/-- Argument 4. -/
abbrev a4 (c : Dev nD) : FVec Ideal S1024 .f32 := m ((c : Thread nD τ).loc main_arg4)
/-- Argument 5. -/
abbrev a5 (c : Dev nD) : FVec Ideal S1024 .f32 := m ((c : Thread nD τ).loc main_arg5)
/-- Argument 6. -/
abbrev a6 (c : Dev nD) : FVec Ideal S1024x5904 .f32 := m ((c : Thread nD τ).loc main_arg6)
/-- Argument 7. -/
abbrev a7 (c : Dev nD) : FVec Ideal S16 .f32 := m ((c : Thread nD τ).loc main_arg7)

/-! ## The host arrays -/

theorem array10 (c : Dev nD) : V m c main_v43 = twiceT cosT := by
  show StableHlo.after (List.flatten [hostOps0, hostOps0_1, hostOps0_2, hostOps0_3, hostOps0_4]) _ (Proc.devRef .tc main_v43) = _
  simp only [hostOps0, hostOps0_1, hostOps0_2, hostOps0_3, hostOps0_4, List.flatten_cons, List.flatten_nil, List.append_nil, List.cons_append, List.nil_append]
  after_results
  rfl

theorem host10 (c : Dev nD) (p : Fin 4096) (l : Fin 128) : V m c main_v43 (ix2 p l) = cosL p ⟨l.val % 64, by omega⟩ := by
  rw [array10, twiceT_apply, cosT_apply]

theorem array11 (c : Dev nD) : V m c main_v46 = twiceT sinaT := by
  show StableHlo.after (List.flatten [hostOps0, hostOps0_1, hostOps0_2, hostOps0_3, hostOps0_4]) _ (Proc.devRef .tc main_v46) = _
  simp only [hostOps0, hostOps0_1, hostOps0_2, hostOps0_3, hostOps0_4, List.flatten_cons, List.flatten_nil, List.append_nil, List.cons_append, List.nil_append]
  after_results
  rfl

theorem host11 (c : Dev nD) (p : Fin 4096) (l : Fin 128) : V m c main_v46 (ix2 p l) = sinaL p ⟨l.val % 64, by omega⟩ := by
  rw [array11, twiceT_apply, sinaT_apply]

theorem array12 (c : Dev nD) : V m c main_v49 = twiceT sinbT := by
  show StableHlo.after (List.flatten [hostOps0, hostOps0_1, hostOps0_2, hostOps0_3, hostOps0_4]) _ (Proc.devRef .tc main_v49) = _
  simp only [hostOps0, hostOps0_1, hostOps0_2, hostOps0_3, hostOps0_4, List.flatten_cons, List.flatten_nil, List.append_nil, List.cons_append, List.nil_append]
  after_results
  rfl

theorem host12 (c : Dev nD) (p : Fin 4096) (l : Fin 128) : V m c main_v49 (ix2 p l) = sinbL p ⟨l.val % 64, by omega⟩ := by
  rw [array12, twiceT_apply, sinbT_apply]

theorem array1 (c : Dev nD) : V m c main_v52 = shapeCast S1x1024 (a1 m c) shapeCasts_S1024_S1x1024 := by
  show StableHlo.after (List.flatten [hostOps0, hostOps0_1, hostOps0_2, hostOps0_3, hostOps0_4]) _ (Proc.devRef .tc main_v52) = _
  simp only [hostOps0, hostOps0_1, hostOps0_2, hostOps0_3, hostOps0_4, List.flatten_cons, List.flatten_nil, List.append_nil, List.cons_append, List.nil_append]
  after_results
  rfl

theorem host1 (c : Dev nD) (l : Fin 1024) : V m c main_v52 (ix2 (0 : Fin 1) l) = a1 m c (ix1 l) := by
  rw [array1]
  pointwise []

theorem array4 (c : Dev nD) : V m c main_v53 = shapeCast S1x1024 (a4 m c) shapeCasts_S1024_S1x1024 := by
  show StableHlo.after (List.flatten [hostOps0, hostOps0_1, hostOps0_2, hostOps0_3, hostOps0_4]) _ (Proc.devRef .tc main_v53) = _
  simp only [hostOps0, hostOps0_1, hostOps0_2, hostOps0_3, hostOps0_4, List.flatten_cons, List.flatten_nil, List.append_nil, List.cons_append, List.nil_append]
  after_results
  rfl

theorem host4 (c : Dev nD) (l : Fin 1024) : V m c main_v53 (ix2 (0 : Fin 1) l) = a4 m c (ix1 l) := by
  rw [array4]
  pointwise []

theorem array5 (c : Dev nD) : V m c main_v54 = shapeCast S1x1024 (a5 m c) shapeCasts_S1024_S1x1024 := by
  show StableHlo.after (List.flatten [hostOps0, hostOps0_1, hostOps0_2, hostOps0_3, hostOps0_4]) _ (Proc.devRef .tc main_v54) = _
  simp only [hostOps0, hostOps0_1, hostOps0_2, hostOps0_3, hostOps0_4, List.flatten_cons, List.flatten_nil, List.append_nil, List.cons_append, List.nil_append]
  after_results
  rfl

theorem host5 (c : Dev nD) (l : Fin 1024) : V m c main_v54 (ix2 (0 : Fin 1) l) = a5 m c (ix1 l) := by
  rw [array5]
  pointwise []

theorem array2 (c : Dev nD) : V m c main_v50 = truncf (F := Ideal) .bf16 (a2 m c) bitsLt_bf16_f32 := by
  show StableHlo.after (List.flatten [hostOps0, hostOps0_1, hostOps0_2, hostOps0_3, hostOps0_4]) _ (Proc.devRef .tc main_v50) = _
  simp only [hostOps0, hostOps0_1, hostOps0_2, hostOps0_3, hostOps0_4, List.flatten_cons, List.flatten_nil, List.append_nil, List.cons_append, List.nil_append]
  after_results

theorem host2 (c : Dev nD) (i : Fin 1024) (l : Fin 5632) : V m c main_v50 (ix2 i l) = a2 m c (ix2 i l) := by
  rw [array2]
  rfl

theorem array3 (c : Dev nD) : V m c main_v51 = truncf (F := Ideal) .bf16 (a3 m c) bitsLt_bf16_f32 := by
  show StableHlo.after (List.flatten [hostOps0, hostOps0_1, hostOps0_2, hostOps0_3, hostOps0_4]) _ (Proc.devRef .tc main_v51) = _
  simp only [hostOps0, hostOps0_1, hostOps0_2, hostOps0_3, hostOps0_4, List.flatten_cons, List.flatten_nil, List.append_nil, List.cons_append, List.nil_append]
  after_results

theorem host3 (c : Dev nD) (i : Fin 2816) (l : Fin 1024) : V m c main_v51 (ix2 i l) = a3 m c (ix2 i l) := by
  rw [array3]
  rfl

theorem array6 (c : Dev nD) : V m c main_v7 = truncf (F := Ideal) .bf16 (extractStridedSlice S3840x1024 ![0, 0] (transpose S5904x1024 [1, 0] (a6 m c) transposes_S1024x5904_S5904x1024_1_0) slices_S5904x1024_S3840x1024_0_0) bitsLt_bf16_f32 := by
  show StableHlo.after (List.flatten [hostOps0, hostOps0_1, hostOps0_2, hostOps0_3, hostOps0_4]) _ (Proc.devRef .tc main_v7) = _
  simp only [hostOps0, hostOps0_1, hostOps0_2, hostOps0_3, hostOps0_4, List.flatten_cons, List.flatten_nil, List.append_nil, List.cons_append, List.nil_append]
  after_results

theorem host6 (c : Dev nD) (k : Fin 3840) (i : Fin 1024) : V m c main_v7 (ix2 k i) = a6 m c (ix2 i (⟨k.val, by omega⟩ : Fin 5904)) := by
  rw [array6]
  pointwise []

theorem array8 (c : Dev nD) : V m c main_v10 = truncf (F := Ideal) .bf16 (extractStridedSlice S2048x1024 ![3856, 0] (transpose S5904x1024 [1, 0] (a6 m c) transposes_S1024x5904_S5904x1024_1_0) slices_S5904x1024_S2048x1024_3856_0) bitsLt_bf16_f32 := by
  show StableHlo.after (List.flatten [hostOps0, hostOps0_1, hostOps0_2, hostOps0_3, hostOps0_4]) _ (Proc.devRef .tc main_v10) = _
  simp only [hostOps0, hostOps0_1, hostOps0_2, hostOps0_3, hostOps0_4, List.flatten_cons, List.flatten_nil, List.append_nil, List.cons_append, List.nil_append]
  after_results

theorem host8 (c : Dev nD) (k : Fin 2048) (i : Fin 1024) : V m c main_v10 (ix2 k i) = a6 m c (ix2 i (⟨3856 + k.val, by omega⟩ : Fin 5904)) := by
  rw [array8]
  pointwise []

/-- The gates' columns of the projection as rows, the direction and the gate's kind in the order the kernel uses. -/
def gateRows (w : FVec Ideal S1024x5904 .f32) : FVec Ideal S16x1024 .f32 :=
  shapeCast S16x1024 (transpose S4x4x1024 [1, 0, 2] (shapeCast S4x4x1024 (extractStridedSlice S16x1024 ![3840, 0] (transpose S5904x1024 [1, 0] w transposes_S1024x5904_S5904x1024_1_0) slices_S5904x1024_S16x1024_3840_0) shapeCasts_S16x1024_S4x4x1024) transposes_S4x4x1024_S4x4x1024_1_0_2) shapeCasts_S4x4x1024_S16x1024

theorem gateRows_apply (w : FVec Ideal S1024x5904 .f32) (k : Fin 16) (i : Fin 1024) :
    gateRows w (ix2 k i) = w (ix2 i (⟨3840 + 4 * (k.val % 4) + k.val / 4, by omega⟩ : Fin 5904)) := by
  pointwise [gateRows]
  congr 2
  exact Fin.ext (by show 3840 + (k.val % 4 * 4 + k.val / 4) = 3840 + 4 * (k.val % 4) + k.val / 4; omega)

/-- The gates' biases in the order the kernel uses. -/
def gateBias (b : FVec Ideal S16 .f32) : FVec Ideal S1x16 .f32 :=
  shapeCast S1x16 (transpose S4x4 [1, 0] (shapeCast S4x4 b shapeCasts_S16_S4x4) transposes_S4x4_S4x4_1_0) shapeCasts_S4x4_S1x16

theorem gateBias_apply (b : FVec Ideal S16 .f32) (k : Fin 16) :
    gateBias b (ix2 (0 : Fin 1) k) = b (ix1 (⟨4 * (k.val % 4) + k.val / 4, by omega⟩ : Fin 16)) := by
  pointwise [gateBias]
  congr 2
  exact Fin.ext (by show k.val % 4 * 4 + k.val / 4 = 4 * (k.val % 4) + k.val / 4; omega)

theorem array7 (c : Dev nD) : V m c main_v8 = truncf (F := Ideal) .bf16 (pad S128x1024 ![0, 0] ![112, 0] ![0, 0] (gateRows (a6 m c)) (sitofp (F := Ideal) .f32 (constantI S_ 32 0#32)) pads_S16x1024_S128x1024_01120_000 h_S_) bitsLt_bf16_f32 := by
  show StableHlo.after (List.flatten [hostOps0, hostOps0_1, hostOps0_2, hostOps0_3, hostOps0_4]) _ (Proc.devRef .tc main_v8) = _
  simp only [hostOps0, hostOps0_1, hostOps0_2, hostOps0_3, hostOps0_4, List.flatten_cons, List.flatten_nil, List.append_nil, List.cons_append, List.nil_append]
  after_results
  rfl

theorem array9 (c : Dev nD) : V m c main_v14 = pad S1x128 ![0, 0] ![0, 112] ![0, 0] (gateBias (a7 m c)) (sitofp (F := Ideal) .f32 (constantI S_ 32 0#32)) pads_S1x16_S1x128_000_01120 h_S_ := by
  show StableHlo.after (List.flatten [hostOps0, hostOps0_1, hostOps0_2, hostOps0_3, hostOps0_4]) _ (Proc.devRef .tc main_v14) = _
  simp only [hostOps0, hostOps0_1, hostOps0_2, hostOps0_3, hostOps0_4, List.flatten_cons, List.flatten_nil, List.append_nil, List.cons_append, List.nil_append]
  after_results
  rfl

theorem host7 (c : Dev nD) (k : Fin 128) (k' : Fin 16) (h : k.val = k'.val) (i : Fin 1024) :
    V m c main_v8 (ix2 k i) = a6 m c (ix2 i (⟨3840 + 4 * (k'.val % 4) + k'.val / 4, by omega⟩ : Fin 5904)) := by
  rw [array7]
  refine Eq.trans ?_ (gateRows_apply (a6 m c) k' i)
  generalize gateRows (a6 m c) = z
  pointwise []
  rw [dif_pos (show k.val < 16 by omega)]
  exact congrArg (fun q => z (ix2 q i)) (Fin.ext h)

theorem host9 (c : Dev nD) (k : Fin 128) (k' : Fin 16) (h : k.val = k'.val) :
    V m c main_v14 (ix2 (0 : Fin 1) k) = a7 m c (ix1 (⟨4 * (k'.val % 4) + k'.val / 4, by omega⟩ : Fin 16)) := by
  rw [array9]
  refine Eq.trans ?_ (gateBias_apply (a7 m c) k')
  generalize gateBias (a7 m c) = z
  pointwise []
  rw [dif_pos (show k.val < 16 by omega)]
  exact congrArg (fun q => z (ix2 (0 : Fin 1) q)) (Fin.ext h)

end Cert.ProjIdeal.Row
end
-- ==== Proof.ProjBlocks.lean ====
module

public import proofs.«01_k».proof.Proof.ProjIdealRun
public import Idealize.ShloMosaic.Lib.Pipeline.Value

@[expose] public section

noncomputable section

namespace Cert.ProjIdeal.Run

open Cert.ProjIdeal Cert.ProjIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 13's array: the body's result for that window (`out0_13`: its stores
    as pieces over the input windows' blocks), read through the window's block. -/
theorem flushed13 (c : Dev nD) (t : Fin cfg0.N) :
    (dats m 0 c).flushed 13 t = (cfg0.win 13).cut (grid0.coords t) (out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) := by
  show (cfg0.win 13).cut (grid0.coords t) ((dats m 0 c).after 13 t) = _
  rw [after0_13]

/-- The index map sends distinct grid points to distinct block indices (decided over the 64 points). -/
theorem idx_inj13 : ∀ t t' : Fin cfg0.N, win0_13.index t = win0_13.index t' → t = t' :=
  (by decide +kernel : ∀ t t' : Fin grid0.N, win0_13.index t = win0_13.index t' → t = t')

/-- So two flushing points' blocks share no array index. -/
theorem disjoint13 : ∀ t t' : Fin cfg0.N, (cfg0.win 13).flush t = true → (cfg0.win 13).flush t' = true → t ≠ t' →
    Disjoint ((cfg0.win 13).blk t).view.set ((cfg0.win 13).blk t').view.set :=
  fun t t' _ _ hne => (cfg0.win 13).disjoint_blk fun h => hne (idx_inj13 t t' h)

/-- BLOCK `t` OF THE FINAL ARRAY, read back through the window, is what point `t` wrote back (`flushed13`), for every
    point that writes back: no other point's block meets it. -/
theorem blocks13 (c : Dev nD) (t : Fin cfg0.N) (hf : (cfg0.win 13).flush t = true) :
    ((cfg0.win 13).blk t).view.read (Elt F) ((dats m 0 c).arrAt 13 cfg0.N) = (dats m 0 c).flushed 13 t :=
  (dats m 0 c).read_blk_arrAt_eq_flushed 13 disjoint13 cfg0.N t t.isLt hf

/-- WHAT POINT `t` WRITES BACK to output window 14's array: the body's result for that window (`out0_14`: its stores
    as pieces over the input windows' blocks), read through the window's block. -/
theorem flushed14 (c : Dev nD) (t : Fin cfg0.N) :
    (dats m 0 c).flushed 14 t = (cfg0.win 14).cut (grid0.coords t) (out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) := by
  show (cfg0.win 14).cut (grid0.coords t) ((dats m 0 c).after 14 t) = _
  rw [after0_14]

/-- The index map sends distinct grid points to distinct block indices (decided over the 64 points). -/
theorem idx_inj14 : ∀ t t' : Fin cfg0.N, win0_14.index t = win0_14.index t' → t = t' :=
  (by decide +kernel : ∀ t t' : Fin grid0.N, win0_14.index t = win0_14.index t' → t = t')

/-- So two flushing points' blocks share no array index. -/
theorem disjoint14 : ∀ t t' : Fin cfg0.N, (cfg0.win 14).flush t = true → (cfg0.win 14).flush t' = true → t ≠ t' →
    Disjoint ((cfg0.win 14).blk t).view.set ((cfg0.win 14).blk t').view.set :=
  fun t t' _ _ hne => (cfg0.win 14).disjoint_blk fun h => hne (idx_inj14 t t' h)

/-- BLOCK `t` OF THE FINAL ARRAY, read back through the window, is what point `t` wrote back (`flushed14`), for every
    point that writes back: no other point's block meets it. -/
theorem blocks14 (c : Dev nD) (t : Fin cfg0.N) (hf : (cfg0.win 14).flush t = true) :
    ((cfg0.win 14).blk t).view.read (Elt F) ((dats m 0 c).arrAt 14 cfg0.N) = (dats m 0 c).flushed 14 t :=
  (dats m 0 c).read_blk_arrAt_eq_flushed 14 disjoint14 cfg0.N t t.isLt hf

/-- WHAT POINT `t` WRITES BACK to output window 15's array: the body's result for that window (`out0_15`: its stores
    as pieces over the input windows' blocks), read through the window's block. -/
theorem flushed15 (c : Dev nD) (t : Fin cfg0.N) :
    (dats m 0 c).flushed 15 t = (cfg0.win 15).cut (grid0.coords t) (out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) := by
  show (cfg0.win 15).cut (grid0.coords t) ((dats m 0 c).after 15 t) = _
  rw [after0_15]

/-- The index map sends distinct grid points to distinct block indices (decided over the 64 points). -/
theorem idx_inj15 : ∀ t t' : Fin cfg0.N, win0_15.index t = win0_15.index t' → t = t' :=
  (by decide +kernel : ∀ t t' : Fin grid0.N, win0_15.index t = win0_15.index t' → t = t')

/-- So two flushing points' blocks share no array index. -/
theorem disjoint15 : ∀ t t' : Fin cfg0.N, (cfg0.win 15).flush t = true → (cfg0.win 15).flush t' = true → t ≠ t' →
    Disjoint ((cfg0.win 15).blk t).view.set ((cfg0.win 15).blk t').view.set :=
  fun t t' _ _ hne => (cfg0.win 15).disjoint_blk fun h => hne (idx_inj15 t t' h)

/-- BLOCK `t` OF THE FINAL ARRAY, read back through the window, is what point `t` wrote back (`flushed15`), for every
    point that writes back: no other point's block meets it. -/
theorem blocks15 (c : Dev nD) (t : Fin cfg0.N) (hf : (cfg0.win 15).flush t = true) :
    ((cfg0.win 15).blk t).view.read (Elt F) ((dats m 0 c).arrAt 15 cfg0.N) = (dats m 0 c).flushed 15 t :=
  (dats m 0 c).read_blk_arrAt_eq_flushed 15 disjoint15 cfg0.N t t.isLt hf

/-- WHAT POINT `t` WRITES BACK to output window 16's array: the body's result for that window (`out0_16`: its stores
    as pieces over the input windows' blocks), read through the window's block. -/
theorem flushed16 (c : Dev nD) (t : Fin cfg0.N) :
    (dats m 0 c).flushed 16 t = (cfg0.win 16).cut (grid0.coords t) (out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) := by
  show (cfg0.win 16).cut (grid0.coords t) ((dats m 0 c).after 16 t) = _
  rw [after0_16]

/-- The index map sends distinct grid points to distinct block indices (decided over the 64 points). -/
theorem idx_inj16 : ∀ t t' : Fin cfg0.N, win0_16.index t = win0_16.index t' → t = t' :=
  (by decide +kernel : ∀ t t' : Fin grid0.N, win0_16.index t = win0_16.index t' → t = t')

/-- So two flushing points' blocks share no array index. -/
theorem disjoint16 : ∀ t t' : Fin cfg0.N, (cfg0.win 16).flush t = true → (cfg0.win 16).flush t' = true → t ≠ t' →
    Disjoint ((cfg0.win 16).blk t).view.set ((cfg0.win 16).blk t').view.set :=
  fun t t' _ _ hne => (cfg0.win 16).disjoint_blk fun h => hne (idx_inj16 t t' h)

/-- BLOCK `t` OF THE FINAL ARRAY, read back through the window, is what point `t` wrote back (`flushed16`), for every
    point that writes back: no other point's block meets it. -/
theorem blocks16 (c : Dev nD) (t : Fin cfg0.N) (hf : (cfg0.win 16).flush t = true) :
    ((cfg0.win 16).blk t).view.read (Elt F) ((dats m 0 c).arrAt 16 cfg0.N) = (dats m 0 c).flushed 16 t :=
  (dats m 0 c).read_blk_arrAt_eq_flushed 16 disjoint16 cfg0.N t t.isLt hf

/-- WHAT POINT `t` WRITES BACK to output window 17's array: the body's result for that window (`out0_17`: its stores
    as pieces over the input windows' blocks), read through the window's block. -/
theorem flushed17 (c : Dev nD) (t : Fin cfg0.N) :
    (dats m 0 c).flushed 17 t = (cfg0.win 17).cut (grid0.coords t) (out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) := by
  show (cfg0.win 17).cut (grid0.coords t) ((dats m 0 c).after 17 t) = _
  rw [after0_17]

/-- The index map sends distinct grid points to distinct block indices (decided over the 64 points). -/
theorem idx_inj17 : ∀ t t' : Fin cfg0.N, win0_17.index t = win0_17.index t' → t = t' :=
  (by decide +kernel : ∀ t t' : Fin grid0.N, win0_17.index t = win0_17.index t' → t = t')

/-- So two flushing points' blocks share no array index. -/
theorem disjoint17 : ∀ t t' : Fin cfg0.N, (cfg0.win 17).flush t = true → (cfg0.win 17).flush t' = true → t ≠ t' →
    Disjoint ((cfg0.win 17).blk t).view.set ((cfg0.win 17).blk t').view.set :=
  fun t t' _ _ hne => (cfg0.win 17).disjoint_blk fun h => hne (idx_inj17 t t' h)

/-- BLOCK `t` OF THE FINAL ARRAY, read back through the window, is what point `t` wrote back (`flushed17`), for every
    point that writes back: no other point's block meets it. -/
theorem blocks17 (c : Dev nD) (t : Fin cfg0.N) (hf : (cfg0.win 17).flush t = true) :
    ((cfg0.win 17).blk t).view.read (Elt F) ((dats m 0 c).arrAt 17 cfg0.N) = (dats m 0 c).flushed 17 t :=
  (dats m 0 c).read_blk_arrAt_eq_flushed 17 disjoint17 cfg0.N t t.isLt hf

/-- WHAT POINT `t` WRITES BACK to output window 18's array: the body's result for that window (`out0_18`: its stores
    as pieces over the input windows' blocks), read through the window's block. -/
theorem flushed18 (c : Dev nD) (t : Fin cfg0.N) :
    (dats m 0 c).flushed 18 t = (cfg0.win 18).cut (grid0.coords t) (out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) := by
  show (cfg0.win 18).cut (grid0.coords t) ((dats m 0 c).after 18 t) = _
  rw [after0_18]

/-- The index map sends distinct grid points to distinct block indices (decided over the 64 points). -/
theorem idx_inj18 : ∀ t t' : Fin cfg0.N, win0_18.index t = win0_18.index t' → t = t' :=
  (by decide +kernel : ∀ t t' : Fin grid0.N, win0_18.index t = win0_18.index t' → t = t')

/-- So two flushing points' blocks share no array index. -/
theorem disjoint18 : ∀ t t' : Fin cfg0.N, (cfg0.win 18).flush t = true → (cfg0.win 18).flush t' = true → t ≠ t' →
    Disjoint ((cfg0.win 18).blk t).view.set ((cfg0.win 18).blk t').view.set :=
  fun t t' _ _ hne => (cfg0.win 18).disjoint_blk fun h => hne (idx_inj18 t t' h)

/-- BLOCK `t` OF THE FINAL ARRAY, read back through the window, is what point `t` wrote back (`flushed18`), for every
    point that writes back: no other point's block meets it. -/
theorem blocks18 (c : Dev nD) (t : Fin cfg0.N) (hf : (cfg0.win 18).flush t = true) :
    ((cfg0.win 18).blk t).view.read (Elt F) ((dats m 0 c).arrAt 18 cfg0.N) = (dats m 0 c).flushed 18 t :=
  (dats m 0 c).read_blk_arrAt_eq_flushed 18 disjoint18 cfg0.N t t.isLt hf

/-- WHAT POINT `t` WRITES BACK to output window 19's array: the body's result for that window (`out0_19`: its stores
    as pieces over the input windows' blocks), read through the window's block. -/
theorem flushed19 (c : Dev nD) (t : Fin cfg0.N) :
    (dats m 0 c).flushed 19 t = (cfg0.win 19).cut (grid0.coords t) (out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) := by
  show (cfg0.win 19).cut (grid0.coords t) ((dats m 0 c).after 19 t) = _
  rw [after0_19]

/-- The index map sends distinct grid points to distinct block indices (decided over the 64 points). -/
theorem idx_inj19 : ∀ t t' : Fin cfg0.N, win0_19.index t = win0_19.index t' → t = t' :=
  (by decide +kernel : ∀ t t' : Fin grid0.N, win0_19.index t = win0_19.index t' → t = t')

/-- So two flushing points' blocks share no array index. -/
theorem disjoint19 : ∀ t t' : Fin cfg0.N, (cfg0.win 19).flush t = true → (cfg0.win 19).flush t' = true → t ≠ t' →
    Disjoint ((cfg0.win 19).blk t).view.set ((cfg0.win 19).blk t').view.set :=
  fun t t' _ _ hne => (cfg0.win 19).disjoint_blk fun h => hne (idx_inj19 t t' h)

/-- BLOCK `t` OF THE FINAL ARRAY, read back through the window, is what point `t` wrote back (`flushed19`), for every
    point that writes back: no other point's block meets it. -/
theorem blocks19 (c : Dev nD) (t : Fin cfg0.N) (hf : (cfg0.win 19).flush t = true) :
    ((cfg0.win 19).blk t).view.read (Elt F) ((dats m 0 c).arrAt 19 cfg0.N) = (dats m 0 c).flushed 19 t :=
  (dats m 0 c).read_blk_arrAt_eq_flushed 19 disjoint19 cfg0.N t t.isLt hf

/-- WHAT POINT `t` WRITES BACK to output window 20's array: the body's result for that window (`out0_20`: its stores
    as pieces over the input windows' blocks), read through the window's block. -/
theorem flushed20 (c : Dev nD) (t : Fin cfg0.N) :
    (dats m 0 c).flushed 20 t = (cfg0.win 20).cut (grid0.coords t) (out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) := by
  show (cfg0.win 20).cut (grid0.coords t) ((dats m 0 c).after 20 t) = _
  rw [after0_20]

/-- The index map sends distinct grid points to distinct block indices (decided over the 64 points). -/
theorem idx_inj20 : ∀ t t' : Fin cfg0.N, win0_20.index t = win0_20.index t' → t = t' :=
  (by decide +kernel : ∀ t t' : Fin grid0.N, win0_20.index t = win0_20.index t' → t = t')

/-- So two flushing points' blocks share no array index. -/
theorem disjoint20 : ∀ t t' : Fin cfg0.N, (cfg0.win 20).flush t = true → (cfg0.win 20).flush t' = true → t ≠ t' →
    Disjoint ((cfg0.win 20).blk t).view.set ((cfg0.win 20).blk t').view.set :=
  fun t t' _ _ hne => (cfg0.win 20).disjoint_blk fun h => hne (idx_inj20 t t' h)

/-- BLOCK `t` OF THE FINAL ARRAY, read back through the window, is what point `t` wrote back (`flushed20`), for every
    point that writes back: no other point's block meets it. -/
theorem blocks20 (c : Dev nD) (t : Fin cfg0.N) (hf : (cfg0.win 20).flush t = true) :
    ((cfg0.win 20).blk t).view.read (Elt F) ((dats m 0 c).arrAt 20 cfg0.N) = (dats m 0 c).flushed 20 t :=
  (dats m 0 c).read_blk_arrAt_eq_flushed 20 disjoint20 cfg0.N t t.isLt hf

/-- WHAT POINT `t` WRITES BACK to output window 21's array: the body's result for that window (`out0_21`: its stores
    as pieces over the input windows' blocks), read through the window's block. -/
theorem flushed21 (c : Dev nD) (t : Fin cfg0.N) :
    (dats m 0 c).flushed 21 t = (cfg0.win 21).cut (grid0.coords t) (out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) := by
  show (cfg0.win 21).cut (grid0.coords t) ((dats m 0 c).after 21 t) = _
  rw [after0_21]

/-- The index map sends distinct grid points to distinct block indices (decided over the 64 points). -/
theorem idx_inj21 : ∀ t t' : Fin cfg0.N, win0_21.index t = win0_21.index t' → t = t' :=
  (by decide +kernel : ∀ t t' : Fin grid0.N, win0_21.index t = win0_21.index t' → t = t')

/-- So two flushing points' blocks share no array index. -/
theorem disjoint21 : ∀ t t' : Fin cfg0.N, (cfg0.win 21).flush t = true → (cfg0.win 21).flush t' = true → t ≠ t' →
    Disjoint ((cfg0.win 21).blk t).view.set ((cfg0.win 21).blk t').view.set :=
  fun t t' _ _ hne => (cfg0.win 21).disjoint_blk fun h => hne (idx_inj21 t t' h)

/-- BLOCK `t` OF THE FINAL ARRAY, read back through the window, is what point `t` wrote back (`flushed21`), for every
    point that writes back: no other point's block meets it. -/
theorem blocks21 (c : Dev nD) (t : Fin cfg0.N) (hf : (cfg0.win 21).flush t = true) :
    ((cfg0.win 21).blk t).view.read (Elt F) ((dats m 0 c).arrAt 21 cfg0.N) = (dats m 0 c).flushed 21 t :=
  (dats m 0 c).read_blk_arrAt_eq_flushed 21 disjoint21 cfg0.N t t.isLt hf

/-- WHAT POINT `t` WRITES BACK to output window 22's array: the body's result for that window (`out0_22`: its stores
    as pieces over the input windows' blocks), read through the window's block. -/
theorem flushed22 (c : Dev nD) (t : Fin cfg0.N) :
    (dats m 0 c).flushed 22 t = (cfg0.win 22).cut (grid0.coords t) (out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) := by
  show (cfg0.win 22).cut (grid0.coords t) ((dats m 0 c).after 22 t) = _
  rw [after0_22]

/-- The index map sends distinct grid points to distinct block indices (decided over the 64 points). -/
theorem idx_inj22 : ∀ t t' : Fin cfg0.N, win0_22.index t = win0_22.index t' → t = t' :=
  (by decide +kernel : ∀ t t' : Fin grid0.N, win0_22.index t = win0_22.index t' → t = t')

/-- So two flushing points' blocks share no array index. -/
theorem disjoint22 : ∀ t t' : Fin cfg0.N, (cfg0.win 22).flush t = true → (cfg0.win 22).flush t' = true → t ≠ t' →
    Disjoint ((cfg0.win 22).blk t).view.set ((cfg0.win 22).blk t').view.set :=
  fun t t' _ _ hne => (cfg0.win 22).disjoint_blk fun h => hne (idx_inj22 t t' h)

/-- BLOCK `t` OF THE FINAL ARRAY, read back through the window, is what point `t` wrote back (`flushed22`), for every
    point that writes back: no other point's block meets it. -/
theorem blocks22 (c : Dev nD) (t : Fin cfg0.N) (hf : (cfg0.win 22).flush t = true) :
    ((cfg0.win 22).blk t).view.read (Elt F) ((dats m 0 c).arrAt 22 cfg0.N) = (dats m 0 c).flushed 22 t :=
  (dats m 0 c).read_blk_arrAt_eq_flushed 22 disjoint22 cfg0.N t t.isLt hf

/-- After the frame run, output window 13's array is `(dats m 0 c).arrAt 13 N`. -/
theorem post13 (r : PUnit × MemSt nD τ sig (Elt F)) (h : Pipeline.FramePost cfgs (dats m) 0 (V m) r) (c : Dev nD) :
    r.2.mem ((c : Thread nD τ).loc main_v55_0) = (dats m 0 c).arrAt 13 cfg0.N :=
  (h c).1 13

/-- After the frame run, output window 14's array is `(dats m 0 c).arrAt 14 N`. -/
theorem post14 (r : PUnit × MemSt nD τ sig (Elt F)) (h : Pipeline.FramePost cfgs (dats m) 0 (V m) r) (c : Dev nD) :
    r.2.mem ((c : Thread nD τ).loc main_v55_1) = (dats m 0 c).arrAt 14 cfg0.N :=
  (h c).1 14

/-- After the frame run, output window 15's array is `(dats m 0 c).arrAt 15 N`. -/
theorem post15 (r : PUnit × MemSt nD τ sig (Elt F)) (h : Pipeline.FramePost cfgs (dats m) 0 (V m) r) (c : Dev nD) :
    r.2.mem ((c : Thread nD τ).loc main_v55_2) = (dats m 0 c).arrAt 15 cfg0.N :=
  (h c).1 15

/-- After the frame run, output window 16's array is `(dats m 0 c).arrAt 16 N`. -/
theorem post16 (r : PUnit × MemSt nD τ sig (Elt F)) (h : Pipeline.FramePost cfgs (dats m) 0 (V m) r) (c : Dev nD) :
    r.2.mem ((c : Thread nD τ).loc main_v55_3) = (dats m 0 c).arrAt 16 cfg0.N :=
  (h c).1 16

/-- After the frame run, output window 17's array is `(dats m 0 c).arrAt 17 N`. -/
theorem post17 (r : PUnit × MemSt nD τ sig (Elt F)) (h : Pipeline.FramePost cfgs (dats m) 0 (V m) r) (c : Dev nD) :
    r.2.mem ((c : Thread nD τ).loc main_v55_4) = (dats m 0 c).arrAt 17 cfg0.N :=
  (h c).1 17

/-- After the frame run, output window 18's array is `(dats m 0 c).arrAt 18 N`. -/
theorem post18 (r : PUnit × MemSt nD τ sig (Elt F)) (h : Pipeline.FramePost cfgs (dats m) 0 (V m) r) (c : Dev nD) :
    r.2.mem ((c : Thread nD τ).loc main_v55_5) = (dats m 0 c).arrAt 18 cfg0.N :=
  (h c).1 18

/-- After the frame run, output window 19's array is `(dats m 0 c).arrAt 19 N`. -/
theorem post19 (r : PUnit × MemSt nD τ sig (Elt F)) (h : Pipeline.FramePost cfgs (dats m) 0 (V m) r) (c : Dev nD) :
    r.2.mem ((c : Thread nD τ).loc main_v55_6) = (dats m 0 c).arrAt 19 cfg0.N :=
  (h c).1 19

/-- After the frame run, output window 20's array is `(dats m 0 c).arrAt 20 N`. -/
theorem post20 (r : PUnit × MemSt nD τ sig (Elt F)) (h : Pipeline.FramePost cfgs (dats m) 0 (V m) r) (c : Dev nD) :
    r.2.mem ((c : Thread nD τ).loc main_v55_7) = (dats m 0 c).arrAt 20 cfg0.N :=
  (h c).1 20

/-- After the frame run, output window 21's array is `(dats m 0 c).arrAt 21 N`. -/
theorem post21 (r : PUnit × MemSt nD τ sig (Elt F)) (h : Pipeline.FramePost cfgs (dats m) 0 (V m) r) (c : Dev nD) :
    r.2.mem ((c : Thread nD τ).loc main_v55_8) = (dats m 0 c).arrAt 21 cfg0.N :=
  (h c).1 21

/-- After the frame run, output window 22's array is `(dats m 0 c).arrAt 22 N`. -/
theorem post22 (r : PUnit × MemSt nD τ sig (Elt F)) (h : Pipeline.FramePost cfgs (dats m) 0 (V m) r) (c : Dev nD) :
    r.2.mem ((c : Thread nD τ).loc main_v55_9) = (dats m 0 c).arrAt 22 cfg0.N :=
  (h c).1 22

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

set_option maxHeartbeats 264040 in
/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v55_0) = (dats m 0 c).arrAt 13 cfg0.N
      ∧ r.2.mem ((c : Thread nD τ).loc main_v55_1) = (dats m 0 c).arrAt 14 cfg0.N
      ∧ r.2.mem ((c : Thread nD τ).loc main_v55_2) = (dats m 0 c).arrAt 15 cfg0.N
      ∧ r.2.mem ((c : Thread nD τ).loc main_v55_3) = (dats m 0 c).arrAt 16 cfg0.N
      ∧ r.2.mem ((c : Thread nD τ).loc main_v55_4) = (dats m 0 c).arrAt 17 cfg0.N
      ∧ r.2.mem ((c : Thread nD τ).loc main_v55_5) = (dats m 0 c).arrAt 18 cfg0.N
      ∧ r.2.mem ((c : Thread nD τ).loc main_v55_6) = (dats m 0 c).arrAt 19 cfg0.N
      ∧ r.2.mem ((c : Thread nD τ).loc main_v55_7) = (dats m 0 c).arrAt 20 cfg0.N
      ∧ r.2.mem ((c : Thread nD τ).loc main_v55_8) = (dats m 0 c).arrAt 21 cfg0.N
      ∧ r.2.mem ((c : Thread nD τ).loc main_v55_9) = (dats m 0 c).arrAt 22 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨post13 m r h c,
      post14 m r h c,
      post15 m r h c,
      post16 m r h c,
      post17 m r h c,
      post18 m r h c,
      post19 m r h c,
      post20 m r h c,
      post21 m r h c,
      post22 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c⟩)
    (run_main m ρ)

end Cert.ProjIdeal.Run
end
-- ==== Proof.ProjOut.lean ====
module

public import proofs.«01_k».proof.Proof.ProjHost
public import proofs.«01_k».proof.Proof.ProjBlocks
public import Idealize.ShloMosaic.Lib.Pipeline.ValueKit

@[expose] public section

set_option maxRecDepth 16384

noncomputable section

namespace Cert.ProjIdeal.Row

open Cert.RowMath
open Cert.ProjIdeal Cert.ProjIdeal.Gen Cert.ProjIdeal.Run Idealize.ShloMosaic Idealize.ShloMosaic.TcCoe Idealize.SL.Sem
open Idealize.ShloMosaic.Pipeline (Dat)

variable (m : (ℓ : Loc nD τ sig) → Buf (Elt Ideal) ℓ)

/-! ## The windows -/

theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = 0 ∧ win0_2.index t 1 = 0 := by decide +kernel
theorem index3 : ∀ t : Fin grid0.N, win0_3.index t 0 = 0 ∧ win0_3.index t 1 = 0 := by decide +kernel
theorem index4 : ∀ t : Fin grid0.N, win0_4.index t 0 = 0 ∧ win0_4.index t 1 = 0 := by decide +kernel
theorem index5 : ∀ t : Fin grid0.N, win0_5.index t 0 = 0 ∧ win0_5.index t 1 = 0 := by decide +kernel
theorem index6 : ∀ t : Fin grid0.N, win0_6.index t 0 = 0 ∧ win0_6.index t 1 = 0 := by decide +kernel
theorem index7 : ∀ t : Fin grid0.N, win0_7.index t 0 = 0 ∧ win0_7.index t 1 = 0 := by decide +kernel
theorem index8 : ∀ t : Fin grid0.N, win0_8.index t 0 = 0 ∧ win0_8.index t 1 = 0 := by decide +kernel
theorem index9 : ∀ t : Fin grid0.N, win0_9.index t 0 = 0 ∧ win0_9.index t 1 = 0 := by decide +kernel
theorem index10 : ∀ t : Fin grid0.N, win0_10.index t 0 = t.val % 8 ∧ win0_10.index t 1 = 0 := by decide +kernel
theorem index11 : ∀ t : Fin grid0.N, win0_11.index t 0 = t.val % 8 ∧ win0_11.index t 1 = 0 := by decide +kernel
theorem index12 : ∀ t : Fin grid0.N, win0_12.index t 0 = t.val % 8 ∧ win0_12.index t 1 = 0 := by decide +kernel
theorem index13 : ∀ t : Fin grid0.N, win0_13.index t 0 = t.val ∧ win0_13.index t 1 = 0 := by decide +kernel
theorem index14 : ∀ t : Fin grid0.N, win0_14.index t 0 = t.val ∧ win0_14.index t 1 = 0 := by decide +kernel
theorem index15 : ∀ t : Fin grid0.N, win0_15.index t 0 = t.val ∧ win0_15.index t 1 = 0 := by decide +kernel
theorem index16 : ∀ t : Fin grid0.N, win0_16.index t 0 = 0 ∧ win0_16.index t 1 = t.val := by decide +kernel
theorem index17 : ∀ t : Fin grid0.N, win0_17.index t 0 = t.val ∧ win0_17.index t 1 = 0 := by decide +kernel
theorem index18 : ∀ t : Fin grid0.N, win0_18.index t 0 = t.val ∧ win0_18.index t 1 = 0 := by decide +kernel
theorem index19 : ∀ t : Fin grid0.N, win0_19.index t 0 = t.val ∧ win0_19.index t 1 = 0 := by decide +kernel
theorem index20 : ∀ t : Fin grid0.N, win0_20.index t 0 = t.val ∧ win0_20.index t 1 = 0 := by decide +kernel
theorem index21 : ∀ t : Fin grid0.N, win0_21.index t 0 = 0 ∧ win0_21.index t 1 = t.val := by decide +kernel
theorem index22 : ∀ t : Fin grid0.N, win0_22.index t 0 = t.val ∧ win0_22.index t 1 = 0 := by decide +kernel

theorem blk0 (c : Dev nD) (t : Fin cfg0.N) (x : Fin 512) (l : Fin 1024) (i : Fin 32768) (h : i.val = t.val * 512 + x.val) :
    (iblk m c 0 t : S512x1024.Idx → Elt Ideal .f32) (ix2 x l) = a0 m c (ix2 i l) := by
  refine Eq.trans ?_ (congrFun (V_main_arg0 m c) (ix2 i l))
  show V m c main_arg0 ((win0_0.rect t).emb (ix2 x l)) = _
  refine congrArg (V m c main_arg0) (funext fun a => Fin.ext ((Pipeline.Window.rect_emb_val win0_0 t _ a).trans ?_))
  match a with
  | ⟨0, _⟩ => exact (congrArg (· * 512 + x.val) (index0 t).1).trans h.symm
  | ⟨1, _⟩ => exact (congrArg (· * 1024 + l.val) (index0 t).2).trans (by show 0 * 1024 + l.val = l.val; omega)

theorem blk1 (c : Dev nD) (t : Fin cfg0.N) (l : Fin 1024) :
    (iblk m c 1 t : S1x1024.Idx → Elt Ideal .f32) (ix2 (0 : Fin 1) l) = a1 m c (ix1 l) := by
  refine Eq.trans ?_ (host1 m c l)
  show V m c main_v52 ((win0_1.rect t).emb (ix2 (0 : Fin 1) l)) = _
  refine congrArg (V m c main_v52) (funext fun a => Fin.ext ((Pipeline.Window.rect_emb_val win0_1 t _ a).trans ?_))
  match a with
  | ⟨0, _⟩ => exact congrArg (· * 1 + 0) (index1 t).1
  | ⟨1, _⟩ => exact (congrArg (· * 1024 + l.val) (index1 t).2).trans (by show 0 * 1024 + l.val = l.val; omega)

theorem blk2 (c : Dev nD) (t : Fin cfg0.N) (i : Fin 1024) (l : Fin 5632) :
    (iblk m c 2 t : S1024x5632.Idx → Elt Ideal .bf16) (ix2 i l) = a2 m c (ix2 i l) := by
  refine Eq.trans ?_ (host2 m c i l)
  show V m c main_v50 ((win0_2.rect t).emb (ix2 i l)) = _
  refine congrArg (V m c main_v50) (funext fun a => Fin.ext ((Pipeline.Window.rect_emb_val win0_2 t _ a).trans ?_))
  match a with
  | ⟨0, _⟩ => exact (congrArg (· * 1024 + i.val) (index2 t).1).trans (by show 0 * 1024 + i.val = i.val; omega)
  | ⟨1, _⟩ => exact (congrArg (· * 5632 + l.val) (index2 t).2).trans (by show 0 * 5632 + l.val = l.val; omega)

theorem blk3 (c : Dev nD) (t : Fin cfg0.N) (i : Fin 2816) (l : Fin 1024) :
    (iblk m c 3 t : S2816x1024.Idx → Elt Ideal .bf16) (ix2 i l) = a3 m c (ix2 i l) := by
  refine Eq.trans ?_ (host3 m c i l)
  show V m c main_v51 ((win0_3.rect t).emb (ix2 i l)) = _
  refine congrArg (V m c main_v51) (funext fun a => Fin.ext ((Pipeline.Window.rect_emb_val win0_3 t _ a).trans ?_))
  match a with
  | ⟨0, _⟩ => exact (congrArg (· * 2816 + i.val) (index3 t).1).trans (by show 0 * 2816 + i.val = i.val; omega)
  | ⟨1, _⟩ => exact (congrArg (· * 1024 + l.val) (index3 t).2).trans (by show 0 * 1024 + l.val = l.val; omega)

theorem blk4 (c : Dev nD) (t : Fin cfg0.N) (l : Fin 1024) :
    (iblk m c 4 t : S1x1024.Idx → Elt Ideal .f32) (ix2 (0 : Fin 1) l) = a4 m c (ix1 l) := by
  refine Eq.trans ?_ (host4 m c l)
  show V m c main_v53 ((win0_4.rect t).emb (ix2 (0 : Fin 1) l)) = _
  refine congrArg (V m c main_v53) (funext fun a => Fin.ext ((Pipeline.Window.rect_emb_val win0_4 t _ a).trans ?_))
  match a with
  | ⟨0, _⟩ => exact congrArg (· * 1 + 0) (index4 t).1
  | ⟨1, _⟩ => exact (congrArg (· * 1024 + l.val) (index4 t).2).trans (by show 0 * 1024 + l.val = l.val; omega)

theorem blk5 (c : Dev nD) (t : Fin cfg0.N) (l : Fin 1024) :
    (iblk m c 5 t : S1x1024.Idx → Elt Ideal .f32) (ix2 (0 : Fin 1) l) = a5 m c (ix1 l) := by
  refine Eq.trans ?_ (host5 m c l)
  show V m c main_v54 ((win0_5.rect t).emb (ix2 (0 : Fin 1) l)) = _
  refine congrArg (V m c main_v54) (funext fun a => Fin.ext ((Pipeline.Window.rect_emb_val win0_5 t _ a).trans ?_))
  match a with
  | ⟨0, _⟩ => exact congrArg (· * 1 + 0) (index5 t).1
  | ⟨1, _⟩ => exact (congrArg (· * 1024 + l.val) (index5 t).2).trans (by show 0 * 1024 + l.val = l.val; omega)

theorem blk6 (c : Dev nD) (t : Fin cfg0.N) (i : Fin 3840) (l : Fin 1024) :
    (iblk m c 6 t : S3840x1024.Idx → Elt Ideal .bf16) (ix2 i l) = a6 m c (ix2 l (⟨i.val, by omega⟩ : Fin 5904)) := by
  refine Eq.trans ?_ (host6 m c i l)
  show V m c main_v7 ((win0_6.rect t).emb (ix2 i l)) = _
  refine congrArg (V m c main_v7) (funext fun a => Fin.ext ((Pipeline.Window.rect_emb_val win0_6 t _ a).trans ?_))
  match a with
  | ⟨0, _⟩ => exact (congrArg (· * 3840 + i.val) (index6 t).1).trans (by show 0 * 3840 + i.val = i.val; omega)
  | ⟨1, _⟩ => exact (congrArg (· * 1024 + l.val) (index6 t).2).trans (by show 0 * 1024 + l.val = l.val; omega)

theorem blk7 (c : Dev nD) (t : Fin cfg0.N) (i : Fin 128) (l : Fin 1024) (k' : Fin 16) (h : i.val = k'.val) :
    (iblk m c 7 t : S128x1024.Idx → Elt Ideal .bf16) (ix2 i l) = a6 m c (ix2 l (⟨3840 + 4 * (k'.val % 4) + k'.val / 4, by omega⟩ : Fin 5904)) := by
  refine Eq.trans ?_ (host7 m c i k' h l)
  show V m c main_v8 ((win0_7.rect t).emb (ix2 i l)) = _
  refine congrArg (V m c main_v8) (funext fun a => Fin.ext ((Pipeline.Window.rect_emb_val win0_7 t _ a).trans ?_))
  match a with
  | ⟨0, _⟩ => exact (congrArg (· * 128 + i.val) (index7 t).1).trans (by show 0 * 128 + i.val = i.val; omega)
  | ⟨1, _⟩ => exact (congrArg (· * 1024 + l.val) (index7 t).2).trans (by show 0 * 1024 + l.val = l.val; omega)

theorem blk8 (c : Dev nD) (t : Fin cfg0.N) (i : Fin 2048) (l : Fin 1024) :
    (iblk m c 8 t : S2048x1024.Idx → Elt Ideal .bf16) (ix2 i l) = a6 m c (ix2 l (⟨3856 + i.val, by omega⟩ : Fin 5904)) := by
  refine Eq.trans ?_ (host8 m c i l)
  show V m c main_v10 ((win0_8.rect t).emb (ix2 i l)) = _
  refine congrArg (V m c main_v10) (funext fun a => Fin.ext ((Pipeline.Window.rect_emb_val win0_8 t _ a).trans ?_))
  match a with
  | ⟨0, _⟩ => exact (congrArg (· * 2048 + i.val) (index8 t).1).trans (by show 0 * 2048 + i.val = i.val; omega)
  | ⟨1, _⟩ => exact (congrArg (· * 1024 + l.val) (index8 t).2).trans (by show 0 * 1024 + l.val = l.val; omega)

theorem blk9 (c : Dev nD) (t : Fin cfg0.N) (l : Fin 128) (k' : Fin 16) (h : l.val = k'.val) :
    (iblk m c 9 t : S1x128.Idx → Elt Ideal .f32) (ix2 (0 : Fin 1) l) = a7 m c (ix1 (⟨4 * (k'.val % 4) + k'.val / 4, by omega⟩ : Fin 16)) := by
  refine Eq.trans ?_ (host9 m c l k' h)
  show V m c main_v14 ((win0_9.rect t).emb (ix2 (0 : Fin 1) l)) = _
  refine congrArg (V m c main_v14) (funext fun a => Fin.ext ((Pipeline.Window.rect_emb_val win0_9 t _ a).trans ?_))
  match a with
  | ⟨0, _⟩ => exact congrArg (· * 1 + 0) (index9 t).1
  | ⟨1, _⟩ => exact (congrArg (· * 128 + l.val) (index9 t).2).trans (by show 0 * 128 + l.val = l.val; omega)

theorem blk10 (c : Dev nD) (t : Fin cfg0.N) (x : Fin 512) (l : Fin 128) (i : Fin 4096) (h : i.val = t.val % 8 * 512 + x.val) :
    (iblk m c 10 t : S512x128.Idx → Elt Ideal .f32) (ix2 x l) = cosL i ⟨l.val % 64, by omega⟩ := by
  refine Eq.trans ?_ (host10 m c i l)
  show V m c main_v43 ((win0_10.rect t).emb (ix2 x l)) = _
  refine congrArg (V m c main_v43) (funext fun a => Fin.ext ((Pipeline.Window.rect_emb_val win0_10 t _ a).trans ?_))
  match a with
  | ⟨0, _⟩ => exact (congrArg (· * 512 + x.val) (index10 t).1).trans h.symm
  | ⟨1, _⟩ => exact (congrArg (· * 128 + l.val) (index10 t).2).trans (by show 0 * 128 + l.val = l.val; omega)

theorem blk11 (c : Dev nD) (t : Fin cfg0.N) (x : Fin 512) (l : Fin 128) (i : Fin 4096) (h : i.val = t.val % 8 * 512 + x.val) :
    (iblk m c 11 t : S512x128.Idx → Elt Ideal .f32) (ix2 x l) = sinaL i ⟨l.val % 64, by omega⟩ := by
  refine Eq.trans ?_ (host11 m c i l)
  show V m c main_v46 ((win0_11.rect t).emb (ix2 x l)) = _
  refine congrArg (V m c main_v46) (funext fun a => Fin.ext ((Pipeline.Window.rect_emb_val win0_11 t _ a).trans ?_))
  match a with
  | ⟨0, _⟩ => exact (congrArg (· * 512 + x.val) (index11 t).1).trans h.symm
  | ⟨1, _⟩ => exact (congrArg (· * 128 + l.val) (index11 t).2).trans (by show 0 * 128 + l.val = l.val; omega)

theorem blk12 (c : Dev nD) (t : Fin cfg0.N) (x : Fin 512) (l : Fin 128) (i : Fin 4096) (h : i.val = t.val % 8 * 512 + x.val) :
    (iblk m c 12 t : S512x128.Idx → Elt Ideal .f32) (ix2 x l) = sinbL i ⟨l.val % 64, by omega⟩ := by
  refine Eq.trans ?_ (host12 m c i l)
  show V m c main_v49 ((win0_12.rect t).emb (ix2 x l)) = _
  refine congrArg (V m c main_v49) (funext fun a => Fin.ext ((Pipeline.Window.rect_emb_val win0_12 t _ a).trans ?_))
  match a with
  | ⟨0, _⟩ => exact (congrArg (· * 512 + x.val) (index12 t).1).trans h.symm
  | ⟨1, _⟩ => exact (congrArg (· * 128 + l.val) (index12 t).2).trans (by show 0 * 128 + l.val = l.val; omega)

/-! ## The rows from the arguments -/

section Rows

variable (x0 : FVec Ideal S32768x1024 .f32) (x1 : FVec Ideal S1024 .f32) (x2 : FVec Ideal S1024x5632 .f32) (x3 : FVec Ideal S2816x1024 .f32)
    (x4 x5 : FVec Ideal S1024 .f32) (x6 : FVec Ideal S1024x5904 .f32) (x7 : FVec Ideal S16 .f32)

/-- Row `r` after the feed-forward half step. -/
def hR (r : Fin 32768) : Fin 1024 → EReal :=
  ffn (fun j => x0 (ix2 r j)) (fun j => x1 (ix1 j)) (fun i k => x2 (ix2 i k)) (fun i k => x3 (ix2 i k)) (fun j => x4 (ix1 j))

/-- Row `r`, normed. -/
def uR (r : Fin 32768) : Fin 1024 → EReal := norm (hR x0 x1 x2 x3 x4 r) (fun j => x5 (ix1 j))

/-- Row `r`, projected. -/
def zR (r : Fin 32768) : Fin 5904 → EReal := lin (uR x0 x1 x2 x3 x4 x5 r) (fun i k => x6 (ix2 i k))

/-- Column `o + j` of the projected row `r`. -/
def colR (r : Fin 32768) (o : ℕ) {n : ℕ} (h : o + n ≤ 5904) (j : Fin n) : EReal := zR x0 x1 x2 x3 x4 x5 x6 r ⟨o + j.val, by omega⟩

/-- The tables of one position over 128 lanes. -/
def cosR (r : Fin 32768) (l : Fin 128) : EReal := cosL ⟨r.val % 4096, by omega⟩ ⟨l.val % 64, by omega⟩
@[inherit_doc cosR] def sinaR (r : Fin 32768) (l : Fin 128) : EReal := sinaL ⟨r.val % 4096, by omega⟩ ⟨l.val % 64, by omega⟩
@[inherit_doc cosR] def sinbR (r : Fin 32768) (l : Fin 128) : EReal := sinbL ⟨r.val % 4096, by omega⟩ ⟨l.val % 64, by omega⟩

/-- The first columns of the projected row `r`. -/
def firstR (r : Fin 32768) (k : Fin 3840) : EReal := zR x0 x1 x2 x3 x4 x5 x6 r ⟨k.val, by omega⟩

/-- The gate `j` of row `r` with its bias. -/
def biasR (r : Fin 32768) (j : Fin 16) : EReal :=
  zR x0 x1 x2 x3 x4 x5 x6 r ⟨3840 + 4 * (j.val % 4) + j.val / 4, by omega⟩ + x7 (ix1 (⟨4 * (j.val % 4) + j.val / 4, by omega⟩ : Fin 16))

/-- The gate `j` of row `r`. -/
def gateR (r : Fin 32768) (j : Fin 16) : EReal :=
  if j.val % 2 = 1 then logsig (biasR x0 x1 x2 x3 x4 x5 x6 x7 r j) else biasR x0 x1 x2 x3 x4 x5 x6 x7 r j

end Rows

/-! ## The blocks' rows from the arguments -/

variable (c : Dev nD) (t : Fin cfg0.N) (R : Fin 512) (r : Fin 32768) (h : r.val = t.val * 512 + R.val)
include h

theorem hrow_eq : hrow (iblk m c 0 t) (iblk m c 1 t) (iblk m c 2 t) (iblk m c 3 t) (iblk m c 4 t) R = hR (a0 m c) (a1 m c) (a2 m c) (a3 m c) (a4 m c) r := by
  unfold hrow hR
  simp only [blk0 m c t R _ r h, blk1 m c t, blk2 m c t, blk3 m c t, blk4 m c t]

theorem urow_eq : urow (iblk m c 0 t) (iblk m c 1 t) (iblk m c 2 t) (iblk m c 3 t) (iblk m c 4 t) (iblk m c 5 t) R = uR (a0 m c) (a1 m c) (a2 m c) (a3 m c) (a4 m c) (a5 m c) r := by
  unfold urow uR
  rw [hrow_eq m c t R r h]
  simp only [blk5 m c t]

theorem zrow_eq : zrow (iblk m c 0 t) (iblk m c 1 t) (iblk m c 2 t) (iblk m c 3 t) (iblk m c 4 t) (iblk m c 5 t) (iblk m c 6 t) R = firstR (a0 m c) (a1 m c) (a2 m c) (a3 m c) (a4 m c) (a5 m c) (a6 m c) r := by
  funext k
  unfold zrow
  rw [urow_eq m c t R r h]
  simp only [blk6 m c t]
  rfl

theorem tab10 : (fun l : Fin 128 => (iblk m c 10 t : S512x128.Idx → Elt Ideal .f32) (ix2 R l)) = cosR r :=
  funext fun l => (blk10 m c t R l ⟨r.val % 4096, by omega⟩ (by show r.val % 4096 = _; omega))

theorem tab11 : (fun l : Fin 128 => (iblk m c 11 t : S512x128.Idx → Elt Ideal .f32) (ix2 R l)) = sinaR r :=
  funext fun l => (blk11 m c t R l ⟨r.val % 4096, by omega⟩ (by show r.val % 4096 = _; omega))

theorem tab12 : (fun l : Fin 128 => (iblk m c 12 t : S512x128.Idx → Elt Ideal .f32) (ix2 R l)) = sinbR r :=
  funext fun l => (blk12 m c t R l ⟨r.val % 4096, by omega⟩ (by show r.val % 4096 = _; omega))

theorem arr13 (l : Fin 1024) : (dats m 0 c).arrAt 13 cfg0.N (ix2 r l) = hR (a0 m c) (a1 m c) (a2 m c) (a3 m c) (a4 m c) r l := by
  have hb := congrFun (blocks13 m c t ((by decide +kernel : ∀ t : Fin grid0.N, win0_13.flush t = true) t)) (ix2 R l)
  rw [flushed13] at hb
  refine Eq.trans (Eq.trans ?_ (hb.trans (out13_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 R l)))) ?_
  · show (dats m 0 c).arrAt 13 cfg0.N _ = (dats m 0 c).arrAt 13 cfg0.N ((win0_13.rect t).emb (ix2 R l))
    refine congrArg ((dats m 0 c).arrAt 13 cfg0.N) (funext fun a => Fin.ext ((Pipeline.Window.rect_emb_val win0_13 t _ a).trans ?_).symm)
    match a with
    | ⟨0, _⟩ => exact (congrArg (· * 512 + R.val) (index13 t).1).trans h.symm
    | ⟨1, _⟩ => exact (congrArg (· * 1024 + l.val) (index13 t).2).trans (by show 0 * 1024 + l.val = l.val; omega)
  show block13 (iblk m c 0 t) (iblk m c 1 t) (iblk m c 2 t) (iblk m c 3 t) (iblk m c 4 t) R l = _
  unfold block13
  rw [hrow_eq m c t R r h]

theorem arr14 (l : Fin 512) : (dats m 0 c).arrAt 14 cfg0.N (ix2 r l) = qrow (firstR (a0 m c) (a1 m c) (a2 m c) (a3 m c) (a4 m c) (a5 m c) (a6 m c) r) (cosR r) (sinaR r) (sinbR r) l := by
  have hb := congrFun (blocks14 m c t ((by decide +kernel : ∀ t : Fin grid0.N, win0_14.flush t = true) t)) (ix2 R l)
  rw [flushed14] at hb
  refine Eq.trans (Eq.trans ?_ (hb.trans (out14_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 R l)))) ?_
  · show (dats m 0 c).arrAt 14 cfg0.N _ = (dats m 0 c).arrAt 14 cfg0.N ((win0_14.rect t).emb (ix2 R l))
    refine congrArg ((dats m 0 c).arrAt 14 cfg0.N) (funext fun a => Fin.ext ((Pipeline.Window.rect_emb_val win0_14 t _ a).trans ?_).symm)
    match a with
    | ⟨0, _⟩ => exact (congrArg (· * 512 + R.val) (index14 t).1).trans h.symm
    | ⟨1, _⟩ => exact (congrArg (· * 512 + l.val) (index14 t).2).trans (by show 0 * 512 + l.val = l.val; omega)
  show block14 (iblk m c 0 t) (iblk m c 1 t) (iblk m c 2 t) (iblk m c 3 t) (iblk m c 4 t) (iblk m c 5 t) (iblk m c 6 t) (iblk m c 10 t) (iblk m c 11 t) (iblk m c 12 t) R l = _
  unfold block14
  rw [zrow_eq m c t R r h, tab10 m c t R r h, tab11 m c t R r h, tab12 m c t R r h]

theorem arr15 (l : Fin 256) : (dats m 0 c).arrAt 15 cfg0.N (ix2 r l) = krow (firstR (a0 m c) (a1 m c) (a2 m c) (a3 m c) (a4 m c) (a5 m c) (a6 m c) r) (cosR r) (sinaR r) (sinbR r) l := by
  have hb := congrFun (blocks15 m c t ((by decide +kernel : ∀ t : Fin grid0.N, win0_15.flush t = true) t)) (ix2 R l)
  rw [flushed15] at hb
  refine Eq.trans (Eq.trans ?_ (hb.trans (out15_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 R l)))) ?_
  · show (dats m 0 c).arrAt 15 cfg0.N _ = (dats m 0 c).arrAt 15 cfg0.N ((win0_15.rect t).emb (ix2 R l))
    refine congrArg ((dats m 0 c).arrAt 15 cfg0.N) (funext fun a => Fin.ext ((Pipeline.Window.rect_emb_val win0_15 t _ a).trans ?_).symm)
    match a with
    | ⟨0, _⟩ => exact (congrArg (· * 512 + R.val) (index15 t).1).trans h.symm
    | ⟨1, _⟩ => exact (congrArg (· * 256 + l.val) (index15 t).2).trans (by show 0 * 256 + l.val = l.val; omega)
  show block15 (iblk m c 0 t) (iblk m c 1 t) (iblk m c 2 t) (iblk m c 3 t) (iblk m c 4 t) (iblk m c 5 t) (iblk m c 6 t) (iblk m c 10 t) (iblk m c 11 t) (iblk m c 12 t) R l = _
  unfold block15
  rw [zrow_eq m c t R r h, tab10 m c t R r h, tab11 m c t R r h, tab12 m c t R r h]

theorem arr16 (l : Fin 160) : (dats m 0 c).arrAt 16 cfg0.N (ix2 l r) = vrow (firstR (a0 m c) (a1 m c) (a2 m c) (a3 m c) (a4 m c) (a5 m c) (a6 m c) r) l := by
  have hb := congrFun (blocks16 m c t ((by decide +kernel : ∀ t : Fin grid0.N, win0_16.flush t = true) t)) (ix2 l R)
  rw [flushed16] at hb
  refine Eq.trans (Eq.trans ?_ (hb.trans (out16_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 l R)))) ?_
  · show (dats m 0 c).arrAt 16 cfg0.N _ = (dats m 0 c).arrAt 16 cfg0.N ((win0_16.rect t).emb (ix2 l R))
    refine congrArg ((dats m 0 c).arrAt 16 cfg0.N) (funext fun a => Fin.ext ((Pipeline.Window.rect_emb_val win0_16 t _ a).trans ?_).symm)
    match a with
    | ⟨0, _⟩ => exact (congrArg (· * 160 + l.val) (index16 t).1).trans (by show 0 * 160 + l.val = l.val; omega)
    | ⟨1, _⟩ => exact (congrArg (· * 512 + R.val) (index16 t).2).trans h.symm
  show block16 (iblk m c 0 t) (iblk m c 1 t) (iblk m c 2 t) (iblk m c 3 t) (iblk m c 4 t) (iblk m c 5 t) (iblk m c 6 t) l R = _
  unfold block16
  rw [zrow_eq m c t R r h]

theorem arr17 (l : Fin 512) : (dats m 0 c).arrAt 17 cfg0.N (ix2 r l) = colR (a0 m c) (a1 m c) (a2 m c) (a3 m c) (a4 m c) (a5 m c) (a6 m c) r 768 (by decide) l := by
  have hb := congrFun (blocks17 m c t ((by decide +kernel : ∀ t : Fin grid0.N, win0_17.flush t = true) t)) (ix2 R l)
  rw [flushed17] at hb
  refine Eq.trans (Eq.trans ?_ (hb.trans (out17_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 R l)))) ?_
  · show (dats m 0 c).arrAt 17 cfg0.N _ = (dats m 0 c).arrAt 17 cfg0.N ((win0_17.rect t).emb (ix2 R l))
    refine congrArg ((dats m 0 c).arrAt 17 cfg0.N) (funext fun a => Fin.ext ((Pipeline.Window.rect_emb_val win0_17 t _ a).trans ?_).symm)
    match a with
    | ⟨0, _⟩ => exact (congrArg (· * 512 + R.val) (index17 t).1).trans h.symm
    | ⟨1, _⟩ => exact (congrArg (· * 512 + l.val) (index17 t).2).trans (by show 0 * 512 + l.val = l.val; omega)
  show block17 (iblk m c 0 t) (iblk m c 1 t) (iblk m c 2 t) (iblk m c 3 t) (iblk m c 4 t) (iblk m c 5 t) (iblk m c 6 t) R l = _
  unfold block17
  rw [zrow_eq m c t R r h]
  rfl

theorem arr18 (l : Fin 512) : (dats m 0 c).arrAt 18 cfg0.N (ix2 r l) = colR (a0 m c) (a1 m c) (a2 m c) (a3 m c) (a4 m c) (a5 m c) (a6 m c) r 1280 (by decide) l := by
  have hb := congrFun (blocks18 m c t ((by decide +kernel : ∀ t : Fin grid0.N, win0_18.flush t = true) t)) (ix2 R l)
  rw [flushed18] at hb
  refine Eq.trans (Eq.trans ?_ (hb.trans (out18_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 R l)))) ?_
  · show (dats m 0 c).arrAt 18 cfg0.N _ = (dats m 0 c).arrAt 18 cfg0.N ((win0_18.rect t).emb (ix2 R l))
    refine congrArg ((dats m 0 c).arrAt 18 cfg0.N) (funext fun a => Fin.ext ((Pipeline.Window.rect_emb_val win0_18 t _ a).trans ?_).symm)
    match a with
    | ⟨0, _⟩ => exact (congrArg (· * 512 + R.val) (index18 t).1).trans h.symm
    | ⟨1, _⟩ => exact (congrArg (· * 512 + l.val) (index18 t).2).trans (by show 0 * 512 + l.val = l.val; omega)
  show block18 (iblk m c 0 t) (iblk m c 1 t) (iblk m c 2 t) (iblk m c 3 t) (iblk m c 4 t) (iblk m c 5 t) (iblk m c 6 t) R l = _
  unfold block18
  rw [zrow_eq m c t R r h]
  rfl

theorem arr19 (l : Fin 1024) : (dats m 0 c).arrAt 19 cfg0.N (ix2 r l) = colR (a0 m c) (a1 m c) (a2 m c) (a3 m c) (a4 m c) (a5 m c) (a6 m c) r 1792 (by decide) l := by
  have hb := congrFun (blocks19 m c t ((by decide +kernel : ∀ t : Fin grid0.N, win0_19.flush t = true) t)) (ix2 R l)
  rw [flushed19] at hb
  refine Eq.trans (Eq.trans ?_ (hb.trans (out19_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 R l)))) ?_
  · show (dats m 0 c).arrAt 19 cfg0.N _ = (dats m 0 c).arrAt 19 cfg0.N ((win0_19.rect t).emb (ix2 R l))
    refine congrArg ((dats m 0 c).arrAt 19 cfg0.N) (funext fun a => Fin.ext ((Pipeline.Window.rect_emb_val win0_19 t _ a).trans ?_).symm)
    match a with
    | ⟨0, _⟩ => exact (congrArg (· * 512 + R.val) (index19 t).1).trans h.symm
    | ⟨1, _⟩ => exact (congrArg (· * 1024 + l.val) (index19 t).2).trans (by show 0 * 1024 + l.val = l.val; omega)
  show block19 (iblk m c 0 t) (iblk m c 1 t) (iblk m c 2 t) (iblk m c 3 t) (iblk m c 4 t) (iblk m c 5 t) (iblk m c 6 t) R l = _
  unfold block19
  rw [zrow_eq m c t R r h]
  rfl

theorem arr20 (l : Fin 1024) : (dats m 0 c).arrAt 20 cfg0.N (ix2 r l) = colR (a0 m c) (a1 m c) (a2 m c) (a3 m c) (a4 m c) (a5 m c) (a6 m c) r 2816 (by decide) l := by
  have hb := congrFun (blocks20 m c t ((by decide +kernel : ∀ t : Fin grid0.N, win0_20.flush t = true) t)) (ix2 R l)
  rw [flushed20] at hb
  refine Eq.trans (Eq.trans ?_ (hb.trans (out20_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 R l)))) ?_
  · show (dats m 0 c).arrAt 20 cfg0.N _ = (dats m 0 c).arrAt 20 cfg0.N ((win0_20.rect t).emb (ix2 R l))
    refine congrArg ((dats m 0 c).arrAt 20 cfg0.N) (funext fun a => Fin.ext ((Pipeline.Window.rect_emb_val win0_20 t _ a).trans ?_).symm)
    match a with
    | ⟨0, _⟩ => exact (congrArg (· * 512 + R.val) (index20 t).1).trans h.symm
    | ⟨1, _⟩ => exact (congrArg (· * 1024 + l.val) (index20 t).2).trans (by show 0 * 1024 + l.val = l.val; omega)
  show block20 (iblk m c 0 t) (iblk m c 1 t) (iblk m c 2 t) (iblk m c 3 t) (iblk m c 4 t) (iblk m c 5 t) (iblk m c 6 t) R l = _
  unfold block20
  rw [zrow_eq m c t R r h]
  rfl

theorem arr21 (l : Fin 16) : (dats m 0 c).arrAt 21 cfg0.N (ix2 l r) = gateR (a0 m c) (a1 m c) (a2 m c) (a3 m c) (a4 m c) (a5 m c) (a6 m c) (a7 m c) r l := by
  have hb := congrFun (blocks21 m c t ((by decide +kernel : ∀ t : Fin grid0.N, win0_21.flush t = true) t)) (ix2 l R)
  rw [flushed21] at hb
  refine Eq.trans (Eq.trans ?_ (hb.trans (out21_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 l R)))) ?_
  · show (dats m 0 c).arrAt 21 cfg0.N _ = (dats m 0 c).arrAt 21 cfg0.N ((win0_21.rect t).emb (ix2 l R))
    refine congrArg ((dats m 0 c).arrAt 21 cfg0.N) (funext fun a => Fin.ext ((Pipeline.Window.rect_emb_val win0_21 t _ a).trans ?_).symm)
    match a with
    | ⟨0, _⟩ => exact (congrArg (· * 16 + l.val) (index21 t).1).trans (by show 0 * 16 + l.val = l.val; omega)
    | ⟨1, _⟩ => exact (congrArg (· * 512 + R.val) (index21 t).2).trans h.symm
  show block21 (iblk m c 0 t) (iblk m c 1 t) (iblk m c 2 t) (iblk m c 3 t) (iblk m c 4 t) (iblk m c 5 t) (iblk m c 7 t) (iblk m c 9 t) l R = _
  have e : lin (urow (iblk m c 0 t) (iblk m c 1 t) (iblk m c 2 t) (iblk m c 3 t) (iblk m c 4 t) (iblk m c 5 t) R) (fun i (k : Fin 128) => (iblk m c 7 t : S128x1024.Idx → Elt Ideal .bf16) (ix2 k i)) (⟨l.val, by omega⟩ : Fin 128)
        + (iblk m c 9 t : S1x128.Idx → Elt Ideal .f32) (ix2 (0 : Fin 1) (⟨l.val, by omega⟩ : Fin 128)) = biasR (a0 m c) (a1 m c) (a2 m c) (a3 m c) (a4 m c) (a5 m c) (a6 m c) (a7 m c) r l := by
    rw [urow_eq m c t R r h, blk9 m c t _ l rfl]
    unfold lin
    simp only [blk7 m c t (⟨l.val, by omega⟩ : Fin 128) _ l rfl]
    rfl
  exact if_congr Iff.rfl (congrArg logsig e) e

theorem arr22 (l : Fin 2048) : (dats m 0 c).arrAt 22 cfg0.N (ix2 r l) = colR (a0 m c) (a1 m c) (a2 m c) (a3 m c) (a4 m c) (a5 m c) (a6 m c) r 3856 (by decide) l := by
  have hb := congrFun (blocks22 m c t ((by decide +kernel : ∀ t : Fin grid0.N, win0_22.flush t = true) t)) (ix2 R l)
  rw [flushed22] at hb
  refine Eq.trans (Eq.trans ?_ (hb.trans (out22_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 R l)))) ?_
  · show (dats m 0 c).arrAt 22 cfg0.N _ = (dats m 0 c).arrAt 22 cfg0.N ((win0_22.rect t).emb (ix2 R l))
    refine congrArg ((dats m 0 c).arrAt 22 cfg0.N) (funext fun a => Fin.ext ((Pipeline.Window.rect_emb_val win0_22 t _ a).trans ?_).symm)
    match a with
    | ⟨0, _⟩ => exact (congrArg (· * 512 + R.val) (index22 t).1).trans h.symm
    | ⟨1, _⟩ => exact (congrArg (· * 2048 + l.val) (index22 t).2).trans (by show 0 * 2048 + l.val = l.val; omega)
  show block22 (iblk m c 0 t) (iblk m c 1 t) (iblk m c 2 t) (iblk m c 3 t) (iblk m c 4 t) (iblk m c 5 t) (iblk m c 8 t) R l = _
  unfold block22
  rw [urow_eq m c t R r h]
  simp only [blk8 m c t]
  rfl

omit h

/-- RESULT 0 OF THE KERNEL at a row and a column, from its arguments. -/
theorem result13 (r : Fin 32768) (l : Fin 1024) : (dats m 0 c).arrAt 13 cfg0.N (ix2 r l) = hR (a0 m c) (a1 m c) (a2 m c) (a3 m c) (a4 m c) r l :=
  arr13 m c ⟨r.val / 512, by show r.val / 512 < 64; omega⟩ ⟨r.val % 512, by omega⟩ r (by show r.val = r.val / 512 * 512 + r.val % 512; omega) l

/-- RESULT 1 OF THE KERNEL at a row and a column, from its arguments. -/
theorem result14 (r : Fin 32768) (l : Fin 512) : (dats m 0 c).arrAt 14 cfg0.N (ix2 r l) = qrow (firstR (a0 m c) (a1 m c) (a2 m c) (a3 m c) (a4 m c) (a5 m c) (a6 m c) r) (cosR r) (sinaR r) (sinbR r) l :=
  arr14 m c ⟨r.val / 512, by show r.val / 512 < 64; omega⟩ ⟨r.val % 512, by omega⟩ r (by show r.val = r.val / 512 * 512 + r.val % 512; omega) l

/-- RESULT 2 OF THE KERNEL at a row and a column, from its arguments. -/
theorem result15 (r : Fin 32768) (l : Fin 256) : (dats m 0 c).arrAt 15 cfg0.N (ix2 r l) = krow (firstR (a0 m c) (a1 m c) (a2 m c) (a3 m c) (a4 m c) (a5 m c) (a6 m c) r) (cosR r) (sinaR r) (sinbR r) l :=
  arr15 m c ⟨r.val / 512, by show r.val / 512 < 64; omega⟩ ⟨r.val % 512, by omega⟩ r (by show r.val = r.val / 512 * 512 + r.val % 512; omega) l

/-- RESULT 3 OF THE KERNEL at a row and a column, from its arguments. -/
theorem result16 (r : Fin 32768) (l : Fin 160) : (dats m 0 c).arrAt 16 cfg0.N (ix2 l r) = vrow (firstR (a0 m c) (a1 m c) (a2 m c) (a3 m c) (a4 m c) (a5 m c) (a6 m c) r) l :=
  arr16 m c ⟨r.val / 512, by show r.val / 512 < 64; omega⟩ ⟨r.val % 512, by omega⟩ r (by show r.val = r.val / 512 * 512 + r.val % 512; omega) l

/-- RESULT 4 OF THE KERNEL at a row and a column, from its arguments. -/
theorem result17 (r : Fin 32768) (l : Fin 512) : (dats m 0 c).arrAt 17 cfg0.N (ix2 r l) = colR (a0 m c) (a1 m c) (a2 m c) (a3 m c) (a4 m c) (a5 m c) (a6 m c) r 768 (by decide) l :=
  arr17 m c ⟨r.val / 512, by show r.val / 512 < 64; omega⟩ ⟨r.val % 512, by omega⟩ r (by show r.val = r.val / 512 * 512 + r.val % 512; omega) l

/-- RESULT 5 OF THE KERNEL at a row and a column, from its arguments. -/
theorem result18 (r : Fin 32768) (l : Fin 512) : (dats m 0 c).arrAt 18 cfg0.N (ix2 r l) = colR (a0 m c) (a1 m c) (a2 m c) (a3 m c) (a4 m c) (a5 m c) (a6 m c) r 1280 (by decide) l :=
  arr18 m c ⟨r.val / 512, by show r.val / 512 < 64; omega⟩ ⟨r.val % 512, by omega⟩ r (by show r.val = r.val / 512 * 512 + r.val % 512; omega) l

/-- RESULT 6 OF THE KERNEL at a row and a column, from its arguments. -/
theorem result19 (r : Fin 32768) (l : Fin 1024) : (dats m 0 c).arrAt 19 cfg0.N (ix2 r l) = colR (a0 m c) (a1 m c) (a2 m c) (a3 m c) (a4 m c) (a5 m c) (a6 m c) r 1792 (by decide) l :=
  arr19 m c ⟨r.val / 512, by show r.val / 512 < 64; omega⟩ ⟨r.val % 512, by omega⟩ r (by show r.val = r.val / 512 * 512 + r.val % 512; omega) l

/-- RESULT 7 OF THE KERNEL at a row and a column, from its arguments. -/
theorem result20 (r : Fin 32768) (l : Fin 1024) : (dats m 0 c).arrAt 20 cfg0.N (ix2 r l) = colR (a0 m c) (a1 m c) (a2 m c) (a3 m c) (a4 m c) (a5 m c) (a6 m c) r 2816 (by decide) l :=
  arr20 m c ⟨r.val / 512, by show r.val / 512 < 64; omega⟩ ⟨r.val % 512, by omega⟩ r (by show r.val = r.val / 512 * 512 + r.val % 512; omega) l

/-- RESULT 8 OF THE KERNEL at a row and a column, from its arguments. -/
theorem result21 (r : Fin 32768) (l : Fin 16) : (dats m 0 c).arrAt 21 cfg0.N (ix2 l r) = gateR (a0 m c) (a1 m c) (a2 m c) (a3 m c) (a4 m c) (a5 m c) (a6 m c) (a7 m c) r l :=
  arr21 m c ⟨r.val / 512, by show r.val / 512 < 64; omega⟩ ⟨r.val % 512, by omega⟩ r (by show r.val = r.val / 512 * 512 + r.val % 512; omega) l

/-- RESULT 9 OF THE KERNEL at a row and a column, from its arguments. -/
theorem result22 (r : Fin 32768) (l : Fin 2048) : (dats m 0 c).arrAt 22 cfg0.N (ix2 r l) = colR (a0 m c) (a1 m c) (a2 m c) (a3 m c) (a4 m c) (a5 m c) (a6 m c) r 3856 (by decide) l :=
  arr22 m c ⟨r.val / 512, by show r.val / 512 < 64; omega⟩ ⟨r.val % 512, by omega⟩ r (by show r.val = r.val / 512 * 512 + r.val % 512; omega) l

end Cert.ProjIdeal.Row
end
-- ==== Proof.ProjRefMath.lean ====
module

public import proofs.«01_k».proof.Proof.Gen.ProjReferenceIdeal.Read
public import proofs.«01_k».proof.Proof.ProjOut
public import Idealize.ShloMosaic.Lib.Pointwise

@[expose] public section

set_option maxRecDepth 16384

noncomputable section

namespace Cert.ProjReferenceIdeal.Row

open Cert.RowMath
open Cert.ProjIdeal.Row (turn ones logsig cosL sinaL sinbL cosA sinA angT cosR sinaR sinbR hR uR zR colR firstR biasR gateR qrow krow vrow)
open Cert.ProjReferenceIdeal Cert.ProjReferenceIdeal.Gen Cert.ProjReferenceIdeal.Read Idealize.ShloMosaic Idealize.ShloMosaic.TcCoe Idealize.SL.Sem

/-- The rotary embedding of one head's lanes. -/
def rot (x : Fin 64 → EReal) (c s : Fin 8 → EReal) (d : Fin 64) : EReal :=
  if h : d.val < 16 then
    (if h8 : d.val < 8 then x ⟨d.val, by omega⟩ * c ⟨d.val, h8⟩ - x ⟨8 + d.val, by omega⟩ * s ⟨d.val, h8⟩
    else x ⟨8 + (d.val - 8), by omega⟩ * c ⟨d.val - 8, by omega⟩ + x ⟨d.val - 8, by omega⟩ * s ⟨d.val - 8, by omega⟩)
  else x ⟨16 + (d.val - 16), by omega⟩

/-- The kernel's rotation by three tables over two heads is the rotation of each head. -/
theorem turn_eq (t : Fin 128 → EReal) (r : Fin 32768) (l : Fin 128) :
    turn t (cosR r) (sinaR r) (sinbR r) l
      = rot (fun d => t ⟨64 * (l.val / 64) + d.val, by omega⟩) (cosA ⟨r.val % 4096, by omega⟩) (sinA ⟨r.val % 4096, by omega⟩) ⟨l.val % 64, by omega⟩ := by
  unfold turn rot cosR sinaR sinbR cosL sinaL sinbL
  generalize cosA (⟨r.val % 4096, by omega⟩ : Fin 4096) = c
  generalize sinA (⟨r.val % 4096, by omega⟩ : Fin 4096) = s
  dsimp only
  have q : ∀ (n n' : ℕ) (h : n < 128) (h' : n' < 128), n = n' → t ⟨n, h⟩ = t ⟨n', h'⟩ := fun n n' h h' e => by subst e; rfl
  have q0 : t l = t ⟨l.val, l.isLt⟩ := rfl
  by_cases h8 : l.val % 64 < 8
  · rw [dif_pos h8, dif_pos h8, dif_pos h8, dif_pos (show l.val % 64 < 16 by omega), dif_pos h8, mul_zero, add_zero, mul_neg, ← sub_eq_add_neg, q0,
      q l.val (64 * (l.val / 64) + l.val % 64) _ (by omega) (by omega), q ((l.val + 8) % 128) (64 * (l.val / 64) + (8 + l.val % 64)) _ (by omega) (by omega)]
  · by_cases h16 : l.val % 64 < 16
    · rw [dif_neg h8, dif_neg h8, dif_neg h8, dif_pos (show l.val % 64 - 8 < 8 by omega), dif_pos (show l.val % 64 - 8 < 8 by omega), dif_pos h16, dif_neg h8,
        mul_zero, add_zero, q0, q l.val (64 * (l.val / 64) + (8 + (l.val % 64 - 8))) _ (by omega) (by omega),
        q ((l.val + 120) % 128) (64 * (l.val / 64) + (l.val % 64 - 8)) _ (by omega) (by omega)]
    · rw [dif_neg h8, dif_neg h8, dif_neg h8, dif_neg (show ¬ l.val % 64 - 8 < 8 by omega), dif_neg (show ¬ l.val % 64 - 8 < 8 by omega), dif_neg h16,
        mul_zero, mul_zero, add_zero, add_zero, mul_one, q0, q l.val (64 * (l.val / 64) + (16 + (l.val % 64 - 16))) _ (by omega) (by omega)]

theorem ofBits_one : Ideal.ofBits .f32 0x3F800000#32 = (1 : EReal) := by
  simp [Ideal.ofBits, Ideal.ieee]
  rw [← EReal.coe_mul]; norm_num

theorem ofBits_zero : Ideal.ofBits .f32 0x00000000#32 = (0 : EReal) := by
  simp [Ideal.ofBits, Ideal.ieee]

/-- The reference's scale: an eighth, then a division by the logarithm of two. -/
theorem scale_eq (y : EReal) :
    Ideal.div (y * Ideal.ofBits .f32 0x3E000000#32) (Ideal.log (Ideal.ofBits .f32 0x40000000#32)) = y * (((8 * (Real.log 2))⁻¹ : ℝ) : EReal) := by
  have e2 : Ideal.ofBits .f32 0x40000000#32 = ((2 : ℝ) : EReal) := by
    simp [Ideal.ofBits, Ideal.ieee]
    rw [← EReal.coe_mul]; norm_num
  have e8 : Ideal.ofBits .f32 0x3E000000#32 = (((8 : ℝ)⁻¹ : ℝ) : EReal) := by
    simp [Ideal.ofBits, Ideal.ieee]
    rw [← EReal.coe_mul]; norm_num
  have el : Ideal.log ((2 : ℝ) : EReal) = ((Real.log 2 : ℝ) : EReal) := if_neg (by norm_num)
  have hp : Real.log 2 ≠ 0 := (Real.log_pos (by norm_num)).ne'
  rw [e2, e8, el]
  unfold Ideal.div
  rw [if_neg (EReal.coe_ne_zero.mpr hp), ← EReal.coe_inv, mul_assoc, ← EReal.coe_mul, mul_inv]

/-- The logarithm of a number that is at least one is not `-∞`. -/
theorem log_ne_bot (e : EReal) (h : 0 ≤ e) : Ideal.log (1 + e) ≠ ⊥ := by
  induction e using EReal.rec with
  | bot => exact absurd h (by simp)
  | top => rw [← EReal.coe_one, EReal.coe_add_top]; exact bot_ne_top.symm
  | coe a =>
    have ha : (0 : ℝ) ≤ a := EReal.coe_nonneg.mp h
    rw [← EReal.coe_one, ← EReal.coe_add]
    have : Ideal.log ((1 + a : ℝ) : EReal) = ((Real.log (1 + a) : ℝ) : EReal) := if_neg (by linarith)
    rw [this]
    exact EReal.coe_ne_bot _

theorem exp_nonneg (x : EReal) : 0 ≤ Ideal.exp x := by
  induction x using EReal.rec with
  | bot => exact le_refl _
  | top => exact le_top
  | coe a => exact EReal.coe_nonneg.mpr (Real.exp_pos a).le

/-- The reference's logarithm of the sigmoid is the kernel's. -/
theorem logsig_eq (x : EReal) :
    -(max (-x) 0 + Ideal.log (1 + Ideal.exp (-(max (-x - 0) (-(-x - 0)))))) = logsig x := by
  unfold logsig
  rw [sub_zero, neg_neg, zero_sub, max_comm (-x) x]
  have h1 : max (-x) 0 ≠ ⊥ := fun h => absurd (h ▸ le_max_right (-x) 0 : (0 : EReal) ≤ ⊥) (by simp)
  rw [EReal.neg_add (Or.inl h1) (Or.inr (log_ne_bot _ (exp_nonneg _)))]
  congr 1
  rcases le_total x 0 with h | h
  · rw [max_eq_left (EReal.neg_nonneg.mpr h), neg_neg, min_eq_left h]
  · rw [max_eq_right (by simpa using EReal.neg_le_neg_iff.mpr h : -x ≤ 0), neg_zero, min_eq_right h]

/-- The rotated first eight lanes of the queries. -/
def lowQ (x : FVec Ideal S8x4096x8x64 .f32) (c s : FVec Ideal S4096x8 .f32) : FVec Ideal S8x4096x8x8 .f32 :=
  subf (mulf (extractStridedSlice S8x4096x8x8 ![0, 0, 0, 0] (extractStridedSlice S8x4096x8x16 ![0, 0, 0, 0] x slices_S8x4096x8x64_S8x4096x8x16_0_0_0_0) slices_S8x4096x8x16_S8x4096x8x8_0_0_0_0) (broadcastInDim S8x4096x8x8 ![0, 1, 2, 3] bcast_S1x4096x1x8_S8x4096x8x8_0_1_2_3 (broadcastInDim S1x4096x1x8 ![1, 2, 3] bcast_S4096x1x8_S1x4096x1x8_1_2_3 (broadcastInDim S4096x1x8 ![0, 2] bcast_S4096x8_S4096x1x8_0_2 c)))) (mulf (extractStridedSlice S8x4096x8x8 ![0, 0, 0, 8] (extractStridedSlice S8x4096x8x16 ![0, 0, 0, 0] x slices_S8x4096x8x64_S8x4096x8x16_0_0_0_0) slices_S8x4096x8x16_S8x4096x8x8_0_0_0_8) (broadcastInDim S8x4096x8x8 ![0, 1, 2, 3] bcast_S1x4096x1x8_S8x4096x8x8_0_1_2_3 (broadcastInDim S1x4096x1x8 ![1, 2, 3] bcast_S4096x1x8_S1x4096x1x8_1_2_3 (broadcastInDim S4096x1x8 ![0, 2] bcast_S4096x8_S4096x1x8_0_2 s))))

/-- The rotated next eight lanes of the queries. -/
def highQ (x : FVec Ideal S8x4096x8x64 .f32) (c s : FVec Ideal S4096x8 .f32) : FVec Ideal S8x4096x8x8 .f32 :=
  addf (mulf (extractStridedSlice S8x4096x8x8 ![0, 0, 0, 8] (extractStridedSlice S8x4096x8x16 ![0, 0, 0, 0] x slices_S8x4096x8x64_S8x4096x8x16_0_0_0_0) slices_S8x4096x8x16_S8x4096x8x8_0_0_0_8) (broadcastInDim S8x4096x8x8 ![0, 1, 2, 3] bcast_S1x4096x1x8_S8x4096x8x8_0_1_2_3 (broadcastInDim S1x4096x1x8 ![1, 2, 3] bcast_S4096x1x8_S1x4096x1x8_1_2_3 (broadcastInDim S4096x1x8 ![0, 2] bcast_S4096x8_S4096x1x8_0_2 c)))) (mulf (extractStridedSlice S8x4096x8x8 ![0, 0, 0, 0] (extractStridedSlice S8x4096x8x16 ![0, 0, 0, 0] x slices_S8x4096x8x64_S8x4096x8x16_0_0_0_0) slices_S8x4096x8x16_S8x4096x8x8_0_0_0_0) (broadcastInDim S8x4096x8x8 ![0, 1, 2, 3] bcast_S1x4096x1x8_S8x4096x8x8_0_1_2_3 (broadcastInDim S1x4096x1x8 ![1, 2, 3] bcast_S4096x1x8_S1x4096x1x8_1_2_3 (broadcastInDim S4096x1x8 ![0, 2] bcast_S4096x8_S4096x1x8_0_2 s))))

/-- The rotary embedding of the queries, as the reference writes it. -/
def rotQ (x : FVec Ideal S8x4096x8x64 .f32) (c s : FVec Ideal S4096x8 .f32) : FVec Ideal S8x4096x8x64 .f32 :=
  concatenate S8x4096x8x64 3 [⟨S8x4096x8x16, concatenate S8x4096x8x16 3 [⟨S8x4096x8x8, lowQ x c s⟩, ⟨S8x4096x8x8, highQ x c s⟩] concatenates_S8x4096x8x8_S8x4096x8x8_S8x4096x8x16_d3⟩,
    ⟨S8x4096x8x48, extractStridedSlice S8x4096x8x48 ![0, 0, 0, 16] x slices_S8x4096x8x64_S8x4096x8x48_0_0_0_16⟩] concatenates_S8x4096x8x16_S8x4096x8x48_S8x4096x8x64_d3

theorem lowQ_apply (x : FVec Ideal S8x4096x8x64 .f32) (c s : FVec Ideal S4096x8 .f32) (b : Fin 8) (p : Fin 4096) (h : Fin 8) (d : Fin 8) :
    lowQ x c s (ix4 b p h d) = x (ix4 b p h (⟨d.val, by omega⟩ : Fin 64)) * c (ix2 p d) - x (ix4 b p h (⟨8 + d.val, by omega⟩ : Fin 64)) * s (ix2 p d) := by
  pointwise [lowQ]

theorem highQ_apply (x : FVec Ideal S8x4096x8x64 .f32) (c s : FVec Ideal S4096x8 .f32) (b : Fin 8) (p : Fin 4096) (h : Fin 8) (d : Fin 8) :
    highQ x c s (ix4 b p h d) = x (ix4 b p h (⟨8 + d.val, by omega⟩ : Fin 64)) * c (ix2 p d) + x (ix4 b p h (⟨d.val, by omega⟩ : Fin 64)) * s (ix2 p d) := by
  pointwise [highQ]

theorem rotQ_apply (x : FVec Ideal S8x4096x8x64 .f32) (c s : FVec Ideal S4096x8 .f32) (b : Fin 8) (p : Fin 4096) (h : Fin 8) (d : Fin 64) :
    rotQ x c s (ix4 b p h d) = rot (fun d => x (ix4 b p h d)) (fun f => c (ix2 p f)) (fun f => s (ix2 p f)) d := by
  unfold rotQ
  have hl := lowQ_apply x c s b p h
  have hh := highQ_apply x c s b p h
  generalize lowQ x c s = l at *
  generalize highQ x c s = g at *
  pointwise []
  simp only [hl, hh]
  rfl

/-- The rotated first eight lanes of the keys. -/
def lowK (x : FVec Ideal S8x4096x2x64 .f32) (c s : FVec Ideal S4096x8 .f32) : FVec Ideal S8x4096x2x8 .f32 :=
  subf (mulf (extractStridedSlice S8x4096x2x8 ![0, 0, 0, 0] (extractStridedSlice S8x4096x2x16 ![0, 0, 0, 0] x slices_S8x4096x2x64_S8x4096x2x16_0_0_0_0) slices_S8x4096x2x16_S8x4096x2x8_0_0_0_0) (broadcastInDim S8x4096x2x8 ![0, 1, 2, 3] bcast_S1x4096x1x8_S8x4096x2x8_0_1_2_3 (broadcastInDim S1x4096x1x8 ![1, 2, 3] bcast_S4096x1x8_S1x4096x1x8_1_2_3 (broadcastInDim S4096x1x8 ![0, 2] bcast_S4096x8_S4096x1x8_0_2 c)))) (mulf (extractStridedSlice S8x4096x2x8 ![0, 0, 0, 8] (extractStridedSlice S8x4096x2x16 ![0, 0, 0, 0] x slices_S8x4096x2x64_S8x4096x2x16_0_0_0_0) slices_S8x4096x2x16_S8x4096x2x8_0_0_0_8) (broadcastInDim S8x4096x2x8 ![0, 1, 2, 3] bcast_S1x4096x1x8_S8x4096x2x8_0_1_2_3 (broadcastInDim S1x4096x1x8 ![1, 2, 3] bcast_S4096x1x8_S1x4096x1x8_1_2_3 (broadcastInDim S4096x1x8 ![0, 2] bcast_S4096x8_S4096x1x8_0_2 s))))

/-- The rotated next eight lanes of the keys. -/
def highK (x : FVec Ideal S8x4096x2x64 .f32) (c s : FVec Ideal S4096x8 .f32) : FVec Ideal S8x4096x2x8 .f32 :=
  addf (mulf (extractStridedSlice S8x4096x2x8 ![0, 0, 0, 8] (extractStridedSlice S8x4096x2x16 ![0, 0, 0, 0] x slices_S8x4096x2x64_S8x4096x2x16_0_0_0_0) slices_S8x4096x2x16_S8x4096x2x8_0_0_0_8) (broadcastInDim S8x4096x2x8 ![0, 1, 2, 3] bcast_S1x4096x1x8_S8x4096x2x8_0_1_2_3 (broadcastInDim S1x4096x1x8 ![1, 2, 3] bcast_S4096x1x8_S1x4096x1x8_1_2_3 (broadcastInDim S4096x1x8 ![0, 2] bcast_S4096x8_S4096x1x8_0_2 c)))) (mulf (extractStridedSlice S8x4096x2x8 ![0, 0, 0, 0] (extractStridedSlice S8x4096x2x16 ![0, 0, 0, 0] x slices_S8x4096x2x64_S8x4096x2x16_0_0_0_0) slices_S8x4096x2x16_S8x4096x2x8_0_0_0_0) (broadcastInDim S8x4096x2x8 ![0, 1, 2, 3] bcast_S1x4096x1x8_S8x4096x2x8_0_1_2_3 (broadcastInDim S1x4096x1x8 ![1, 2, 3] bcast_S4096x1x8_S1x4096x1x8_1_2_3 (broadcastInDim S4096x1x8 ![0, 2] bcast_S4096x8_S4096x1x8_0_2 s))))

/-- The rotary embedding of the keys, as the reference writes it. -/
def rotK (x : FVec Ideal S8x4096x2x64 .f32) (c s : FVec Ideal S4096x8 .f32) : FVec Ideal S8x4096x2x64 .f32 :=
  concatenate S8x4096x2x64 3 [⟨S8x4096x2x16, concatenate S8x4096x2x16 3 [⟨S8x4096x2x8, lowK x c s⟩, ⟨S8x4096x2x8, highK x c s⟩] concatenates_S8x4096x2x8_S8x4096x2x8_S8x4096x2x16_d3⟩,
    ⟨S8x4096x2x48, extractStridedSlice S8x4096x2x48 ![0, 0, 0, 16] x slices_S8x4096x2x64_S8x4096x2x48_0_0_0_16⟩] concatenates_S8x4096x2x16_S8x4096x2x48_S8x4096x2x64_d3

theorem lowK_apply (x : FVec Ideal S8x4096x2x64 .f32) (c s : FVec Ideal S4096x8 .f32) (b : Fin 8) (p : Fin 4096) (h : Fin 2) (d : Fin 8) :
    lowK x c s (ix4 b p h d) = x (ix4 b p h (⟨d.val, by omega⟩ : Fin 64)) * c (ix2 p d) - x (ix4 b p h (⟨8 + d.val, by omega⟩ : Fin 64)) * s (ix2 p d) := by
  pointwise [lowK]

theorem highK_apply (x : FVec Ideal S8x4096x2x64 .f32) (c s : FVec Ideal S4096x8 .f32) (b : Fin 8) (p : Fin 4096) (h : Fin 2) (d : Fin 8) :
    highK x c s (ix4 b p h d) = x (ix4 b p h (⟨8 + d.val, by omega⟩ : Fin 64)) * c (ix2 p d) + x (ix4 b p h (⟨d.val, by omega⟩ : Fin 64)) * s (ix2 p d) := by
  pointwise [highK]

theorem rotK_apply (x : FVec Ideal S8x4096x2x64 .f32) (c s : FVec Ideal S4096x8 .f32) (b : Fin 8) (p : Fin 4096) (h : Fin 2) (d : Fin 64) :
    rotK x c s (ix4 b p h d) = rot (fun d => x (ix4 b p h d)) (fun f => c (ix2 p f)) (fun f => s (ix2 p f)) d := by
  unfold rotK
  have hl := lowK_apply x c s b p h
  have hh := highK_apply x c s b p h
  generalize lowK x c s = l at *
  generalize highK x c s = g at *
  pointwise []
  simp only [hl, hh]
  rfl

end Cert.ProjReferenceIdeal.Row
end
-- ==== Proof.ProjRef.lean ====
module

public import proofs.«01_k».proof.Proof.Gen.ProjReferenceIdeal.Read
public import proofs.«01_k».proof.Proof.ProjRefMath
public import Idealize.ShloMosaic.Lib.Pointwise

@[expose] public section

set_option maxRecDepth 16384

noncomputable section

namespace Cert.ProjReferenceIdeal.Row

open Cert.RowMath
open Cert.ProjIdeal.Row (turn ones logsig cosL sinaL sinbL cosA sinA angT cosR sinaR sinbR hR uR zR colR firstR biasR gateR qrow krow vrow)
open Cert.ProjReferenceIdeal Cert.ProjReferenceIdeal.Gen Cert.ProjReferenceIdeal.Read Idealize.ShloMosaic Idealize.ShloMosaic.TcCoe Idealize.SL.Sem

/-- The reference's root mean square norm of the rows. -/
def normR (x : FVec Ideal S32768x1024 .f32) (g : FVec Ideal S1024 .f32) : FVec Ideal S32768x1024 .f32 :=
  mulf (mulf x (broadcastInDim S32768x1024 ![0, 1] bcast_S32768x1_S32768x1024_0_1 (Host.rsqrt (addf (Host.divf
    (broadcastInDim S32768x1 ![0] bcast_S32768_S32768x1_0 (Host.reduceAdd (mulf x x) (constant S_ .f32 0x00000000#32) reducesTo_S32768x1024_S32768_d1 h_S_))
    (broadcastInDim S32768x1 ![] bcast_S_S32768x1 (constant S_ .f32 0x44800000#32))) (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 g))

/-- The reference's sigmoid. -/
def sgmR {s : Shape} (h : S_.BroadcastsInDim s (![] : Fin 0 → Fin s.rank)) (x : FVec Ideal s .f32) : FVec Ideal s .f32 :=
  Host.divf (broadcastInDim s ![] h (constant S_ .f32 0x3F800000#32)) (addf (broadcastInDim s ![] h (constant S_ .f32 0x3F800000#32)) (Host.exp (Host.negf x)))

theorem sgmR_apply {s : Shape} (h : S_.BroadcastsInDim s (![] : Fin 0 → Fin s.rank)) (x : FVec Ideal s .f32) (i : s.Idx) : sgmR h x i = Ideal.logistic (x i) := by
  show Ideal.div (Ideal.ofBits .f32 0x3F800000#32) (Ideal.ofBits .f32 0x3F800000#32 + Ideal.exp (-(x i))) = _
  rw [ofBits_one]
  rfl

theorem normR_apply (x : FVec Ideal S32768x1024 .f32) (g : FVec Ideal S1024 .f32) (r : Fin 32768) (j : Fin 1024) :
    normR x g (ix2 r j) = norm (fun j => x (ix2 r j)) (fun j => g (ix1 j)) j := by
  pointwise [normR]
  rfl

theorem dot1024x5632_apply (x : FVec Ideal S32768x1024 .f32) (w : FVec Ideal S1024x5632 .f32) (r : Fin 32768) (j : Fin 5632) :
    Host.dotGeneral (F := Ideal) dot_S32768x1024_S1024x5632_S32768x5632_1_0_0_1_n_n none x w (ix2 r j)
      = lin (fun i : Fin 1024 => x (ix2 r i)) (fun (i : Fin 1024) (j : Fin 5632) => w (ix2 i j)) j := by
  pointwise []
  rfl

theorem dot2816x1024_apply (x : FVec Ideal S32768x2816 .f32) (w : FVec Ideal S2816x1024 .f32) (r : Fin 32768) (j : Fin 1024) :
    Host.dotGeneral (F := Ideal) dot_S32768x2816_S2816x1024_S32768x1024_1_0_0_1_n_n none x w (ix2 r j)
      = lin (fun i : Fin 2816 => x (ix2 r i)) (fun (i : Fin 2816) (j : Fin 1024) => w (ix2 i j)) j := by
  pointwise []
  rfl

theorem dot1024x5904_apply (x : FVec Ideal S32768x1024 .f32) (w : FVec Ideal S1024x5904 .f32) (r : Fin 32768) (j : Fin 5904) :
    Host.dotGeneral (F := Ideal) dot_S32768x1024_S1024x5904_S32768x5904_1_0_0_1_n_n none x w (ix2 r j)
      = lin (fun i : Fin 1024 => x (ix2 r i)) (fun (i : Fin 1024) (j : Fin 5904) => w (ix2 i j)) j := by
  pointwise []
  rfl

/-- The gated hidden rows. -/
def hiddenR (z : FVec Ideal S32768x5632 .f32) : FVec Ideal S32768x2816 .f32 :=
  mulf (mulf (extractStridedSlice S32768x2816 ![0, 0] z slices_S32768x5632_S32768x2816_0_0)
    (sgmR bcast_S_S32768x2816 (extractStridedSlice S32768x2816 ![0, 0] z slices_S32768x5632_S32768x2816_0_0)))
    (extractStridedSlice S32768x2816 ![0, 2816] z slices_S32768x5632_S32768x2816_0_2816)

theorem hiddenR_apply (z : FVec Ideal S32768x5632 .f32) (r : Fin 32768) (k : Fin 2816) :
    hiddenR z (ix2 r k) = z (ix2 r (⟨k.val, by omega⟩ : Fin 5632)) * Ideal.logistic (z (ix2 r (⟨k.val, by omega⟩ : Fin 5632)))
      * z (ix2 r (⟨2816 + k.val, by omega⟩ : Fin 5632)) := by
  pointwise [hiddenR]
  rw [sgmR_apply]
  pointwise []

variable (x0 : FVec Ideal S32768x1024 .f32) (x1 : FVec Ideal S1024 .f32) (x2 : FVec Ideal S1024x5632 .f32) (x3 : FVec Ideal S2816x1024 .f32)
    (x4 x5 : FVec Ideal S1024 .f32) (x6 : FVec Ideal S1024x5904 .f32) (x7 : FVec Ideal S16 .f32)

/-- RESULT 0: the rows after the feed-forward half step. -/
theorem v34_apply (r : Fin 32768) (j : Fin 1024) : val_main_v34 (F := Ideal) x0 x1 x2 x3 x4 (ix2 r j) = hR x0 x1 x2 x3 x4 r j := by
  have e13 : val_main_v13 (F := Ideal) x0 x1 x2 = Host.dotGeneral (F := Ideal) (φ₁ := .f32) (φ₂ := .f32) dot_S32768x1024_S1024x5632_S32768x5632_1_0_0_1_n_n none (normR x0 x1) x2 := rfl
  have e18 : val_main_v18 (F := Ideal) x0 x1 x2 x3 = Host.dotGeneral (F := Ideal) (φ₁ := .f32) (φ₂ := .f32) dot_S32768x2816_S2816x1024_S32768x1024_1_0_0_1_n_n none (hiddenR (val_main_v13 (F := Ideal) x0 x1 x2)) x3 := rfl
  have e : val_main_v34 (F := Ideal) x0 x1 x2 x3 x4 (ix2 r j) = x0 (ix2 r j) + Ideal.ofBits .f32 0x3F000000#32 * normR (val_main_v18 (F := Ideal) x0 x1 x2 x3) x4 (ix2 r j) := rfl
  rw [e, normR_apply]
  simp only [e18, dot2816x1024_apply, hiddenR_apply, e13, dot1024x5632_apply, normR_apply]
  rfl

/-- The projected rows. -/
theorem v48_apply (r : Fin 32768) (j : Fin 5904) : val_main_v48 (F := Ideal) x0 x1 x2 x3 x4 x5 x6 (ix2 r j) = zR x0 x1 x2 x3 x4 x5 x6 r j := by
  have e : val_main_v48 (F := Ideal) x0 x1 x2 x3 x4 x5 x6 = Host.dotGeneral (F := Ideal) (φ₁ := .f32) (φ₂ := .f32) dot_S32768x1024_S1024x5904_S32768x5904_1_0_0_1_n_n none (normR (val_main_v34 (F := Ideal) x0 x1 x2 x3 x4) x5) x6 := rfl
  rw [e, dot1024x5904_apply]
  simp only [normR_apply, v34_apply]
  rfl

theorem v49_apply (r : Fin 32768) (j : Fin 512) : val_main_v49 (F := Ideal) x0 x1 x2 x3 x4 x5 x6 (ix2 r j) = firstR x0 x1 x2 x3 x4 x5 x6 r ⟨j.val, by omega⟩ := by
  have hz := v48_apply x0 x1 x2 x3 x4 x5 x6
  show extractStridedSlice S32768x512 ![0, 0] (val_main_v48 (F := Ideal) x0 x1 x2 x3 x4 x5 x6) slices_S32768x5904_S32768x512_0_0 (ix2 r j) = _
  generalize val_main_v48 (F := Ideal) x0 x1 x2 x3 x4 x5 x6 = z at *
  pointwise []
  exact hz r _

theorem v50_apply (r : Fin 32768) (j : Fin 128) : val_main_v50 (F := Ideal) x0 x1 x2 x3 x4 x5 x6 (ix2 r j) = firstR x0 x1 x2 x3 x4 x5 x6 r ⟨512 + j.val, by omega⟩ := by
  have hz := v48_apply x0 x1 x2 x3 x4 x5 x6
  show extractStridedSlice S32768x128 ![0, 512] (val_main_v48 (F := Ideal) x0 x1 x2 x3 x4 x5 x6) slices_S32768x5904_S32768x128_0_512 (ix2 r j) = _
  generalize val_main_v48 (F := Ideal) x0 x1 x2 x3 x4 x5 x6 = z at *
  pointwise []
  exact hz r _

theorem v51_apply (r : Fin 32768) (j : Fin 128) : val_main_v51 (F := Ideal) x0 x1 x2 x3 x4 x5 x6 (ix2 r j) = firstR x0 x1 x2 x3 x4 x5 x6 r ⟨640 + j.val, by omega⟩ := by
  have hz := v48_apply x0 x1 x2 x3 x4 x5 x6
  show extractStridedSlice S32768x128 ![0, 640] (val_main_v48 (F := Ideal) x0 x1 x2 x3 x4 x5 x6) slices_S32768x5904_S32768x128_0_640 (ix2 r j) = _
  generalize val_main_v48 (F := Ideal) x0 x1 x2 x3 x4 x5 x6 = z at *
  pointwise []
  exact hz r _

theorem v52_apply (r : Fin 32768) (j : Fin 512) : val_main_v52 (F := Ideal) x0 x1 x2 x3 x4 x5 x6 (ix2 r j) = colR x0 x1 x2 x3 x4 x5 x6 r 768 (by decide) j := by
  have hz := v48_apply x0 x1 x2 x3 x4 x5 x6
  show extractStridedSlice S32768x512 ![0, 768] (val_main_v48 (F := Ideal) x0 x1 x2 x3 x4 x5 x6) slices_S32768x5904_S32768x512_0_768 (ix2 r j) = _
  generalize val_main_v48 (F := Ideal) x0 x1 x2 x3 x4 x5 x6 = z at *
  pointwise []
  exact hz r _

theorem v53_apply (r : Fin 32768) (j : Fin 512) : val_main_v53 (F := Ideal) x0 x1 x2 x3 x4 x5 x6 (ix2 r j) = colR x0 x1 x2 x3 x4 x5 x6 r 1280 (by decide) j := by
  have hz := v48_apply x0 x1 x2 x3 x4 x5 x6
  show extractStridedSlice S32768x512 ![0, 1280] (val_main_v48 (F := Ideal) x0 x1 x2 x3 x4 x5 x6) slices_S32768x5904_S32768x512_0_1280 (ix2 r j) = _
  generalize val_main_v48 (F := Ideal) x0 x1 x2 x3 x4 x5 x6 = z at *
  pointwise []
  exact hz r _

theorem v54_apply (r : Fin 32768) (j : Fin 1024) : val_main_v54 (F := Ideal) x0 x1 x2 x3 x4 x5 x6 (ix2 r j) = colR x0 x1 x2 x3 x4 x5 x6 r 1792 (by decide) j := by
  have hz := v48_apply x0 x1 x2 x3 x4 x5 x6
  show extractStridedSlice S32768x1024 ![0, 1792] (val_main_v48 (F := Ideal) x0 x1 x2 x3 x4 x5 x6) slices_S32768x5904_S32768x1024_0_1792 (ix2 r j) = _
  generalize val_main_v48 (F := Ideal) x0 x1 x2 x3 x4 x5 x6 = z at *
  pointwise []
  exact hz r _

theorem v55_apply (r : Fin 32768) (j : Fin 1024) : val_main_v55 (F := Ideal) x0 x1 x2 x3 x4 x5 x6 (ix2 r j) = colR x0 x1 x2 x3 x4 x5 x6 r 2816 (by decide) j := by
  have hz := v48_apply x0 x1 x2 x3 x4 x5 x6
  show extractStridedSlice S32768x1024 ![0, 2816] (val_main_v48 (F := Ideal) x0 x1 x2 x3 x4 x5 x6) slices_S32768x5904_S32768x1024_0_2816 (ix2 r j) = _
  generalize val_main_v48 (F := Ideal) x0 x1 x2 x3 x4 x5 x6 = z at *
  pointwise []
  exact hz r _

theorem v56_apply (r : Fin 32768) (j : Fin 16) : val_main_v56 (F := Ideal) x0 x1 x2 x3 x4 x5 x6 (ix2 r j) = colR x0 x1 x2 x3 x4 x5 x6 r 3840 (by decide) j := by
  have hz := v48_apply x0 x1 x2 x3 x4 x5 x6
  show extractStridedSlice S32768x16 ![0, 3840] (val_main_v48 (F := Ideal) x0 x1 x2 x3 x4 x5 x6) slices_S32768x5904_S32768x16_0_3840 (ix2 r j) = _
  generalize val_main_v48 (F := Ideal) x0 x1 x2 x3 x4 x5 x6 = z at *
  pointwise []
  exact hz r _

theorem v57_apply (r : Fin 32768) (j : Fin 2048) : val_main_v57 (F := Ideal) x0 x1 x2 x3 x4 x5 x6 (ix2 r j) = colR x0 x1 x2 x3 x4 x5 x6 r 3856 (by decide) j := by
  have hz := v48_apply x0 x1 x2 x3 x4 x5 x6
  show extractStridedSlice S32768x2048 ![0, 3856] (val_main_v48 (F := Ideal) x0 x1 x2 x3 x4 x5 x6) slices_S32768x5904_S32768x2048_0_3856 (ix2 r j) = _
  generalize val_main_v48 (F := Ideal) x0 x1 x2 x3 x4 x5 x6 = z at *
  pointwise []
  exact hz r _

theorem v78_apply (b : Fin 8) (p : Fin 4096) (h : Fin 8) (d : Fin 64) :
    val_main_v78 (F := Ideal) x0 x1 x2 x3 x4 x5 x6 (ix4 b p h d) = firstR x0 x1 x2 x3 x4 x5 x6 ⟨4096 * b.val + p.val, by omega⟩ ⟨64 * h.val + d.val, by omega⟩ := by
  refine Eq.trans ?_ (v49_apply x0 x1 x2 x3 x4 x5 x6 ⟨4096 * b.val + p.val, by omega⟩ ⟨64 * h.val + d.val, by omega⟩)
  show shapeCast S8x4096x8x64 (val_main_v49 (F := Ideal) x0 x1 x2 x3 x4 x5 x6) shapeCasts_S32768x512_S8x4096x8x64 (ix4 b p h d) = _
  generalize val_main_v49 (F := Ideal) x0 x1 x2 x3 x4 x5 x6 = z
  pointwise []
  congr 2 <;> exact Fin.ext (by dsimp only; omega)

theorem v99_apply (b : Fin 8) (p : Fin 4096) (h : Fin 2) (d : Fin 64) :
    val_main_v99 (F := Ideal) x0 x1 x2 x3 x4 x5 x6 (ix4 b p h d) = firstR x0 x1 x2 x3 x4 x5 x6 ⟨4096 * b.val + p.val, by omega⟩ ⟨512 + (64 * h.val + d.val), by omega⟩ := by
  refine Eq.trans ?_ (v50_apply x0 x1 x2 x3 x4 x5 x6 ⟨4096 * b.val + p.val, by omega⟩ ⟨64 * h.val + d.val, by omega⟩)
  show shapeCast S8x4096x2x64 (val_main_v50 (F := Ideal) x0 x1 x2 x3 x4 x5 x6) shapeCasts_S32768x128_S8x4096x2x64 (ix4 b p h d) = _
  generalize val_main_v50 (F := Ideal) x0 x1 x2 x3 x4 x5 x6 = z
  pointwise []
  congr 2 <;> exact Fin.ext (by dsimp only; omega)

/-- The rotated queries. -/
theorem v98_apply (b : Fin 8) (p : Fin 4096) (h : Fin 8) (d : Fin 64) :
    val_main_v98 (F := Ideal) x0 x1 x2 x3 x4 x5 x6 (ix4 b p h d) = rot (fun d => firstR x0 x1 x2 x3 x4 x5 x6 ⟨4096 * b.val + p.val, by omega⟩ ⟨64 * h.val + d.val, by omega⟩) (cosA p) (sinA p) d := by
  have e : val_main_v98 (F := Ideal) x0 x1 x2 x3 x4 x5 x6 = rotQ (val_main_v78 (F := Ideal) x0 x1 x2 x3 x4 x5 x6) (Host.cos angT) (Host.sin angT) := rfl
  rw [e, rotQ_apply]
  simp only [v78_apply]
  rfl

/-- The rotated keys. -/
theorem v119_apply (b : Fin 8) (p : Fin 4096) (h : Fin 2) (d : Fin 64) :
    val_main_v119 (F := Ideal) x0 x1 x2 x3 x4 x5 x6 (ix4 b p h d) = rot (fun d => firstR x0 x1 x2 x3 x4 x5 x6 ⟨4096 * b.val + p.val, by omega⟩ ⟨512 + (64 * h.val + d.val), by omega⟩) (cosA p) (sinA p) d := by
  have e : val_main_v119 (F := Ideal) x0 x1 x2 x3 x4 x5 x6 = rotK (val_main_v99 (F := Ideal) x0 x1 x2 x3 x4 x5 x6) (Host.cos angT) (Host.sin angT) := rfl
  rw [e, rotK_apply]
  simp only [v99_apply]
  rfl

/-- RESULT 1: the queries. -/
theorem v140_apply (r : Fin 32768) (j : Fin 512) :
    val_main_v140 (F := Ideal) x0 x1 x2 x3 x4 x5 x6 (ix2 r j) = qrow (firstR x0 x1 x2 x3 x4 x5 x6 r) (cosR r) (sinaR r) (sinbR r) j := by
  have e : val_main_v140 (F := Ideal) x0 x1 x2 x3 x4 x5 x6 (ix2 r j) = Ideal.div (val_main_v98 (F := Ideal) x0 x1 x2 x3 x4 x5 x6 (ix4 (⟨r.val / 4096, by omega⟩ : Fin 8) (⟨r.val % 4096, by omega⟩ : Fin 4096) (⟨j.val / 64, by omega⟩ : Fin 8) (⟨j.val % 64, by omega⟩ : Fin 64))
      * Ideal.ofBits .f32 0x3E000000#32) (Ideal.log (Ideal.ofBits .f32 0x40000000#32)) := by
    pointwise [val_main_v140, val_main_v139, val_main_v138, val_main_v137, val_main_v136, val_main_v135, val_main_v134, val_main_cst_13, val_main_cst_14]
  rw [e, v98_apply, scale_eq]
  unfold qrow
  rw [turn_eq]
  dsimp only
  refine congrArg (· * (((8 * (Real.log 2))⁻¹ : ℝ) : EReal)) ?_
  congr 1
  · funext d
    congr 1 <;> exact Fin.ext (by dsimp only; omega)
  · exact Fin.ext (by dsimp only; omega)

theorem v141_apply (r : Fin 32768) (l : Fin 128) :
    val_main_v141 (F := Ideal) x0 x1 x2 x3 x4 x5 x6 (ix2 r l) = turn (fun l => firstR x0 x1 x2 x3 x4 x5 x6 r ⟨512 + l.val, by omega⟩) (cosR r) (sinaR r) (sinbR r) l := by
  have e : val_main_v141 (F := Ideal) x0 x1 x2 x3 x4 x5 x6 (ix2 r l) = val_main_v119 (F := Ideal) x0 x1 x2 x3 x4 x5 x6 (ix4 (⟨r.val / 4096, by omega⟩ : Fin 8) (⟨r.val % 4096, by omega⟩ : Fin 4096) (⟨l.val / 64, by omega⟩ : Fin 2) (⟨l.val % 64, by omega⟩ : Fin 64)) := by
    pointwise [val_main_v141]
  rw [e, v119_apply, turn_eq]
  congr 1
  funext d
  congr 1
  exact Fin.ext (by dsimp only; omega)

/-- RESULT 2: the keys, each head twice. -/
theorem v147_apply (r : Fin 32768) (j : Fin 256) :
    val_main_v147 (F := Ideal) x0 x1 x2 x3 x4 x5 x6 (ix2 r j) = krow (firstR x0 x1 x2 x3 x4 x5 x6 r) (cosR r) (sinaR r) (sinbR r) j := by
  refine Eq.trans ?_ (v141_apply x0 x1 x2 x3 x4 x5 x6 r ⟨64 * (j.val / 128) + j.val % 64, by omega⟩)
  pointwise [val_main_v147, val_main_v146, val_main_v145, val_main_v144, val_main_v143, val_main_v142]
  generalize val_main_v141 (F := Ideal) x0 x1 x2 x3 x4 x5 x6 = z
  split_ifs <;> exact congrArg (fun q => z (ix2 r q)) (Fin.ext (by dsimp only; omega))

/-- RESULT 3: the values, transposed, with their ones. -/
theorem v153_apply (j : Fin 160) (r : Fin 32768) : val_main_v153 (F := Ideal) x0 x1 x2 x3 x4 x5 x6 (ix2 j r) = vrow (firstR x0 x1 x2 x3 x4 x5 x6 r) j := by
  have hz := v51_apply x0 x1 x2 x3 x4 x5 x6 r
  pointwise [val_main_v153, val_main_v152, val_main_v151, val_main_v150, val_main_v149, val_main_v148, val_main_cst_15]
  generalize val_main_v51 (F := Ideal) x0 x1 x2 x3 x4 x5 x6 = z at *
  simp only [hz, ofBits_one]
  rfl

/-- RESULT 4. -/
theorem v161_apply (r : Fin 32768) (j : Fin 512) : val_main_v161 (F := Ideal) x0 x1 x2 x3 x4 x5 x6 (ix2 r j) = colR x0 x1 x2 x3 x4 x5 x6 r 768 (by decide) j := v52_apply x0 x1 x2 x3 x4 x5 x6 r j

/-- RESULT 5. -/
theorem v162_apply (r : Fin 32768) (j : Fin 512) : val_main_v162 (F := Ideal) x0 x1 x2 x3 x4 x5 x6 (ix2 r j) = colR x0 x1 x2 x3 x4 x5 x6 r 1280 (by decide) j := v53_apply x0 x1 x2 x3 x4 x5 x6 r j

/-- RESULT 6. -/
theorem v163_apply (r : Fin 32768) (j : Fin 1024) : val_main_v163 (F := Ideal) x0 x1 x2 x3 x4 x5 x6 (ix2 r j) = colR x0 x1 x2 x3 x4 x5 x6 r 1792 (by decide) j := v54_apply x0 x1 x2 x3 x4 x5 x6 r j

/-- RESULT 7. -/
theorem v164_apply (r : Fin 32768) (j : Fin 1024) : val_main_v164 (F := Ideal) x0 x1 x2 x3 x4 x5 x6 (ix2 r j) = colR x0 x1 x2 x3 x4 x5 x6 r 2816 (by decide) j := v55_apply x0 x1 x2 x3 x4 x5 x6 r j

/-- RESULT 9. -/
theorem v165_apply (r : Fin 32768) (j : Fin 2048) : val_main_v165 (F := Ideal) x0 x1 x2 x3 x4 x5 x6 (ix2 r j) = colR x0 x1 x2 x3 x4 x5 x6 r 3856 (by decide) j := v57_apply x0 x1 x2 x3 x4 x5 x6 r j

/-- The reference's logarithm of the sigmoid. -/
def lsR (x : FVec Ideal S32768x4 .f32) : FVec Ideal S32768x4 .f32 :=
  Host.negf (select
    (cmpf .une (subf (Host.negf x) (broadcastInDim S32768x4 ![] bcast_S_S32768x4 (constant S_ .f32 0x00000000#32))) (subf (Host.negf x) (broadcastInDim S32768x4 ![] bcast_S_S32768x4 (constant S_ .f32 0x00000000#32))))
    (addf (Host.negf x) (broadcastInDim S32768x4 ![] bcast_S_S32768x4 (constant S_ .f32 0x00000000#32)))
    (addf (maximumf (Host.negf x) (broadcastInDim S32768x4 ![] bcast_S_S32768x4 (constant S_ .f32 0x00000000#32)))
      (Host.log1p (Host.exp (Host.negf (Host.absf (subf (Host.negf x) (broadcastInDim S32768x4 ![] bcast_S_S32768x4 (constant S_ .f32 0x00000000#32)))))))))

theorem lsR_apply (x : FVec Ideal S32768x4 .f32) (r : Fin 32768) (k : Fin 4) : lsR x (ix2 r k) = logsig (x (ix2 r k)) := by
  refine Eq.trans ?_ (logsig_eq (x (ix2 r k)))
  pointwise [lsR]
  rw [if_neg (not_not.mpr rfl)]
  rfl

theorem v122_apply (r : Fin 32768) (q : Fin 16) : val_main_v122 (F := Ideal) x0 x1 x2 x3 x4 x5 x6 x7 (ix2 r q) = zR x0 x1 x2 x3 x4 x5 x6 r ⟨3840 + q.val, by omega⟩ + x7 (ix1 q) := by
  have h56 := v56_apply x0 x1 x2 x3 x4 x5 x6 r q
  have e : val_main_v122 (F := Ideal) x0 x1 x2 x3 x4 x5 x6 x7 (ix2 r q) = val_main_v56 (F := Ideal) x0 x1 x2 x3 x4 x5 x6 (ix2 r q) + x7 (ix1 q) := by
    pointwise [val_main_v122, val_main_v121, val_main_v120]
  rw [e, h56]
  rfl

theorem v125_apply (r : Fin 32768) (k : Fin 4) : val_main_v125 (F := Ideal) x0 x1 x2 x3 x4 x5 x6 x7 (ix2 r k) = val_main_v122 (F := Ideal) x0 x1 x2 x3 x4 x5 x6 x7 (ix2 r (⟨4 * 0 + k.val, by omega⟩ : Fin 16)) := by
  pointwise [val_main_v125, val_main_v124, val_main_v123]

theorem v127_apply (r : Fin 32768) (k : Fin 4) : val_main_v127 (F := Ideal) x0 x1 x2 x3 x4 x5 x6 x7 (ix2 r k) = val_main_v122 (F := Ideal) x0 x1 x2 x3 x4 x5 x6 x7 (ix2 r (⟨4 * 1 + k.val, by omega⟩ : Fin 16)) := by
  pointwise [val_main_v127, val_main_v126, val_main_v123]

theorem v130_apply (r : Fin 32768) (k : Fin 4) : val_main_v130 (F := Ideal) x0 x1 x2 x3 x4 x5 x6 x7 (ix2 r k) = val_main_v122 (F := Ideal) x0 x1 x2 x3 x4 x5 x6 x7 (ix2 r (⟨4 * 2 + k.val, by omega⟩ : Fin 16)) := by
  pointwise [val_main_v130, val_main_v129, val_main_v123]

theorem v132_apply (r : Fin 32768) (k : Fin 4) : val_main_v132 (F := Ideal) x0 x1 x2 x3 x4 x5 x6 x7 (ix2 r k) = val_main_v122 (F := Ideal) x0 x1 x2 x3 x4 x5 x6 x7 (ix2 r (⟨4 * 3 + k.val, by omega⟩ : Fin 16)) := by
  pointwise [val_main_v132, val_main_v131, val_main_v123]

/-- One of the four kinds of gate, by its number. -/
theorem pick (n : ℕ) (hn : n < 16) (z : Fin 16 → EReal) (b : EReal) (hb : ∀ q : Fin 16, q.val = 4 * (n % 4) + n / 4 → z q = b) :
    (if h : n % 4 < 1 then z ⟨4 * 0 + n / 4, by omega⟩ else if h : n % 4 - 1 < 1 then logsig (z ⟨4 * 1 + n / 4, by omega⟩)
      else if h : n % 4 - 1 - 1 < 1 then z ⟨4 * 2 + n / 4, by omega⟩ else logsig (z ⟨4 * 3 + n / 4, by omega⟩))
      = if n % 2 = 1 then logsig b else b := by
  by_cases g0 : n % 4 < 1
  · rw [dif_pos g0, if_neg (by omega), hb _ (by dsimp only; omega)]
  · by_cases g1 : n % 4 - 1 < 1
    · rw [dif_neg g0, dif_pos g1, if_pos (by omega), hb _ (by dsimp only; omega)]
    · by_cases g2 : n % 4 - 1 - 1 < 1
      · rw [dif_neg g0, dif_neg g1, dif_pos g2, if_neg (by omega), hb _ (by dsimp only; omega)]
      · rw [dif_neg g0, dif_neg g1, dif_neg g2, if_pos (by omega), hb _ (by dsimp only; omega)]

/-- RESULT 8: the gates, transposed. -/
theorem v160_apply (j : Fin 16) (r : Fin 32768) : val_main_v160 (F := Ideal) x0 x1 x2 x3 x4 x5 x6 x7 (ix2 j r) = gateR x0 x1 x2 x3 x4 x5 x6 x7 r j := by
  have e128 : val_main_v128 (F := Ideal) x0 x1 x2 x3 x4 x5 x6 x7 = lsR (val_main_v127 (F := Ideal) x0 x1 x2 x3 x4 x5 x6 x7) := rfl
  have e133 : val_main_v133 (F := Ideal) x0 x1 x2 x3 x4 x5 x6 x7 = lsR (val_main_v132 (F := Ideal) x0 x1 x2 x3 x4 x5 x6 x7) := rfl
  have hb : ∀ (q : Fin 16), q.val = 4 * (j.val % 4) + j.val / 4 → val_main_v122 (F := Ideal) x0 x1 x2 x3 x4 x5 x6 x7 (ix2 r q) = biasR x0 x1 x2 x3 x4 x5 x6 x7 r j := by
    intro q hq
    rw [v122_apply]
    exact congrArg₂ (· + ·) (congrArg (zR x0 x1 x2 x3 x4 x5 x6 r) (Fin.ext (by dsimp only; omega))) (congrArg (fun q => x7 (ix1 q)) (Fin.ext hq))
  have h125 := v125_apply x0 x1 x2 x3 x4 x5 x6 x7 r
  have h127 := v127_apply x0 x1 x2 x3 x4 x5 x6 x7 r
  have h130 := v130_apply x0 x1 x2 x3 x4 x5 x6 x7 r
  have h132 := v132_apply x0 x1 x2 x3 x4 x5 x6 x7 r
  pointwise [val_main_v160, val_main_v159, val_main_v158, val_main_v157, val_main_v156, val_main_v155, val_main_v154]
  rw [e128, e133]
  simp only [lsR_apply, h125, h127, h130, h132]
  generalize val_main_v122 (F := Ideal) x0 x1 x2 x3 x4 x5 x6 x7 = z at *
  unfold gateR
  exact pick j.val j.isLt (fun q => z (ix2 r q)) _ hb

end Cert.ProjReferenceIdeal.Row
end
-- ==== Proof.ProjResult.lean ====
/- The two sides of the projection's ten results: the reference's stage at the kernel's arguments is the array the kernel leaves. -/
module

public import proofs.«01_k».proof.Proof.ProjOut
public import proofs.«01_k».proof.Proof.ProjRef

@[expose] public section

namespace Cert.ProjIdeal.Row

open Cert.ProjIdeal Cert.ProjIdeal.Gen Cert.ProjIdeal.Run Idealize.ShloMosaic Idealize.ShloMosaic.TcCoe

/-- A rank-2 index is given by its two coordinates. -/
theorem exists_ix2 {n0 n1 : Nat} (i : (⟨2, ![n0, n1]⟩ : Shape).Idx) : ∃ (a : Fin n0) (b : Fin n1), i = ix2 a b := ⟨i 0, i 1, eq_ix2 i⟩

variable (m : (ℓ : Loc nD τ sig) → Buf (Elt Ideal) ℓ) (c : Dev nD)
variable {x0 : FVec Ideal S32768x1024 .f32} {x1 : FVec Ideal S1024 .f32} {x2 : FVec Ideal S1024x5632 .f32} {x3 : FVec Ideal S2816x1024 .f32}
    {x4 x5 : FVec Ideal S1024 .f32} {x6 : FVec Ideal S1024x5904 .f32} {x7 : FVec Ideal S16 .f32}

/-- Result 0 of the reference at the kernel's arguments is the array the kernel leaves. -/
theorem same13 (h0 : x0 = a0 m c) (h1 : x1 = a1 m c) (h2 : x2 = a2 m c) (h3 : x3 = a3 m c) (h4 : x4 = a4 m c) : Cert.ProjReferenceIdeal.Read.val_main_v34 (F := Ideal) x0 x1 x2 x3 x4 = (dats m 0 c).arrAt 13 cfg0.N := by
  subst h0 h1 h2 h3 h4
  funext i
  obtain ⟨r, l, rfl⟩ := exists_ix2 i
  exact (Cert.ProjReferenceIdeal.Row.v34_apply _ _ _ _ _ r l).trans (result13 m c r l).symm

/-- Result 1 of the reference at the kernel's arguments is the array the kernel leaves. -/
theorem same14 (h0 : x0 = a0 m c) (h1 : x1 = a1 m c) (h2 : x2 = a2 m c) (h3 : x3 = a3 m c) (h4 : x4 = a4 m c) (h5 : x5 = a5 m c) (h6 : x6 = a6 m c) : Cert.ProjReferenceIdeal.Read.val_main_v140 (F := Ideal) x0 x1 x2 x3 x4 x5 x6 = (dats m 0 c).arrAt 14 cfg0.N := by
  subst h0 h1 h2 h3 h4 h5 h6
  funext i
  obtain ⟨r, l, rfl⟩ := exists_ix2 i
  exact (Cert.ProjReferenceIdeal.Row.v140_apply _ _ _ _ _ _ _ r l).trans (result14 m c r l).symm

/-- Result 2 of the reference at the kernel's arguments is the array the kernel leaves. -/
theorem same15 (h0 : x0 = a0 m c) (h1 : x1 = a1 m c) (h2 : x2 = a2 m c) (h3 : x3 = a3 m c) (h4 : x4 = a4 m c) (h5 : x5 = a5 m c) (h6 : x6 = a6 m c) : Cert.ProjReferenceIdeal.Read.val_main_v147 (F := Ideal) x0 x1 x2 x3 x4 x5 x6 = (dats m 0 c).arrAt 15 cfg0.N := by
  subst h0 h1 h2 h3 h4 h5 h6
  funext i
  obtain ⟨r, l, rfl⟩ := exists_ix2 i
  exact (Cert.ProjReferenceIdeal.Row.v147_apply _ _ _ _ _ _ _ r l).trans (result15 m c r l).symm

/-- Result 3 of the reference at the kernel's arguments is the array the kernel leaves. -/
theorem same16 (h0 : x0 = a0 m c) (h1 : x1 = a1 m c) (h2 : x2 = a2 m c) (h3 : x3 = a3 m c) (h4 : x4 = a4 m c) (h5 : x5 = a5 m c) (h6 : x6 = a6 m c) : Cert.ProjReferenceIdeal.Read.val_main_v153 (F := Ideal) x0 x1 x2 x3 x4 x5 x6 = (dats m 0 c).arrAt 16 cfg0.N := by
  subst h0 h1 h2 h3 h4 h5 h6
  funext i
  obtain ⟨l, r, rfl⟩ := exists_ix2 i
  exact (Cert.ProjReferenceIdeal.Row.v153_apply _ _ _ _ _ _ _ l r).trans (result16 m c r l).symm

/-- Result 4 of the reference at the kernel's arguments is the array the kernel leaves. -/
theorem same17 (h0 : x0 = a0 m c) (h1 : x1 = a1 m c) (h2 : x2 = a2 m c) (h3 : x3 = a3 m c) (h4 : x4 = a4 m c) (h5 : x5 = a5 m c) (h6 : x6 = a6 m c) : Cert.ProjReferenceIdeal.Read.val_main_v161 (F := Ideal) x0 x1 x2 x3 x4 x5 x6 = (dats m 0 c).arrAt 17 cfg0.N := by
  subst h0 h1 h2 h3 h4 h5 h6
  funext i
  obtain ⟨r, l, rfl⟩ := exists_ix2 i
  exact (Cert.ProjReferenceIdeal.Row.v161_apply _ _ _ _ _ _ _ r l).trans (result17 m c r l).symm

/-- Result 5 of the reference at the kernel's arguments is the array the kernel leaves. -/
theorem same18 (h0 : x0 = a0 m c) (h1 : x1 = a1 m c) (h2 : x2 = a2 m c) (h3 : x3 = a3 m c) (h4 : x4 = a4 m c) (h5 : x5 = a5 m c) (h6 : x6 = a6 m c) : Cert.ProjReferenceIdeal.Read.val_main_v162 (F := Ideal) x0 x1 x2 x3 x4 x5 x6 = (dats m 0 c).arrAt 18 cfg0.N := by
  subst h0 h1 h2 h3 h4 h5 h6
  funext i
  obtain ⟨r, l, rfl⟩ := exists_ix2 i
  exact (Cert.ProjReferenceIdeal.Row.v162_apply _ _ _ _ _ _ _ r l).trans (result18 m c r l).symm

/-- Result 6 of the reference at the kernel's arguments is the array the kernel leaves. -/
theorem same19 (h0 : x0 = a0 m c) (h1 : x1 = a1 m c) (h2 : x2 = a2 m c) (h3 : x3 = a3 m c) (h4 : x4 = a4 m c) (h5 : x5 = a5 m c) (h6 : x6 = a6 m c) : Cert.ProjReferenceIdeal.Read.val_main_v163 (F := Ideal) x0 x1 x2 x3 x4 x5 x6 = (dats m 0 c).arrAt 19 cfg0.N := by
  subst h0 h1 h2 h3 h4 h5 h6
  funext i
  obtain ⟨r, l, rfl⟩ := exists_ix2 i
  exact (Cert.ProjReferenceIdeal.Row.v163_apply _ _ _ _ _ _ _ r l).trans (result19 m c r l).symm

/-- Result 7 of the reference at the kernel's arguments is the array the kernel leaves. -/
theorem same20 (h0 : x0 = a0 m c) (h1 : x1 = a1 m c) (h2 : x2 = a2 m c) (h3 : x3 = a3 m c) (h4 : x4 = a4 m c) (h5 : x5 = a5 m c) (h6 : x6 = a6 m c) : Cert.ProjReferenceIdeal.Read.val_main_v164 (F := Ideal) x0 x1 x2 x3 x4 x5 x6 = (dats m 0 c).arrAt 20 cfg0.N := by
  subst h0 h1 h2 h3 h4 h5 h6
  funext i
  obtain ⟨r, l, rfl⟩ := exists_ix2 i
  exact (Cert.ProjReferenceIdeal.Row.v164_apply _ _ _ _ _ _ _ r l).trans (result20 m c r l).symm

/-- Result 8 of the reference at the kernel's arguments is the array the kernel leaves. -/
theorem same21 (h0 : x0 = a0 m c) (h1 : x1 = a1 m c) (h2 : x2 = a2 m c) (h3 : x3 = a3 m c) (h4 : x4 = a4 m c) (h5 : x5 = a5 m c) (h6 : x6 = a6 m c) (h7 : x7 = a7 m c) : Cert.ProjReferenceIdeal.Read.val_main_v160 (F := Ideal) x0 x1 x2 x3 x4 x5 x6 x7 = (dats m 0 c).arrAt 21 cfg0.N := by
  subst h0 h1 h2 h3 h4 h5 h6 h7
  funext i
  obtain ⟨l, r, rfl⟩ := exists_ix2 i
  exact (Cert.ProjReferenceIdeal.Row.v160_apply _ _ _ _ _ _ _ _ l r).trans (result21 m c r l).symm

/-- Result 9 of the reference at the kernel's arguments is the array the kernel leaves. -/
theorem same22 (h0 : x0 = a0 m c) (h1 : x1 = a1 m c) (h2 : x2 = a2 m c) (h3 : x3 = a3 m c) (h4 : x4 = a4 m c) (h5 : x5 = a5 m c) (h6 : x6 = a6 m c) : Cert.ProjReferenceIdeal.Read.val_main_v165 (F := Ideal) x0 x1 x2 x3 x4 x5 x6 = (dats m 0 c).arrAt 22 cfg0.N := by
  subst h0 h1 h2 h3 h4 h5 h6
  funext i
  obtain ⟨r, l, rfl⟩ := exists_ix2 i
  exact (Cert.ProjReferenceIdeal.Row.v165_apply _ _ _ _ _ _ _ r l).trans (result22 m c r l).symm

end Cert.ProjIdeal.Row
-- ==== Proof.lean ====
module

public import proofs.«01_k».proof.Proof.Gen.KernelIdeal.Value
public import proofs.«01_k».proof.Proof.Gen.ReferenceIdeal.Run
public import proofs.«01_k».proof.Proof.Gen.ReferenceIdeal.Read
public import proofs.«01_k».proof.Defs
public import proofs.«01_k».proof.Proof.Finite
public import proofs.«01_k».proof.Proof.Equation
public import proofs.«01_k».proof.Proof.MergeOut
public import proofs.«01_k».proof.Proof.MergeRef
public import proofs.«01_k».proof.Proof.ProjRun
public import proofs.«01_k».proof.Proof.ProjResult
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeReferenceIdeal
public import proofs.«01_k».proof.Proof.Gen.MergeReferenceIdeal.Run
public import proofs.«01_k».proof.Proof.Gen.MergeReferenceIdeal.Read
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjReferenceIdeal
public import proofs.«01_k».proof.Proof.Gen.ProjReferenceIdeal.Run
public import proofs.«01_k».proof.Proof.Gen.ProjReferenceIdeal.Read
public import Idealize.ShloMosaic.Adequacy
public import Idealize.ShloMosaic.Init

@[expose] public section

noncomputable section

namespace Cert.Proof

open Idealize.ShloMosaic Idealize.SL.Sem Cert.Kernel

/-- The reference runs, keeps its arguments, and has no semaphore to leave. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- THE ATTENTION: the kernel's result is the reference's. -/
theorem attention : Cert.algebraic_KernelIdeal_ReferenceIdeal_pre_finite := by
  intro m ρ m' ρ' hpre hagree
  refine ⟨_, Cert.KernelIdeal.Value.run_blocks (F := Ideal) m ρ, ?_⟩
  refine (θ_run Cert.ReferenceIdeal.defs _ _).mono (fun r h c => ⟨(h c).1.trans ?_, (h c).2⟩) (Cert.ReferenceIdeal.Value.run (F := Ideal) m' ρ')
  obtain ⟨e0, e1, e2, e3⟩ := hagree c
  obtain ⟨f0, f1, f3⟩ := Cert.Pre_finite.Att.finite_of_pre _ _ _ _ (hpre c)
  rw [Cert.ReferenceIdeal.Read.val_main_v73_eq, e0, e1, e2, e3]
  funext i
  rw [eq_ix2 i]
  exact ((Cert.KernelIdeal.Att.out_apply m c (i 0) (i 1)).trans (Cert.Attention.result_eq _ _ _ _ f0 f1 f3 (i 0) (i 1))).symm

/-- The merge's reference runs, keeps its arguments, and has no semaphore to leave. -/
theorem frame_merge_reference : Cert.quiescent_MergeReferenceIdeal := fun m ρ _ =>
  (θ_run Cert.MergeReferenceIdeal.defs _ _).mono (fun r h => ⟨fun c => (h c).2,
      Idealize.ShloMosaic.sem_eq_zero_of_no_sems (by decide) r.2⟩)
    (Cert.MergeReferenceIdeal.Value.run (F := Ideal) m ρ)

/-- THE MERGE, THE SECOND HALF STEP AND THE PER-LAYER EMBEDDING: the kernel's result is the reference's. -/
theorem merge : Cert.algebraic_MergeIdeal_MergeReferenceIdeal := by
  intro m ρ m' ρ' hpre hagree
  refine ⟨_, Cert.MergeIdeal.Value.run_blocks (F := Ideal) m ρ, ?_⟩
  refine (θ_run Cert.MergeReferenceIdeal.defs _ _).mono (fun r h c => ⟨(h c).1.trans ?_, (h c).2⟩) (Cert.MergeReferenceIdeal.Value.run (F := Ideal) m' ρ')
  obtain ⟨e0, e1, e2, e3, e4, e5, e6, e7, e8, e9, e10, e11, e12, e13, e14, e15, e16, e17, e18⟩ := hagree c
  have h0 : StableHlo.launchContents m' c (Proc.devRef .tc Cert.MergeReferenceIdeal.main_arg0) = Cert.MergeIdeal.Row.a0 m c := e0
  have h1 : StableHlo.launchContents m' c (Proc.devRef .tc Cert.MergeReferenceIdeal.main_arg1) = Cert.MergeIdeal.Row.a1 m c := e1
  have h2 : StableHlo.launchContents m' c (Proc.devRef .tc Cert.MergeReferenceIdeal.main_arg2) = Cert.MergeIdeal.Row.a2 m c := e2
  have h3 : StableHlo.launchContents m' c (Proc.devRef .tc Cert.MergeReferenceIdeal.main_arg3) = Cert.MergeIdeal.Row.a3 m c := e3
  have h4 : StableHlo.launchContents m' c (Proc.devRef .tc Cert.MergeReferenceIdeal.main_arg4) = Cert.MergeIdeal.Row.a4 m c := e4
  have h5 : StableHlo.launchContents m' c (Proc.devRef .tc Cert.MergeReferenceIdeal.main_arg5) = Cert.MergeIdeal.Row.a5 m c := e5
  have h6 : StableHlo.launchContents m' c (Proc.devRef .tc Cert.MergeReferenceIdeal.main_arg6) = Cert.MergeIdeal.Row.a6 m c := e6
  have h7 : StableHlo.launchContents m' c (Proc.devRef .tc Cert.MergeReferenceIdeal.main_arg7) = Cert.MergeIdeal.Row.a7 m c := e7
  have h8 : StableHlo.launchContents m' c (Proc.devRef .tc Cert.MergeReferenceIdeal.main_arg8) = Cert.MergeIdeal.Row.a8 m c := e8
  have h9 : StableHlo.launchContents m' c (Proc.devRef .tc Cert.MergeReferenceIdeal.main_arg9) = Cert.MergeIdeal.Row.a9 m c := e9
  have h10 : StableHlo.launchContents m' c (Proc.devRef .tc Cert.MergeReferenceIdeal.main_arg10) = Cert.MergeIdeal.Row.a10 m c := e10
  have h11 : StableHlo.launchContents m' c (Proc.devRef .tc Cert.MergeReferenceIdeal.main_arg11) = Cert.MergeIdeal.Row.a11 m c := e11
  have h12 : StableHlo.launchContents m' c (Proc.devRef .tc Cert.MergeReferenceIdeal.main_arg12) = Cert.MergeIdeal.Row.a12 m c := e12
  have h13 : StableHlo.launchContents m' c (Proc.devRef .tc Cert.MergeReferenceIdeal.main_arg13) = Cert.MergeIdeal.Row.a13 m c := e13
  have h14 : StableHlo.launchContents m' c (Proc.devRef .tc Cert.MergeReferenceIdeal.main_arg14) = Cert.MergeIdeal.Row.a14 m c := e14
  have h15 : StableHlo.launchContents m' c (Proc.devRef .tc Cert.MergeReferenceIdeal.main_arg15) = Cert.MergeIdeal.Row.a15 m c := e15
  have h16 : StableHlo.launchContents m' c (Proc.devRef .tc Cert.MergeReferenceIdeal.main_arg16) = Cert.MergeIdeal.Row.a16 m c := e16
  have h17 : StableHlo.launchContents m' c (Proc.devRef .tc Cert.MergeReferenceIdeal.main_arg17) = Cert.MergeIdeal.Row.a17 m c := e17
  have h18 : StableHlo.launchContents m' c (Proc.devRef .tc Cert.MergeReferenceIdeal.main_arg18) = Cert.MergeIdeal.Row.a18 m c := e18
  refine (Cert.MergeReferenceIdeal.Read.val_main_v128_eq (F := Ideal) _).trans ?_
  rw [h0, h1, h2, h3, h4, h5, h6, h7, h8, h9, h10, h11, h12, h13, h14, h15, h16, h17, h18]
  funext i
  rw [eq_ix2 i]
  exact (Cert.MergeReferenceIdeal.Row.result_apply _ _ _ _ _ _ _ _ _ _ _ _ _ _ _ _ _ _ _ (i 0) (i 1)).trans (Cert.MergeIdeal.Row.out_apply m c (i 0) (i 1)).symm

/-- The projection's reference runs, keeps its arguments, and has no semaphore to leave. -/
theorem frame_proj_reference : Cert.quiescent_ProjReferenceIdeal := fun m ρ _ =>
  (θ_run Cert.ProjReferenceIdeal.defs _ _).mono (fun r h => ⟨fun c => (h c).2.2.2.2.2.2.2.2.2.2,
      Idealize.ShloMosaic.sem_eq_zero_of_no_sems (by decide) r.2⟩)
    (Cert.ProjReferenceIdeal.Value.run (F := Ideal) m ρ)

/-- THE FIRST HALF STEP AND THE PROJECTION: the kernel's ten results are the reference's. -/
theorem proj : Cert.algebraic_ProjIdeal_ProjReferenceIdeal := by
  intro m ρ m' ρ' hpre hagree
  refine ⟨_, _, _, _, _, _, _, _, _, _, Cert.ProjIdeal.Run.run_blocks (F := Ideal) m ρ, ?_⟩
  refine (θ_run Cert.ProjReferenceIdeal.defs _ _).mono (fun r h c => ?_) (Cert.ProjReferenceIdeal.Value.run (F := Ideal) m' ρ')
  obtain ⟨e0, e1, e2, e3, e4, e5, e6, e7⟩ := hagree c
  have h0 : StableHlo.launchContents m' c (Proc.devRef .tc Cert.ProjReferenceIdeal.main_arg0) = Cert.ProjIdeal.Row.a0 m c := e0
  have h1 : StableHlo.launchContents m' c (Proc.devRef .tc Cert.ProjReferenceIdeal.main_arg1) = Cert.ProjIdeal.Row.a1 m c := e1
  have h2 : StableHlo.launchContents m' c (Proc.devRef .tc Cert.ProjReferenceIdeal.main_arg2) = Cert.ProjIdeal.Row.a2 m c := e2
  have h3 : StableHlo.launchContents m' c (Proc.devRef .tc Cert.ProjReferenceIdeal.main_arg3) = Cert.ProjIdeal.Row.a3 m c := e3
  have h4 : StableHlo.launchContents m' c (Proc.devRef .tc Cert.ProjReferenceIdeal.main_arg4) = Cert.ProjIdeal.Row.a4 m c := e4
  have h5 : StableHlo.launchContents m' c (Proc.devRef .tc Cert.ProjReferenceIdeal.main_arg5) = Cert.ProjIdeal.Row.a5 m c := e5
  have h6 : StableHlo.launchContents m' c (Proc.devRef .tc Cert.ProjReferenceIdeal.main_arg6) = Cert.ProjIdeal.Row.a6 m c := e6
  have h7 : StableHlo.launchContents m' c (Proc.devRef .tc Cert.ProjReferenceIdeal.main_arg7) = Cert.ProjIdeal.Row.a7 m c := e7
  obtain ⟨q0, q1, q2, q3, q4, q5, q6, q7, q8, q9, k⟩ := h c
  exact ⟨q0.trans ((Cert.ProjReferenceIdeal.Read.val_main_v34_eq (F := Ideal) _).trans (Cert.ProjIdeal.Row.same13 m c h0 h1 h2 h3 h4)),
    q1.trans ((Cert.ProjReferenceIdeal.Read.val_main_v140_eq (F := Ideal) _).trans (Cert.ProjIdeal.Row.same14 m c h0 h1 h2 h3 h4 h5 h6)),
    q2.trans ((Cert.ProjReferenceIdeal.Read.val_main_v147_eq (F := Ideal) _).trans (Cert.ProjIdeal.Row.same15 m c h0 h1 h2 h3 h4 h5 h6)),
    q3.trans ((Cert.ProjReferenceIdeal.Read.val_main_v153_eq (F := Ideal) _).trans (Cert.ProjIdeal.Row.same16 m c h0 h1 h2 h3 h4 h5 h6)),
    q4.trans ((Cert.ProjReferenceIdeal.Read.val_main_v161_eq (F := Ideal) _).trans (Cert.ProjIdeal.Row.same17 m c h0 h1 h2 h3 h4 h5 h6)),
    q5.trans ((Cert.ProjReferenceIdeal.Read.val_main_v162_eq (F := Ideal) _).trans (Cert.ProjIdeal.Row.same18 m c h0 h1 h2 h3 h4 h5 h6)),
    q6.trans ((Cert.ProjReferenceIdeal.Read.val_main_v163_eq (F := Ideal) _).trans (Cert.ProjIdeal.Row.same19 m c h0 h1 h2 h3 h4 h5 h6)),
    q7.trans ((Cert.ProjReferenceIdeal.Read.val_main_v164_eq (F := Ideal) _).trans (Cert.ProjIdeal.Row.same20 m c h0 h1 h2 h3 h4 h5 h6)),
    q8.trans ((Cert.ProjReferenceIdeal.Read.val_main_v160_eq (F := Ideal) _).trans (Cert.ProjIdeal.Row.same21 m c h0 h1 h2 h3 h4 h5 h6 h7)),
    q9.trans ((Cert.ProjReferenceIdeal.Read.val_main_v165_eq (F := Ideal) _).trans (Cert.ProjIdeal.Row.same22 m c h0 h1 h2 h3 h4 h5 h6)), k⟩

theorem claim : Cert.Claim :=
  ⟨Cert.Kernel.Gen.facts, Cert.KernelIdeal.Gen.facts, Cert.ReferenceIdeal.Gen.facts,
    Cert.Merge.Gen.facts, Cert.MergeIdeal.Gen.facts, Cert.MergeReferenceIdeal.Gen.facts,
    Cert.Proj.Gen.facts, Cert.ProjIdeal.Gen.facts, Cert.ProjReferenceIdeal.Gen.facts, Cert.Pre_finite.Gen.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    fun m ρ _ => Cert.Merge.Gen.frame m ρ, fun m ρ _ => Cert.MergeIdeal.Gen.frame m ρ, frame_merge_reference,
    fun m ρ _ => Cert.Proj.Run.frame m ρ, fun m ρ _ => Cert.ProjIdeal.Run.frame m ρ, frame_proj_reference,
    IdealRules.named_const.statement Cert.KernelIdeal.κ "log2e" .f32 0x3FB8AA3B#32 (((Real.log 2)⁻¹ : ℝ) : EReal) rfl,
    attention,
    IdealRules.named_const.statement Cert.MergeIdeal.κ "neglog2e" .f32 0xBFB8AA3B#32 ((-((Real.log 2)⁻¹) : ℝ) : EReal) rfl,
    merge,
    ⟨IdealRules.named_const.statement Cert.ProjIdeal.κ "neglog2e" .f32 0xBFB8AA3B#32 ((-((Real.log 2)⁻¹) : ℝ) : EReal) rfl,
      IdealRules.named_const.statement Cert.ProjIdeal.κ "qscale" .f32 0x3E38AA3B#32 (((8 * (Real.log 2))⁻¹ : ℝ) : EReal) rfl⟩,
    proj⟩

end Cert.Proof

end
